-- ==== Defs.lean ====
def Pre_Kernel [hPre_distinct_rows : Cert.Pre_distinct_rows.Facts] (m : (ℓ : Loc Cert.Kernel.nD Cert.Kernel.τ Cert.Kernel.sig) → Buf (Elt Bits) ℓ) : Prop :=
  ∀ c : Dev Cert.Kernel.nD,
    (Cert.Pre_distinct_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_distinct_rows : Cert.Pre_distinct_rows.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_rows [hPre_distinct_rows : Cert.Pre_distinct_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_distinct_rows : Cert.Pre_distinct_rows.Facts] (m : (ℓ : Loc Cert.Reference.nD Cert.Reference.τ Cert.Reference.sig) → Buf (Elt Bits) ℓ) : Prop :=
  ∀ c : Dev Cert.Reference.nD,
    (Cert.Pre_distinct_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] [hPre_distinct_rows : Cert.Pre_distinct_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_distinct_rows : Cert.Pre_distinct_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_distinct_rows [hReferenceIdeal : Cert.ReferenceIdeal.Facts] [hPre_distinct_rows : Cert.Pre_distinct_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_distinct_rows : Cert.Pre_distinct_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_distinct_rows : Cert.Pre_distinct_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_distinct_rows : Cert.Pre_distinct_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v13) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)) (v4 : (c : Dev Cert.Kernel3Ideal.nD) → Buf (Elt Ideal) ((c.tc : Thread Cert.Kernel3Ideal.nD Cert.Kernel3Ideal.τ).loc Cert.Kernel3Ideal.main_v22_4)) (v5 : (c : Dev Cert.Kernel3Ideal.nD) → Buf (Elt Ideal) ((c.tc : Thread Cert.Kernel3Ideal.nD Cert.Kernel3Ideal.τ).loc Cert.Kernel3Ideal.main_v22_5)) (v6 : (c : Dev Cert.Kernel3Ideal.nD) → Buf (Elt Ideal) ((c.tc : Thread Cert.Kernel3Ideal.nD Cert.Kernel3Ideal.τ).loc Cert.Kernel3Ideal.main_v22_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_v22_4) = v4 c
          ∧ r.2.mem ((c.tc : Thread Cert.Kernel3Ideal.nD Cert.Kernel3Ideal.τ).loc Cert.Kernel3Ideal.main_v22_5) = v5 c
          ∧ r.2.mem ((c.tc : Thread Cert.Kernel3Ideal.nD Cert.Kernel3Ideal.τ).loc Cert.Kernel3Ideal.main_v22_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_v33) = v4 c
          ∧ r.2.mem ((c.tc : Thread Cert.Reference3Ideal.nD Cert.Reference3Ideal.τ).loc Cert.Reference3Ideal.main_v29) = v5 c
          ∧ r.2.mem ((c.tc : Thread Cert.Reference3Ideal.nD Cert.Reference3Ideal.τ).loc Cert.Reference3Ideal.main_v34) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)) (v2 : (c : Dev Cert.Kernel6Ideal.nD) → Buf (Elt Ideal) ((c.tc : Thread Cert.Kernel6Ideal.nD Cert.Kernel6Ideal.τ).loc Cert.Kernel6Ideal.main_v22_2)) (v3 : (c : Dev Cert.Kernel6Ideal.nD) → Buf (Elt Ideal) ((c.tc : Thread Cert.Kernel6Ideal.nD Cert.Kernel6Ideal.τ).loc Cert.Kernel6Ideal.main_v22_3)) (v4 : (c : Dev Cert.Kernel6Ideal.nD) → Buf (Elt Ideal) ((c.tc : Thread Cert.Kernel6Ideal.nD Cert.Kernel6Ideal.τ).loc Cert.Kernel6Ideal.main_v22_4)) (v5 : (c : Dev Cert.Kernel6Ideal.nD) → Buf (Elt Ideal) ((c.tc : Thread Cert.Kernel6Ideal.nD Cert.Kernel6Ideal.τ).loc Cert.Kernel6Ideal.main_v22_5)) (v6 : (c : Dev Cert.Kernel6Ideal.nD) → Buf (Elt Ideal) ((c.tc : Thread Cert.Kernel6Ideal.nD Cert.Kernel6Ideal.τ).loc Cert.Kernel6Ideal.main_v22_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_v22_2) = v2 c
          ∧ r.2.mem ((c.tc : Thread Cert.Kernel6Ideal.nD Cert.Kernel6Ideal.τ).loc Cert.Kernel6Ideal.main_v22_3) = v3 c
          ∧ r.2.mem ((c.tc : Thread Cert.Kernel6Ideal.nD Cert.Kernel6Ideal.τ).loc Cert.Kernel6Ideal.main_v22_4) = v4 c
          ∧ r.2.mem ((c.tc : Thread Cert.Kernel6Ideal.nD Cert.Kernel6Ideal.τ).loc Cert.Kernel6Ideal.main_v22_5) = v5 c
          ∧ r.2.mem ((c.tc : Thread Cert.Kernel6Ideal.nD Cert.Kernel6Ideal.τ).loc Cert.Kernel6Ideal.main_v22_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_v32) = v3 c
          ∧ r.2.mem ((c.tc : Thread Cert.Reference6Ideal.nD Cert.Reference6Ideal.τ).loc Cert.Reference6Ideal.main_v33) = v4 c
          ∧ r.2.mem ((c.tc : Thread Cert.Reference6Ideal.nD Cert.Reference6Ideal.τ).loc Cert.Reference6Ideal.main_v29) = v5 c
          ∧ r.2.mem ((c.tc : Thread Cert.Reference6Ideal.nD Cert.Reference6Ideal.τ).loc Cert.Reference6Ideal.main_v34) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v28_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v28_2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v29_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v29_2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_distinct_rows : Cert.Pre_distinct_rows.Facts),
    quiescent_Kernel (hKernel := hKernel) (hPre_distinct_rows := hPre_distinct_rows)
    ∧ quiescent_KernelIdeal (hKernelIdeal := hKernelIdeal) (hPre_distinct_rows := hPre_distinct_rows)
    ∧ quiescent_ReferenceIdeal (hReferenceIdeal := hReferenceIdeal)
    ∧ quiescent_ReferenceIdeal_pre_distinct_rows (hReferenceIdeal := hReferenceIdeal) (hPre_distinct_rows := hPre_distinct_rows)
    ∧ quiescent_Reference (hReference := hReference) (hPre_distinct_rows := hPre_distinct_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal) (hPre_distinct_rows := hPre_distinct_rows)
    ∧ bitexact_Kernel_Reference (hKernel := hKernel) (hReference := hReference) (hPre_distinct_rows := hPre_distinct_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_distinct_rows.lean ====
abbrev S32768x4 : Shape := ⟨2, ![32768, 4]⟩
abbrev S262144x128 : Shape := ⟨2, ![262144, 128]⟩
abbrev S131072 : Shape := ⟨1, ![131072]⟩
abbrev S_ : Shape := ⟨0, ![]⟩
abbrev S147456 : Shape := ⟨1, ![147456]⟩
abbrev S131072x1 : Shape := ⟨2, ![131072, 1]⟩

class Facts : Prop where
  shapeCasts_S32768x4_S131072 : S32768x4.ShapeCasts S131072
  bcast_S_S147456 : S_.BroadcastsInDim S147456 (![] : Fin 0 → Fin S147456.rank)
  bcast_S_S131072 : S_.BroadcastsInDim S131072 (![] : Fin 0 → Fin S131072.rank)
  bcast_S131072_S131072x1_0 : S131072.BroadcastsInDim S131072x1 (![0] : Fin 1 → Fin S131072x1.rank)
  reducesTo_S131072_S_d0 : S131072.ReducesTo [0] S_
  h_S_ : 0 < S_.numel
  scatter_S147456_S131072x1_S131072_n_0_0_1_wf : ScatterDims.WF S147456 S131072x1 S131072 [] [0] [0] 1
  gather_S147456_S131072x1_S131072_n_0_n_n_0_1_1_wf : GatherDims.WF S147456 S131072x1 S131072 [] [0] [] [0] [] 1 ![1]

variable [Facts]

def scatter_S147456_S131072x1_S131072_n_0_0_1 : ScatterDims S147456 S131072x1 S131072 where
  updateWindowDims := []
  insertedWindowDims := [0]
  scatterDimsToOperandDims := [0]
  indexVectorDim := 1
  wf := scatter_S147456_S131072x1_S131072_n_0_0_1_wf
def gather_S147456_S131072x1_S131072_n_0_n_n_0_1_1 : GatherDims S147456 S131072x1 S131072 where
  offsetDims := []
  collapsedSliceDims := [0]
  operandBatchingDims := []
  startIndicesBatchingDims := []
  startIndexMap := [0]
  indexVectorDim := 1
  sliceSizes := ![1]
  wf := gather_S147456_S131072x1_S131072_n_0_n_n_0_1_1_wf
def fn_part1 {F : FTy → Type} [FloatOps F] (main_v0 : IVec S131072 32) (main_v1 : IVec S131072 32) (main_v9 : IVec S147456 32) (main_v15 : IVec S_ 1) (main_v16 : IVec S131072 32) : IVec S_ 1 :=
  let main_v17 : IVec S131072 1 := cmpi .slt main_v0 main_v16
  let main_c_6 : IVec S_ 32 := constantI S_ 32 147456#32
  let main_v18 : IVec S131072 32 := broadcastInDim S131072 ![] bcast_S_S131072 main_c_6
  let main_v19 : IVec S131072 32 := addi main_v0 main_v18
  let main_v20 : IVec S131072 32 := select main_v17 main_v19 main_v0
  let main_v21 : IVec S131072x1 32 := broadcastInDim S131072x1 ![0] bcast_S131072_S131072x1_0 main_v20
  let main_v22 : IVec S131072 32 := (fun x i => Host.gather gather_S147456_S131072x1_S131072_n_0_n_n_0_1_1 x i) main_v9 main_v21
  let main_v23 : IVec S131072 1 := cmpi .eq main_v22 main_v1
  let main_c_7 : IVec S_ 1 := constantI S_ 1 1#1
  let main_v24 : IVec S_ 1 := (fun x v => Host.reduce IntOp.andi x v reducesTo_S131072_S_d0 h_S_) main_v23 main_c_7
  let main_v25 : IVec S_ 1 := andi main_v15 main_v24
  main_v25

def fn {F : FTy → Type} [FloatOps F] (main_arg0 : IVec S32768x4 32) (main_arg1 : FVec F S262144x128 .f32) : IVec S_ 1 :=
  let main_v0 : IVec S131072 32 := shapeCast S131072 main_arg0 shapeCasts_S32768x4_S131072
  let main_v1 : IVec S131072 32 := iotaInDim S131072 32 0
  let main_c : IVec S_ 32 := constantI S_ 32 0#32
  let main_v2 : IVec S147456 32 := broadcastInDim S147456 ![] bcast_S_S147456 main_c
  let main_c_0 : IVec S_ 32 := constantI S_ 32 0#32
  let main_v3 : IVec S131072 32 := broadcastInDim S131072 ![] bcast_S_S131072 main_c_0
  let main_v4 : IVec S131072 1 := cmpi .slt main_v0 main_v3
  let main_c_1 : IVec S_ 32 := constantI S_ 32 147456#32
  let main_v5 : IVec S131072 32 := broadcastInDim S131072 ![] bcast_S_S131072 main_c_1
  let main_v6 : IVec S131072 32 := addi main_v0 main_v5
  let main_v7 : IVec S131072 32 := select main_v4 main_v6 main_v0
  let main_v8 : IVec S131072x1 32 := broadcastInDim S131072x1 ![0] bcast_S131072_S131072x1_0 main_v7
  let main_v9 : IVec S147456 32 := (fun x i u => Host.scatter scatter_S147456_S131072x1_S131072_n_0_0_1 (fun _ b => b) x i u) main_v2 main_v8 main_v1
  let main_c_2 : IVec S_ 32 := constantI S_ 32 0#32
  let main_v10 : IVec S131072 32 := broadcastInDim S131072 ![] bcast_S_S131072 main_c_2
  let main_v11 : IVec S131072 1 := cmpi .sge main_v0 main_v10
  let main_c_3 : IVec S_ 32 := constantI S_ 32 147456#32
  let main_v12 : IVec S131072 32 := broadcastInDim S131072 ![] bcast_S_S131072 main_c_3
  let main_v13 : IVec S131072 1 := cmpi .slt main_v0 main_v12
  let main_v14 : IVec S131072 1 := andi main_v11 main_v13
  let main_c_4 : IVec S_ 1 := constantI S_ 1 1#1
  let main_v15 : IVec S_ 1 := (fun x v => Host.reduce IntOp.andi x v reducesTo_S131072_S_d0 h_S_) main_v14 main_c_4
  let main_c_5 : IVec S_ 32 := constantI S_ 32 0#32
  let main_v16 : IVec S131072 32 := broadcastInDim S131072 ![] bcast_S_S131072 main_c_5
  fn_part1 (F := F) main_v0 main_v1 main_v9 main_v15 main_v16
-- ==== Kernel.lean ====
abbrev S32768x4 : Shape := ⟨2, ![32768, 4]⟩
abbrev S262144x128 : Shape := ⟨2, ![262144, 128]⟩
abbrev S64x1x2048 : Shape := ⟨3, ![64, 1, 2048]⟩
abbrev S_ : Shape := ⟨0, ![]⟩
abbrev S1179648x128 : Shape := ⟨2, ![1179648, 128]⟩
abbrev S1x1x2048 : Shape := ⟨3, ![1, 1, 2048]⟩
abbrev S4096x128 : Shape := ⟨2, ![4096, 128]⟩
abbrev S1x1x1 : Shape := ⟨3, ![1, 1, 1]⟩
abbrev S8x128 : Shape := ⟨2, ![8, 128]⟩

abbrev nBuf : Space → Nat
  | .hbm => 5
  | .vmem => 2
  | .smem => 2
  | _ => 0

abbrev bufTy : (tb : Table) → Fin (tcTables nBuf tb) → BufTy
  | .hbm, ⟨0, _⟩ => ⟨S32768x4, .i32⟩
  | .hbm, ⟨1, _⟩ => ⟨S262144x128, .f32⟩
  | .hbm, ⟨2, _⟩ => ⟨S64x1x2048, .i32⟩
  | .hbm, ⟨3, _⟩ => ⟨S_, .f32⟩
  | .hbm, ⟨4, _⟩ => ⟨S1179648x128, .f32⟩
  | .local _ .vmem, ⟨0, _⟩ => ⟨S4096x128, .f32⟩
  | .local _ .vmem, ⟨1, _⟩ => ⟨S4096x128, .f32⟩
  | .local _ .smem, ⟨0, _⟩ => ⟨S1x1x2048, .i32⟩
  | .local _ .smem, ⟨1, _⟩ => ⟨S1x1x2048, .i32⟩
  | _, _ => ⟨S32768x4, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v5 : BitVec 32 := Scalar.muli arg6 c8_i32
  v5
def k0_off1 (k0_t1 : Fin k0_t1_loop.trips) : Fin 3 → Nat :=
  let c0 : Index := 0#32
  let c0_10 : Index := 0#32
  let c0_i32 : BitVec 32 := 0#32
  let c1_i32 : BitVec 32 := 1#32
  let arg6 : BitVec 32 := Scf.iv c0_i32 c1_i32 k0_t1
  let c4_i32 : BitVec 32 := 4#32
  let v7 : BitVec 32 := Scalar.muli arg6 c4_i32
  let c0_i32_9 : BitVec 32 := 0#32
  let v8 : BitVec 32 := Scalar.addi v7 c0_i32_9
  let v9 : Index := Scalar.indexCast v8
  ![0, 0, v9.toNat]
def k0_mult2 (v10 : BitVec 32) : BitVec 32 :=
  let c8_i32_11 : BitVec 32 := 8#32
  let v11 : BitVec 32 := Scalar.muli v10 c8_i32_11
  v11

def k0_off2 (v10 : BitVec 32) : Fin 2 → Nat :=
  let c8_i32_11 : BitVec 32 := 8#32
  let v11 : BitVec 32 := Scalar.muli v10 c8_i32_11
  let v12 : BitVec 32 := v11
  let c0_i32_12 : BitVec 32 := 0#32
  ![v12.toNat, 0]

def k0_chk1 (v10 : BitVec 32) : Prop :=
  (8 ∣ (k0_mult2 v10).toNat) ∧
  (∀ a, (k0_off2 v10) a + S8x128.size a ≤ S1179648x128.size a)
theorem k0_mult2_dvd : ∀ (v10 : BitVec 32) (k0_hw1 : k0_chk1 v10), 8 ∣ (k0_mult2 v10).toNat := fun v10 k0_hw1 => k0_hw1.1
theorem k0_off2_inb : ∀ (v10 : BitVec 32) (k0_hw1 : k0_chk1 v10), ∀ a, (k0_off2 v10) a + S8x128.size a ≤ S1179648x128.size a := fun v10 k0_hw1 => k0_hw1.2

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v5 : BitVec 32 := Scalar.muli arg6 c8_i32
  let v6 : BitVec 32 := v5
  let c0_i32_13 : BitVec 32 := 0#32
  ![v6.toNat, 0]
def k0_off4 (k0_t1 : Fin k0_t1_loop.trips) : Fin 3 → Nat :=
  let c0_16 : Index := 0#32
  let c0_17 : Index := 0#32
  let c0_i32 : BitVec 32 := 0#32
  let c1_i32 : BitVec 32 := 1#32
  let arg6 : BitVec 32 := Scf.iv c0_i32 c1_i32 k0_t1
  let c4_i32_14 : BitVec 32 := 4#32
  let v15 : BitVec 32 := Scalar.muli arg6 c4_i32_14
  let c1_i32_15 : BitVec 32 := 1#32
  let v16 : BitVec 32 := Scalar.addi v15 c1_i32_15
  let v17 : Index := Scalar.indexCast v16
  ![0, 0, v17.toNat]
def k0_mult3 (v18 : BitVec 32) : BitVec 32 :=
  let c8_i32_18 : BitVec 32 := 8#32
  let v19 : BitVec 32 := Scalar.muli v18 c8_i32_18
  v19

def k0_off5 (v18 : BitVec 32) : Fin 2 → Nat :=
  let c8_i32_18 : BitVec 32 := 8#32
  let v19 : BitVec 32 := Scalar.muli v18 c8_i32_18
  let v20 : BitVec 32 := v19
  let c0_i32_19 : BitVec 32 := 0#32
  ![v20.toNat, 0]

def k0_chk2 (v18 : BitVec 32) : Prop :=
  (8 ∣ (k0_mult3 v18).toNat) ∧
  (∀ a, (k0_off5 v18) a + S8x128.size a ≤ S1179648x128.size a)
theorem k0_mult3_dvd : ∀ (v18 : BitVec 32) (k0_hw2 : k0_chk2 v18), 8 ∣ (k0_mult3 v18).toNat := fun v18 k0_hw2 => k0_hw2.1
theorem k0_off5_inb : ∀ (v18 : BitVec 32) (k0_hw2 : k0_chk2 v18), ∀ a, (k0_off5 v18) a + S8x128.size a ≤ S1179648x128.size a := fun v18 k0_hw2 => k0_hw2.2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v5 : BitVec 32 := Scalar.muli arg6 c8_i32
  let v6 : BitVec 32 := v5
  let c0_i32_20 : BitVec 32 := 0#32
  ![v6.toNat, 0]
def k0_off7 (k0_t1 : Fin k0_t1_loop.trips) : Fin 3 → Nat :=
  let c0_22 : Index := 0#32
  let c0_23 : Index := 0#32
  let c0_i32 : BitVec 32 := 0#32
  let c1_i32 : BitVec 32 := 1#32
  let arg6 : BitVec 32 := Scf.iv c0_i32 c1_i32 k0_t1
  let c4_i32_21 : BitVec 32 := 4#32
  let v23 : BitVec 32 := Scalar.muli arg6 c4_i32_21
  let c2_i32 : BitVec 32 := 2#32
  let v24 : BitVec 32 := Scalar.addi v23 c2_i32
  let v25 : Index := Scalar.indexCast v24
  ![0, 0, v25.toNat]
def k0_mult4 (v26 : BitVec 32) : BitVec 32 :=
  let c8_i32_24 : BitVec 32 := 8#32
  let v27 : BitVec 32 := Scalar.muli v26 c8_i32_24
  v27

def k0_off8 (v26 : BitVec 32) : Fin 2 → Nat :=
  let c8_i32_24 : BitVec 32 := 8#32
  let v27 : BitVec 32 := Scalar.muli v26 c8_i32_24
  let v28 : BitVec 32 := v27
  let c0_i32_25 : BitVec 32 := 0#32
  ![v28.toNat, 0]

def k0_chk3 (v26 : BitVec 32) : Prop :=
  (8 ∣ (k0_mult4 v26).toNat) ∧
  (∀ a, (k0_off8 v26) a + S8x128.size a ≤ S1179648x128.size a)
theorem k0_mult4_dvd : ∀ (v26 : BitVec 32) (k0_hw3 : k0_chk3 v26), 8 ∣ (k0_mult4 v26).toNat := fun v26 k0_hw3 => k0_hw3.1
theorem k0_off8_inb : ∀ (v26 : BitVec 32) (k0_hw3 : k0_chk3 v26), ∀ a, (k0_off8 v26) a + S8x128.size a ≤ S1179648x128.size a := fun v26 k0_hw3 => k0_hw3.2

def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v5 : BitVec 32 := Scalar.muli arg6 c8_i32
  let v6 : BitVec 32 := v5
  let c0_i32_26 : BitVec 32 := 0#32
  ![v6.toNat, 0]
def k0_off10 (k0_t1 : Fin k0_t1_loop.trips) : Fin 3 → Nat :=
  let c0_28 : Index := 0#32
  let c0_29 : Index := 0#32
  let c0_i32 : BitVec 32 := 0#32
  let c1_i32 : BitVec 32 := 1#32
  let arg6 : BitVec 32 := Scf.iv c0_i32 c1_i32 k0_t1
  let c4_i32_27 : BitVec 32 := 4#32
  let v31 : BitVec 32 := Scalar.muli arg6 c4_i32_27
  let c3_i32 : BitVec 32 := 3#32
  let v32 : BitVec 32 := Scalar.addi v31 c3_i32
  let v33 : Index := Scalar.indexCast v32
  ![0, 0, v33.toNat]
def k0_mult5 (v34 : BitVec 32) : BitVec 32 :=
  let c8_i32_30 : BitVec 32 := 8#32
  let v35 : BitVec 32 := Scalar.muli v34 c8_i32_30
  v35

def k0_off11 (v34 : BitVec 32) : Fin 2 → Nat :=
  let c8_i32_30 : BitVec 32 := 8#32
  let v35 : BitVec 32 := Scalar.muli v34 c8_i32_30
  let v36 : BitVec 32 := v35
  let c0_i32_31 : BitVec 32 := 0#32
  ![v36.toNat, 0]

def k0_chk4 (v34 : BitVec 32) : Prop :=
  (8 ∣ (k0_mult5 v34).toNat) ∧
  (∀ a, (k0_off11 v34) a + S8x128.size a ≤ S1179648x128.size a)
theorem k0_mult5_dvd : ∀ (v34 : BitVec 32) (k0_hw4 : k0_chk4 v34), 8 ∣ (k0_mult5 v34).toNat := fun v34 k0_hw4 => k0_hw4.1
theorem k0_off11_inb : ∀ (v34 : BitVec 32) (k0_hw4 : k0_chk4 v34), ∀ a, (k0_off11 v34) a + S8x128.size a ≤ S1179648x128.size a := fun v34 k0_hw4 => k0_hw4.2

def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v5 : BitVec 32 := Scalar.muli arg6 c8_i32
  let v6 : BitVec 32 := v5
  let c0_i32_32 : BitVec 32 := 0#32
  ![v6.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S32768x4 : Shape := ⟨2, ![32768, 4]⟩
abbrev S262144x128 : Shape := ⟨2, ![262144, 128]⟩
abbrev S32768x1024 : Shape := ⟨2, ![32768, 1024]⟩
abbrev S32768x1x1024 : Shape := ⟨3, ![32768, 1, 1024]⟩
abbrev S32768x4x1024 : Shape := ⟨3, ![32768, 4, 1024]⟩
abbrev S131072x1024 : Shape := ⟨2, ![131072, 1024]⟩
abbrev S_ : Shape := ⟨0, ![]⟩
abbrev S147456x1024 : Shape := ⟨2, ![147456, 1024]⟩
abbrev S131072 : Shape := ⟨1, ![131072]⟩
abbrev S131072x1 : Shape := ⟨2, ![131072, 1]⟩
abbrev S1179648x128 : Shape := ⟨2, ![1179648, 128]⟩

abbrev nBuf : Space → Nat
  | .hbm => 19
  | .vmem => 0
  | .smem => 0
  | _ => 0

abbrev bufTy : (tb : Table) → Fin (tcTables nBuf tb) → BufTy
  | .hbm, ⟨0, _⟩ => ⟨S32768x4, .i32⟩
  | .hbm, ⟨1, _⟩ => ⟨S262144x128, .f32⟩
  | .hbm, ⟨2, _⟩ => ⟨S32768x1024, .f32⟩
  | .hbm, ⟨3, _⟩ => ⟨S32768x1x1024, .f32⟩
  | .hbm, ⟨4, _⟩ => ⟨S32768x4x1024, .f32⟩
  | .hbm, ⟨5, _⟩ => ⟨S131072x1024, .f32⟩
  | .hbm, ⟨6, _⟩ => ⟨S_, .f32⟩
  | .hbm, ⟨7, _⟩ => ⟨S147456x1024, .f32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S147456x1024, .f32⟩
  | .hbm, ⟨18, _⟩ => ⟨S1179648x128, .f32⟩
  | _, _ => ⟨S32768x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel2.lean ====
abbrev S32 : Shape := ⟨1, ![32]⟩
abbrev S147456x1024 : Shape := ⟨2, ![147456, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S1179648x128 : Shape := ⟨2, ![1179648, 128]⟩
abbrev S32x1x2048 : Shape := ⟨3, ![32, 1, 2048]⟩
abbrev S32x1x1024 : Shape := ⟨3, ![32, 1, 1024]⟩
abbrev S4096x128 : Shape := ⟨2, ![4096, 128]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S512x128 : Shape := ⟨2, ![512, 128]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 56
  | .vmem => 12
  | .smem => 2
  | _ => 0

abbrev bufTy : (tb : Table) → Fin (tcTables nBuf tb) → BufTy
  | .hbm, ⟨0, _⟩ => ⟨S32, .i32⟩
  | .hbm, ⟨1, _⟩ => ⟨S147456x1024, .f32⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S288, .i32⟩
  | .hbm, ⟨37, _⟩ => ⟨S_, .i32⟩
  | .hbm, ⟨38, _⟩ => ⟨S288, .i32⟩
  | .hbm, ⟨39, _⟩ => ⟨S288, .i32⟩
  | .hbm, ⟨40, _⟩ => ⟨S1x32, .i32⟩
  | .hbm, ⟨41, _⟩ => ⟨S288x1, .i32⟩
  | .hbm, ⟨42, _⟩ => ⟨S288x32, .i32⟩
  | .hbm, ⟨43, _⟩ => ⟨S288x32, .i32⟩
  | .hbm, ⟨44, _⟩ => ⟨S288x32, .i1⟩
  | .hbm, ⟨45, _⟩ => ⟨S288x32, .i32⟩
  | .hbm, ⟨46, _⟩ => ⟨S_, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S1179648x128, .f32⟩
  | .hbm, ⟨51, _⟩ => ⟨S2x32x1024x2048, .bf16⟩
  | .hbm, ⟨52, _⟩ => ⟨S32x1x2048, .f32⟩
  | .hbm, ⟨53, _⟩ => ⟨S2x32x1024x1024, .bf16⟩
  | .hbm, ⟨54, _⟩ => ⟨S32x1x1024, .f32⟩
  | .hbm, ⟨55, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .smem, ⟨0, _⟩ => ⟨S288, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v19 : Ref sig .tc := ⟨.smem, 0, rfl⟩
abbrev main_v20 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v19.idx, main_v20.idx], fun | 0 => main_v19.names | 1 => main_v20.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let arg0 : BitVec 32 := BitVec.ofNat 32 (i 0).val
  let c512_i32 : BitVec 32 := 512#32
  let v0 : BitVec 32 := Scalar.muli arg0 c512_i32
  let v2 : BitVec 1 := Scalar.cmpi .slt v0 v1
  let v3 : BitVec 32 := Scalar.extui v2
  let c0_i32 : BitVec 32 := 0#32
  let v4 : BitVec 1 := Scalar.cmpi .ne v3 c0_i32
  v4

def k0_cond2 (i : grid0.Coords) (v1 : BitVec 32) : BitVec 1 :=
  let arg0 : BitVec 32 := BitVec.ofNat 32 (i 0).val
  let c512_i32 : BitVec 32 := 512#32
  let v0 : BitVec 32 := Scalar.muli arg0 c512_i32
  let v2 : BitVec 1 := Scalar.cmpi .slt v0 v1
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32 : Shape := ⟨1, ![32]⟩
abbrev S147456x1024 : Shape := ⟨2, ![147456, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩
abbrev S1179648x128 : Shape := ⟨2, ![1179648, 128]⟩

abbrev nBuf : Space → Nat
  | .hbm => 140
  | .vmem => 0
  | .smem => 0
  | _ => 0

abbrev hbmTy0_0 (i : Nat) : BufTy := match i % 128 with
  | 0 => ⟨S32, .i32⟩
  | 1 => ⟨S147456x1024, .f32⟩
  | 2 => ⟨S2x32x1024x2048, .f32⟩
  | 3 => ⟨S32x2048, .f32⟩
  | 4 => ⟨S2x32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S288, .i32⟩
  | 37 => ⟨S_, .i32⟩
  | 38 => ⟨S288, .i32⟩
  | 39 => ⟨S288, .i32⟩
  | 40 => ⟨S1x32, .i32⟩
  | 41 => ⟨S288x1, .i32⟩
  | 42 => ⟨S288x32, .i32⟩
  | 43 => ⟨S288x32, .i32⟩
  | 44 => ⟨S288x32, .i1⟩
  | 45 => ⟨S288x32, .i32⟩
  | 46 => ⟨S_, .i32⟩
  | 47 => ⟨S288, .i32⟩
  | 48 => ⟨S_, .i32⟩
  | 49 => ⟨S288, .i32⟩
  | 50 => ⟨S288, .i32⟩
  | 51 => ⟨S288x512x1024, .f32⟩
  | 52 => ⟨S1x32x1024x2048, .f32⟩
  | 53 => ⟨S32x1024x2048, .f32⟩
  | 54 => ⟨S_, .i32⟩
  | 55 => ⟨S288, .i32⟩
  | 56 => ⟨S288, .i1⟩
  | 57 => ⟨S_, .i32⟩
  | 58 => ⟨S288, .i32⟩
  | 59 => ⟨S288, .i32⟩
  | 60 => ⟨S288, .i32⟩
  | 61 => ⟨S288x1, .i32⟩
  | 62 => ⟨S288x1024x2048, .f32⟩
  | 63 => ⟨S288x512x2048, .f32⟩
  | 64 => ⟨S_, .i32⟩
  | 65 => ⟨S288, .i32⟩
  | 66 => ⟨S288, .i1⟩
  | 67 => ⟨S_, .i32⟩
  | 68 => ⟨S288, .i32⟩
  | 69 => ⟨S288, .i32⟩
  | 70 => ⟨S288, .i32⟩
  | 71 => ⟨S288x1, .i32⟩
  | 72 => ⟨S288x2048, .f32⟩
  | 73 => ⟨S288x1x2048, .f32⟩
  | 74 => ⟨S288x512x2048, .f32⟩
  | 75 => ⟨S288x512x2048, .f32⟩
  | 76 => ⟨S288x512x1024, .f32⟩
  | 77 => ⟨S288x512x1024, .f32⟩
  | 78 => ⟨S_, .f32⟩
  | 79 => ⟨S288x512x1024, .f32⟩
  | 80 => ⟨S288x512x1024, .f32⟩
  | 81 => ⟨S_, .f32⟩
  | 82 => ⟨S_, .f32⟩
  | 83 => ⟨S_, .f32⟩
  | 84 => ⟨S288x512x1024, .f32⟩
  | 85 => ⟨S288x512x1024, .f32⟩
  | 86 => ⟨S_, .f32⟩
  | 87 => ⟨S288x512x1024, .f32⟩
  | 88 => ⟨S288x512x1024, .f32⟩
  | 89 => ⟨S_, .f32⟩
  | 90 => ⟨S288x512x1024, .f32⟩
  | 91 => ⟨S288x512x1024, .f32⟩
  | 92 => ⟨S288x512x1024, .f32⟩
  | 93 => ⟨S288x512x1024, .f32⟩
  | 94 => ⟨S_, .f32⟩
  | 95 => ⟨S288x512x1024, .f32⟩
  | 96 => ⟨S288x512x1024, .f32⟩
  | 97 => ⟨S_, .f32⟩
  | 98 => ⟨S288x512x1024, .f32⟩
  | 99 => ⟨S288x512x1024, .f32⟩
  | 100 => ⟨S288x512x1024, .f32⟩
  | 101 => ⟨S_, .f32⟩
  | 102 => ⟨S288x512x1024, .f32⟩
  | 103 => ⟨S288x512x1024, .f32⟩
  | 104 => ⟨S288x512x1024, .f32⟩
  | 105 => ⟨S1x32x1024x1024, .f32⟩
  | 106 => ⟨S32x1024x1024, .f32⟩
  | 107 => ⟨S_, .i32⟩
  | 108 => ⟨S288, .i32⟩
  | 109 => ⟨S288, .i1⟩
  | 110 => ⟨S_, .i32⟩
  | 111 => ⟨S288, .i32⟩
  | 112 => ⟨S288, .i32⟩
  | 113 => ⟨S288, .i32⟩
  | 114 => ⟨S288x1, .i32⟩
  | 115 => ⟨S288x1024x1024, .f32⟩
  | 116 => ⟨S288x512x1024, .f32⟩
  | 117 => ⟨S_, .i32⟩
  | 118 => ⟨S288, .i32⟩
  | 119 => ⟨S288, .i1⟩
  | 120 => ⟨S_, .i32⟩
  | 121 => ⟨S288, .i32⟩
  | 122 => ⟨S288, .i32⟩
  | 123 => ⟨S288, .i32⟩
  | 124 => ⟨S288x1, .i32⟩
  | 125 => ⟨S288x1024, .f32⟩
  | 126 => ⟨S288x1x1024, .f32⟩
  | 127 => ⟨S288x512x1024, .f32⟩
  | _ => ⟨S32, .i32⟩

abbrev hbmTy0_1 (i : Nat) : BufTy := match i % 128 with
  | 0 => ⟨S288x512x1024, .f32⟩
  | 1 => ⟨S1, .i32⟩
  | 2 => ⟨S_, .i32⟩
  | 3 => ⟨S288, .i32⟩
  | 4 => ⟨S288, .i1⟩
  | 5 => ⟨S288x1x1, .i1⟩
  | 6 => ⟨S_, .f32⟩
  | 7 => ⟨S_, .f32⟩
  | 8 => ⟨S288x512x1024, .i1⟩
  | 9 => ⟨S288x512x1024, .f32⟩
  | 10 => ⟨S288x512x1024, .f32⟩
  | 11 => ⟨S1179648x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_8 : Ref sig .tc := ⟨.hbm, 64, rfl⟩
abbrev main_v31 : Ref sig .tc := ⟨.hbm, 65, rfl⟩
abbrev main_v32 : Ref sig .tc := ⟨.hbm, 66, rfl⟩
abbrev main_c_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_cst_11 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v45 : Ref sig .tc := ⟨.hbm, 88, rfl⟩
abbrev main_cst_12 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_13 : Ref sig .tc := ⟨.hbm, 94, rfl⟩
abbrev main_v50 : Ref sig .tc := ⟨.hbm, 95, rfl⟩
abbrev main_v51 : Ref sig .tc := ⟨.hbm, 96, rfl⟩
abbrev main_cst_14 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_15 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_16 : Ref sig .tc := ⟨.hbm, 107, rfl⟩
abbrev main_v60 : Ref sig .tc := ⟨.hbm, 108, rfl⟩
abbrev main_v61 : Ref sig .tc := ⟨.hbm, 109, rfl⟩
abbrev main_c_17 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_18 : Ref sig .tc := ⟨.hbm, 117, rfl⟩
abbrev main_v68 : Ref sig .tc := ⟨.hbm, 118, rfl⟩
abbrev main_v69 : Ref sig .tc := ⟨.hbm, 119, rfl⟩
abbrev main_c_19 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_20 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_v83 : Ref sig .tc := ⟨.hbm, 138, rfl⟩
abbrev main_v84 : Ref sig .tc := ⟨.hbm, 139, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x3600 : Shape := ⟨2, ![1024, 3600]⟩
abbrev S1024x512 : Shape := ⟨2, ![1024, 512]⟩
abbrev S1024x4 : Shape := ⟨2, ![1024, 4]⟩
abbrev S1024x8 : Shape := ⟨2, ![1024, 8]⟩
abbrev S1024x3584 : Shape := ⟨2, ![1024, 3584]⟩
abbrev S1024x1024 : Shape := ⟨2, ![1024, 1024]⟩
abbrev S_ : Shape := ⟨0, ![]⟩
abbrev S1024x112 : Shape := ⟨2, ![1024, 112]⟩
abbrev S1024x128 : Shape := ⟨2, ![1024, 128]⟩
abbrev S1024x16 : Shape := ⟨2, ![1024, 16]⟩
abbrev S16x1024 : Shape := ⟨2, ![16, 1024]⟩
abbrev S32768x1024 : Shape := ⟨2, ![32768, 1024]⟩
abbrev S1x1024 : Shape := ⟨2, ![1, 1024]⟩
abbrev S32768x1536 : Shape := ⟨2, ![32768, 1536]⟩
abbrev S32768x512 : Shape := ⟨2, ![32768, 512]⟩
abbrev S16x512x2048 : Shape := ⟨3, ![16, 512, 2048]⟩
abbrev S32768x128 : Shape := ⟨2, ![32768, 128]⟩
abbrev S16x32768 : Shape := ⟨2, ![16, 32768]⟩
abbrev S256x1024 : Shape := ⟨2, ![256, 1024]⟩
abbrev S256x1536 : Shape := ⟨2, ![256, 1536]⟩
abbrev S256x512 : Shape := ⟨2, ![256, 512]⟩
abbrev S1x512x256 : Shape := ⟨3, ![1, 512, 256]⟩
abbrev S256x128 : Shape := ⟨2, ![256, 128]⟩
abbrev S16x256 : Shape := ⟨2, ![16, 256]⟩
abbrev S256 : Shape := ⟨1, ![256]⟩
abbrev S256x1 : Shape := ⟨2, ![256, 1]⟩
abbrev S1024x1536 : Shape := ⟨2, ![1024, 1536]⟩
abbrev S512x1024 : Shape := ⟨2, ![512, 1024]⟩
abbrev S512x256 : Shape := ⟨2, ![512, 256]⟩

abbrev nBuf : Space → Nat
  | .hbm => 33
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3600, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S1024x3584, .f32⟩
  | .hbm, ⟨14, _⟩ => ⟨S1024x3584, .bf16⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S_, .f32⟩
  | .hbm, ⟨19, _⟩ => ⟨S1024x112, .f32⟩
  | .hbm, ⟨20, _⟩ => ⟨S1024x128, .f32⟩
  | .hbm, ⟨21, _⟩ => ⟨S1024x128, .bf16⟩
  | .hbm, ⟨22, _⟩ => ⟨S1024x16, .bf16⟩
  | .hbm, ⟨23, _⟩ => ⟨S16x1024, .bf16⟩
  | .hbm, ⟨24, _⟩ => ⟨S32768x1024, .f32⟩
  | .hbm, ⟨25, _⟩ => ⟨S1x1024, .f32⟩
  | .hbm, ⟨26, _⟩ => ⟨S32768x1536, .f32⟩
  | .hbm, ⟨27, _⟩ => ⟨S32768x512, .f32⟩
  | .hbm, ⟨28, _⟩ => ⟨S32768x512, .f32⟩
  | .hbm, ⟨29, _⟩ => ⟨S16x512x2048, .f32⟩
  | .hbm, ⟨30, _⟩ => ⟨S16x512x2048, .f32⟩
  | .hbm, ⟨31, _⟩ => ⟨S32768x128, .f32⟩
  | .hbm, ⟨32, _⟩ => ⟨S16x32768, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S1024x1024, .bf16⟩
  | .local _ .vmem, ⟨5, _⟩ => ⟨S1024x128, .bf16⟩
  | .local _ .vmem, ⟨6, _⟩ => ⟨S16x1024, .bf16⟩
  | .local _ .vmem, ⟨7, _⟩ => ⟨S256x1536, .f32⟩
  | .local _ .vmem, ⟨8, _⟩ => ⟨S256x1536, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S256x128, .f32⟩
  | .local _ .vmem, ⟨18, _⟩ => ⟨S256x128, .f32⟩
  | .local _ .vmem, ⟨19, _⟩ => ⟨S16x256, .f32⟩
  | .local _ .vmem, ⟨20, _⟩ => ⟨S16x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev main_v22_2 : Ref sig .tc := ⟨.hbm, 28, rfl⟩
abbrev main_v22_3 : Ref sig .tc := ⟨.hbm, 29, rfl⟩
abbrev main_v22_4 : Ref sig .tc := ⟨.hbm, 30, rfl⟩
abbrev main_v22_5 : Ref sig .tc := ⟨.hbm, 31, rfl⟩
abbrev main_v22_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16x2048x1024 : Shape := ⟨3, ![16, 2048, 1024]⟩
abbrev S1024 : Shape := ⟨1, ![1024]⟩
abbrev S1024x3600 : Shape := ⟨2, ![1024, 3600]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3600 : Shape := ⟨3, ![16, 2048, 3600]⟩
abbrev S16x2048x512 : Shape := ⟨3, ![16, 2048, 512]⟩
abbrev S16x2048x4 : Shape := ⟨3, ![16, 2048, 4]⟩
abbrev S16x2048x8 : Shape := ⟨3, ![16, 2048, 8]⟩
abbrev S16x2048x1536 : Shape := ⟨3, ![16, 2048, 1536]⟩
abbrev S32768x1536 : Shape := ⟨2, ![32768, 1536]⟩
abbrev S16x2048x16 : Shape := ⟨3, ![16, 2048, 16]⟩
abbrev S32768x16 : Shape := ⟨2, ![32768, 16]⟩
abbrev S32768x112 : Shape := ⟨2, ![32768, 112]⟩
abbrev S32768x128 : Shape := ⟨2, ![32768, 128]⟩
abbrev S32768x512 : Shape := ⟨2, ![32768, 512]⟩
abbrev S16x512x2048 : Shape := ⟨3, ![16, 512, 2048]⟩
abbrev S16x32768 : Shape := ⟨2, ![16, 32768]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3600, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3600, .f32⟩
  | .hbm, ⟨20, _⟩ => ⟨S16x2048x512, .f32⟩
  | .hbm, ⟨21, _⟩ => ⟨S16x2048x512, .f32⟩
  | .hbm, ⟨22, _⟩ => ⟨S16x2048x512, .f32⟩
  | .hbm, ⟨23, _⟩ => ⟨S16x2048x512, .f32⟩
  | .hbm, ⟨24, _⟩ => ⟨S16x2048x4, .f32⟩
  | .hbm, ⟨25, _⟩ => ⟨S16x2048x4, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x8, .f32⟩
  | .hbm, ⟨30, _⟩ => ⟨S16x2048x1536, .f32⟩
  | .hbm, ⟨31, _⟩ => ⟨S32768x1536, .f32⟩
  | .hbm, ⟨32, _⟩ => ⟨S16x2048x16, .f32⟩
  | .hbm, ⟨33, _⟩ => ⟨S32768x16, .f32⟩
  | .hbm, ⟨34, _⟩ => ⟨S_, .f32⟩
  | .hbm, ⟨35, _⟩ => ⟨S32768x112, .f32⟩
  | .hbm, ⟨36, _⟩ => ⟨S32768x128, .f32⟩
  | .hbm, ⟨37, _⟩ => ⟨S32768x512, .f32⟩
  | .hbm, ⟨38, _⟩ => ⟨S32768x512, .f32⟩
  | .hbm, ⟨39, _⟩ => ⟨S16x512x2048, .f32⟩
  | .hbm, ⟨40, _⟩ => ⟨S16x512x2048, .f32⟩
  | .hbm, ⟨41, _⟩ => ⟨S16x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S32768x1024, .f32⟩
  | .hbm, ⟨5, _⟩ => ⟨S32768x1024, .f32⟩
  | .hbm, ⟨6, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel5.lean ====
abbrev S16x256x1024 : Shape := ⟨3, ![16, 256, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S4096x512, .f32⟩
  | .hbm, ⟨7, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩
abbrev S4096x512 : Shape := ⟨2, ![4096, 512]⟩

abbrev nBuf : Space → Nat
  | .hbm => 24
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S16x256x512, .f32⟩
  | .hbm, ⟨21, _⟩ => ⟨S16x256x512, .f32⟩
  | .hbm, ⟨22, _⟩ => ⟨S4096x512, .f32⟩
  | .hbm, ⟨23, _⟩ => ⟨S4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S32x8x1024 : Shape := ⟨3, ![32, 8, 1024]⟩
abbrev S1024 : Shape := ⟨1, ![1024]⟩
abbrev S1024x3600 : Shape := ⟨2, ![1024, 3600]⟩
abbrev S1024x512 : Shape := ⟨2, ![1024, 512]⟩
abbrev S1024x4 : Shape := ⟨2, ![1024, 4]⟩
abbrev S1024x8 : Shape := ⟨2, ![1024, 8]⟩
abbrev S1024x3584 : Shape := ⟨2, ![1024, 3584]⟩
abbrev S1024x1024 : Shape := ⟨2, ![1024, 1024]⟩
abbrev S_ : Shape := ⟨0, ![]⟩
abbrev S1024x112 : Shape := ⟨2, ![1024, 112]⟩
abbrev S1024x128 : Shape := ⟨2, ![1024, 128]⟩
abbrev S1024x16 : Shape := ⟨2, ![1024, 16]⟩
abbrev S16x1024 : Shape := ⟨2, ![16, 1024]⟩
abbrev S256x1024 : Shape := ⟨2, ![256, 1024]⟩
abbrev S1x1024 : Shape := ⟨2, ![1, 1024]⟩
abbrev S256x1536 : Shape := ⟨2, ![256, 1536]⟩
abbrev S256x512 : Shape := ⟨2, ![256, 512]⟩
abbrev S256x128 : Shape := ⟨2, ![256, 128]⟩
abbrev S16x256 : Shape := ⟨2, ![16, 256]⟩
abbrev S256 : Shape := ⟨1, ![256]⟩
abbrev S256x1 : Shape := ⟨2, ![256, 1]⟩
abbrev S1024x1536 : Shape := ⟨2, ![1024, 1536]⟩

abbrev nBuf : Space → Nat
  | .hbm => 33
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3600, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S1024x3584, .f32⟩
  | .hbm, ⟨14, _⟩ => ⟨S1024x3584, .bf16⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S_, .f32⟩
  | .hbm, ⟨19, _⟩ => ⟨S1024x112, .f32⟩
  | .hbm, ⟨20, _⟩ => ⟨S1024x128, .f32⟩
  | .hbm, ⟨21, _⟩ => ⟨S1024x128, .bf16⟩
  | .hbm, ⟨22, _⟩ => ⟨S1024x16, .bf16⟩
  | .hbm, ⟨23, _⟩ => ⟨S16x1024, .bf16⟩
  | .hbm, ⟨24, _⟩ => ⟨S256x1024, .f32⟩
  | .hbm, ⟨25, _⟩ => ⟨S1x1024, .f32⟩
  | .hbm, ⟨26, _⟩ => ⟨S256x1536, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S256x128, .f32⟩
  | .hbm, ⟨32, _⟩ => ⟨S16x256, .f32⟩
  | .local _ .vmem, ⟨0, _⟩ => ⟨S256x1024, .f32⟩
  | .local _ .vmem, ⟨1, _⟩ => ⟨S1x1024, .f32⟩
  | .local _ .vmem, ⟨2, _⟩ => ⟨S1024x3584, .bf16⟩
  | .local _ .vmem, ⟨3, _⟩ => ⟨S1024x1024, .bf16⟩
  | .local _ .vmem, ⟨4, _⟩ => ⟨S1024x128, .bf16⟩
  | .local _ .vmem, ⟨5, _⟩ => ⟨S16x1024, .bf16⟩
  | .local _ .vmem, ⟨6, _⟩ => ⟨S256x1536, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x128, .f32⟩
  | .local _ .vmem, ⟨12, _⟩ => ⟨S16x256, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22_0 : Ref sig .tc := ⟨.hbm, 26, rfl⟩
abbrev main_v22_1 : Ref sig .tc := ⟨.hbm, 27, rfl⟩
abbrev main_v22_2 : Ref sig .tc := ⟨.hbm, 28, rfl⟩
abbrev main_v22_3 : Ref sig .tc := ⟨.hbm, 29, rfl⟩
abbrev main_v22_4 : Ref sig .tc := ⟨.hbm, 30, rfl⟩
abbrev main_v22_5 : Ref sig .tc := ⟨.hbm, 31, rfl⟩
abbrev main_v22_6 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S16x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference6Ideal.lean ====
abbrev S32x8x1024 : Shape := ⟨3, ![32, 8, 1024]⟩
abbrev S1024 : Shape := ⟨1, ![1024]⟩
abbrev S1024x3600 : Shape := ⟨2, ![1024, 3600]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3600 : Shape := ⟨3, ![32, 8, 3600]⟩
abbrev S32x8x512 : Shape := ⟨3, ![32, 8, 512]⟩
abbrev S32x8x4 : Shape := ⟨3, ![32, 8, 4]⟩
abbrev S32x8x8 : Shape := ⟨3, ![32, 8, 8]⟩
abbrev S32x8x1536 : Shape := ⟨3, ![32, 8, 1536]⟩
abbrev S256x1536 : Shape := ⟨2, ![256, 1536]⟩
abbrev S32x8x16 : Shape := ⟨3, ![32, 8, 16]⟩
abbrev S256x16 : Shape := ⟨2, ![256, 16]⟩
abbrev S256x112 : Shape := ⟨2, ![256, 112]⟩
abbrev S256x128 : Shape := ⟨2, ![256, 128]⟩
abbrev S256x512 : Shape := ⟨2, ![256, 512]⟩
abbrev S16x256 : Shape := ⟨2, ![16, 256]⟩

abbrev nBuf : Space → Nat
  | .hbm => 42
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x3600, .f32⟩
  | .hbm, ⟨3, _⟩ => ⟨S32x8x1024, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x1024, .f32⟩
  | .hbm, ⟨15, _⟩ => ⟨S32x8x1024, .f32⟩
  | .hbm, ⟨16, _⟩ => ⟨S1x1x1024, .f32⟩
  | .hbm, ⟨17, _⟩ => ⟨S32x8x1024, .f32⟩
  | .hbm, ⟨18, _⟩ => ⟨S32x8x1024, .f32⟩
  | .hbm, ⟨19, _⟩ => ⟨S32x8x3600, .f32⟩
  | .hbm, ⟨20, _⟩ => ⟨S32x8x512, .f32⟩
  | .hbm, ⟨21, _⟩ => ⟨S32x8x512, .f32⟩
  | .hbm, ⟨22, _⟩ => ⟨S32x8x512, .f32⟩
  | .hbm, ⟨23, _⟩ => ⟨S32x8x512, .f32⟩
  | .hbm, ⟨24, _⟩ => ⟨S32x8x4, .f32⟩
  | .hbm, ⟨25, _⟩ => ⟨S32x8x4, .f32⟩
  | .hbm, ⟨26, _⟩ => ⟨S32x8x512, .f32⟩
  | .hbm, ⟨27, _⟩ => ⟨S32x8x512, .f32⟩
  | .hbm, ⟨28, _⟩ => ⟨S32x8x512, .f32⟩
  | .hbm, ⟨29, _⟩ => ⟨S32x8x8, .f32⟩
  | .hbm, ⟨30, _⟩ => ⟨S32x8x1536, .f32⟩
  | .hbm, ⟨31, _⟩ => ⟨S256x1536, .f32⟩
  | .hbm, ⟨32, _⟩ => ⟨S32x8x16, .f32⟩
  | .hbm, ⟨33, _⟩ => ⟨S256x16, .f32⟩
  | .hbm, ⟨34, _⟩ => ⟨S_, .f32⟩
  | .hbm, ⟨35, _⟩ => ⟨S256x112, .f32⟩
  | .hbm, ⟨36, _⟩ => ⟨S256x128, .f32⟩
  | .hbm, ⟨37, _⟩ => ⟨S256x512, .f32⟩
  | .hbm, ⟨38, _⟩ => ⟨S256x512, .f32⟩
  | .hbm, ⟨39, _⟩ => ⟨S256x512, .f32⟩
  | .hbm, ⟨40, _⟩ => ⟨S256x512, .f32⟩
  | .hbm, ⟨41, _⟩ => ⟨S16x256, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel7.lean ====
abbrev S16x32768 : Shape := ⟨2, ![16, 32768]⟩
abbrev S8 : Shape := ⟨1, ![8]⟩
abbrev S16x16x2048 : Shape := ⟨3, ![16, 16, 2048]⟩
abbrev S_ : Shape := ⟨0, ![]⟩
abbrev S16x128 : Shape := ⟨2, ![16, 128]⟩
abbrev S1 : Shape := ⟨1, ![1]⟩
abbrev S2 : Shape := ⟨1, ![2]⟩
abbrev S16x8x2048 : Shape := ⟨3, ![16, 8, 2048]⟩
abbrev S1x16x2048 : Shape := ⟨3, ![1, 16, 2048]⟩
abbrev S1x8x2048 : Shape := ⟨3, ![1, 8, 2048]⟩
abbrev S16x2048 : Shape := ⟨2, ![16, 2048]⟩
abbrev S8x2048 : Shape := ⟨2, ![8, 2048]⟩
abbrev S8x1 : Shape := ⟨2, ![8, 1]⟩
abbrev S256x256 : Shape := ⟨2, ![256, 256]⟩
abbrev S8x256 : Shape := ⟨2, ![8, 256]⟩
abbrev S1x8x256 : Shape := ⟨3, ![1, 8, 256]⟩

abbrev nBuf : Space → Nat
  | .hbm => 14
  | .vmem => 7
  | .smem => 0
  | _ => 0

abbrev bufTy : (tb : Table) → Fin (tcTables nBuf tb) → BufTy
  | .hbm, ⟨0, _⟩ => ⟨S16x32768, .f32⟩
  | .hbm, ⟨1, _⟩ => ⟨S8, .f32⟩
  | .hbm, ⟨2, _⟩ => ⟨S16x16x2048, .f32⟩
  | .hbm, ⟨3, _⟩ => ⟨S16x16x2048, .f32⟩
  | .hbm, ⟨4, _⟩ => ⟨S_, .f32⟩
  | .hbm, ⟨5, _⟩ => ⟨S16x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S16x128, .f32⟩
  | .hbm, ⟨12, _⟩ => ⟨S16x8x2048, .f32⟩
  | .hbm, ⟨13, _⟩ => ⟨S16x8x2048, .f32⟩
  | .local _ .vmem, ⟨0, _⟩ => ⟨S1x16x2048, .f32⟩
  | .local _ .vmem, ⟨1, _⟩ => ⟨S1x16x2048, .f32⟩
  | .local _ .vmem, ⟨2, _⟩ => ⟨S16x128, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x8x2048, .f32⟩
  | _, _ => ⟨S16x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16x32768 : Shape := ⟨2, ![16, 32768]⟩
abbrev S8 : Shape := ⟨1, ![8]⟩
abbrev S8x32768 : Shape := ⟨2, ![8, 32768]⟩
abbrev S32768x8 : Shape := ⟨2, ![32768, 8]⟩
abbrev S16x2048x8 : Shape := ⟨3, ![16, 2048, 8]⟩
abbrev S1x1x8 : Shape := ⟨3, ![1, 1, 8]⟩
abbrev S_ : Shape := ⟨0, ![]⟩
abbrev S16x8x2048 : Shape := ⟨3, ![16, 8, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x32768, .f32⟩
  | .hbm, ⟨1, _⟩ => ⟨S8, .f32⟩
  | .hbm, ⟨2, _⟩ => ⟨S8x32768, .f32⟩
  | .hbm, ⟨3, _⟩ => ⟨S32768x8, .f32⟩
  | .hbm, ⟨4, _⟩ => ⟨S16x2048x8, .f32⟩
  | .hbm, ⟨5, _⟩ => ⟨S1x1x8, .f32⟩
  | .hbm, ⟨6, _⟩ => ⟨S16x2048x8, .f32⟩
  | .hbm, ⟨7, _⟩ => ⟨S16x2048x8, .f32⟩
  | .hbm, ⟨8, _⟩ => ⟨S16x2048x8, .f32⟩
  | .hbm, ⟨9, _⟩ => ⟨S_, .f32⟩
  | .hbm, ⟨10, _⟩ => ⟨S16x2048x8, .f32⟩
  | .hbm, ⟨11, _⟩ => ⟨S16x2048x8, .f32⟩
  | .hbm, ⟨12, _⟩ => ⟨S16x2048x8, .f32⟩
  | .hbm, ⟨13, _⟩ => ⟨S16x2048x8, .f32⟩
  | .hbm, ⟨14, _⟩ => ⟨S16x2048x8, .i1⟩
  | .hbm, ⟨15, _⟩ => ⟨S16x2048x8, .f32⟩
  | .hbm, ⟨16, _⟩ => ⟨S16x2048x8, .f32⟩
  | .hbm, ⟨17, _⟩ => ⟨S16x2048x8, .f32⟩
  | .hbm, ⟨18, _⟩ => ⟨S16x2048x8, .f32⟩
  | .hbm, ⟨19, _⟩ => ⟨S16x2048x8, .f32⟩
  | .hbm, ⟨20, _⟩ => ⟨S16x2048x8, .f32⟩
  | .hbm, ⟨21, _⟩ => ⟨S16x2048x8, .f32⟩
  | .hbm, ⟨22, _⟩ => ⟨S16x2048x8, .f32⟩
  | .hbm, ⟨23, _⟩ => ⟨S16x2048x8, .f32⟩
  | .hbm, ⟨24, _⟩ => ⟨S16x8x2048, .f32⟩
  | .hbm, ⟨25, _⟩ => ⟨S_, .f32⟩
  | .hbm, ⟨26, _⟩ => ⟨S_, .f32⟩
  | .hbm, ⟨27, _⟩ => ⟨S16x2048x8, .f32⟩
  | .hbm, ⟨28, _⟩ => ⟨S16x8x2048, .f32⟩
  | _, _ => ⟨S16x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_call1_call0_cst : Ref sig .tc := ⟨.hbm, 25, rfl⟩
abbrev main_call1_call0_v0 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel8.lean ====
abbrev S16x256 : Shape := ⟨2, ![16, 256]⟩
abbrev S8 : Shape := ⟨1, ![8]⟩
abbrev S16x32x8 : Shape := ⟨3, ![16, 32, 8]⟩
abbrev S32x16x8 : Shape := ⟨3, ![32, 16, 8]⟩
abbrev S_ : Shape := ⟨0, ![]⟩
abbrev S16x128 : Shape := ⟨2, ![16, 128]⟩
abbrev S1 : Shape := ⟨1, ![1]⟩
abbrev S2 : Shape := ⟨1, ![2]⟩
abbrev S32x8x8 : Shape := ⟨3, ![32, 8, 8]⟩
abbrev S1x16x8 : Shape := ⟨3, ![1, 16, 8]⟩
abbrev S1x8x8 : Shape := ⟨3, ![1, 8, 8]⟩
abbrev S16x8 : Shape := ⟨2, ![16, 8]⟩
abbrev S8x8 : Shape := ⟨2, ![8, 8]⟩
abbrev S8x1 : Shape := ⟨2, ![8, 1]⟩
abbrev S1x8 : Shape := ⟨2, ![1, 8]⟩

abbrev nBuf : Space → Nat
  | .hbm => 14
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S8, .f32⟩
  | .hbm, ⟨2, _⟩ => ⟨S16x32x8, .f32⟩
  | .hbm, ⟨3, _⟩ => ⟨S32x16x8, .f32⟩
  | .hbm, ⟨4, _⟩ => ⟨S_, .f32⟩
  | .hbm, ⟨5, _⟩ => ⟨S16x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S16x128, .f32⟩
  | .hbm, ⟨12, _⟩ => ⟨S32x8x8, .f32⟩
  | .hbm, ⟨13, _⟩ => ⟨S32x8x8, .f32⟩
  | .local _ .vmem, ⟨0, _⟩ => ⟨S1x16x8, .f32⟩
  | .local _ .vmem, ⟨1, _⟩ => ⟨S1x16x8, .f32⟩
  | .local _ .vmem, ⟨2, _⟩ => ⟨S16x128, .f32⟩
  | .local _ .vmem, ⟨3, _⟩ => ⟨S1x8x8, .f32⟩
  | .local _ .vmem, ⟨4, _⟩ => ⟨S1x8x8, .f32⟩
  | .local _ .vmem, ⟨5, _⟩ => ⟨S1x8x8, .f32⟩
  | .local _ .vmem, ⟨6, _⟩ => ⟨S1x8x8, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16x256 : Shape := ⟨2, ![16, 256]⟩
abbrev S8 : Shape := ⟨1, ![8]⟩
abbrev S8x256 : Shape := ⟨2, ![8, 256]⟩
abbrev S256x8 : Shape := ⟨2, ![256, 8]⟩
abbrev S32x8x8 : Shape := ⟨3, ![32, 8, 8]⟩
abbrev S1x1x8 : Shape := ⟨3, ![1, 1, 8]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S8, .f32⟩
  | .hbm, ⟨2, _⟩ => ⟨S8x256, .f32⟩
  | .hbm, ⟨3, _⟩ => ⟨S256x8, .f32⟩
  | .hbm, ⟨4, _⟩ => ⟨S32x8x8, .f32⟩
  | .hbm, ⟨5, _⟩ => ⟨S1x1x8, .f32⟩
  | .hbm, ⟨6, _⟩ => ⟨S32x8x8, .f32⟩
  | .hbm, ⟨7, _⟩ => ⟨S32x8x8, .f32⟩
  | .hbm, ⟨8, _⟩ => ⟨S32x8x8, .f32⟩
  | .hbm, ⟨9, _⟩ => ⟨S_, .f32⟩
  | .hbm, ⟨10, _⟩ => ⟨S32x8x8, .f32⟩
  | .hbm, ⟨11, _⟩ => ⟨S32x8x8, .f32⟩
  | .hbm, ⟨12, _⟩ => ⟨S32x8x8, .f32⟩
  | .hbm, ⟨13, _⟩ => ⟨S32x8x8, .f32⟩
  | .hbm, ⟨14, _⟩ => ⟨S32x8x8, .i1⟩
  | .hbm, ⟨15, _⟩ => ⟨S32x8x8, .f32⟩
  | .hbm, ⟨16, _⟩ => ⟨S32x8x8, .f32⟩
  | .hbm, ⟨17, _⟩ => ⟨S32x8x8, .f32⟩
  | .hbm, ⟨18, _⟩ => ⟨S32x8x8, .f32⟩
  | .hbm, ⟨19, _⟩ => ⟨S32x8x8, .f32⟩
  | .hbm, ⟨20, _⟩ => ⟨S32x8x8, .f32⟩
  | .hbm, ⟨21, _⟩ => ⟨S32x8x8, .f32⟩
  | .hbm, ⟨22, _⟩ => ⟨S32x8x8, .f32⟩
  | .hbm, ⟨23, _⟩ => ⟨S32x8x8, .f32⟩
  | .hbm, ⟨24, _⟩ => ⟨S32x8x8, .f32⟩
  | .hbm, ⟨25, _⟩ => ⟨S_, .f32⟩
  | .hbm, ⟨26, _⟩ => ⟨S_, .f32⟩
  | .hbm, ⟨27, _⟩ => ⟨S32x8x8, .f32⟩
  | .hbm, ⟨28, _⟩ => ⟨S32x8x8, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_call1_call0_cst : Ref sig .tc := ⟨.hbm, 25, rfl⟩
abbrev main_call1_call0_v0 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel9.lean ====
abbrev S256x1536 : Shape := ⟨2, ![256, 1536]⟩
abbrev S256x512 : Shape := ⟨2, ![256, 512]⟩
abbrev S256x128 : Shape := ⟨2, ![256, 128]⟩
abbrev S16x256 : Shape := ⟨2, ![16, 256]⟩
abbrev S32x3x1536 : Shape := ⟨3, ![32, 3, 1536]⟩
abbrev S32x4x128x128 : Shape := ⟨4, ![32, 4, 128, 128]⟩
abbrev S4x1536 : Shape := ⟨2, ![4, 1536]⟩
abbrev S4 : Shape := ⟨1, ![4]⟩
abbrev S128 : Shape := ⟨1, ![128]⟩
abbrev S_ : Shape := ⟨0, ![]⟩
abbrev S32x8x1536 : Shape := ⟨3, ![32, 8, 1536]⟩
abbrev S32x8x128 : Shape := ⟨3, ![32, 8, 128]⟩
abbrev S16x32x8 : Shape := ⟨3, ![16, 32, 8]⟩
abbrev S32x16x8 : Shape := ⟨3, ![32, 16, 8]⟩
abbrev S8x128 : Shape := ⟨2, ![8, 128]⟩
abbrev S1 : Shape := ⟨1, ![1]⟩
abbrev S16x128 : Shape := ⟨2, ![16, 128]⟩
abbrev S2 : Shape := ⟨1, ![2]⟩
abbrev S32x8x512 : Shape := ⟨3, ![32, 8, 512]⟩
abbrev S1x8x1536 : Shape := ⟨3, ![1, 8, 1536]⟩
abbrev S1x8x512 : Shape := ⟨3, ![1, 8, 512]⟩
abbrev S1x8x128 : Shape := ⟨3, ![1, 8, 128]⟩
abbrev S1x16x8 : Shape := ⟨3, ![1, 16, 8]⟩
abbrev S1x4x128x128 : Shape := ⟨4, ![1, 4, 128, 128]⟩
abbrev S1x3x1536 : Shape := ⟨3, ![1, 3, 1536]⟩
abbrev S4x128x128 : Shape := ⟨3, ![4, 128, 128]⟩
abbrev S8x1536 : Shape := ⟨2, ![8, 1536]⟩
abbrev S1x1536 : Shape := ⟨2, ![1, 1536]⟩
abbrev S3x1536 : Shape := ⟨2, ![3, 1536]⟩
abbrev S1x128 : Shape := ⟨2, ![1, 128]⟩
abbrev S16x8 : Shape := ⟨2, ![16, 8]⟩
abbrev S16x1 : Shape := ⟨2, ![16, 1]⟩
abbrev S8x8 : Shape := ⟨2, ![8, 8]⟩
abbrev S8x1 : Shape := ⟨2, ![8, 1]⟩
abbrev S1x8 : Shape := ⟨2, ![1, 8]⟩
abbrev S4x8x128 : Shape := ⟨3, ![4, 8, 128]⟩
abbrev S1x8x1 : Shape := ⟨3, ![1, 8, 1]⟩
abbrev S4x8x1 : Shape := ⟨3, ![4, 8, 1]⟩
abbrev S1x1x8 : Shape := ⟨3, ![1, 1, 8]⟩
abbrev S4x1x8 : Shape := ⟨3, ![4, 1, 8]⟩
abbrev S4x8 : Shape := ⟨2, ![4, 8]⟩
abbrev S4x1x1 : Shape := ⟨3, ![4, 1, 1]⟩
abbrev S4x8x8 : Shape := ⟨3, ![4, 8, 8]⟩
abbrev S1x8x8 : Shape := ⟨3, ![1, 8, 8]⟩
abbrev S4x8x256 : Shape := ⟨3, ![4, 8, 256]⟩
abbrev S8 : Shape := ⟨1, ![8]⟩

abbrev nBuf : Space → Nat
  | .hbm => 56
  | .vmem => 23
  | .smem => 0
  | _ => 0

abbrev bufTy : (tb : Table) → Fin (tcTables nBuf tb) → BufTy
  | .hbm, ⟨0, _⟩ => ⟨S256x1536, .f32⟩
  | .hbm, ⟨1, _⟩ => ⟨S256x512, .f32⟩
  | .hbm, ⟨2, _⟩ => ⟨S256x128, .f32⟩
  | .hbm, ⟨3, _⟩ => ⟨S16x256, .f32⟩
  | .hbm, ⟨4, _⟩ => ⟨S32x3x1536, .f32⟩
  | .hbm, ⟨5, _⟩ => ⟨S32x4x128x128, .f32⟩
  | .hbm, ⟨6, _⟩ => ⟨S4x1536, .f32⟩
  | .hbm, ⟨7, _⟩ => ⟨S4, .f32⟩
  | .hbm, ⟨8, _⟩ => ⟨S4, .f32⟩
  | .hbm, ⟨9, _⟩ => ⟨S128, .f32⟩
  | .hbm, ⟨10, _⟩ => ⟨S_, .i32⟩
  | .hbm, ⟨11, _⟩ => ⟨S_, .f32⟩
  | .hbm, ⟨12, _⟩ => ⟨S32x8x1536, .f32⟩
  | .hbm, ⟨13, _⟩ => ⟨S32x8x128, .f32⟩
  | .hbm, ⟨14, _⟩ => ⟨S16x32x8, .f32⟩
  | .hbm, ⟨15, _⟩ => ⟨S32x16x8, .f32⟩
  | .hbm, ⟨16, _⟩ => ⟨S_, .f32⟩
  | .hbm, ⟨17, _⟩ => ⟨S8x128, .f32⟩
  | .hbm, ⟨18, _⟩ => ⟨S_, .f32⟩
  | .hbm, ⟨19, _⟩ => ⟨S128, .f32⟩
  | .hbm, ⟨20, _⟩ => ⟨S_, .i32⟩
  | .hbm, ⟨21, _⟩ => ⟨S1, .i32⟩
  | .hbm, ⟨22, _⟩ => ⟨S128, .f32⟩
  | .hbm, ⟨23, _⟩ => ⟨S_, .i32⟩
  | .hbm, ⟨24, _⟩ => ⟨S1, .i32⟩
  | .hbm, ⟨25, _⟩ => ⟨S8x128, .f32⟩
  | .hbm, ⟨26, _⟩ => ⟨S_, .f32⟩
  | .hbm, ⟨27, _⟩ => ⟨S128, .f32⟩
  | .hbm, ⟨28, _⟩ => ⟨S_, .i32⟩
  | .hbm, ⟨29, _⟩ => ⟨S1, .i32⟩
  | .hbm, ⟨30, _⟩ => ⟨S128, .f32⟩
  | .hbm, ⟨31, _⟩ => ⟨S_, .i32⟩
  | .hbm, ⟨32, _⟩ => ⟨S1, .i32⟩
  | .hbm, ⟨33, _⟩ => ⟨S8x128, .f32⟩
  | .hbm, ⟨34, _⟩ => ⟨S_, .i32⟩
  | .hbm, ⟨35, _⟩ => ⟨S1, .i32⟩
  | .hbm, ⟨36, _⟩ => ⟨S8x128, .f32⟩
  | .hbm, ⟨37, _⟩ => ⟨S_, .f32⟩
  | .hbm, ⟨38, _⟩ => ⟨S16x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S16x128, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S16x128, .f32⟩
  | .hbm, ⟨51, _⟩ => ⟨S32x8x1536, .f32⟩
  | .hbm, ⟨52, _⟩ => ⟨S32x8x512, .f32⟩
  | .hbm, ⟨53, _⟩ => ⟨S32x8x512, .f32⟩
  | .hbm, ⟨54, _⟩ => ⟨S32x4x128x128, .f32⟩
  | .hbm, ⟨55, _⟩ => ⟨S32x3x1536, .f32⟩
  | .local _ .vmem, ⟨0, _⟩ => ⟨S1x8x1536, .f32⟩
  | .local _ .vmem, ⟨1, _⟩ => ⟨S1x8x1536, .f32⟩
  | .local _ .vmem, ⟨2, _⟩ => ⟨S1x8x512, .f32⟩
  | .local _ .vmem, ⟨3, _⟩ => ⟨S1x8x512, .f32⟩
  | .local _ .vmem, ⟨4, _⟩ => ⟨S1x8x128, .f32⟩
  | .local _ .vmem, ⟨5, _⟩ => ⟨S1x8x128, .f32⟩
  | .local _ .vmem, ⟨6, _⟩ => ⟨S1x16x8, .f32⟩
  | .local _ .vmem, ⟨7, _⟩ => ⟨S1x16x8, .f32⟩
  | .local _ .vmem, ⟨8, _⟩ => ⟨S1x8x1536, .f32⟩
  | .local _ .vmem, ⟨9, _⟩ => ⟨S1x8x1536, .f32⟩
  | .local _ .vmem, ⟨10, _⟩ => ⟨S1x4x128x128, .f32⟩
  | .local _ .vmem, ⟨11, _⟩ => ⟨S1x4x128x128, .f32⟩
  | .local _ .vmem, ⟨12, _⟩ => ⟨S4x1536, .f32⟩
  | .local _ .vmem, ⟨13, _⟩ => ⟨S8x128, .f32⟩
  | .local _ .vmem, ⟨14, _⟩ => ⟨S16x128, .f32⟩
  | .local _ .vmem, ⟨15, _⟩ => ⟨S1x8x512, .f32⟩
  | .local _ .vmem, ⟨16, _⟩ => ⟨S1x8x512, .f32⟩
  | .local _ .vmem, ⟨17, _⟩ => ⟨S1x4x128x128, .f32⟩
  | .local _ .vmem, ⟨18, _⟩ => ⟨S1x4x128x128, .f32⟩
  | .local _ .vmem, ⟨19, _⟩ => ⟨S1x3x1536, .f32⟩
  | .local _ .vmem, ⟨20, _⟩ => ⟨S1x3x1536, .f32⟩
  | .local _ .vmem, ⟨21, _⟩ => ⟨S4x128x128, .f32⟩
  | .local _ .vmem, ⟨22, _⟩ => ⟨S8x1536, .f32⟩
  | _, _ => ⟨S256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_c_6 : Ref sig .tc := ⟨.hbm, 34, rfl⟩
abbrev main_v15 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩
abbrev main_c_8 : Ref sig .tc := ⟨.hbm, 39, rfl⟩
abbrev main_v18 : Ref sig .tc := ⟨.hbm, 40, rfl⟩
abbrev main_c_9 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_10 : Ref sig .tc := ⟨.hbm, 45, rfl⟩
abbrev main_v22 : Ref sig .tc := ⟨.hbm, 46, rfl⟩
abbrev main_c_11 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev main_v28_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_112 : BitVec 32 := 0#32
  let v501 : BitVec 1 := Scalar.cmpi .eq arg1 c0_i32_112
  let v502 : BitVec 32 := Scalar.extui v501
  let c0_i32_113 : BitVec 32 := 0#32
  let v503 : BitVec 1 := Scalar.cmpi .ne v502 c0_i32_113
  v503

def k0_cond2 (i : grid0.Coords) : BitVec 1 :=
  let arg1 : BitVec 32 := BitVec.ofNat 32 (i 1).val
  let c0_i32_17 : BitVec 32 := 0#32
  let v49 : BitVec 1 := Scalar.cmpi .eq arg1 c0_i32_17
  let v50 : BitVec 32 := Scalar.extui v49
  let c0_i32_18 : BitVec 32 := 0#32
  let v51 : BitVec 1 := Scalar.cmpi .ne v50 c0_i32_18
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference9Ideal.lean ====
abbrev S256x1536 : Shape := ⟨2, ![256, 1536]⟩
abbrev S256x512 : Shape := ⟨2, ![256, 512]⟩
abbrev S256x128 : Shape := ⟨2, ![256, 128]⟩
abbrev S16x256 : Shape := ⟨2, ![16, 256]⟩
abbrev S32x3x1536 : Shape := ⟨3, ![32, 3, 1536]⟩
abbrev S32x4x128x128 : Shape := ⟨4, ![32, 4, 128, 128]⟩
abbrev S4x1536 : Shape := ⟨2, ![4, 1536]⟩
abbrev S4 : Shape := ⟨1, ![4]⟩
abbrev S128 : Shape := ⟨1, ![128]⟩
abbrev S32x8x1536 : Shape := ⟨3, ![32, 8, 1536]⟩
abbrev S32x11x1536 : Shape := ⟨3, ![32, 11, 1536]⟩

abbrev nBuf : Space → Nat
  | .hbm => 13
  | .vmem => 0
  | .smem => 0
  | _ => 0

abbrev bufTy : (tb : Table) → Fin (tcTables nBuf tb) → BufTy
  | .hbm, ⟨0, _⟩ => ⟨S256x1536, .f32⟩
  | .hbm, ⟨1, _⟩ => ⟨S256x512, .f32⟩
  | .hbm, ⟨2, _⟩ => ⟨S256x128, .f32⟩
  | .hbm, ⟨3, _⟩ => ⟨S16x256, .f32⟩
  | .hbm, ⟨4, _⟩ => ⟨S32x3x1536, .f32⟩
  | .hbm, ⟨5, _⟩ => ⟨S32x4x128x128, .f32⟩
  | .hbm, ⟨6, _⟩ => ⟨S4x1536, .f32⟩
  | .hbm, ⟨7, _⟩ => ⟨S4, .f32⟩
  | .hbm, ⟨8, _⟩ => ⟨S4, .f32⟩
  | .hbm, ⟨9, _⟩ => ⟨S128, .f32⟩
  | .hbm, ⟨10, _⟩ => ⟨S32x8x1536, .f32⟩
  | .hbm, ⟨11, _⟩ => ⟨S32x11x1536, .f32⟩
  | .hbm, ⟨12, _⟩ => ⟨S32x3x1536, .f32⟩
  | _, _ => ⟨S256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel10.lean ====
abbrev S32768x1536 : Shape := ⟨2, ![32768, 1536]⟩
abbrev S32768x512 : Shape := ⟨2, ![32768, 512]⟩
abbrev S32768x128 : Shape := ⟨2, ![32768, 128]⟩
abbrev S16x32768 : Shape := ⟨2, ![16, 32768]⟩
abbrev S4x1536 : Shape := ⟨2, ![4, 1536]⟩
abbrev S4 : Shape := ⟨1, ![4]⟩
abbrev S128 : Shape := ⟨1, ![128]⟩
abbrev S_ : Shape := ⟨0, ![]⟩
abbrev S16x8x1536 : Shape := ⟨3, ![16, 8, 1536]⟩
abbrev S16x4x128x128 : Shape := ⟨4, ![16, 4, 128, 128]⟩
abbrev S16x2048x128 : Shape := ⟨3, ![16, 2048, 128]⟩
abbrev S16x16x2048 : Shape := ⟨3, ![16, 16, 2048]⟩
abbrev S8x128 : Shape := ⟨2, ![8, 128]⟩
abbrev S1 : Shape := ⟨1, ![1]⟩
abbrev S16x128 : Shape := ⟨2, ![16, 128]⟩
abbrev S2 : Shape := ⟨1, ![2]⟩
abbrev S16x2048x1536 : Shape := ⟨3, ![16, 2048, 1536]⟩
abbrev S16x2048x512 : Shape := ⟨3, ![16, 2048, 512]⟩
abbrev S16x3x1536 : Shape := ⟨3, ![16, 3, 1536]⟩
abbrev S1x256x1536 : Shape := ⟨3, ![1, 256, 1536]⟩
abbrev S1x256x512 : Shape := ⟨3, ![1, 256, 512]⟩
abbrev S1x256x128 : Shape := ⟨3, ![1, 256, 128]⟩
abbrev S1x16x256 : Shape := ⟨3, ![1, 16, 256]⟩
abbrev S1x8x1536 : Shape := ⟨3, ![1, 8, 1536]⟩
abbrev S1x4x128x128 : Shape := ⟨4, ![1, 4, 128, 128]⟩
abbrev S1x3x1536 : Shape := ⟨3, ![1, 3, 1536]⟩
abbrev S4x128x128 : Shape := ⟨3, ![4, 128, 128]⟩
abbrev S8x1536 : Shape := ⟨2, ![8, 1536]⟩
abbrev S256x1536 : Shape := ⟨2, ![256, 1536]⟩
abbrev S1x1536 : Shape := ⟨2, ![1, 1536]⟩
abbrev S248x1536 : Shape := ⟨2, ![248, 1536]⟩
abbrev S3x1536 : Shape := ⟨2, ![3, 1536]⟩
abbrev S256x128 : Shape := ⟨2, ![256, 128]⟩
abbrev S1x128 : Shape := ⟨2, ![1, 128]⟩
abbrev S16x256 : Shape := ⟨2, ![16, 256]⟩
abbrev S16x1 : Shape := ⟨2, ![16, 1]⟩
abbrev S64x64 : Shape := ⟨2, ![64, 64]⟩
abbrev S64x128 : Shape := ⟨2, ![64, 128]⟩
abbrev S16x64 : Shape := ⟨2, ![16, 64]⟩
abbrev S1x64x128 : Shape := ⟨3, ![1, 64, 128]⟩
abbrev S16x64x128 : Shape := ⟨3, ![16, 64, 128]⟩
abbrev S64x1 : Shape := ⟨2, ![64, 1]⟩
abbrev S1x64x1 : Shape := ⟨3, ![1, 64, 1]⟩
abbrev S16x64x1 : Shape := ⟨3, ![16, 64, 1]⟩
abbrev S1x64 : Shape := ⟨2, ![1, 64]⟩
abbrev S1x1x64 : Shape := ⟨3, ![1, 1, 64]⟩
abbrev S16x1x64 : Shape := ⟨3, ![16, 1, 64]⟩
abbrev S16x1x1 : Shape := ⟨3, ![16, 1, 1]⟩
abbrev S16x64x64 : Shape := ⟨3, ![16, 64, 64]⟩
abbrev S1x64x64 : Shape := ⟨3, ![1, 64, 64]⟩
abbrev S16x64x256 : Shape := ⟨3, ![16, 64, 256]⟩
abbrev S4x64x128 : Shape := ⟨3, ![4, 64, 128]⟩
abbrev S4x64x64 : Shape := ⟨3, ![4, 64, 64]⟩
abbrev S4x1x1 : Shape := ⟨3, ![4, 1, 1]⟩
abbrev S64 : Shape := ⟨1, ![64]⟩

abbrev nBuf : Space → Nat
  | .hbm => 55
  | .vmem => 23
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x128, .f32⟩
  | .hbm, ⟨3, _⟩ => ⟨S16x32768, .f32⟩
  | .hbm, ⟨4, _⟩ => ⟨S4x1536, .f32⟩
  | .hbm, ⟨5, _⟩ => ⟨S4, .f32⟩
  | .hbm, ⟨6, _⟩ => ⟨S4, .f32⟩
  | .hbm, ⟨7, _⟩ => ⟨S128, .f32⟩
  | .hbm, ⟨8, _⟩ => ⟨S_, .f32⟩
  | .hbm, ⟨9, _⟩ => ⟨S16x8x1536, .f32⟩
  | .hbm, ⟨10, _⟩ => ⟨S_, .f32⟩
  | .hbm, ⟨11, _⟩ => ⟨S16x4x128x128, .f32⟩
  | .hbm, ⟨12, _⟩ => ⟨S16x2048x128, .f32⟩
  | .hbm, ⟨13, _⟩ => ⟨S16x16x2048, .f32⟩
  | .hbm, ⟨14, _⟩ => ⟨S16x16x2048, .f32⟩
  | .hbm, ⟨15, _⟩ => ⟨S_, .f32⟩
  | .hbm, ⟨16, _⟩ => ⟨S8x128, .f32⟩
  | .hbm, ⟨17, _⟩ => ⟨S_, .f32⟩
  | .hbm, ⟨18, _⟩ => ⟨S128, .f32⟩
  | .hbm, ⟨19, _⟩ => ⟨S_, .i32⟩
  | .hbm, ⟨20, _⟩ => ⟨S1, .i32⟩
  | .hbm, ⟨21, _⟩ => ⟨S128, .f32⟩
  | .hbm, ⟨22, _⟩ => ⟨S_, .i32⟩
  | .hbm, ⟨23, _⟩ => ⟨S1, .i32⟩
  | .hbm, ⟨24, _⟩ => ⟨S8x128, .f32⟩
  | .hbm, ⟨25, _⟩ => ⟨S_, .f32⟩
  | .hbm, ⟨26, _⟩ => ⟨S128, .f32⟩
  | .hbm, ⟨27, _⟩ => ⟨S_, .i32⟩
  | .hbm, ⟨28, _⟩ => ⟨S1, .i32⟩
  | .hbm, ⟨29, _⟩ => ⟨S128, .f32⟩
  | .hbm, ⟨30, _⟩ => ⟨S_, .i32⟩
  | .hbm, ⟨31, _⟩ => ⟨S1, .i32⟩
  | .hbm, ⟨32, _⟩ => ⟨S8x128, .f32⟩
  | .hbm, ⟨33, _⟩ => ⟨S_, .i32⟩
  | .hbm, ⟨34, _⟩ => ⟨S1, .i32⟩
  | .hbm, ⟨35, _⟩ => ⟨S8x128, .f32⟩
  | .hbm, ⟨36, _⟩ => ⟨S_, .f32⟩
  | .hbm, ⟨37, _⟩ => ⟨S16x128, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S16x128, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S16x128, .f32⟩
  | .hbm, ⟨50, _⟩ => ⟨S16x2048x1536, .f32⟩
  | .hbm, ⟨51, _⟩ => ⟨S16x2048x512, .f32⟩
  | .hbm, ⟨52, _⟩ => ⟨S16x2048x512, .f32⟩
  | .hbm, ⟨53, _⟩ => ⟨S16x4x128x128, .f32⟩
  | .hbm, ⟨54, _⟩ => ⟨S16x3x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x512, .f32⟩
  | .local _ .vmem, ⟨3, _⟩ => ⟨S1x256x512, .f32⟩
  | .local _ .vmem, ⟨4, _⟩ => ⟨S1x256x128, .f32⟩
  | .local _ .vmem, ⟨5, _⟩ => ⟨S1x256x128, .f32⟩
  | .local _ .vmem, ⟨6, _⟩ => ⟨S1x16x256, .f32⟩
  | .local _ .vmem, ⟨7, _⟩ => ⟨S1x16x256, .f32⟩
  | .local _ .vmem, ⟨8, _⟩ => ⟨S1x8x1536, .f32⟩
  | .local _ .vmem, ⟨9, _⟩ => ⟨S1x8x1536, .f32⟩
  | .local _ .vmem, ⟨10, _⟩ => ⟨S1x4x128x128, .f32⟩
  | .local _ .vmem, ⟨11, _⟩ => ⟨S1x4x128x128, .f32⟩
  | .local _ .vmem, ⟨12, _⟩ => ⟨S4x1536, .f32⟩
  | .local _ .vmem, ⟨13, _⟩ => ⟨S8x128, .f32⟩
  | .local _ .vmem, ⟨14, _⟩ => ⟨S16x128, .f32⟩
  | .local _ .vmem, ⟨15, _⟩ => ⟨S1x256x512, .f32⟩
  | .local _ .vmem, ⟨16, _⟩ => ⟨S1x256x512, .f32⟩
  | .local _ .vmem, ⟨17, _⟩ => ⟨S1x4x128x128, .f32⟩
  | .local _ .vmem, ⟨18, _⟩ => ⟨S1x4x128x128, .f32⟩
  | .local _ .vmem, ⟨19, _⟩ => ⟨S1x3x1536, .f32⟩
  | .local _ .vmem, ⟨20, _⟩ => ⟨S1x3x1536, .f32⟩
  | .local _ .vmem, ⟨21, _⟩ => ⟨S4x128x128, .f32⟩
  | .local _ .vmem, ⟨22, _⟩ => ⟨S8x1536, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_c_7 : Ref sig .tc := ⟨.hbm, 33, rfl⟩
abbrev main_v16 : Ref sig .tc := ⟨.hbm, 34, rfl⟩
abbrev main_v17 : Ref sig .tc := ⟨.hbm, 35, rfl⟩
abbrev main_cst_8 : Ref sig .tc := ⟨.hbm, 36, rfl⟩
abbrev main_v18 : Ref sig .tc := ⟨.hbm, 37, rfl⟩
abbrev main_c_9 : Ref sig .tc := ⟨.hbm, 38, rfl⟩
abbrev main_v19 : Ref sig .tc := ⟨.hbm, 39, rfl⟩
abbrev main_c_10 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_11 : Ref sig .tc := ⟨.hbm, 44, rfl⟩
abbrev main_v23 : Ref sig .tc := ⟨.hbm, 45, rfl⟩
abbrev main_c_12 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v29_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32_279 : BitVec 32 := 7#32
  let v987 : BitVec 1 := Scalar.cmpi .eq arg1 c7_i32_279
  let v988 : BitVec 32 := Scalar.extui v987
  let c0_i32_280 : BitVec 32 := 0#32
  let v989 : BitVec 1 := Scalar.cmpi .ne v988 c0_i32_280
  v989

def k0_cond2 (i : grid0.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_17 : BitVec 32 := 0#32
  let v61 : BitVec 1 := Scalar.cmpi .ne v60 c0_i32_17
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference10Ideal.lean ====
abbrev S32768x1536 : Shape := ⟨2, ![32768, 1536]⟩
abbrev S32768x512 : Shape := ⟨2, ![32768, 512]⟩
abbrev S32768x128 : Shape := ⟨2, ![32768, 128]⟩
abbrev S16x32768 : Shape := ⟨2, ![16, 32768]⟩
abbrev S4x1536 : Shape := ⟨2, ![4, 1536]⟩
abbrev S4 : Shape := ⟨1, ![4]⟩
abbrev S128 : Shape := ⟨1, ![128]⟩
abbrev S_ : Shape := ⟨0, ![]⟩
abbrev S16x3x1536 : Shape := ⟨3, ![16, 3, 1536]⟩
abbrev S16x2048x1536 : Shape := ⟨3, ![16, 2048, 1536]⟩
abbrev S16x2051x1536 : Shape := ⟨3, ![16, 2051, 1536]⟩

abbrev nBuf : Space → Nat
  | .hbm => 13
  | .vmem => 0
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x128, .f32⟩
  | .hbm, ⟨3, _⟩ => ⟨S16x32768, .f32⟩
  | .hbm, ⟨4, _⟩ => ⟨S4x1536, .f32⟩
  | .hbm, ⟨5, _⟩ => ⟨S4, .f32⟩
  | .hbm, ⟨6, _⟩ => ⟨S4, .f32⟩
  | .hbm, ⟨7, _⟩ => ⟨S128, .f32⟩
  | .hbm, ⟨8, _⟩ => ⟨S_, .f32⟩
  | .hbm, ⟨9, _⟩ => ⟨S16x3x1536, .f32⟩
  | .hbm, ⟨10, _⟩ => ⟨S16x2048x1536, .f32⟩
  | .hbm, ⟨11, _⟩ => ⟨S16x2051x1536, .f32⟩
  | .hbm, ⟨12, _⟩ => ⟨S16x3x1536, .f32⟩
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== Proof.Issue.lean ====
/- One transfer of the dispatch kernel, at any float family: its windows, the batch of one grid point's 2048 transfers and
   what each of them delivers, and the rule for one issue (a destination word read from scalar memory, its check, the
   transfer started). -/
module

public import proofs.«01_k».proof.Proof.Gen.KernelIdeal.Frame
public import proofs.«01_k».proof.Proof.Gen.KernelIdeal.Skeleton
public import Idealize.ShloMosaic.Lib.Pipeline.Routed
public import Idealize.ShloMosaic.Lib.Batch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the run: the pipeline's beside the transfers' counters. -/
local notation "𝕄" => MT nD τ sig Unit (Elt F) ℕ (Pipeline.UC sig nD τ) ℕ

/-- The result, left in HBM. -/
abbrev xs : Memref sig .tc .hbm S1179648x128 .f32 := Memref.whole main_v1

theorem dInb (r : ℕ) (h : r < 147456) : ∀ a, (![8 * r, 0] : Fin 2 → ℕ) a + S8x128.size a ≤ S1179648x128.size a := by
  intro a; fin_cases a
  · show 8 * r + 8 ≤ 1179648; omega
  · show 0 + 128 ≤ 128; omega
theorem sInb (t : ℕ) (h : t < 512) : ∀ a, (![8 * t, 0] : Fin 2 → ℕ) a + S8x128.size a ≤ S4096x128.size a := by
  intro a; fin_cases a
  · show 8 * t + 8 ≤ 4096; omega
  · show 0 + 128 ≤ 128; omega

/-- The eight lines of the result that hold row `r` of the sorted buffer. -/
def dWin (r : ℕ) (h : r < 147456) : Memref sig .tc .hbm S8x128 .f32 :=
  xs.slice (Rect.unit (s := S1179648x128) ![8 * r, 0] S8x128.size (dInb r h)) (fun _ => rfl)
/-- The eight lines of a point's block of tokens that hold its token `t`. -/
def sWin (arg2 : Memref sig .tc .vmem S4096x128 .f32) (t : ℕ) (h : t < 512) : Memref sig .tc .vmem S8x128 .f32 :=
  arg2.slice (Rect.unit (s := S4096x128) ![8 * t, 0] S8x128.size (sInb t h)) (fun _ => rfl)

theorem dWin_of (off : Fin 2 → ℕ) (inb : ∀ a, off a + S8x128.size a ≤ S1179648x128.size a) (r : ℕ) (h : r < 147456) (e : off = ![8 * r, 0]) :
    xs.slice (Rect.unit (s := S1179648x128) off S8x128.size inb) (fun _ => rfl) = dWin r h := by subst e; rfl
theorem sWin_of (arg2 : Memref sig .tc .vmem S4096x128 .f32) (off : Fin 2 → ℕ) (inb : ∀ a, off a + S8x128.size a ≤ S4096x128.size a)
    (t : ℕ) (h : t < 512) (e : off = ![8 * t, 0]) :
    arg2.slice (Rect.unit (s := S4096x128) off S8x128.size inb) (fun _ => rfl) = sWin arg2 t h := by subst e; rfl

theorem tokLt (i : Fin 2048) : i.val / 4 < 512 := by have := i.isLt; omega

section Batch

variable (c : Dev nD) (arg2 : Memref sig .tc .vmem S4096x128 .f32) (dr : Fin 2048 → ℕ) (hdr : ∀ i, dr i < 147456)

/-- Contents of the result; of the block of tokens. -/
abbrev XBuf : Type := Buf (Elt F) (xs.view.loc (c : Thread nD τ))
abbrev HBuf : Type := Buf (Elt F) (arg2.view.loc (c : Thread nD τ))

/-- The same contents, spoken of as the contents of a row's lines; of a token's lines. -/
def dC (X : XBuf (F := F) c) (r : ℕ) (h : r < 147456) : Buf (Elt F) ((dWin r h).view.loc (c : Thread nD τ)) := X
def sC (f : HBuf (F := F) c arg2) (t : ℕ) (h : t < 512) : Buf (Elt F) ((sWin arg2 t h).view.loc (c : Thread nD τ)) := f

/-- Row `i`'s lines of the result at contents `X`. -/
def dPt (X : XBuf (F := F) c) (i : Fin 2048) : sProp 𝕄 :=
  (dWin (dr i) (hdr i)).view.loc (c : Thread nD τ) ↦[(dWin (dr i) (hdr i)).view.set]{fullShare} dC c X (dr i) (hdr i)
/-- The lines transfer `i` reads, under its own read token. -/
def sPt (h : HBuf (F := F) c arg2) (i : Fin 2048) : sProp 𝕄 :=
  (sWin arg2 (i.val / 4) (tokLt i)).view.loc (c : Thread nD τ) ↦[(sWin arg2 (i.val / 4) (tokLt i)).view.set]{Transfers.shareTok fullShare 2048 i} sC c arg2 h (i.val / 4) (tokLt i)
/-- Transfer `i`: what it takes, and what it delivers, at the result's contents `X`. -/
def part (h : HBuf (F := F) c arg2) (X : XBuf (F := F) c) (i : Fin 2048) : sProp 𝕄 :=
  iprop(dPt c dr hdr X i ∗ sPt c arg2 h i)

instance part_storable (h : HBuf (F := F) c arg2) (X : XBuf (F := F) c) (i : Fin 2048) :
    BI.Storable (upEmb : UEmb _ 𝕄) (part c arg2 dr hdr h X i) := by
  unfold part dPt sPt; infer_instance

/-- The units one transfer adds to the semaphore. -/
abbrev NN : ℕ := (dWin 0 (by decide)).view.amount (SemLoc.dma (sig := sig) cc0_scratch0.sem)

/-- The point's batch: `j` transfers issued, `u` units taken. -/
abbrev batch (h : HBuf (F := F) c arg2) (X : XBuf (F := F) c) (j u : ℕ) : sProp 𝕄 :=
  Transfers.Batch (countersEmb (U := Pipeline.UC sig nD τ)) (c : Thread nD τ) (.dma cc0_scratch0.sem) () NN (part c arg2 dr hdr h X) j u

/-- What a transfer lands on row `i`'s lines is the final contents there, when the final contents of row `i` are the token's. -/
theorem lands (h : HBuf (F := F) c arg2) (X0 X1 : XBuf (F := F) c) (i : Fin 2048)
    (hX : (dWin (dr i) (hdr i)).view.read (Elt F) (dC c X1 (dr i) (hdr i))
      = (sWin arg2 (i.val / 4) (tokLt i)).view.read (Elt F) (sC c arg2 h (i.val / 4) (tokLt i))) :
    iprop(((dWin (dr i) (hdr i)).view.loc (c : Thread nD τ) ↦[(dWin (dr i) (hdr i)).view.set]{fullShare}
          ((dWin (dr i) (hdr i)).view.write (Elt F) (dC c X0 (dr i) (hdr i))
            (ReadAs.same.apply ((sWin arg2 (i.val / 4) (tokLt i)).view.read (Elt F) (sC c arg2 h (i.val / 4) (tokLt i)))) Finset.univ))
        ∗ ((sWin arg2 (i.val / 4) (tokLt i)).view.loc (c : Thread nD τ) ↦[(sWin arg2 (i.val / 4) (tokLt i)).view.set]{Transfers.shareTok fullShare 2048 i}
          sC c arg2 h (i.val / 4) (tokLt i)))
      ⊢ (part c arg2 dr hdr h X1 i : sProp 𝕄) := by
  unfold part dPt sPt
  rw [← hX]
  have e : ((dWin (dr i) (hdr i)).view.loc (c : Thread nD τ) ↦[(dWin (dr i) (hdr i)).view.set]{fullShare}
          ((dWin (dr i) (hdr i)).view.write (Elt F) (dC c X0 (dr i) (hdr i))
            (ReadAs.same.apply ((dWin (dr i) (hdr i)).view.read (Elt F) (dC c X1 (dr i) (hdr i)))) Finset.univ) : sProp 𝕄)
      = ((dWin (dr i) (hdr i)).view.loc (c : Thread nD τ) ↦[(dWin (dr i) (hdr i)).view.set]{fullShare} dC c X1 (dr i) (hdr i)) := by
    refine pointsTo_congr fun y hy => ?_
    obtain ⟨x, -, rfl⟩ := Finset.mem_map.1 hy
    rw [View.write_emb_of_mem _ _ (Finset.mem_univ x)]
    show cast _ ((dWin (dr i) (hdr i)).view.read (Elt F) (dC c X1 (dr i) (hdr i)) x) = _
    rw [View.read_apply]; simp
  rw [e]

/-- Every transfer adds the same units. -/
theorem amount_eq (r : ℕ) (h : r < 147456) : (dWin r h).view.amount (SemLoc.dma (sig := sig) cc0_scratch0.sem) = NN := rfl

/-- One issue: a destination word is read from scalar memory, its check holds, and transfer `j` is started from the token's
    lines to the row the word names. -/
theorem wp_issue (bd : Option Variants.none.V) {α : Type} {Q : α → sProp 𝕄} (arg1 : Memref sig .tc .smem S1x1x2048 .i32)
    (f1 : Buf (Elt F) (arg1.view.loc (c : Thread nD τ)))
    (h : HBuf (F := F) c arg2) (X0 X1 : XBuf (F := F) c)
    (hX : ∀ i, (dWin (dr i) (hdr i)).view.read (Elt F) (dC c X1 (dr i) (hdr i))
      = (sWin arg2 (i.val / 4) (tokLt i)).view.read (Elt F) (sC c arg2 h (i.val / 4) (tokLt i)))
    (j u : ℕ) (hj : j < 2048) (hu : u ≤ j * NN)
    (r : Rect S1x1x2048) (h1 : r.shape.numel = 1)
    (P : BitVec 32 → Prop) (dec : ∀ v, Decidable (P v)) (off : BitVec 32 → Fin 2 → ℕ)
    (inb : ∀ v, P v → ∀ a, off v a + S8x128.size a ≤ S1179648x128.size a)
    (soff : Fin 2 → ℕ) (sinb : ∀ a, soff a + S8x128.size a ≤ S4096x128.size a)
    (w : BitVec 32) (hw : (arg1.access r).read (Elt F) f1 (Shape.Idx.first (h1.symm ▸ Nat.one_pos)) = w)
    (hP : P w) (ho : off w = ![8 * dr ⟨j, hj⟩, 0]) (hs : soff = ![8 * (j / 4), 0])
    (K : PUnit → Prog (TpuEff nD τ sig (Elt F) Λ₀ .tc) α) :
    iprop((arg1.view.loc (c : Thread nD τ) ↦[Finset.univ]{fullShare} f1) ∗ part c arg2 dr hdr h X0 ⟨j, hj⟩ ∗ batch c arg2 dr hdr h X1 j u)
      ⊢ iprop((iprop((arg1.view.loc (c : Thread nD τ) ↦[Finset.univ]{fullShare} f1) ∗ batch c arg2 dr hdr h X1 (j + 1) u)
            -∗ wp frame (wpE (defs₀ (F := F)) Variants.none (c : Thread nD τ) bd) Set.univ (K ⟨⟩) Q)
        -∗ wp frame (wpE (defs₀ (F := F)) Variants.none (c : Thread nD τ) bd) Set.univ
          (smemLoad arg1 r h1 rfl >>= fun v : Elt F .i32 =>
            Prog.lift (TpuEff.assume (P v) (dec v)) >>= fun hp =>
            Prog.lift (TpuEff.enqueueDma (arg2.slice (Rect.unit (s := S4096x128) soff S8x128.size sinb) (fun _ => rfl))
              (.here (xs.slice (Rect.unit (s := S1179648x128) (off v) S8x128.size (inb v hp.down)) (fun _ => rfl)))
              (.dma cc0_scratch0.sem) (View.wordExact_bits rfl) (View.wordExact_bits rfl) ⟨Or.inl rfl, trivial⟩) >>= K) Q) := by
  have key : ∀ (src : Memref sig .tc .vmem S8x128 .f32) (dst : Memref sig .tc .hbm S8x128 .f32)
      (a1 : src.view.WordExact) (a2 : dst.view.WordExact) (a3 : DmaTarget.Typed (nD := nD) (p := Proc.tc) .vmem (SemLoc.dma cc0_scratch0.sem) (.here dst))
      (hsrc : src = sWin arg2 (j / 4) (tokLt ⟨j, hj⟩)) (hdst : dst = dWin (dr ⟨j, hj⟩) (hdr ⟨j, hj⟩)),
      iprop(part c arg2 dr hdr h X0 ⟨j, hj⟩ ∗ batch c arg2 dr hdr h X1 j u)
        ⊢ iprop((batch c arg2 dr hdr h X1 (j + 1) u -∗ wp frame (wpE (defs₀ (F := F)) Variants.none (c : Thread nD τ) bd) Set.univ (K ⟨⟩) Q)
          -∗ wp frame (wpE (defs₀ (F := F)) Variants.none (c : Thread nD τ) bd) Set.univ
            (.op (.enqueueDma src (.here dst) (.dma cc0_scratch0.sem) a1 a2 a3) K) Q) := by
    intro src dst a1 a2 a3 hsrc hdst
    subst hsrc hdst
    iintro ⟨Hp, HB⟩ Hk
    unfold part dPt sPt
    icases Hp with ⟨Hd, Hs⟩
    iapply (Transfers.wp_dmaBatch (countersEmb (U := Pipeline.UC sig nD τ)) Variants.none (c : Thread nD τ) bd () NN (amount_eq _ _) (Finset.Subset.refl _)
      (D := part c arg2 dr hdr h X1) (j := j) (u := u) hj hu (lands c arg2 dr hdr h X0 X1 ⟨j, hj⟩ (hX ⟨j, hj⟩))) $$ [Hd Hs HB]
    · isplitl [Hs]; · iexact Hs
      isplitl [Hd]; · iexact Hd
      iexact HB
    iexact Hk
  iintro ⟨H1, Hp, HB⟩ Hk
  have e : (smemLoad arg1 r h1 rfl >>= fun v : Elt F .i32 =>
            Prog.lift (TpuEff.assume (P v) (dec v)) >>= fun hp =>
            Prog.lift (TpuEff.enqueueDma (arg2.slice (Rect.unit (s := S4096x128) soff S8x128.size sinb) (fun _ => rfl))
              (.here (xs.slice (Rect.unit (s := S1179648x128) (off v) S8x128.size (inb v hp.down)) (fun _ => rfl)))
              (.dma cc0_scratch0.sem) (View.wordExact_bits rfl) (View.wordExact_bits rfl) ⟨Or.inl rfl, trivial⟩) >>= K)
      = smemLoadElt arg1 r (View.loads_smem_one rfl h1) (Shape.Idx.first (h1.symm ▸ Nat.one_pos)) fun v : Elt F .i32 =>
          .op (TpuEff.assume (P v) (dec v)) fun hp =>
          .op (TpuEff.enqueueDma (arg2.slice (Rect.unit (s := S4096x128) soff S8x128.size sinb) (fun _ => rfl))
              (.here (xs.slice (Rect.unit (s := S1179648x128) (off v) S8x128.size (inb v hp.down)) (fun _ => rfl)))
              (.dma cc0_scratch0.sem) (View.wordExact_bits rfl) (View.wordExact_bits rfl) ⟨Or.inl rfl, trivial⟩) K := rfl
  rw [e]
  iapply (wp_smemLoadElt Variants.none (c : Thread nD τ) bd Set.univ (m := arg1) (r := r) (hw := View.loads_smem_one rfl h1)
    (S := Finset.univ) (q := fullShare) (f := f1) (Finset.subset_univ _)) $$ [H1]
  · iexact H1
  iintro H1
  rw [hw]
  iapply (wp_assume Variants.none (c : Thread nD τ) bd Set.univ hP)
  iapply (key _ _ _ _ _ (sWin_of arg2 _ sinb _ _ hs) (dWin_of _ (inb w hP) _ _ ho)) $$ [Hp HB]
  · isplitl [Hp] <;> iassumption
  iintro HB
  iapply Hk
  isplitl [H1] <;> iassumption

end Batch

end Cert.KernelIdeal.Hand

end
-- ==== Proof.Trip.lean ====
/- One trip of the dispatch kernel's loop and the whole body, at any float family: 512 trips of four transfers each, then the
   four waits that drain the batch. -/
module

public import proofs.«01_k».proof.Proof.Issue
public import Idealize.ShloMosaic.Lib.Pipeline.FrameBody
public import Idealize.ShloMosaic.Lib.WordArith.Masks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the run: the pipeline's beside the transfers' counters. -/
local notation "𝕄" => MT nD τ sig Unit (Elt F) ℕ (Pipeline.UC sig nD τ) ℕ

theorem trips_eq : k0_t1_loop.trips = 512 := by decide
theorem trip_lt (k : Fin k0_t1_loop.trips) : k.val < 512 := lt_of_lt_of_eq k.isLt trips_eq
theorem iv_eq (k : Fin k0_t1_loop.trips) : (Scf.iv 0#32 1#32 k).toNat = k.val :=
  WordArith.toNat_iv_zero_one _ (by have := trip_lt k; omega)
/-- The word's place in the point's block: `4 k + q`. -/
theorem pos_eq (k : Fin k0_t1_loop.trips) (q : ℕ) (hq : q < 4) :
    (Scalar.indexCast (Scalar.addi (Scalar.muli (Scf.iv 0#32 1#32 k) 4#32) (BitVec.ofNat 32 q))).toNat = 4 * k.val + q := by
  have h1 := iv_eq k
  have h2 := trip_lt k
  show ((Scf.iv 0#32 1#32 k) * 4#32 + BitVec.ofNat 32 q).toNat = _
  rw [BitVec.toNat_add, BitVec.toNat_mul, h1, BitVec.toNat_ofNat]
  show (k.val * 4 % 2 ^ 32 + q % 2 ^ 32) % 2 ^ 32 = _
  omega
/-- The token's first line. -/
theorem line_eq (k : Fin k0_t1_loop.trips) : (Scalar.muli (Scf.iv 0#32 1#32 k) 8#32).toNat = 8 * k.val := by
  have h1 := iv_eq k
  have h2 := trip_lt k
  show ((Scf.iv 0#32 1#32 k) * 8#32).toNat = _
  rw [BitVec.toNat_mul, h1]
  show (k.val * 8) % 2 ^ 32 = _
  omega
/-- The row's first line. -/
theorem mul8 (v : BitVec 32) (h : v.toNat < 147456) : (Scalar.muli v 8#32).toNat = 8 * v.toNat := by
  show (v * 8#32).toNat = _
  rw [BitVec.toNat_mul]
  show (v.toNat * 8) % 2 ^ 32 = _
  omega
theorem chk_of (v : BitVec 32) (h : v.toNat < 147456) :
    8 ∣ (Scalar.muli v 8#32).toNat ∧ ∀ a, (![(Scalar.muli v 8#32).toNat, 0] : Fin 2 → ℕ) a + S8x128.size a ≤ S1179648x128.size a := by
  rw [mul8 v h]
  exact ⟨Dvd.intro _ rfl, dInb _ h⟩

/-- The place of the trip's word `q`, the row's offset and the token's, as the kernel spells them. -/
theorem posv (k : Fin k0_t1_loop.trips) (q : ℕ) (hq : q < 4) :
    (![0, 0, (Scalar.indexCast (Scalar.addi (Scalar.muli (Scf.iv 0#32 1#32 k) 4#32) (BitVec.ofNat 32 q))).toNat] : Fin 3 → ℕ)
      = ![0, 0, 4 * k.val + q] := by rw [pos_eq k q hq]
theorem dstv (v : BitVec 32) (r : ℕ) (hv : v.toNat = r) (h : r < 147456) :
    (![(Scalar.muli v 8#32).toNat, 0] : Fin 2 → ℕ) = ![8 * r, 0] := by subst hv; rw [mul8 v h]
theorem srcv (k : Fin k0_t1_loop.trips) (q : ℕ) (hq : q < 4) :
    (![(Scalar.muli (Scf.iv 0#32 1#32 k) 8#32).toNat, 0] : Fin 2 → ℕ) = ![8 * ((4 * k.val + q) / 4), 0] := by
  rw [line_eq k, show (4 * k.val + q) / 4 = k.val from by omega]
theorem rect_congr {off off' : Fin 3 → ℕ} {p : ∀ a, off a + S1x1x1.size a ≤ S1x1x2048.size a} {p' : ∀ a, off' a + S1x1x1.size a ≤ S1x1x2048.size a}
    (e : off = off') : Rect.unit (s := S1x1x2048) off S1x1x1.size p = Rect.unit (s := S1x1x2048) off' S1x1x1.size p' := by subst e; rfl

section Body

variable (c : Dev nD) (arg2 : Memref sig .tc .vmem S4096x128 .f32) (dr : Fin 2048 → ℕ) (hdr : ∀ i, dr i < 147456)
  (arg1 : Memref sig .tc .smem S1x1x2048 .i32) (f1 : Buf (Elt F) (arg1.view.loc (c : Thread nD τ)))
  (h : HBuf (F := F) c arg2) (X0 X1 : XBuf (F := F) c)

/-- Before trip `k`: `4 k` transfers issued, the others' places and tokens still in hand. -/
def inv (k : ℕ) : sProp 𝕄 :=
  iprop((arg1.view.loc (c : Thread nD τ) ↦[Finset.univ]{fullShare} f1)
    ∗ bigSep (Transfers.pending (n := 2048) (4 * k)) (part c arg2 dr hdr h X0) ∗ batch c arg2 dr hdr h X1 (4 * k) 0)

theorem inv_zero : iprop((arg1.view.loc (c : Thread nD τ) ↦[Finset.univ]{fullShare} f1)
    ∗ bigSep Finset.univ (part c arg2 dr hdr h X0) ∗ batch c arg2 dr hdr h X1 0 0) ⊢ (inv c arg2 dr hdr arg1 f1 h X0 X1 0 : sProp 𝕄) := by
  unfold inv
  rw [Nat.mul_zero, Transfers.bigSep_pending_zero]

/-- One trip: the next four transfers. -/
theorem trip (i : grid0.Coords) (harg1 : arg1.IsWhole) (harg2 : arg2.IsWhole) (bd : Option Variants.none.V)
    (hX : ∀ i, (dWin (dr i) (hdr i)).view.read (Elt F) (dC c X1 (dr i) (hdr i))
      = (sWin arg2 (i.val / 4) (tokLt i)).view.read (Elt F) (sC c arg2 h (i.val / 4) (tokLt i)))
    (wd : Fin 2048 → BitVec 32) (hwd : ∀ i, (wd i).toNat = dr i)
    (hrd : ∀ (j : Fin 2048) (r : Rect S1x1x2048) (h1 : r.shape.numel = 1), r = Rect.unit (s := S1x1x2048) ![0, 0, j.val] S1x1x1.size
        (by intro a; fin_cases a <;> simp [S1x1x1, S1x1x2048]; omega) →
      (arg1.access r).read (Elt F) f1 (Shape.Idx.first (h1.symm ▸ Nat.one_pos)) = wd j)
    (k : Fin k0_t1_loop.trips) :
    inv c arg2 dr hdr arg1 f1 h X0 X1 k.val
      ⊢ wp frame (wpE (defs₀ (F := F)) Variants.none (c : Thread nD τ) bd) Set.univ
          (k0_t1_body (F := F) i arg1 harg1 arg2 harg2 xs (Memref.isWhole_whole _) xs (Memref.isWhole_whole _) cc0_scratch0 k ())
          (fun _ => inv c arg2 dr hdr arg1 f1 h X0 X1 (k.val + 1)) := by
  have hk := trip_lt k
  unfold inv
  rw [Transfers.bigSep_pending_step _ (4 * k.val) (by omega), Transfers.bigSep_pending_step _ (4 * k.val + 1) (by omega),
    Transfers.bigSep_pending_step _ (4 * k.val + 1 + 1) (by omega), Transfers.bigSep_pending_step _ (4 * k.val + 1 + 1 + 1) (by omega)]
  unfold k0_t1_body
  rw [k0_part1_eq_skeleton]
  unfold k0_part1_skel
  iintro ⟨H1, ⟨Hp0, Hp1, Hp2, Hp3, Hp⟩, HB⟩
  simp only [bind_assoc, pure_bind]
  iapply (wp_issue c arg2 dr hdr bd arg1 f1 h X0 X1 hX (4 * k.val) 0 (by omega) (Nat.zero_le _)
    _ numel1_S1x1x1 k0_chk1 k0_chk1.dec k0_off2 _ (k0_off3 k) _ (wd ⟨4 * k.val, by omega⟩)
    (hrd ⟨4 * k.val, by omega⟩ _ numel1_S1x1x1 (rect_congr (posv k 0 (by decide))))
    (chk_of _ (by rw [hwd]; exact hdr _)) (dstv _ _ (hwd _) (hdr _)) (srcv k 0 (by decide))) $$ [H1 Hp0 HB]
  · isplitl [H1]; · iexact H1
    isplitl [Hp0] <;> iassumption
  iintro ⟨H1, HB⟩
  iapply (wp_issue c arg2 dr hdr bd arg1 f1 h X0 X1 hX (4 * k.val + 1) 0 (by omega) (Nat.zero_le _)
    _ numel1_S1x1x1 k0_chk2 k0_chk2.dec k0_off5 _ (k0_off6 k) _ (wd ⟨4 * k.val + 1, by omega⟩)
    (hrd ⟨4 * k.val + 1, by omega⟩ _ numel1_S1x1x1 (rect_congr (posv k 1 (by decide))))
    (chk_of _ (by rw [hwd]; exact hdr _)) (dstv _ _ (hwd _) (hdr _)) (srcv k 1 (by decide))) $$ [H1 Hp1 HB]
  · isplitl [H1]; · iexact H1
    isplitl [Hp1] <;> iassumption
  iintro ⟨H1, HB⟩
  iapply (wp_issue c arg2 dr hdr bd arg1 f1 h X0 X1 hX (4 * k.val + 1 + 1) 0 (by omega) (Nat.zero_le _)
    _ numel1_S1x1x1 k0_chk3 k0_chk3.dec k0_off8 _ (k0_off9 k) _ (wd ⟨4 * k.val + 1 + 1, by omega⟩)
    (hrd ⟨4 * k.val + 1 + 1, by omega⟩ _ numel1_S1x1x1 (rect_congr (posv k 2 (by decide))))
    (chk_of _ (by rw [hwd]; exact hdr _)) (dstv _ _ (hwd _) (hdr _)) (srcv k 2 (by decide))) $$ [H1 Hp2 HB]
  · isplitl [H1]; · iexact H1
    isplitl [Hp2] <;> iassumption
  iintro ⟨H1, HB⟩
  iapply (wp_issue c arg2 dr hdr bd arg1 f1 h X0 X1 hX (4 * k.val + 1 + 1 + 1) 0 (by omega) (Nat.zero_le _)
    _ numel1_S1x1x1 k0_chk4 k0_chk4.dec k0_off11 _ (k0_off12 k) _ (wd ⟨4 * k.val + 1 + 1 + 1, by omega⟩)
    (hrd ⟨4 * k.val + 1 + 1 + 1, by omega⟩ _ numel1_S1x1x1 (rect_congr (posv k 3 (by decide))))
    (chk_of _ (by rw [hwd]; exact hdr _)) (dstv _ _ (hwd _) (hdr _)) (srcv k 3 (by decide))) $$ [H1 Hp3 HB]
  · isplitl [H1]; · iexact H1
    isplitl [Hp3] <;> iassumption
  iintro ⟨H1, HB⟩
  rw [wp_pure]
  rw [show 4 * (k.val + 1) = 4 * k.val + 1 + 1 + 1 + 1 from by omega]
  isplitl [H1]; · iexact H1
  isplitl [Hp] <;> iassumption

/-- What one of the four waits takes: the units of 512 transfers. -/
theorem credit_eq : (xs.slice (Rect.unit (s := S1179648x128) ![0, 0] S4096x128.size inb_S1179648x128_S4096x128_0_0) (fun _ => rfl)).view.dmaCredit
    = 512 * NN := rfl

theorem ret_bind' {E : Type → Type} {α β : Type} (a : α) (k : α → Prog E β) : (Prog.ret a).bind k = k a := rfl

/-- The body: every place of the batch from its contents before to its contents after, the semaphore back at zero. -/
theorem body_run (i : grid0.Coords) (harg1 : arg1.IsWhole) (harg2 : arg2.IsWhole) (bd : Option Variants.none.V)
    (hX : ∀ i, (dWin (dr i) (hdr i)).view.read (Elt F) (dC c X1 (dr i) (hdr i))
      = (sWin arg2 (i.val / 4) (tokLt i)).view.read (Elt F) (sC c arg2 h (i.val / 4) (tokLt i)))
    (wd : Fin 2048 → BitVec 32) (hwd : ∀ i, (wd i).toNat = dr i)
    (hrd : ∀ (j : Fin 2048) (r : Rect S1x1x2048) (h1 : r.shape.numel = 1), r = Rect.unit (s := S1x1x2048) ![0, 0, j.val] S1x1x1.size
        (by intro a; fin_cases a <;> simp [S1x1x1, S1x1x2048]; omega) →
      (arg1.access r).read (Elt F) f1 (Shape.Idx.first (h1.symm ▸ Nat.one_pos)) = wd j) (W : Waits sig Unit) :
    iprop((arg1.view.loc (c : Thread nD τ) ↦[Finset.univ]{fullShare} f1) ∗ bigSep Finset.univ (part c arg2 dr hdr h X0)
        ∗ semVal ((c : Thread nD τ), SemLoc.dma cc0_scratch0.sem) 0 ∗ owes (c : Thread nD τ) 0 W)
      ⊢ wp frame (wpE (defs₀ (F := F)) Variants.none (c : Thread nD τ) bd) Set.univ
          (cc0__dispatch_kernel (F := F) i arg1 harg1 arg2 harg2 xs (Memref.isWhole_whole _) xs (Memref.isWhole_whole _) cc0_scratch0)
          (fun _ => iprop((arg1.view.loc (c : Thread nD τ) ↦[Finset.univ]{fullShare} f1) ∗ bigSep Finset.univ (part c arg2 dr hdr h X1)
            ∗ semVal ((c : Thread nD τ), SemLoc.dma cc0_scratch0.sem) 0 ∗ ∃ W', owes (c : Thread nD τ) 0 W')) := by
  rw [cc0__dispatch_kernel_eq_skeleton]
  unfold cc0__dispatch_kernel_skel
  iintro ⟨H1, Hp, Hsem, HO⟩
  imod (Transfers.batch_alloc' (Lvl := ℕ) (countersEmb (U := Pipeline.UC sig nD τ)) (c : Thread nD τ) () NN (part c arg2 dr hdr h X1)
    (sm := .dma cc0_scratch0.sem) (E := Set.univ)) $$ Hsem with HB
  iapply (Scf.wp_for_bind _ _ _ _ _ _ _ _ _ (fun k _ => inv c arg2 dr hdr arg1 f1 h X0 X1 k)
    (fun k _ => trip c arg2 dr hdr arg1 f1 h X0 X1 i harg1 harg2 bd hX wd hwd hrd k)) $$ [H1 Hp HB]
  · iapply (inv_zero c arg2 dr hdr arg1 f1 h X0 X1)
    isplitl [H1]; · iexact H1
    isplitl [Hp] <;> iassumption
  iintro %acc HI
  have ht : Scf.trips k0_t1_loop.lb k0_t1_loop.ub k0_t1_loop.st = 512 := trips_eq
  rw [ht]
  unfold inv
  icases HI with ⟨H1, -, HB⟩
  iapply (Transfers.wp_waitBatchMul (countersEmb (U := Pipeline.UC sig nD τ)) Variants.none (c : Thread nD τ) bd () (N := NN) 512 credit_eq
    (D := part c arg2 dr hdr h X1) (j := 2048) (u := 0) (by show _ ≤ NN * 2048; omega)) $$ [HB HO]
  · isplitl [HB] <;> iassumption
  iintro ⟨HB, HO⟩
  simp only [ret_bind']
  iapply (Transfers.wp_waitBatchMul (countersEmb (U := Pipeline.UC sig nD τ)) Variants.none (c : Thread nD τ) bd () (N := NN) 512 credit_eq
    (D := part c arg2 dr hdr h X1) (j := 2048) (u := 0 + 512 * NN) (by show _ ≤ NN * 2048; omega)) $$ [HB HO]
  · isplitl [HB] <;> iassumption
  iintro ⟨HB, HO⟩
  simp only [ret_bind']
  iapply (Transfers.wp_waitBatchMul (countersEmb (U := Pipeline.UC sig nD τ)) Variants.none (c : Thread nD τ) bd () (N := NN) 512 credit_eq
    (D := part c arg2 dr hdr h X1) (j := 2048) (u := 0 + 512 * NN + 512 * NN) (by show _ ≤ NN * 2048; omega)) $$ [HB HO]
  · isplitl [HB] <;> iassumption
  iintro ⟨HB, HO⟩
  simp only [ret_bind']
  iapply (Transfers.wp_waitBatchAll (countersEmb (U := Pipeline.UC sig nD τ)) Variants.none (c : Thread nD τ) bd () (N := NN) (J := 512 * NN) credit_eq
    (by decide) (D := part c arg2 dr hdr h X1) (u := 0 + 512 * NN + 512 * NN + 512 * NN) (by omega)) $$ [HB HO]
  · isplitl [HB] <;> iassumption
  iintro ⟨HD, Hsem, HO⟩
  simp only [ret_bind']
  sl_step
  isplitl [H1]; · iexact H1
  isplitl [HD]; · iexact HD
  isplitl [Hsem]; · iexact Hsem
  iexists _
  iexact HO

end Body

end Cert.KernelIdeal.Hand

end
-- ==== Proof.Split.lean ====
/- The result and a point's block of tokens dealt out to the point's 2048 transfers, and put together again. -/
module

public import proofs.«01_k».proof.Proof.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the run: the pipeline's beside the transfers' counters. -/
local notation "𝕄" => MT nD τ sig Unit (Elt F) ℕ (Pipeline.UC sig nD τ) ℕ

section Generic

variable (ℓ : Loc nD τ sig) (K : Fin 2048 → Finset (Idx ℓ)) (f g : Buf (Elt F) ℓ)

/-- A buffer's elements outside a family of pieces. -/
def outside : sProp 𝕄 := ℓ ↦[Finset.univ \ Finset.univ.biUnion K]{fullShare} f

/-- A whole buffer is its disjoint pieces and the rest. -/
theorem pieces_split (hd : ∀ i j, i ≠ j → Disjoint (K i) (K j)) :
    (ℓ ↦[Finset.univ]{fullShare} f : sProp 𝕄) ⊣⊢ iprop((bigSep Finset.univ fun i => ℓ ↦[K i]{fullShare} f) ∗ outside ℓ K f) := by
  unfold outside
  rw [← pointsTo_biUnion Finset.univ K fun i _ j _ hij => hd i j hij]
  exact pointsTo_split_subset (Finset.subset_univ _)

/-- Contents that agree outside the pieces. -/
theorem outside_congr (h : ∀ y, (∀ i, y ∉ K i) → g y = f y) : (outside ℓ K f : sProp 𝕄) = outside ℓ K g := by
  unfold outside
  refine pointsTo_congr fun y hy => (h y fun i hi => ?_).symm
  exact (Finset.mem_sdiff.1 hy).2 (Finset.mem_biUnion.2 ⟨i, Finset.mem_univ i, hi⟩)

/-- What of a whole buffer's read share is left when token `i` gives up only its piece. -/
def leftover : sProp 𝕄 :=
  iprop((ℓ ↦[Finset.univ]{Transfers.shareDrop fullShare 2048} f)
    ∗ bigSep Finset.univ fun i : Fin 2048 => ℓ ↦[Finset.univ \ K i]{Transfers.shareTok fullShare 2048 i} f)

/-- A whole buffer is one read token per piece and the leftover. -/
theorem tokens_split :
    (ℓ ↦[Finset.univ]{fullShare} f : sProp 𝕄)
      ⊣⊢ iprop((bigSep Finset.univ fun i : Fin 2048 => ℓ ↦[K i]{Transfers.shareTok fullShare 2048 i} f) ∗ leftover ℓ K f) := by
  have e : ∀ i : Fin 2048, (ℓ ↦[Finset.univ]{Transfers.shareTok fullShare 2048 i} f : sProp 𝕄)
      ⊣⊢ iprop((ℓ ↦[K i]{Transfers.shareTok fullShare 2048 i} f) ∗ ℓ ↦[Finset.univ \ K i]{Transfers.shareTok fullShare 2048 i} f) :=
    fun i => pointsTo_split_subset (Finset.subset_univ _)
  unfold leftover
  constructor
  · refine (Transfers.pointsTo_toks_split fullShare 2048).trans ?_
    refine (sep_mono_right (bigSep_mono fun i _ => (e i).1)).trans ?_
    rw [bigSep_sep']
    iintro ⟨Hd, Ht, Hr⟩
    isplitl [Ht]; · iexact Ht
    isplitl [Hd] <;> iassumption
  · refine BIBase.Entails.trans ?_ (Transfers.pointsTo_toks_join fullShare 2048)
    refine BIBase.Entails.trans ?_ (sep_mono_right (bigSep_mono fun i _ => (e i).2))
    rw [bigSep_sep']
    iintro ⟨Ht, Hd, Hr⟩
    isplitl [Hd]; · iexact Hd
    isplitl [Ht] <;> iassumption

end Generic

/-- Row `r`'s elements of the result. -/
def dSet (r : ℕ) (h : r < 147456) : Finset S1179648x128.Idx := (dWin r h).view.set

theorem mem_dSet (r : ℕ) (h : r < 147456) (y : S1179648x128.Idx) : y ∈ dSet r h ↔ (y 0).val / 8 = r := by
  have e : dSet r h = (Rect.unit (s := S1179648x128) ![8 * r, 0] S8x128.size (dInb r h)).set := View.set_slice_whole _ _
  rw [e, Rect.mem_set_unit]
  constructor
  · intro hy
    have h0 := hy 0
    have h1 : 8 * r ≤ (y 0).val ∧ (y 0).val < 8 * r + 8 := h0
    omega
  · intro hy a
    have hb := (y 1).isLt
    fin_cases a
    · show 8 * r ≤ (y 0).val ∧ (y 0).val < 8 * r + 8
      omega
    · show 0 ≤ (y 1).val ∧ (y 1).val < 0 + 128
      have : (y 1).val < 128 := hb
      omega

theorem dSet_disj (dr : Fin 2048 → ℕ) (hdr : ∀ i, dr i < 147456) (hinj : Function.Injective dr) (i j : Fin 2048) (hij : i ≠ j) :
    Disjoint (dSet (dr i) (hdr i)) (dSet (dr j) (hdr j)) := by
  rw [Finset.disjoint_left]
  intro y hi hj
  rw [mem_dSet] at hi hj
  exact hij (hinj (hi.symm.trans hj))

section Split

variable (c : Dev nD) (arg2 : Memref sig .tc .vmem S4096x128 .f32) (dr : Fin 2048 → ℕ) (hdr : ∀ i, dr i < 147456)
  (h : HBuf (F := F) c arg2) (X0 X1 : XBuf (F := F) c)

/-- The result whole; the block of tokens whole. -/
def xPt (X : XBuf (F := F) c) : sProp 𝕄 := xs.view.loc (c : Thread nD τ) ↦[Finset.univ]{fullShare} X
def hPt (h : HBuf (F := F) c arg2) : sProp 𝕄 := arg2.view.loc (c : Thread nD τ) ↦[Finset.univ]{fullShare} h

/-- The rows no transfer of the point writes; what of the block's read share the transfers do not take. -/
def dRest (X : XBuf (F := F) c) : sProp 𝕄 := outside (xs.view.loc (c : Thread nD τ)) (fun i => (dWin (dr i) (hdr i)).view.set) X
def hRest : sProp 𝕄 := leftover (arg2.view.loc (c : Thread nD τ)) (fun i => (sWin arg2 (i.val / 4) (tokLt i)).view.set) h

theorem x_eq (hinj : Function.Injective dr) (X : XBuf (F := F) c) :
    (xPt c X : sProp 𝕄) ⊣⊢ iprop(bigSep Finset.univ (dPt c dr hdr X) ∗ dRest c dr hdr X) :=
  pieces_split (xs.view.loc (c : Thread nD τ)) (fun i => (dWin (dr i) (hdr i)).view.set) X fun i j hij => dSet_disj dr hdr hinj i j hij

theorem h_eq : (hPt c arg2 h : sProp 𝕄) ⊣⊢ iprop(bigSep Finset.univ (sPt c arg2 h) ∗ hRest c arg2 h) :=
  tokens_split (arg2.view.loc (c : Thread nD τ)) (fun i => (sWin arg2 (i.val / 4) (tokLt i)).view.set) h

theorem dRest_eq (hoff : ∀ y, (∀ i, y ∉ dSet (dr i) (hdr i)) → X1 y = X0 y) : (dRest c dr hdr X0 : sProp 𝕄) = dRest c dr hdr X1 :=
  outside_congr (xs.view.loc (c : Thread nD τ)) (fun i => (dWin (dr i) (hdr i)).view.set) X0 X1 hoff

/-- The batch's places dealt out, and what takes them back at the contents after. -/
theorem deal (hinj : Function.Injective dr) (hoff : ∀ y, (∀ i, y ∉ dSet (dr i) (hdr i)) → X1 y = X0 y) :
    iprop(xPt c X0 ∗ hPt c arg2 h)
      ⊢ (iprop(bigSep Finset.univ (part c arg2 dr hdr h X0)
          ∗ (bigSep Finset.univ (part c arg2 dr hdr h X1) -∗ iprop(xPt c X1 ∗ hPt c arg2 h))) : sProp 𝕄) := by
  have ep : ∀ X, (bigSep Finset.univ (part c arg2 dr hdr h X) : sProp 𝕄)
      = iprop(bigSep Finset.univ (dPt c dr hdr X) ∗ bigSep Finset.univ (sPt c arg2 h)) := fun X => bigSep_sep _ _ _
  rw [ep, ep]
  iintro ⟨Hx, Hh⟩
  ihave Hx' := (x_eq c dr hdr hinj X0).1 $$ Hx
  ihave Hh' := (h_eq c arg2 h).1 $$ Hh
  icases Hx' with ⟨Hx, Hxr⟩
  icases Hh' with ⟨Hh, Hhr⟩
  isplitl [Hx Hh]
  · isplitl [Hx] <;> iassumption
  iintro ⟨Hx, Hh⟩
  isplitl [Hx Hxr]
  · iapply (x_eq c dr hdr hinj X1).2
    rw [← dRest_eq c dr hdr X0 X1 hoff]
    isplitl [Hx] <;> iassumption
  · iapply (h_eq c arg2 h).2
    isplitl [Hh] <;> iassumption

end Split

end Cert.KernelIdeal.Hand

end
-- ==== Proof.Contents.lean ====
/- What the result holds while the dispatch kernel runs, as a function of the tables it is given, at any float family: before
   point `t` the rows named by the first `2048 t` words hold their tokens, and every other row is as it was. -/
module

public import proofs.«01_k».proof.Proof.Split
public import proofs.«01_k».proof.Proof.Gen.KernelIdeal.Frame
public import Idealize.ShloMosaic.Lib.Claim
public import Idealize.ShloMosaic.Lib.Pointwise
public import Idealize.ShloMosaic.Lib.Pipeline.ValueKit.Point

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Word `n` of the table, in row-major order. -/
def dw (a0 : S32768x4.Idx → BitVec 32) (n : Fin 131072) : BitVec 32 :=
  a0 (ix2 ⟨n.val / 4, by have := n.isLt; omega⟩ ⟨n.val % 4, by omega⟩)

/-- The table names rows of the sorted buffer, and no row twice. -/
structure Distinct (a0 : S32768x4.Idx → BitVec 32) : Prop where
  lt : ∀ n, (dw a0 n).toNat < 147456
  inj : ∀ n n', (dw a0 n).toNat = (dw a0 n').toNat → n = n'

/-- Line `y` of what pair `n` sends. -/
def sent (a1 : S262144x128.Idx → Elt F .f32) (n : Fin 131072) (y : S1179648x128.Idx) : Elt F .f32 :=
  a1 (ix2 ⟨8 * (n.val / 4) + (y 0).val % 8, by have := n.isLt; omega⟩ (y 1))

open Classical in
/-- The result before point `t`, from contents `Z`. -/
def X (Z : S1179648x128.Idx → Elt F .f32) (a0 : S32768x4.Idx → BitVec 32) (a1 : S262144x128.Idx → Elt F .f32) (t : ℕ) :
    S1179648x128.Idx → Elt F .f32 := fun y =>
  if h : ∃ n : Fin 131072, n.val < 2048 * t ∧ (dw a0 n).toNat = (y 0).val / 8 then sent a1 h.choose y else Z y

section
variable (Z : S1179648x128.Idx → Elt F .f32) (a0 : S32768x4.Idx → BitVec 32) (a1 : S262144x128.Idx → Elt F .f32)

theorem X_hit (hd : Distinct a0) {t : ℕ} {y : S1179648x128.Idx} (n : Fin 131072) (hn : n.val < 2048 * t)
    (hy : (dw a0 n).toNat = (y 0).val / 8) : X Z a0 a1 t y = sent a1 n y := by
  have h : ∃ n : Fin 131072, n.val < 2048 * t ∧ (dw a0 n).toNat = (y 0).val / 8 := ⟨n, hn, hy⟩
  unfold X
  rw [dif_pos h, hd.inj h.choose n (h.choose_spec.2.trans hy.symm)]

theorem X_miss {t : ℕ} {y : S1179648x128.Idx} (h : ∀ n : Fin 131072, n.val < 2048 * t → (dw a0 n).toNat ≠ (y 0).val / 8) :
    X Z a0 a1 t y = Z y := by
  unfold X
  rw [dif_neg]
  rintro ⟨n, hn, hy⟩
  exact h n hn hy

theorem X_zero : X Z a0 a1 0 = Z := funext fun y => X_miss Z a0 a1 fun n hn => by omega

/-- The words of point `t`. -/
abbrev at_ (t : Fin 64) (i : Fin 2048) : Fin 131072 := ⟨2048 * t.val + i.val, by have := t.isLt; have := i.isLt; omega⟩

/-- Off the rows of point `t` nothing changes in it. -/
theorem X_off (hd : Distinct a0) (t : Fin 64) (y : S1179648x128.Idx) (h : ∀ i : Fin 2048, (dw a0 (at_ t i)).toNat ≠ (y 0).val / 8) :
    X Z a0 a1 (t.val + 1) y = X Z a0 a1 t.val y := by
  by_cases hx : ∃ n : Fin 131072, n.val < 2048 * t.val ∧ (dw a0 n).toNat = (y 0).val / 8
  · obtain ⟨n, hn, hy⟩ := hx
    rw [X_hit Z a0 a1 hd n hn hy, X_hit Z a0 a1 hd n (by omega) hy]
  · push Not at hx
    rw [X_miss Z a0 a1 hx, X_miss Z a0 a1 fun n hn hy => ?_]
    by_cases hlt : n.val < 2048 * t.val
    · exact hx n hlt hy
    · refine h ⟨n.val - 2048 * t.val, by omega⟩ ?_
      rw [← hy]; congr 2; exact Fin.ext (by show 2048 * t.val + (n.val - 2048 * t.val) = n.val; omega)

/-- On row `i` of point `t` its token's lines. -/
theorem X_on (hd : Distinct a0) (t : Fin 64) (i : Fin 2048) (y : S1179648x128.Idx) (hy : (dw a0 (at_ t i)).toNat = (y 0).val / 8) :
    X Z a0 a1 (t.val + 1) y = sent a1 (at_ t i) y :=
  X_hit Z a0 a1 hd _ (by show 2048 * t.val + i.val < _; have := i.isLt; omega) hy

end

section
variable (m : (ℓ : Loc nD τ sig) → Buf (Elt F) ℓ) (c : Dev nD)

/-- The two argument arrays as launched. -/
abbrev arg0 : S32768x4.Idx → BitVec 32 := m ((c : Thread nD τ).loc main_arg0)
abbrev arg1 : S262144x128.Idx → Elt F .f32 := m ((c : Thread nD τ).loc main_arg1)

theorem V_v0 : V m c main_v0 = shapeCast S64x1x2048 (arg0 m c) shapeCasts_S32768x4_S64x1x2048 := by
  entry_read
  rfl

theorem idx0 : ∀ t : Fin cfg0.N, win0_0.index t 0 = t.val ∧ win0_0.index t 1 = 0 ∧ win0_0.index t 2 = 0 := by decide +kernel
theorem idx1 : ∀ t : Fin cfg0.N, win0_1.index t 0 = t.val ∧ win0_1.index t 1 = 0 := by decide +kernel

/-- The table's block at point `t`: its words in order. -/
theorem iblk_words (t : Fin cfg0.N) (j : Fin 2048) (x : S1x1x2048.Idx) (hx : (x 2).val = j.val) :
    iblk m c 0 t x = dw (arg0 m c) (at_ t j) := by
  idx_vars x
  unfold dw
  trans V m c main_v0 (ix3 t 0 j)
  · blk_ext [iblk, (idx0 t).1, (idx0 t).2.1, (idx0 t).2.2]
  rw [V_v0]
  pointwise
  refine congrArg (arg0 m c) ((ix2_inj _ _ _ _).2 ⟨Fin.ext ?_, Fin.ext ?_⟩)
  · show t.val * 512 + j.val / 4 = (2048 * t.val + j.val) / 4; omega
  · show j.val % 4 = (2048 * t.val + j.val) % 4; omega

/-- The tokens' block at point `t`. -/
theorem iblk_tokens (t : Fin cfg0.N) (r : Fin 4096) (l : Fin 128) :
    iblk m c 1 t (ix2 r l) = arg1 m c (ix2 ⟨4096 * t.val + r.val, by have := r.isLt; have : t.val < 64 := t.isLt; omega⟩ l) := by
  unfold arg1
  blk_ext [iblk, V_main_arg1, (idx1 t).1, (idx1 t).2]

end
end Cert.KernelIdeal.Hand
end
-- ==== Proof.Run.lean ====
/- The run of the dispatch program at any float family: at each grid point the body takes the result from its contents before
   the point to those after it; so the program ends with the result at its contents after the last point, its arguments as
   launched and every semaphore at zero. -/
module

public import proofs.«01_k».proof.Proof.Contents

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the run: the pipeline's beside the transfers' counters. -/
local notation "𝕄" => MT nD τ sig Unit (Elt F) ℕ (Pipeline.UC sig nD τ) ℕ

variable (m : (ℓ : Loc nD τ sig) → Buf (Elt F) ℓ) (ρ : Dev nD → PrngReg)

/-- The result before point `t`, from its contents at the region's entry. -/
def Xt (c : Dev nD) (t : ℕ) : XBuf (F := F) c := X (V m c main_v1) (arg0 m c) (arg1 m c) t

/-- The kernel's own semaphore. -/
abbrev osem0 : Fin 1 → SemLoc sig := fun _ => SemLoc.dma 4
theorem ownSemFacts0 : Pipeline.OwnSemFacts spec0 osem0 := by decide
/-- The buffer the body writes itself. -/
abbrev R0 : Finset (Ref sig .tc) := {main_v1}
theorem R0_sub : R0 ⊆ Pipeline.restRefs sig spec0 := by decide

open Classical in
/-- The contents at the end of the buffers the body writes itself. -/
def Yend (c : Dev nD) (b : Ref sig .tc) : Buf (Elt F) ((c : Thread nD τ).loc b) :=
  if h : b = main_v1 then h ▸ (Xt m c 64) else V m c b

/-- What is kept between points. -/
def Phi (c : Dev nD) (t : ℕ) : sProp 𝕄 :=
  iprop(xPt c (Xt m c t) ∗ semVal ((c : Thread nD τ), SemLoc.dma cc0_scratch0.sem) 0 ∗ ∃ r, prngReg c r)

/-- The proof data of the one pipeline on core `c`. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨_ + 2, h⟩ => absurd h (Nat.not_lt.2 (Nat.le_add_left _ _))
  Φ t := Phi m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- A whole memref owned is its buffer, whole, at contents that read as said. -/
theorem owns_whole (c : Dev nD) {sp : Space} {sh : Shape} {e : EltTy} (M : Memref sig .tc sp sh e) (hM : M.IsWhole)
    (Z : sh.Idx → Elt F e) :
    (owns (c : Thread nD τ) M fullShare Z : sProp 𝕄)
      = iprop(∃ f, ⌜M.view.read (Elt F) f = Z⌝ ∗ (M.view.loc (c : Thread nD τ) ↦[Finset.univ]{fullShare} f)) := by
  unfold owns; rw [hM.set_eq_univ]

section Point
variable (c : Dev nD) (hd : Distinct (arg0 m c)) (t : Fin cfg0.N)

/-- The row word `i` of the point names. -/
abbrev dr (i : Fin 2048) : ℕ := (dw (arg0 m c) (at_ t i)).toNat

theorem dr_inj (hd : Distinct (arg0 m c)) : Function.Injective (dr m c t) := fun i j h => by
  have := congrArg Fin.val (hd.inj _ _ h)
  refine Fin.ext ?_
  have h' : 2048 * t.val + i.val = 2048 * t.val + j.val := this
  omega

theorem hoff (hd : Distinct (arg0 m c)) (y) (h : ∀ i, y ∉ dSet (dr m c t i) (hd.lt _)) : Xt m c (t.val + 1) y = Xt m c t.val y :=
  X_off _ _ _ hd t y fun i hi => h i ((mem_dSet _ _ _).2 hi.symm)

theorem hX (hd : Distinct (arg0 m c)) (arg2 : Memref sig .tc .vmem S4096x128 .f32) (h : HBuf (F := F) c arg2)
    (hh : arg2.view.read (Elt F) h = iblk m c 1 t) (i : Fin 2048) :
    (dWin (dr m c t i) (hd.lt _)).view.read (Elt F) (dC c (Xt m c (t.val + 1)) (dr m c t i) (hd.lt _))
      = (sWin arg2 (i.val / 4) (tokLt i)).view.read (Elt F) (sC c arg2 h (i.val / 4) (tokLt i)) := by
  funext x
  have e0 : ∀ (n N : ℕ) (off : Fin 2 → ℕ) (inb) (a : Fin 2),
      (((Rect.unit (s := ⟨2, ![n, N]⟩) off S8x128.size inb).emb x a).val) = off a + (x a).val := by
    intro n N off inb a; show off a + 1 * (x a).val = _; rw [Nat.one_mul]
  have hx0 : (x 0).val < 8 := (x 0).isLt
  have hi := tokLt i
  show X (V m c main_v1) (arg0 m c) (arg1 m c) (t.val + 1) ((Rect.unit (s := S1179648x128) ![8 * dr m c t i, 0] S8x128.size (dInb _ (hd.lt _))).emb x)
    = arg2.view.read (Elt F) h ((Rect.unit (s := S4096x128) ![8 * (i.val / 4), 0] S8x128.size (sInb _ (tokLt i))).emb x)
  rw [hh]
  refine Eq.trans ?_ (((congrArg (iblk m c 1 t) (eq_ix2 _)).trans (iblk_tokens m c t _ _)).symm)
  refine (X_on _ _ _ hd t i _ ((Nat.div_eq_of_lt_le (by rw [e0]; show _ * 8 ≤ 8 * dr m c t i + _; unfold dr; omega)
    (by rw [e0]; show 8 * dr m c t i + _ < _; unfold dr; omega)).symm)).trans ?_
  unfold sent
  refine congrArg (arg1 m c) ((ix2_inj _ _ _ _).2 ⟨Fin.ext ?_, Fin.ext ?_⟩)
  · show 8 * ((2048 * t.val + i.val) / 4) + (((Rect.unit (s := S1179648x128) ![8 * dr m c t i, 0] S8x128.size (dInb _ (hd.lt _))).emb x 0).val) % 8
      = 4096 * t.val + ((Rect.unit (s := S4096x128) ![8 * (i.val / 4), 0] S8x128.size (sInb _ (tokLt i))).emb x 0).val
    rw [e0, e0]
    show 8 * ((2048 * t.val + i.val) / 4) + (8 * dr m c t i + (x 0).val) % 8 = 4096 * t.val + (8 * (i.val / 4) + (x 0).val)
    generalize dr m c t i = d
    omega
  · rw [e0, e0]; rfl

theorem hrd (arg1 : Memref sig .tc .smem S1x1x2048 .i32) (f1 : Buf (Elt F) (arg1.view.loc (c : Thread nD τ)))
    (hf : arg1.view.read (Elt F) f1 = iblk m c 0 t) (j : Fin 2048) (r : Rect S1x1x2048) (h1 : r.shape.numel = 1)
    (inb) (e : r = Rect.unit (s := S1x1x2048) ![0, 0, j.val] S1x1x1.size inb) :
      (arg1.access r).read (Elt F) f1 (Shape.Idx.first (h1.symm ▸ Nat.one_pos)) = dw (arg0 m c) (at_ t j) := by
  generalize Shape.Idx.first _ = x
  clear h1
  subst e
  show arg1.view.read (Elt F) f1 ((Rect.unit (s := S1x1x2048) ![0, 0, j.val] S1x1x1.size inb).emb x) = _
  rw [hf]
  refine iblk_words m c t j _ ?_
  show j.val + 1 * (x 2).val = j.val
  have : (x 2).val < 1 := (x 2).isLt
  omega

end Point

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (hd : Distinct (arg0 m c)) (t : Fin cfg0.N) :
    bodyPre m c t ⊢ wp frame (wpE (defs₀ (F := F)) Variants.none c none) Set.univ (bodyAt0 t) (fun _ => bodyPost m c t) := by
  unfold bodyPre bodyPost bodyAt0
  rw [after_0, after_1]
  simp only [before0, before1]
  rw [show (dats m 0 c).Φ t.castSucc = Phi m c t.val from rfl, show (dats m 0 c).Φ t.succ = Phi m c (t.val + 1) from rfl]
  rw [owns_whole c (st0_0 t) (hstage0_0 ((cfg0.slots t 0).cast nbuf0_0)), owns_whole c (st0_1 t) (hstage0_1 ((cfg0.slots t 1).cast nbuf0_1))]
  unfold Dat.owesAt Pipeline.owesWithin
  rw [show (dats m 0 c).owed t.castSucc = 0 from rfl, show (dats m 0 c).owed t.succ = 0 from rfl]
  unfold Phi
  iintro ⟨⟨HX, Hs, Hg⟩, ⟨%W, -, HW⟩, ⟨%d0, %f0, %e0, H0⟩, ⟨%d1, %f1, %e1, H1⟩⟩
  ihave HD := (deal c (st0_1 t) (dr m c t) (fun i => hd.lt _) f1 (Xt m c t.val) (Xt m c (t.val + 1)) (dr_inj m c t hd)
    (fun y h => hoff m c t hd y h)) $$ [HX H1]
  · isplitl [HX]; · iexact HX
    unfold hPt; iexact H1
  icases HD with ⟨HP, Hback⟩
  ihave HWP := (body_run c (st0_1 t) (dr m c t) (fun i => hd.lt _) (st0_0 t) f0 f1 (Xt m c t.val) (Xt m c (t.val + 1)) (grid0.coords t)
    (hstage0_0 ((cfg0.slots t 0).cast nbuf0_0)) (hstage0_1 ((cfg0.slots t 1).cast nbuf0_1)) none
    (hX m c t hd (st0_1 t) f1 e1) (fun i => dw (arg0 m c) (at_ t i)) (fun i => rfl)
    (fun j r h1 e => hrd m c t (st0_0 t) f0 e0 j r h1 _ e) W) $$ [H0 HP Hs HW]
  · isplitl [H0]; · iexact H0
    isplitl [HP]; · iexact HP
    isplitl [Hs]; · iexact Hs
    iexact HW
  iapply (wp_wand _ _ _) $$ HWP
  iintro %_ ⟨H0, HP, Hs, HO⟩
  ihave HXH := Hback $$ HP
  icases HXH with ⟨HX, H1⟩
  isplitl [HX Hs Hg]
  · isplitl [HX]; · iexact HX
    isplitl [Hs]; · iexact Hs
    iexact Hg
  isplitl [HO]
  · icases HO with ⟨%W', HO⟩
    iexists W'; isplitr; · ipureintro; exact fun _ _ => Or.inl trivial
    iexact HO
  isplitl [H0]
  · iexists f0; isplitr; · ipureintro; exact e0
    iexact H0
  iexists f1; isplitr; · ipureintro; exact e1
  unfold hPt; iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) (hd : Distinct (arg0 m c)) : BodyObligation (dats (F := F) m 0 c) (defs₀ (F := F)) Variants.none () Set.univ := fun t => by
  rw [bigSep_W0, bigSep_W0, defs₀_row]
  exact triple_restated (sound_body m c hd t) rfl .rfl fun _ => .rfl

set_option maxHeartbeats 800000 in
theorem hmain : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

theorem Xt_zero (c : Dev nD) : Xt m c 0 = V m c main_v1 := X_zero _ _ _
theorem Yend_v1 (c : Dev nD) : Yend m c main_v1 = Xt m c 64 := by unfold Yend; rw [dif_pos rfl]

theorem ends_eq (c : Dev nD) (W : (b : Ref sig .tc) → Buf (Elt F) ((c : Thread nD τ).loc b)) :
    (Pipeline.Ends spec0 osem0 R0 c W : sProp 𝕄)
      = iprop((((c : Thread nD τ).loc main_v1) ↦{fullShare} W main_v1) ∗ semVal ((c : Thread nD τ), SemLoc.dma 4) 0 ∗ emp ∗ ∃ r, prngReg c r) := by
  unfold Pipeline.Ends
  rw [Pipeline.routed_singleton, Gen.scopedRest0_eq, Pipeline.ownSems0_eq_of_list c osem0 [0] (by decide) (by decide)]
  rfl

set_option backward.isDefEq.respectTransparency.types false in
theorem run_main (hd : ∀ c, Distinct (arg0 m c)) : θ_run defs (onTc (τ := τ) (main (F := F))) (s₀ m ρ)
    (fun r => Pipeline.RoutedPost cfgs (dats m) 0 R0 (V m) (Yend m) r ∧ r.2.sem = fun _ => 0) :=
  Pipeline.θ_run_frame_routed (Q' := _) cfgs (dats m) 0 launch0 ownSemFacts0 defs₀ Variants.none m ρ main
    (hbody := fun c => (body_obligation m c (hd c)).loose) (hshare := fun c => (dats m 0 c).share_full fun _ => rfl)
    (howed := fun _ _ => rfl) (V m) (hmain m) (A_eq m) R0 R0_sub (Yend m)
    (fun c => by
      rw [ends_eq]
      show _ ⊢ Phi m c 0
      unfold Phi xPt; rw [Xt_zero]
      iintro ⟨HX, Hs, -, Hg⟩
      isplitl [HX]; · iexact HX
      isplitl [Hs]; · iexact Hs
      iexact Hg)
    (fun c => by
      rw [ends_eq]
      show Phi m c 64 ⊢ _
      unfold Phi xPt; rw [Yend_v1]
      iintro ⟨HX, Hs, Hg⟩
      isplitl [HX]; · iexact HX
      isplitl [Hs]; · iexact Hs
      isplitr; · iempintro
      iexact Hg)

/-- The run: the result at its last contents, the arguments as launched, every semaphore at zero. -/
theorem run (hd : ∀ c, Distinct (arg0 m c)) : θ_run defs (onTc (τ := τ) (main (F := F))) (s₀ m ρ)
    (fun r => (∀ c : Dev nD, r.2.mem ((c.tc : Thread nD τ).loc main_v1) = Xt m c 64
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2.1 main_v1 (by decide)).trans (Yend_v1 m c),
      ((h.1 c).2.2 main_arg0 (Finset.mem_sdiff.mpr ⟨Pipeline.mem_restRefs_of main_arg0 (by decide) (by decide), by decide⟩)).trans (V_main_arg0 m c),
      ((h.1 c).1 1).trans (((dats m 0 c).arrAt_in 1 rfl _).trans ((A_eq m c 1).trans (V_main_arg1 m c)))⟩, h.2⟩) (run_main m ρ hd)

end Cert.KernelIdeal.Hand
end
-- ==== Proof.Table.lean ====
/- The precondition on the dispatch table, decoded: every word names a row of the sorted buffer, and no row is named twice. -/
module

public import proofs.«01_k».proof.Proof.Contents
public import proofs.«01_k».proof.Proof.Gen.Pre_distinct_rows
public import Idealize.ShloMosaic.Lib.ReduceAll
public import Idealize.ShloMosaic.Lib.Routing.OpsSet
public import Idealize.ShloMosaic.Lib.Routing.OpsPair

@[expose] public section

noncomputable section

namespace Cert.KernelIdeal.Hand

open Idealize.ShloMosaic

variable {F : FTy → Type} [FloatOps F]

theorem and_one (p q : BitVec 1) (h : IntOp.andi p q = 1#1) : p = 1#1 ∧ q = 1#1 := by
  revert h; revert p q; decide
/-- A word that is at least 0 and below `n`, read signed, is below `n` as a number. -/
theorem word_lt (w : BitVec 32) (h0 : IntOp.cmpi .sge w 0#32 = 1#1) (h1 : IntOp.cmpi .slt w 147456#32 = 1#1) : w.toNat < 147456 := by
  have ofBool_eq_one (p : Bool) : (BitVec.ofBool p = 1#1) ↔ p = true := by cases p <;> decide
  simp only [IntOp.cmpi, ofBool_eq_one] at h0 h1
  simp only [BitVec.sle, BitVec.slt, decide_eq_true_eq, BitVec.toInt, BitVec.toNat_ofNat] at h0 h1
  omega
theorem word_eq (v w : BitVec 32) (h : IntOp.cmpi .eq v w = 1#1) : v = w := by
  have ofBool_eq_one (p : Bool) : (BitVec.ofBool p = 1#1) ↔ p = true := by cases p <;> decide
  simpa only [IntOp.cmpi, ofBool_eq_one, beq_iff_eq] using h

/-- Entry `n` of the flattened table is its word `n`. -/
theorem flat_at (a0 : (⟨2, ![32768, 4]⟩ : Shape).Idx → BitVec 32) (h : (⟨2, ![32768, 4]⟩ : Shape).ShapeCasts ⟨1, ![131072]⟩) (n : Fin 131072) :
    shapeCast (⟨1, ![131072]⟩ : Shape) a0 h (ix1 n) = dw a0 n := by
  unfold dw
  pointwise

/-- The column of row numbers an indexed update takes, negative ones wrapped: entry `n` is word `n`. -/
theorem col_at (a0 : (⟨2, ![32768, 4]⟩ : Shape).Idx → BitVec 32) (hs : (⟨2, ![32768, 4]⟩ : Shape).ShapeCasts ⟨1, ![131072]⟩)
    (hb : (⟨0, ![]⟩ : Shape).BroadcastsInDim (⟨1, ![131072]⟩ : Shape) (![] : Fin 0 → Fin 1))
    (hc : (⟨1, ![131072]⟩ : Shape).BroadcastsInDim (⟨2, ![131072, 1]⟩ : Shape) (![0] : Fin 1 → Fin 2))
    (n : Fin 131072) (hn : (dw a0 n).toNat < 147456) :
    broadcastInDim (⟨2, ![131072, 1]⟩ : Shape) ![0] hc
      (select (cmpi CmpIPredicate.slt (shapeCast (⟨1, ![131072]⟩ : Shape) a0 hs)
          (broadcastInDim (⟨1, ![131072]⟩ : Shape) ![] hb (constantI (⟨0, ![]⟩ : Shape) 32 0#32)))
        (addi (shapeCast (⟨1, ![131072]⟩ : Shape) a0 hs)
          (broadcastInDim (⟨1, ![131072]⟩ : Shape) ![] hb (constantI (⟨0, ![]⟩ : Shape) 32 147456#32)))
        (shapeCast (⟨1, ![131072]⟩ : Shape) a0 hs)) (ix2 n (0 : Fin 1)) = dw a0 n := by
  unfold dw at hn ⊢
  pointwise
  exact Routing.wrap_of_lt _ _ (by omega)

open Cert.Pre_distinct_rows Cert.Pre_distinct_rows.Facts in
/-- The precondition, decoded. -/
theorem distinct_of_pre [Cert.Pre_distinct_rows.Facts] (a0 : (⟨2, ![32768, 4]⟩ : Shape).Idx → BitVec 32) (a1 : (⟨2, ![262144, 128]⟩ : Shape).Idx → F .f32)
    (h : Cert.Pre_distinct_rows.fn (F := F) a0 a1 = fun _ => 1#1) : Distinct a0 := by
  haveI : Subsingleton Cert.Pre_distinct_rows.S_.Idx := ⟨fun a b => funext fun i => i.elim0⟩
  have e := congrFun h (fun i => i.elim0)
  unfold fn fn_part1 at e
  obtain ⟨e1, e2⟩ := and_one _ _ e
  have h1 : ∀ n : Fin 131072, (dw a0 n).toNat < 147456 := by
    intro n
    have := Host.reduce_andi_all _ _ _ _ _ e1 (ix1 n)
    obtain ⟨hge, hlt⟩ := and_one _ _ this
    exact word_lt _ ((congrArg (fun w => IntOp.cmpi .sge w 0#32) (flat_at a0 shapeCasts_S32768x4_S131072 n)).symm.trans hge)
      ((congrArg (fun w => IntOp.cmpi .slt w 147456#32) (flat_at a0 shapeCasts_S32768x4_S131072 n)).symm.trans hlt)
  have key : ∀ (T : (⟨1, ![147456]⟩ : Shape).Idx → BitVec 32) (I : IVec (⟨2, ![131072, 1]⟩ : Shape) 32)
      (hI : ∀ n : Fin 131072, I (ix2 n (0 : Fin 1)) = dw a0 n)
      (hT : ∀ n : Fin 131072, IntOp.cmpi .eq (Host.gather gather_S147456_S131072x1_S131072_n_0_n_n_0_1_1 T I (ix1 n)) (BitVec.ofNat 32 n.val) = 1#1),
      ∀ n n', (dw a0 n).toNat = (dw a0 n').toNat → n = n' := by
    intro T I hI hT n n' hn
    have g : ∀ n, T (ix1 ⟨_, h1 n⟩) = BitVec.ofNat 32 n.val := fun n =>
      (Routing.gather_take1 gather_S147456_S131072x1_S131072_n_0_n_n_0_1_1 rfl rfl rfl rfl T I n ⟨_, h1 n⟩
        ((hI n).trans (BitVec.eq_of_toNat_eq (by simp))) (by decide)).symm.trans (word_eq _ _ (hT n))
    have e := (g n).symm.trans ((congrArg (fun b => T (ix1 b)) (Fin.ext hn)).trans (g n'))
    have e' := congrArg BitVec.toNat e
    rw [BitVec.toNat_ofNat, BitVec.toNat_ofNat] at e'
    exact Fin.ext (by omega)
  exact ⟨h1, key _ _ (fun n => col_at a0 _ _ _ n (h1 n)) (fun n => Host.reduce_andi_all _ _ _ _ _ e2 (ix1 n))⟩

end Cert.KernelIdeal.Hand
end
-- ==== Proof.Ref.lean ====
/- The reference's result: an indexed update of zeroed rows by a column of distinct row numbers, which is the dispatch kernel's
   result, element by element, at any float family. -/
module

public import proofs.«01_k».proof.Proof.Table
public import proofs.«01_k».proof.Proof.Gen.ReferenceIdeal.Run

@[expose] public section

noncomputable section

namespace Cert.KernelIdeal.Hand

open Idealize.ShloMosaic

variable {F : FTy → Type} [FloatOps F]

section Scatter
open Cert.ReferenceIdeal Cert.ReferenceIdeal.Gen

/-- Where an update's element lands. -/
theorem lands_iff (idx : IVec (⟨2, ![131072, 1]⟩ : Shape) 32) (n : Fin 131072) (q : Fin 1024) (r : Fin 147456) (l : Fin 1024) :
    scatter_S147456x1024_S131072x1_S131072x1024_1_0_0_1.resultIdx? (ix2 n q) idx = some (ix2 r l)
      ↔ (idx (ix2 n (0 : Fin 1))).toInt = (r.val : Int) ∧ q = l := by
  have s0 : scatter_S147456x1024_S131072x1_S131072x1024_1_0_0_1.start (ix2 n q) idx 0 = (idx (ix2 n (0 : Fin 1))).toInt := by
    unfold ScatterDims.start
    rw [dif_pos (by decide)]
    refine congrArg (fun i => (idx i).toInt) (funext fun a => ?_)
    match a with
    | ⟨0, _⟩ => rfl
    | ⟨1, _⟩ => rfl
  have s1 : scatter_S147456x1024_S131072x1_S131072x1024_1_0_0_1.start (ix2 n q) idx 1 = 0 := by
    unfold ScatterDims.start
    rw [dif_neg (by decide)]
  have w0 : scatter_S147456x1024_S131072x1_S131072x1024_1_0_0_1.window (ix2 n q) 0 = 0 := by
    unfold ScatterDims.window
    rw [dif_neg (by decide)]
  have w1 : scatter_S147456x1024_S131072x1_S131072x1024_1_0_0_1.window (ix2 n q) 1 = q.val := by
    unfold ScatterDims.window
    rw [dif_pos (by decide)]
    rfl
  have e := Routing.resultIdx?_eq_some scatter_S147456x1024_S131072x1_S131072x1024_1_0_0_1 (ix2 n q) idx (ix2 r l)
  rw [e]
  constructor
  · intro h
    have h0 := h 0
    have h1 := h 1
    rw [s0, w0] at h0
    rw [s1, w1] at h1
    exact ⟨by simpa using h0, Fin.ext (by simpa using h1)⟩
  · rintro ⟨h0, rfl⟩ a
    match a with
    | ⟨0, _⟩ => exact (congrArg₂ (fun x (y : ℕ) => x + (y : Int)) s0 w0).trans (by simpa using h0)
    | ⟨1, _⟩ => exact (congrArg₂ (fun x (y : ℕ) => x + (y : Int)) s1 w1).trans (by simp)

/-- The reference's index column. -/
def refCol (a0 : (⟨2, ![32768, 4]⟩ : Shape).Idx → BitVec 32) : IVec S131072x1 32 :=
  broadcastInDim S131072x1 ![0] bcast_S131072_S131072x1_0
      (select (cmpi .slt (shapeCast S131072 a0 shapeCasts_S32768x4_S131072) (broadcastInDim S131072 ![] bcast_S_S131072 (constantI S_ 32 0#32)))
        (addi (shapeCast S131072 a0 shapeCasts_S32768x4_S131072) (broadcastInDim S131072 ![] bcast_S_S131072 (constantI S_ 32 147456#32)))
        (shapeCast S131072 a0 shapeCasts_S32768x4_S131072))

/-- The reference's rows: every token's, four times. -/
def refRows (a1 : (⟨2, ![262144, 128]⟩ : Shape).Idx → F .f32) : FVec F S131072x1024 .f32 :=
  shapeCast S131072x1024 (broadcastInDim S32768x4x1024 ![0, 1, 2] bcast_S32768x1x1024_S32768x4x1024_0_1_2
      (broadcastInDim S32768x1x1024 ![0, 2] bcast_S32768x1024_S32768x1x1024_0_2 (shapeCast S32768x1024 a1 shapeCasts_S262144x128_S32768x1024)))
      shapeCasts_S32768x4x1024_S131072x1024

/-- The zeroed rows it writes into. -/
def refZero : FVec F S147456x1024 .f32 :=
  broadcastInDim S147456x1024 ![] bcast_S_S147456x1024 (constant S_ .f32 0x00000000#32)

/-- The reference's result, of its arguments. -/
def refOut (a0 : (⟨2, ![32768, 4]⟩ : Shape).Idx → BitVec 32) (a1 : (⟨2, ![262144, 128]⟩ : Shape).Idx → F .f32) :
    FVec F S1179648x128 .f32 :=
  shapeCast S1179648x128 (Host.scatter scatter_S147456x1024_S131072x1_S131072x1024_1_0_0_1 (fun _ b => b)
    (refZero (F := F)) (refCol a0) (refRows a1)) shapeCasts_S147456x1024_S1179648x128

theorem toInt_of_lt (w : BitVec 32) (h : w.toNat < 147456) : w.toInt = (w.toNat : Int) := by
  rw [BitVec.toInt]; rw [if_pos (by omega)]

/-- An array at equal indices. -/
theorem at2 {α : Type} {n k : ℕ} (f : (⟨2, ![n, k]⟩ : Shape).Idx → α) {i i' : Fin n} {j j' : Fin k} (hi : i.val = i'.val)
    (hj : j.val = j'.val) : f (ix2 i j) = f (ix2 i' j') := by
  obtain rfl := Fin.ext hi
  obtain rfl := Fin.ext hj
  rfl

theorem refRows_at (a1 : (⟨2, ![262144, 128]⟩ : Shape).Idx → F .f32) (n : Fin 131072) (q : Fin 1024) :
    refRows a1 (ix2 n q) = a1 (ix2 ⟨8 * (n.val / 4) + q.val / 128, by omega⟩ ⟨q.val % 128, by omega⟩) := by
  unfold refRows
  pointwise
  exact at2 a1 (by show n.val / 4 * 8 + q.val / 128 = 8 * (n.val / 4) + q.val / 128; omega) rfl

/-- It is the contents the dispatch kernel ends with, from zeroed rows. -/
theorem refOut_eq (a0 : (⟨2, ![32768, 4]⟩ : Shape).Idx → BitVec 32) (a1 : (⟨2, ![262144, 128]⟩ : Shape).Idx → F .f32) (hd : Distinct a0)
    (Z : (⟨2, ![1179648, 128]⟩ : Shape).Idx → F .f32) (hZ : ∀ y, Z y = FloatOps.ofBits .f32 0x00000000#32) :
    refOut a0 a1 = X (F := F) Z a0 a1 64 := by
  funext y
  idx_vars y
  unfold refOut
  pointwise
  have hl : y0.val % 8 * 128 + y1.val < 1024 := by omega
  have hr : y0.val / 8 < 147456 := by omega
  have hc : ∀ n : Fin 131072, (refCol a0 (ix2 n (0 : Fin 1))).toInt = ((dw a0 n).toNat : Int) := fun n => by
    have e : refCol a0 (ix2 n (0 : Fin 1)) = dw a0 n := col_at a0 _ _ _ n (hd.lt n)
    rw [e]
    exact toInt_of_lt _ (hd.lt n)
  have land : ∀ k, scatter_S147456x1024_S131072x1_S131072x1024_1_0_0_1.resultIdx? k (refCol a0)
      = some (ix2 (⟨y0.val / 8, hr⟩ : Fin 147456) (⟨y0.val % 8 * 128 + y1.val, hl⟩ : Fin 1024))
      ↔ (dw a0 (k 0)).toNat = y0.val / 8 ∧ k 1 = (⟨y0.val % 8 * 128 + y1.val, hl⟩ : Fin 1024) := fun k => by
    idx_vars k
    refine (lands_iff (refCol a0) k0 k1 ⟨y0.val / 8, hr⟩ ⟨y0.val % 8 * 128 + y1.val, hl⟩).trans ?_
    rw [hc k0]
    exact and_congr_left fun _ => Int.ofNat_inj
  by_cases h : ∃ n : Fin 131072, (dw a0 n).toNat = y0.val / 8
  · obtain ⟨n, hn⟩ := h
    refine (Routing.scatter_set_hit _ refZero (refCol a0) (refRows a1) _ (sent a1 n (ix2 y0 y1)) (fun k hk => ?_)
      (ix2 n (⟨y0.val % 8 * 128 + y1.val, hl⟩ : Fin 1024)) ((land _).2 ⟨hn, rfl⟩)).trans (X_hit Z a0 a1 hd n (by omega) hn).symm
    have hk2 := (land k).1 hk
    idx_vars k
    obtain rfl : k0 = n := hd.inj _ _ (hk2.1.trans hn.symm)
    have e1 : k1 = (⟨y0.val % 8 * 128 + y1.val, hl⟩ : Fin 1024) := hk2.2
    subst e1
    refine (refRows_at a1 k0 _).trans ?_
    exact at2 a1 (by show 8 * (k0.val / 4) + (y0.val % 8 * 128 + y1.val) / 128 = 8 * (k0.val / 4) + y0.val % 8; omega)
      (by show (y0.val % 8 * 128 + y1.val) % 128 = y1.val; omega)
  · refine (Routing.scatter_set_miss _ refZero (refCol a0) (refRows a1) _ (fun k hk => h ⟨k 0, ((land k).1 hk).1⟩)).trans ?_
    refine Eq.trans ?_ (X_miss Z a0 a1 fun n _ hn => h ⟨n, hn⟩).symm
    refine Eq.trans ?_ (hZ _).symm
    rfl

end Scatter

end Cert.KernelIdeal.Hand
end
-- ==== Proof.FfnHost.lean ====
/- The experts' products: what the host operations before the region leave — the two look-up tables (each block's expert, the
   number of rows in use) and the operands — as functions of the arguments. -/
module

public import proofs.«01_k».proof.Proof.Gen.Kernel2Ideal.Launch
public import Idealize.ShloMosaic.Lib.Pipeline.FrameBody
public import Idealize.ShloMosaic.Lib.Claim
public import Idealize.ShloMosaic.Lib.Routing.Ops
public import Idealize.ShloMosaic.Lib.ValueIdxCore
public import Idealize.ShloMosaic.Lib.Tactic

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.Sem
open Idealize.ShloMosaic.StableHlo
open Idealize.ShloMosaic.ValueIdx

variable {F : FTy → Type} [FloatOps F]

/-- The number of rows each expert's rows are padded to. -/
def padded (cnt : Vec F S32 .i32) : Vec F S32 .i32 :=
  let c512 : Vec F S32 .i32 := broadcastInDim S32 ![] bcast_S_S32 (constantI S_ 32 512#32)
  let c512' : Vec F S32 .i32 := broadcastInDim S32 ![] bcast_S_S32 (id (constantI S_ 32 512#32))
  let c1 : Vec F S32 .i32 := broadcastInDim S32 ![] bcast_S_S32 (constantI S_ 32 1#32)
  let c0 : Vec F S32 .i32 := broadcastInDim S32 ![] bcast_S_S32 (constantI S_ 32 0#32)
  let sg : Vec F S32 .i32 := broadcastInDim S32 ![] bcast_S_S32 (signi (id (constantI S_ 32 512#32)))
  let a : Vec F S32 .i32 := subi (addi cnt c512) c1
  let q : Vec F S32 .i32 := Host.divsi a c512'
  muli (select (andi (cmpi .ne (signi a) sg) (cmpi .ne (Host.remsi a c512') c0)) (subi q c1) q) c512

/-- Where each expert's rows end. -/
def pends (cnt : Vec F S32 .i32) : Vec F S32 .i32 :=
  Host.reduceWindow IntOp.addi ![32] ![1] ![31] ![0] (padded cnt) (broadcastInDim S_ ![] bcast_S_S_ (constantI S_ 32 0#32))
    reduceWindows_S32_S32_w32s1p31_0 h_S_

/-- Where each block starts. -/
def starts : Vec F S288 .i32 := muli (iotaInDim S288 32 0) (broadcastInDim S288 ![] bcast_S_S288 (constantI S_ 32 512#32))

/-- For each block and expert, one when the expert's rows end no later than the block starts. -/
def ended (p : Vec F S32 .i32) : Vec F S288x32 .i32 :=
  let l : Vec F S288x32 .i32 := broadcastInDim S288x32 ![0, 1] bcast_S1x32_S288x32_0_1 (broadcastInDim S1x32 ![1] bcast_S32_S1x32_1 p)
  let r : Vec F S288x32 .i32 := broadcastInDim S288x32 ![0, 1] bcast_S288x1_S288x32_0_1 (broadcastInDim S288x1 ![0] bcast_S288_S288x1_0 (starts (F := F)))
  extui 32 (cmpi .sle l r) natLt_1_32

/-- Each block's expert. -/
def blockE (p : Vec F S32 .i32) : Vec F S288 .i32 :=
  minsi (Host.reduce IntOp.addi (ended p) (constantI S_ 32 0#32) reducesTo_S288x32_S288_d1 h_S_)
    (broadcastInDim S288 ![] bcast_S_S288 (constantI S_ 32 31#32))

/-- The number of rows in use. -/
def nval (p : Vec F S32 .i32) : Vec F S1 .i32 := extractStridedSlice S1 ![31] p slices_S32_S1_31

variable (m : (ℓ : Loc nD τ sig) → Buf (Elt F) ℓ)

/-- The host operations before the region, stretch by stretch. -/
abbrev opss : List (List (HloOp τ sig (Elt F))) := [hostOps0, hostOps0_1, hostOps0_2, hostOps0_3, hostOps0_4]

/-- A buffer's contents when the region is entered. -/
abbrev V (c : Dev nD) (b : Ref sig .tc) : Buf (Elt F) ((c : Thread nD τ).loc b) := StableHlo.after opss.flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub⟩

theorem opss_fresh : (opss (F := F)).Forall fun ops => ops.Forall fun op => op.fresh = ∅ := by
  simp only [List.Forall]; repeat' constructor

set_option maxHeartbeats 4000000 in
theorem V_v7 (c : Dev nD) : V m c main_v7 = pends (m ((c.tc : Thread nD τ).loc main_arg0)) := by
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl

set_option maxHeartbeats 4000000 in
theorem V_v19 (c : Dev nD) : V m c main_v19 = blockE (pends (m ((c.tc : Thread nD τ).loc main_arg0))) := by
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl

theorem V_v20 (c : Dev nD) : V m c main_v20 = nval (pends (m ((c.tc : Thread nD τ).loc main_arg0))) := by
  refine Eq.trans (?_ : _ = nval (V m c main_v7)) (by rw [V_v7])
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl

theorem V_v21 (c : Dev nD) : V m c main_v21 = shapeCast S1179648x128 (m ((c.tc : Thread nD τ).loc main_arg1)) shapeCasts_S147456x1024_S1179648x128 := by
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl
theorem V_v22 (c : Dev nD) : V m c main_v22 = truncf .bf16 (m ((c.tc : Thread nD τ).loc main_arg2) : FVec F S2x32x1024x2048 .f32) bitsLt_bf16_f32 := by
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl
theorem V_v23 (c : Dev nD) : V m c main_v23 = shapeCast S32x1x2048 (m ((c.tc : Thread nD τ).loc main_arg3)) shapeCasts_S32x2048_S32x1x2048 := by
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl
theorem V_v24 (c : Dev nD) : V m c main_v24 = truncf .bf16 (m ((c.tc : Thread nD τ).loc main_arg4) : FVec F S2x32x1024x1024 .f32) bitsLt_bf16_f32 := by
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl
theorem V_v25 (c : Dev nD) : V m c main_v25 = shapeCast S32x1x1024 (m ((c.tc : Thread nD τ).loc main_arg5)) shapeCasts_S32x1024_S32x1x1024 := by
  simp only [V, opss, List.flatten_cons, List.flatten_nil, List.append_nil, List.cons_append, List.nil_append, hostOps0, hostOps0_1, hostOps0_2, hostOps0_3, hostOps0_4, TRef.binary, TRef.nullary, TRef.ternary, TRef.unary, TRef.toBuf, TRef.ofBuf, cast_eq]
  after_results_simp <;> rfl

theorem V_arg0 (c : Dev nD) : V m c main_arg0 = m ((c.tc : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, TRef.binary, TRef.nullary, TRef.ternary, TRef.unary, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))
theorem V_arg1 (c : Dev nD) : V m c main_arg1 = m ((c.tc : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, TRef.binary, TRef.nullary, TRef.ternary, TRef.unary, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))
theorem V_arg2 (c : Dev nD) : V m c main_arg2 = m ((c.tc : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, TRef.binary, TRef.nullary, TRef.ternary, TRef.unary, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))
theorem V_arg3 (c : Dev nD) : V m c main_arg3 = m ((c.tc : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, TRef.binary, TRef.nullary, TRef.ternary, TRef.unary, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))
theorem V_arg4 (c : Dev nD) : V m c main_arg4 = m ((c.tc : Thread nD τ).loc main_arg4) :=
  StableHlo.after_of_forall_not_mem (b := Proc.devRef .tc main_arg4) _ _ (List.forall_iff_forall_mem.mp (by
    simp only [opss, hostOps0, hostOps0_1, hostOps0_2, hostOps0_3, hostOps0_4, TRef.binary, TRef.nullary, TRef.ternary, TRef.unary, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))
theorem V_arg5 (c : Dev nD) : V m c main_arg5 = m ((c.tc : Thread nD τ).loc main_arg5) :=
  StableHlo.after_of_forall_not_mem (b := Proc.devRef .tc main_arg5) _ _ (List.forall_iff_forall_mem.mp (by
    simp only [opss, hostOps0, hostOps0_1, hostOps0_2, hostOps0_3, hostOps0_4, TRef.binary, TRef.nullary, TRef.ternary, TRef.unary, List.flatten_cons, List.flatten_nil, List.append_nil, List.cons_append,
      List.nil_append, List.Forall, nullary_writes, unary_writes, binary_writes, ternary_writes, quaternary_writes, reshape_writes, binaryIndexed_writes, Finset.mem_singleton]
    repeat' apply And.intro
    all_goals exact StableHlo.devRef_ne_of_ne (by decide)))

/-! ## The look-up tables -/

/-- The tables' contents at the region's entry. -/
def tbl : pre0.Contents (Elt F) := fun j => V m (0 : Dev nD) (pre0.ref j)
theorem V_pre (c : Dev nD) (j : Fin pre0.K) : V m c (pre0.ref j) = tbl m j := by
  obtain rfl : c = 0 := Subsingleton.elim _ _; rfl
theorem tbl0 (c : Dev nD) : tbl m 0 = blockE (pends (m ((c.tc : Thread nD τ).loc main_arg0))) := (V_pre m c 0).symm.trans (V_v19 m c)
theorem tbl1 (c : Dev nD) : tbl m 1 = nval (pends (m ((c.tc : Thread nD τ).loc main_arg0))) := (V_pre m c 1).symm.trans (V_v20 m c)

theorem minsi_lt (k : ℕ) (hk : k ≤ 32) : (IntOp.minsi (BitVec.ofNat 32 k) 31#32).toNat < 32 := by
  interval_cases k <;> decide

open Classical in
theorem count_lt (msk : IVec (Routing.shape2 288 32) 1) (h : (Routing.shape2 288 32).ReducesTo [1] (Routing.shape1 288)) (hu : 0 < Routing.shape0.numel) (i : Fin 288) :
    (IntOp.minsi (Host.reduce IntOp.addi (extui 32 msk natLt_1_32) (constantI Routing.shape0 32 0#32) h hu (ix1 i)) 31#32).toNat < 32 := by
  rw [Routing.reduce_count (n := 288) (m := 32) (by decide) msk natLt_1_32 h hu i (fun q => ∃ h : q < 32, msk (ix2 i ⟨q, h⟩) = 1#1)
    (fun q => ⟨fun h => ⟨q.isLt, h⟩, fun ⟨_, h⟩ => h⟩)]
  exact minsi_lt _ (Nat.count_le _)

/-- Every block's expert is one of the thirty-two. -/
theorem blockE_lt (p : Vec F S32 .i32) (i : Fin 288) : ((blockE p (ix1 i) : BitVec 32)).toNat < 32 := by
  unfold blockE
  exact count_lt _ reducesTo_S288x32_S288_d1 h_S_ i

/-- The word a point's windows look up is the point's entry of the first table. -/
theorem at_eq (pf : pre0.Contents (Elt F)) (i : grid0.Coords) :
    pf.at 0 (Rect.unit (s := S288) (k0_off1 i) S1.size (k0_off1_inb i)) numel1_S1 = pf 0 (ix1 (i 0)) := by
  refine congrArg (pf 0) (funext fun (a : Fin 1) => ?_)
  obtain rfl : a = 0 := Subsingleton.elim _ _
  refine Fin.ext ?_
  have h0 : (i 0).val < 288 := (i 0).isLt
  have : ((Shape.Idx.first (s := S1) (numel1_S1.symm ▸ Nat.one_pos)) 0).val = 0 := by
    have := ((Shape.Idx.first (s := S1) (numel1_S1.symm ▸ Nat.one_pos)) 0).isLt
    exact Nat.lt_one_iff.1 this
  show (BitVec.ofNat 32 (i 0).val).toNat + 1 * ((Shape.Idx.first (s := S1) _) 0).val = (i 0).val
  rw [this, BitVec.toNat_ofNat, Nat.mod_eq_of_lt (by omega)]; omega

/-- A point's expert. -/
def ex (pf : pre0.Contents (Elt F)) (i : grid0.Coords) : ℕ := (pf 0 (ix1 (i 0)) : BitVec 32).toNat

theorem tr1 (pf : pre0.Contents (Elt F)) (i) : cc0_transform_1 k0_off1_inb numel1_S1 pf i = ![0, ex pf i, 0, 0] := by
  have h := congrArg BitVec.toNat (at_eq pf i)
  show ![0, BitVec.toNat (pf.at 0 (Rect.unit (s := S288) (k0_off1 i) S1.size (k0_off1_inb i)) numel1_S1), 0, 0] = _
  rw [h]; rfl
theorem tr2 (pf : pre0.Contents (Elt F)) (i) : cc0_transform_2 k0_off1_inb numel1_S1 pf i = ![ex pf i, 0, 0] := by
  have h := congrArg BitVec.toNat (at_eq pf i)
  show ![BitVec.toNat (pf.at 0 (Rect.unit (s := S288) (k0_off1 i) S1.size (k0_off1_inb i)) numel1_S1), 0, 0] = _
  rw [h]; rfl
theorem tr3 (pf : pre0.Contents (Elt F)) (i) : cc0_transform_3 k0_off1_inb numel1_S1 pf i = ![0, ex pf i, 0, 0] := by
  have h := congrArg BitVec.toNat (at_eq pf i)
  show ![0, BitVec.toNat (pf.at 0 (Rect.unit (s := S288) (k0_off1 i) S1.size (k0_off1_inb i)) numel1_S1), 0, 0] = _
  rw [h]; rfl
theorem tr4 (pf : pre0.Contents (Elt F)) (i) : cc0_transform_4 k0_off1_inb numel1_S1 pf i = ![ex pf i, 0, 0] := by
  have h := congrArg BitVec.toNat (at_eq pf i)
  show ![BitVec.toNat (pf.at 0 (Rect.unit (s := S288) (k0_off1 i) S1.size (k0_off1_inb i)) numel1_S1), 0, 0] = _
  rw [h]; rfl

theorem words (s : Shape) (off size : Fin s.rank → ℕ) (inb) (p : ℕ) (h2 : 2 ≤ s.rank) (h : off (s.rowAx h2) = 0) (h' : size (s.rowAx h2) = s.size (s.rowAx h2)) :
    (Rect.unit (s := s) off size inb).WholeWords p := .inr ⟨h2, rfl, h, h'⟩

/-- Where every entry of the first table names an expert, the windows' blocks lie inside their arrays. -/
theorem ok_of (pf : pre0.Contents (Elt F)) (h : ∀ i, ex pf i < 32) : ok0 pf := by
  refine ⟨fun i => ?_, fun i => ?_, fun i => ?_, fun i => ?_⟩
  · have := h i
    refine ⟨?_, .inr (words _ _ _ _ _ (by decide) (by rw [tr1]; rfl) rfl)⟩
    rw [tr1]
    intro a
    match a with
    | ⟨0, _⟩ => show (0 + 1) * 1 ≤ 2; omega
    | ⟨1, _⟩ => show (ex pf i + 1) * 1 ≤ 32; omega
    | ⟨2, _⟩ => show (0 + 1) * 1024 ≤ 1024; omega
    | ⟨3, _⟩ => show (0 + 1) * 2048 ≤ 2048; omega
  · have := h i
    refine ⟨?_, .inl rfl⟩
    rw [tr2]
    intro a
    match a with
    | ⟨0, _⟩ => show (ex pf i + 1) * 1 ≤ 32; omega
    | ⟨1, _⟩ => show (0 + 1) * 1 ≤ 1; omega
    | ⟨2, _⟩ => show (0 + 1) * 2048 ≤ 2048; omega
  · have := h i
    refine ⟨?_, .inr (words _ _ _ _ _ (by decide) (by rw [tr3]; rfl) rfl)⟩
    rw [tr3]
    intro a
    match a with
    | ⟨0, _⟩ => show (0 + 1) * 1 ≤ 2; omega
    | ⟨1, _⟩ => show (ex pf i + 1) * 1 ≤ 32; omega
    | ⟨2, _⟩ => show (0 + 1) * 1024 ≤ 1024; omega
    | ⟨3, _⟩ => show (0 + 1) * 1024 ≤ 1024; omega
  · have := h i
    refine ⟨?_, .inl rfl⟩
    rw [tr4]
    intro a
    match a with
    | ⟨0, _⟩ => show (ex pf i + 1) * 1 ≤ 32; omega
    | ⟨1, _⟩ => show (0 + 1) * 1 ≤ 1; omega
    | ⟨2, _⟩ => show (0 + 1) * 1024 ≤ 1024; omega

theorem ex_lt (i : grid0.Coords) : ex (tbl m) i < 32 := by
  unfold ex
  rw [tbl0 m 0]
  exact blockE_lt _ (i 0)

theorem ok : ok0 (F := F) (tbl m) := ok_of _ (ex_lt m)

/-- The pipeline at the tables' contents. -/
abbrev adm : (pcfg0 (F := F)).Adm := ⟨tbl m, ok m⟩
abbrev cfgM := cfg0 (adm m)

end Cert.Kernel2Ideal.Hand
end
-- ==== Proof.FfnBody.lean ====
/- The experts' products: what the body does at a grid point — where the block holds rows in use it stores the products, and
   elsewhere zeros. -/
module

public import proofs.«01_k».proof.Proof.FfnHost
public import proofs.«01_k».proof.Proof.Gen.Kernel2Ideal.Skeleton
public import Idealize.ShloMosaic.Lib.Ring
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of a block that leave remainder `j` by eight. -/
abbrev q0 : Rect S4096x128 := ⟨(⟨![0, 0], S512x128.size, ![8, 1], inb_S4096x128_S512x128_0_0_s_8_1⟩ : LoadRect S4096x128), spos_8_1⟩
abbrev q1 : Rect S4096x128 := ⟨(⟨![1, 0], S512x128.size, ![8, 1], inb_S4096x128_S512x128_1_0_s_8_1⟩ : LoadRect S4096x128), spos_8_1⟩
abbrev q2 : Rect S4096x128 := ⟨(⟨![2, 0], S512x128.size, ![8, 1], inb_S4096x128_S512x128_2_0_s_8_1⟩ : LoadRect S4096x128), spos_8_1⟩
abbrev q3 : Rect S4096x128 := ⟨(⟨![3, 0], S512x128.size, ![8, 1], inb_S4096x128_S512x128_3_0_s_8_1⟩ : LoadRect S4096x128), spos_8_1⟩
abbrev q4 : Rect S4096x128 := ⟨(⟨![4, 0], S512x128.size, ![8, 1], inb_S4096x128_S512x128_4_0_s_8_1⟩ : LoadRect S4096x128), spos_8_1⟩
abbrev q5 : Rect S4096x128 := ⟨(⟨![5, 0], S512x128.size, ![8, 1], inb_S4096x128_S512x128_5_0_s_8_1⟩ : LoadRect S4096x128), spos_8_1⟩
abbrev q6 : Rect S4096x128 := ⟨(⟨![6, 0], S512x128.size, ![8, 1], inb_S4096x128_S512x128_6_0_s_8_1⟩ : LoadRect S4096x128), spos_8_1⟩
abbrev q7 : Rect S4096x128 := ⟨(⟨![7, 0], S512x128.size, ![8, 1], inb_S4096x128_S512x128_7_0_s_8_1⟩ : LoadRect S4096x128), spos_8_1⟩
abbrev rA : Rect S4096x128 := Rect.unit (s := S4096x128) ![0, 0] S4096x128.size inb_S4096x128_S4096x128_0_0
abbrev rW1 : Rect S1x1x1024x2048 := Rect.unit (s := S1x1x1024x2048) ![0, 0, 0, 0] S1x1x1024x2048.size inb_S1x1x1024x2048_S1x1x1024x2048_0_0_0_0
abbrev rB1 : Rect S1x1x2048 := Rect.unit (s := S1x1x2048) ![0, 0, 0] S1x1x2048.size inb_S1x1x2048_S1x1x2048_0_0_0
abbrev rW2 : Rect S1x1x1024x1024 := Rect.unit (s := S1x1x1024x1024) ![0, 0, 0, 0] S1x1x1024x1024.size inb_S1x1x1024x1024_S1x1x1024x1024_0_0_0_0
abbrev rB2 : Rect S1x1x1024 := Rect.unit (s := S1x1x1024) ![0, 0, 0] S1x1x1024.size inb_S1x1x1024_S1x1x1024_0_0_0

section Out
variable (x : Vec F S4096x128 .f32) (w1 : Vec F S1x1x1024x2048 .bf16) (b1 : Vec F S1x1x2048 .f32)
  (w2 : Vec F S1x1x1024x1024 .bf16) (b2 : Vec F S1x1x1024 .f32)

/-- The gate's half of the first product, capped, -/
def gate : FVec F S512x1024 .f32 :=
  k0_pay5 (View.ld x q0) (View.ld x q1) (View.ld x q2) (View.ld x q3) (View.ld x q4) (View.ld x q5) (View.ld x q6) (View.ld x q7) (View.ld w1 rW1) (View.ld b1 rB1)
/-- the other half, clipped, -/
def lin : FVec F S512x1024 .f32 :=
  k0_pay6 (View.ld x q0) (View.ld x q1) (View.ld x q2) (View.ld x q3) (View.ld x q4) (View.ld x q5) (View.ld x q6) (View.ld x q7) (View.ld w1 rW1) (View.ld b1 rB1)
/-- and the second product. -/
def prod2 : FVec F S512x1024 .f32 := k0_pay7 (gate x w1 b1) (lin x w1 b1) (View.ld w2 rW2) (View.ld b2 rB2)

/-- What the stores of a block in use write, last first. -/
def pieces : List (View.Piece (Elt F) S4096x128 .f32) :=
  [⟨q7, k0_pay2 (prod2 x w1 b1 w2 b2)⟩, ⟨q6, k0_pay1 (prod2 x w1 b1 w2 b2)⟩,
   ⟨q5, k0_pay13 (gate x w1 b1) (lin x w1 b1) (View.ld w2 rW2) (View.ld b2 rB2)⟩,
   ⟨q4, k0_pay12 (gate x w1 b1) (lin x w1 b1) (View.ld w2 rW2) (View.ld b2 rB2)⟩,
   ⟨q3, k0_pay11 (gate x w1 b1) (lin x w1 b1) (View.ld w2 rW2) (View.ld b2 rB2)⟩,
   ⟨q2, k0_pay10 (gate x w1 b1) (lin x w1 b1) (View.ld w2 rW2) (View.ld b2 rB2)⟩,
   ⟨q1, k0_pay9 (gate x w1 b1) (lin x w1 b1) (View.ld w2 rW2) (View.ld b2 rB2)⟩,
   ⟨q0, k0_pay8 (gate x w1 b1) (lin x w1 b1) (View.ld w2 rW2) (View.ld b2 rB2)⟩]
end Out

theorem mem_q (j : ℕ) (inb) (y : S4096x128.Idx) (h : (y 0).val % 8 = j) :
    y ∈ (⟨(⟨![j, 0], S512x128.size, ![8, 1], inb⟩ : LoadRect S4096x128), spos_8_1⟩ : Rect S4096x128).set := by
  have h0 : (y 0).val < 4096 := (y 0).isLt
  have h1 : (y 1).val < 128 := (y 1).isLt
  refine (LoadRect.mem_set _).2 fun a => ?_
  match a with
  | ⟨0, _⟩ => exact ⟨(y 0).val / 8, by show _ < 512; omega, by show (y 0).val = j + 8 * _; omega⟩
  | ⟨1, _⟩ => exact ⟨(y 1).val, h1, by show (y 1).val = 0 + 1 * _; omega⟩

theorem cover (p0 p1 p2 p3 p4 p5 p6 p7 : Vec F S512x128 .f32) (y : S4096x128.Idx) :
    ∃ pc ∈ ([⟨q7, p7⟩, ⟨q6, p6⟩, ⟨q5, p5⟩, ⟨q4, p4⟩, ⟨q3, p3⟩, ⟨q2, p2⟩, ⟨q1, p1⟩, ⟨q0, p0⟩] : List (View.Piece (Elt F) S4096x128 .f32)), y ∈ pc.1.set := by
  have h : (y 0).val % 8 < 8 := Nat.mod_lt _ (by decide)
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h | h | h | h | h | h | h | h
  · exact ⟨⟨q0, p0⟩, by simp, mem_q _ _ y h⟩
  · exact ⟨⟨q1, p1⟩, by simp, mem_q _ _ y h⟩
  · exact ⟨⟨q2, p2⟩, by simp, mem_q _ _ y h⟩
  · exact ⟨⟨q3, p3⟩, by simp, mem_q _ _ y h⟩
  · exact ⟨⟨q4, p4⟩, by simp, mem_q _ _ y h⟩
  · exact ⟨⟨q5, p5⟩, by simp, mem_q _ _ y h⟩
  · exact ⟨⟨q6, p6⟩, by simp, mem_q _ _ y h⟩
  · exact ⟨⟨q7, p7⟩, by simp, mem_q _ _ y h⟩

set_option maxHeartbeats 2000000 in
theorem sound_live (c : Dev nD) (E : Set ℕ) (i : grid0.Coords) (arg1 : Memref sig .tc .smem S288 .i32) (harg1 : arg1.IsWhole) (arg2 : Memref sig .tc .smem S1 .i32) (harg2 : arg2.IsWhole)
    (f20 : Buf (Elt F) (arg2.view.loc (c : Thread nD τ)))
    (arg3 : Memref sig .tc .vmem S4096x128 .f32) (harg3 : arg3.IsWhole) (arg4 : Memref sig .tc .vmem S1x1x1024x2048 .bf16) (harg4 : arg4.IsWhole)
    (arg5 : Memref sig .tc .vmem S1x1x2048 .f32) (harg5 : arg5.IsWhole) (arg6 : Memref sig .tc .vmem S1x1x1024x1024 .bf16) (harg6 : arg6.IsWhole)
    (arg7 : Memref sig .tc .vmem S1x1x1024 .f32) (harg7 : arg7.IsWhole) (arg8 : Memref sig .tc .vmem S4096x128 .f32) (harg8 : arg8.IsWhole)
    (x : Vec F S4096x128 .f32) (w1 : Vec F S1x1x1024x2048 .bf16) (b1 : Vec F S1x1x2048 .f32)
    (w2 : Vec F S1x1x1024x1024 .bf16) (b2 : Vec F S1x1x1024 .f32) (K : PUnit → sProp 𝕄)
    (h1 : k0_cond1 i (arg2.view.readAt (Val := Elt F) (Rect.unit (s := S1) ![0] S1.size inb_S1_S1_0) f20 (Shape.Idx.first (numel1_S1.symm ▸ Nat.one_pos))) = 1#1) (h2 : ¬ k0_cond2 i (arg2.view.readAt (Val := Elt F) (Rect.unit (s := S1) ![0] S1.size inb_S1_S1_0) f20 (Shape.Idx.first (numel1_S1.symm ▸ Nat.one_pos))) = 1#1) :
    iprop((arg2.view.loc (c : Thread nD τ) ↦{fullShare.right} f20) ∗ owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare b2 ∗ (∃ d, owns (c : Thread nD τ) arg8 fullShare d)
        ∗ (iprop((arg2.view.loc (c : Thread nD τ) ↦{fullShare.right} f20) ∗ owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare b2 ∗ owns (c : Thread nD τ) arg8 fullShare (View.canon (pieces x w1 b1 w2 b2))) -∗ K ⟨⟩))
      ⊢ wp frame (wpE (defs₀ (F := F)) Variants.none c none) E (cc0__ffn_kernel i arg1 harg1 arg2 harg2 arg3 harg3 arg4 harg4 arg5 harg5 arg6 harg6 arg7 harg7 arg8 harg8) K := by
  simp only [cc0__ffn_kernel_eq_skeleton]; unfold cc0__ffn_kernel_skel
  rw [k0_part1_eq_skeleton, k0_part2_eq_skeleton]
  generalize k0_cond1 i = C1 at *
  generalize k0_cond2 i = C2 at *
  unfold owns
  iintro ⟨HT, ⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _ _ _ _ _ _ _)

theorem coverA (y : S4096x128.Idx) : y ∈ rA.set := by
  have h0 : (y 0).val < 4096 := (y 0).isLt
  have h1 : (y 1).val < 128 := (y 1).isLt
  refine Rect.mem_set_unit.2 fun a => ?_
  match a with
  | ⟨0, _⟩ => exact ⟨Nat.zero_le _, by show (y 0).val < 0 + 4096; omega⟩
  | ⟨1, _⟩ => exact ⟨Nat.zero_le _, by show (y 1).val < 0 + 128; omega⟩

set_option maxHeartbeats 2000000 in
theorem sound_dead (c : Dev nD) (E : Set ℕ) (i : grid0.Coords) (arg1 : Memref sig .tc .smem S288 .i32) (harg1 : arg1.IsWhole) (arg2 : Memref sig .tc .smem S1 .i32) (harg2 : arg2.IsWhole)
    (f20 : Buf (Elt F) (arg2.view.loc (c : Thread nD τ)))
    (arg3 : Memref sig .tc .vmem S4096x128 .f32) (harg3 : arg3.IsWhole) (arg4 : Memref sig .tc .vmem S1x1x1024x2048 .bf16) (harg4 : arg4.IsWhole)
    (arg5 : Memref sig .tc .vmem S1x1x2048 .f32) (harg5 : arg5.IsWhole) (arg6 : Memref sig .tc .vmem S1x1x1024x1024 .bf16) (harg6 : arg6.IsWhole)
    (arg7 : Memref sig .tc .vmem S1x1x1024 .f32) (harg7 : arg7.IsWhole) (arg8 : Memref sig .tc .vmem S4096x128 .f32) (harg8 : arg8.IsWhole)
    (x : Vec F S4096x128 .f32) (w1 : Vec F S1x1x1024x2048 .bf16) (b1 : Vec F S1x1x2048 .f32)
    (w2 : Vec F S1x1x1024x1024 .bf16) (b2 : Vec F S1x1x1024 .f32) (K : PUnit → sProp 𝕄)
    (h1 : ¬ k0_cond1 i (arg2.view.readAt (Val := Elt F) (Rect.unit (s := S1) ![0] S1.size inb_S1_S1_0) f20 (Shape.Idx.first (numel1_S1.symm ▸ Nat.one_pos))) = 1#1) (h2 : k0_cond2 i (arg2.view.readAt (Val := Elt F) (Rect.unit (s := S1) ![0] S1.size inb_S1_S1_0) f20 (Shape.Idx.first (numel1_S1.symm ▸ Nat.one_pos))) = 1#1) :
    iprop((arg2.view.loc (c : Thread nD τ) ↦{fullShare.right} f20) ∗ owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare b2 ∗ (∃ d, owns (c : Thread nD τ) arg8 fullShare d)
        ∗ (iprop((arg2.view.loc (c : Thread nD τ) ↦{fullShare.right} f20) ∗ owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare b2 ∗ owns (c : Thread nD τ) arg8 fullShare (View.canon [⟨rA, k0_pay3⟩])) -∗ K ⟨⟩))
      ⊢ wp frame (wpE (defs₀ (F := F)) Variants.none c none) E (cc0__ffn_kernel i arg1 harg1 arg2 harg2 arg3 harg3 arg4 harg4 arg5 harg5 arg6 harg6 arg7 harg7 arg8 harg8) K := by
  simp only [cc0__ffn_kernel_eq_skeleton]; unfold cc0__ffn_kernel_skel
  rw [k0_part1_eq_skeleton, k0_part2_eq_skeleton]
  generalize k0_cond1 i = C1 at *
  generalize k0_cond2 i = C2 at *
  unfold owns
  iintro ⟨HT, ⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (fun y => ⟨_, List.mem_singleton.2 rfl, coverA y⟩)

/-- Exactly one of the body's two conditions holds. -/
theorem cond_iff (i : grid0.Coords) (w : BitVec 32) : k0_cond2 i w = 1#1 ↔ ¬ k0_cond1 i w = 1#1 := by
  unfold k0_cond1 k0_cond2
  simp only []
  generalize Scalar.cmpi .slt (Scalar.muli (BitVec.ofNat 32 (i 0).val) 512#32) w = z
  revert z; decide

/-- What a point leaves in the result's block. -/
def outF (i : grid0.Coords) (w : BitVec 32) (x : Vec F S4096x128 .f32) (w1 : Vec F S1x1x1024x2048 .bf16) (b1 : Vec F S1x1x2048 .f32)
    (w2 : Vec F S1x1x1024x1024 .bf16) (b2 : Vec F S1x1x1024 .f32) : Vec F S4096x128 .f32 :=
  if k0_cond1 i w = 1#1 then View.canon (pieces x w1 b1 w2 b2) else View.canon [⟨rA, k0_pay3⟩]

theorem sound_kernel (c : Dev nD) (E : Set ℕ) (i : grid0.Coords) (arg1 : Memref sig .tc .smem S288 .i32) (harg1 : arg1.IsWhole) (arg2 : Memref sig .tc .smem S1 .i32) (harg2 : arg2.IsWhole)
    (f20 : Buf (Elt F) (arg2.view.loc (c : Thread nD τ)))
    (arg3 : Memref sig .tc .vmem S4096x128 .f32) (harg3 : arg3.IsWhole) (arg4 : Memref sig .tc .vmem S1x1x1024x2048 .bf16) (harg4 : arg4.IsWhole)
    (arg5 : Memref sig .tc .vmem S1x1x2048 .f32) (harg5 : arg5.IsWhole) (arg6 : Memref sig .tc .vmem S1x1x1024x1024 .bf16) (harg6 : arg6.IsWhole)
    (arg7 : Memref sig .tc .vmem S1x1x1024 .f32) (harg7 : arg7.IsWhole) (arg8 : Memref sig .tc .vmem S4096x128 .f32) (harg8 : arg8.IsWhole)
    (x : Vec F S4096x128 .f32) (w1 : Vec F S1x1x1024x2048 .bf16) (b1 : Vec F S1x1x2048 .f32)
    (w2 : Vec F S1x1x1024x1024 .bf16) (b2 : Vec F S1x1x1024 .f32) (K : PUnit → sProp 𝕄) :
    iprop((arg2.view.loc (c : Thread nD τ) ↦{fullShare.right} f20) ∗ owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare b2 ∗ (∃ d, owns (c : Thread nD τ) arg8 fullShare d)
        ∗ (iprop((arg2.view.loc (c : Thread nD τ) ↦{fullShare.right} f20) ∗ owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare b2 ∗ owns (c : Thread nD τ) arg8 fullShare (outF i (arg2.view.readAt (Val := Elt F) (Rect.unit (s := S1) ![0] S1.size inb_S1_S1_0) f20 (Shape.Idx.first (numel1_S1.symm ▸ Nat.one_pos))) x w1 b1 w2 b2)) -∗ K ⟨⟩))
      ⊢ wp frame (wpE (defs₀ (F := F)) Variants.none c none) E (cc0__ffn_kernel i arg1 harg1 arg2 harg2 arg3 harg3 arg4 harg4 arg5 harg5 arg6 harg6 arg7 harg7 arg8 harg8) K := by
  unfold outF
  split_ifs with h
  · exact sound_live c E i arg1 harg1 arg2 harg2 f20 arg3 harg3 arg4 harg4 arg5 harg5 arg6 harg6 arg7 harg7 arg8 harg8 x w1 b1 w2 b2 K h
      fun h' => (cond_iff i _).1 h' h
  · exact sound_dead c E i arg1 harg1 arg2 harg2 f20 arg3 harg3 arg4 harg4 arg5 harg5 arg6 harg6 arg7 harg7 arg8 harg8 x w1 b1 w2 b2 K h
      ((cond_iff i _).2 h)

end Cert.Kernel2Ideal.Hand
end
-- ==== Proof.FfnRun.lean ====
/- The experts' products: the run of the whole program at any float family — the result at what the points left, the arguments
   as launched, every semaphore at zero. -/
module

public import proofs.«01_k».proof.Proof.FfnBody

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] tbl

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The word the body reads: the number of rows in use. -/
abbrev nv : BitVec 32 :=
  (Memref.whole main_v20).view.readAt (Val := Elt F) (Rect.unit (s := S1) ![0] S1.size inb_S1_S1_0) (tbl m 1) (Shape.Idx.first (numel1_S1.symm ▸ Nat.one_pos))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outF (grid0.coords t) (nv m) (iblk m c 0 t) (iblk m c 1 t) (iblk m c 2 t) (iblk m c 3 t) (iblk m c 4 t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := rfl
theorem after_1 (c : Dev nD) (t : Fin (cfgM m).N) : (dats m 0 c).after 1 t = iblk m c 1 t := rfl
theorem after_2 (c : Dev nD) (t : Fin (cfgM m).N) : (dats m 0 c).after 2 t = iblk m c 2 t := rfl
theorem after_3 (c : Dev nD) (t : Fin (cfgM m).N) : (dats m 0 c).after 3 t = iblk m c 3 t := rfl
theorem after_4 (c : Dev nD) (t : Fin (cfgM m).N) : (dats m 0 c).after 4 t = iblk m c 4 t := rfl
theorem after_5 (c : Dev nD) (t : Fin (cfgM m).N) : (dats m 0 c).after 5 t = outF (grid0.coords t) (nv m) (iblk m c 0 t) (iblk m c 1 t) (iblk m c 2 t) (iblk m c 3 t) (iblk m c 4 t) := rfl
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
abbrev st_0 (t : Fin (cfgM m).N) := ((cfgM m).win 0).stage ((cfgM m).slots t 0)
abbrev st_1 (t : Fin (cfgM m).N) := ((cfgM m).win 1).stage ((cfgM m).slots t 1)
abbrev st_2 (t : Fin (cfgM m).N) := ((cfgM m).win 2).stage ((cfgM m).slots t 2)
abbrev st_3 (t : Fin (cfgM m).N) := ((cfgM m).win 3).stage ((cfgM m).slots t 3)
abbrev st_4 (t : Fin (cfgM m).N) := ((cfgM m).win 4).stage ((cfgM m).slots t 4)
abbrev st_5 (t : Fin (cfgM m).N) := ((cfgM m).win 5).stage ((cfgM m).slots t 5)

/-- The body as the point calls it. -/
abbrev bodyAt (t : Fin (cfgM m).N) : Prog (TpuEff nD τ sig (Elt F) Λ₀ .tc) PUnit :=
  cc0__ffn_kernel (grid0.coords t) (Memref.whole main_v19) (Memref.isWhole_whole _) (Memref.whole main_v20) (Memref.isWhole_whole _)
    (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5))

abbrev tbPt (c : Dev nD) {n : Shape} (M : Memref sig .tc .smem n .i32) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄)
    = iprop(tbPt c (Memref.whole main_v19) (tbl m 0) ∗ tbPt c (Memref.whole main_v20) (tbl m 1)) := by
  unfold Pipeline.ΦT Pipeline.prefHeld
  rw [show (Finset.univ : Finset (Fin 2)) = insert (0 : Fin 2) {(1 : Fin 2)} from by decide, bigSep_insert (by decide), bigSep_singleton]
  rfl

/-- Every point stores into the result's block. -/
theorem idle_any (pf : pre0.Contents (Elt F)) (i : grid0.Coords) : idle0 pf 5 i = false := by
  have key : ∀ w : BitVec 32, (!(k0_cond1 i w == 1#1) && !(k0_cond2 i w == 1#1)) = false := fun w => by
    have h := cond_iff i w
    by_cases h1 : k0_cond1 i w = 1#1
    · rw [h1]; rfl
    · rw [h.2 h1]; simp
  exact key _
theorem idle_false (t : Fin (cfgM m).N) : (cfgM m).idle 5 ((cfgM m).grid.coords t) = false := idle_any (tbl m) (grid0.coords t)

def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d))
    ∗ (∃ d, owns (c : Thread nD τ) (st_4 m t) fullShare ((dats m 0 c).before 4 t d))
    ∗ (∃ d, owns (c : Thread nD τ) (st_5 m t) fullShare ((dats m 0 c).before 5 t d)))
def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t)
    ∗ owns (c : Thread nD τ) (st_4 m t) fullShare ((dats m 0 c).after 4 t)
    ∗ owns (c : Thread nD τ) (st_5 m t) fullShare ((dats m 0 c).after 5 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4]
  rw [show (dats m 0 c).Φ t.castSucc = iprop(Pipeline.ΦA spec0 c ∗ Pipeline.ΦT pre0 (tbl m) c) from rfl,
    show (dats m 0 c).Φ t.succ = iprop(Pipeline.ΦA spec0 c ∗ Pipeline.ΦT pre0 (tbl m) c) from rfl,
    show (dats m 0 c).owesAt () t.succ = (dats m 0 c).owesAt () t.castSucc from rfl,
    after_0, after_1, after_2, after_3, after_4, after_5, PhiT_eq]
  iintro ⟨⟨HA, HT0, HT1⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ (tbl m 1) _ _ _ _ _ _ _ _ _ _ _ _ (iblk m c 0 t) (iblk m c 1 t) (iblk m c 2 t) (iblk m c 3 t) (iblk m c 4 t) _)
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  iintro ⟨HT1, H0, H1, H2, H3, H4, H5⟩
  isplitl [HA HT0 HT1]
  · isplitl [HA]; · iexact HA
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row, idle_false]
  exact triple_restated (sound_body m c t) rfl .rfl fun _ => .rfl

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main opss opss_sub opss_fresh main_chain

set_option backward.isDefEq.respectTransparency.types false in
set_option maxHeartbeats 800000 in
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hpf := fun c k => V_pre m c k) (hΦ := fun _ _ => rfl)

/-- The run: the result at what the points left, the arguments as launched, every semaphore at zero. -/
theorem run : θ_run defs (onTc (τ := τ) (main (F := F))) (s₀ m ρ)
    (fun r => (∀ c : Dev nD, r.2.mem ((c.tc : Thread nD τ).loc main_v26) = (dats m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 5,
    ((h.1 c).2 main_arg0 (Pipeline.mem_restRefs_of main_arg0 rfl (by decide : ∀ w : Fin 6, (spec0 w).arr.view.ref ≠ main_arg0))).trans (V_arg0 m c),
    ((h.1 c).2 main_arg1 (Pipeline.mem_restRefs_of main_arg1 rfl (by decide : ∀ w : Fin 6, (spec0 w).arr.view.ref ≠ main_arg1))).trans (V_arg1 m c),
    ((h.1 c).2 main_arg2 (Pipeline.mem_restRefs_of main_arg2 rfl (by decide : ∀ w : Fin 6, (spec0 w).arr.view.ref ≠ main_arg2))).trans (V_arg2 m c),
    ((h.1 c).2 main_arg3 (Pipeline.mem_restRefs_of main_arg3 rfl (by decide : ∀ w : Fin 6, (spec0 w).arr.view.ref ≠ main_arg3))).trans (V_arg3 m c),
    ((h.1 c).2 main_arg4 (Pipeline.mem_restRefs_of main_arg4 rfl (by decide : ∀ w : Fin 6, (spec0 w).arr.view.ref ≠ main_arg4))).trans (V_arg4 m c),
    ((h.1 c).2 main_arg5 (Pipeline.mem_restRefs_of main_arg5 rfl (by decide : ∀ w : Fin 6, (spec0 w).arr.view.ref ≠ main_arg5))).trans (V_arg5 m c)⟩, h.2⟩) (run_main m ρ)

end Cert.Kernel2Ideal.Hand
end
-- ==== Proof.FfnRef.lean ====
/- The experts' products: the reference's result, in steps. -/
module

public import proofs.«01_k».proof.Proof.FfnHost
public import proofs.«01_k».proof.Proof.Gen.Reference2Ideal.Run
public import Idealize.ShloMosaic.Lib.Pointwise

@[expose] public section

noncomputable section

namespace Cert.Reference2Ideal.Hand

open Cert.Reference2Ideal Cert.Reference2Ideal.Gen Cert.Reference2Ideal.Value
open Idealize.ShloMosaic Idealize.ShloMosaic.TcCoe Idealize.ShloMosaic.Tactic
open Idealize.SL Idealize.SL.Sem
open Idealize.ShloMosaic.StableHlo

variable {F : FTy → Type} [FloatOps F]

/-- An index list as the gathers take it: a negative index counts from the end. -/
def wrapped (e : Vec F S288 .i32) : Vec F S288x1 .i32 :=
  let c0 : Vec F S288 .i32 := broadcastInDim S288 ![] bcast_S_S288 (constantI S_ 32 0#32)
  let c32 : Vec F S288 .i32 := broadcastInDim S288 ![] bcast_S_S288 (constantI S_ 32 32#32)
  broadcastInDim S288x1 ![0] bcast_S288_S288x1_0 (select (cmpi .slt e c0) (addi e c32) e)

/-- The layer's first weights, each block's. -/
def wA (e : Vec F S288 .i32) (w1 : Vec F S2x32x1024x2048 .f32) : Vec F S288x1024x2048 .f32 :=
  Host.gather gather_S32x1024x2048_S288x1_S288x1024x2048_12_0_n_n_0_1_110242048
    (shapeCast _ (extractStridedSlice S1x32x1024x2048 ![0, 0, 0, 0] w1 slices_S2x32x1024x2048_S1x32x1024x2048_0_0_0_0) shapeCasts_S1x32x1024x2048_S32x1024x2048) (wrapped e)

/-- The layer's first biases, each block's. -/
def bA (e : Vec F S288 .i32) (b1 : Vec F S32x2048 .f32) : Vec F S288x2048 .f32 :=
  Host.gather gather_S32x2048_S288x1_S288x2048_1_0_n_n_0_1_12048 b1 (wrapped e)

/-- The layer's second weights, each block's. -/
def wB (e : Vec F S288 .i32) (w2 : Vec F S2x32x1024x1024 .f32) : Vec F S288x1024x1024 .f32 :=
  Host.gather gather_S32x1024x1024_S288x1_S288x1024x1024_12_0_n_n_0_1_110241024
    (shapeCast _ (extractStridedSlice S1x32x1024x1024 ![0, 0, 0, 0] w2 slices_S2x32x1024x1024_S1x32x1024x1024_0_0_0_0) shapeCasts_S1x32x1024x1024_S32x1024x1024) (wrapped e)

/-- The layer's second biases, each block's. -/
def bB (e : Vec F S288 .i32) (b2 : Vec F S32x1024 .f32) : Vec F S288x1024 .f32 :=
  Host.gather gather_S32x1024_S288x1_S288x1024_1_0_n_n_0_1_11024 b2 (wrapped e)

/-- The first product. -/
def mid (x : Vec F S147456x1024 .f32) (wa : Vec F S288x1024x2048 .f32) (ba : Vec F S288x2048 .f32) : Vec F S288x512x2048 .f32 :=
  let bb : Vec F S288x1x2048 .f32 := broadcastInDim S288x1x2048 ![0, 2] bcast_S288x2048_S288x1x2048_0_2 ba
  addf (Host.dotGeneral dot_S288x512x1024_S288x1024x2048_S288x512x2048_2_1_1_2_0_0 none (shapeCast _ x shapeCasts_S147456x1024_S288x512x1024) wa)
    (broadcastInDim S288x512x2048 ![0, 1, 2] bcast_S288x1x2048_S288x512x2048_0_1_2 bb)

def splat (b : BitVec 32) : Vec F S288x512x1024 .f32 := broadcastInDim S288x512x1024 ![] bcast_S_S288x512x1024 (constant S_ .f32 b)

/-- The gate's half, capped. -/
def gateR (h : Vec F S288x512x2048 .f32) : Vec F S288x512x1024 .f32 :=
  minimumf (extractStridedSlice S288x512x1024 ![0, 0, 0] h slices_S288x512x2048_S288x512x1024_0_0_0) (splat 0x40E00000#32)

/-- The other half, clipped. -/
def linR (h : Vec F S288x512x2048 .f32) : Vec F S288x512x1024 .f32 :=
  minimumf (broadcastInDim S288x512x1024 ![] bcast_S_S288x512x1024 (id (constant S_ .f32 0x40E00000#32)))
    (maximumf (broadcastInDim S288x512x1024 ![] bcast_S_S288x512x1024 (id (constant S_ .f32 0xC0E00000#32)))
      (extractStridedSlice S288x512x1024 ![0, 0, 1024] h slices_S288x512x2048_S288x512x1024_0_0_1024))

/-- The activation. -/
def act (g l : Vec F S288x512x1024 .f32) : Vec F S288x512x1024 .f32 :=
  mulf (mulf g (Host.divf (splat 0x3F800000#32) (addf (splat 0x3F800000#32) (Host.exp (Host.negf (mulf (splat 0x3FD9DB23#32) g))))))
    (addf l (splat 0x3F800000#32))

/-- The second product. -/
def out (a : Vec F S288x512x1024 .f32) (wb : Vec F S288x1024x1024 .f32) (bb : Vec F S288x1024 .f32) : Vec F S288x512x1024 .f32 :=
  let b3 : Vec F S288x1x1024 .f32 := broadcastInDim S288x1x1024 ![0, 2] bcast_S288x1024_S288x1x1024_0_2 bb
  addf (Host.dotGeneral dot_S288x512x1024_S288x1024x1024_S288x512x1024_2_1_1_2_0_0 none a wb)
    (broadcastInDim S288x512x1024 ![0, 1, 2] bcast_S288x1x1024_S288x512x1024_0_1_2 b3)

/-- Which blocks hold rows in use. -/
def live (p : Vec F S32 .i32) : Vec F S288 .i1 :=
  cmpi .slt (Cert.Kernel2Ideal.Hand.starts (F := F)) (broadcastInDim S288 ![] bcast_S_S288 (shapeCast S_ (extractStridedSlice S1 ![31] p slices_S32_S1_31) shapeCasts_S1_S_) : Vec F S288 .i32)

/-- The products where the block holds rows in use, zeros elsewhere. -/
def kept (p : Vec F S32 .i32) (y : Vec F S288x512x1024 .f32) : Vec F S288x512x1024 .f32 :=
  let c : Vec F S288x1x1 .i1 := broadcastInDim S288x1x1 ![0] bcast_S288_S288x1x1_0 (live p)
  select (broadcastInDim S288x512x1024 ![0, 1, 2] bcast_S288x1x1_S288x512x1024_0_1_2 c) y
    (broadcastInDim S288x512x1024 ![] bcast_S_S288x512x1024 (id (constant S_ .f32 0x00000000#32)))

/-- The whole result of the padded ends `p` and the blocks' experts `e`. -/
def ffn (p : Vec F S32 .i32) (e : Vec F S288 .i32) (x : Vec F S147456x1024 .f32) (w1 : Vec F S2x32x1024x2048 .f32) (b1 : Vec F S32x2048 .f32)
    (w2 : Vec F S2x32x1024x1024 .f32) (b2 : Vec F S32x1024 .f32) : Vec F S288x512x1024 .f32 :=
  kept p (out (act (gateR (mid x (wA e w1) (bA e b1))) (linR (mid x (wA e w1) (bA e b1)))) (wB e w2) (bB e b2))

theorem whole_ok : S288x512x1024.ShapeCasts S1179648x128 := shapeCasts_S288x512x1024_S1179648x128

variable (m : (ℓ : Loc nD τ sig) → Buf (Elt F) ℓ)

set_option maxRecDepth 8192 in
set_option maxHeartbeats 4000000 in
theorem res_eq (c : Dev nD) : res_main_v84 m c
    = shapeCast S1179648x128 (ffn (Cert.Kernel2Ideal.Hand.pends (m (c, main_arg0)))
        (Cert.Kernel2Ideal.Hand.blockE (F := F) (Cert.Kernel2Ideal.Hand.pends (m (c, main_arg0))))
        (m (c, main_arg1)) (m (c, main_arg2)) (m (c, main_arg3)) (m (c, main_arg4)) (m (c, main_arg5))) shapeCasts_S288x512x1024_S1179648x128 := by
  unfold res_main_v84; rfl

end Cert.Reference2Ideal.Hand
-- ==== Proof.FfnAt.lean ====
/- The experts' products: the reference's result read at a block, a row and a column, at exact values. -/
module

public import proofs.«01_k».proof.Proof.FfnRef
public import Idealize.ShloMosaic.Lib.WordCmp
public import Idealize.ShloMosaic.Lib.Routing.OpsPair

@[expose] public section

noncomputable section

namespace Cert.Reference2Ideal.Hand

open Cert.Reference2Ideal Cert.Reference2Ideal.Gen
open Idealize.ShloMosaic Idealize.ShloMosaic.TcCoe Idealize.ShloMosaic.Tactic

section Gather
variable {α : Type} {N B P Q w : ℕ}

/-- A gather of whole leading slices, read at an index: the slice named by the index list (kept in range). -/
theorem gather3 (d : GatherDims ⟨3, ![N, P, Q]⟩ ⟨2, ![B, 1]⟩ ⟨3, ![B, P, Q]⟩) (h1 : d.offsetDims = [1, 2]) (h2 : d.collapsedSliceDims = [0])
    (h3 : d.operandBatchingDims = []) (h4 : d.startIndicesBatchingDims = []) (h5 : d.startIndexMap = [0]) (h6 : d.indexVectorDim = 1)
    (h7 : d.sliceSizes = ![1, P, Q]) (x : (⟨3, ![N, P, Q]⟩ : Shape).Idx → α) (idx : IVec ⟨2, ![B, 1]⟩ w) (b : Fin B) (p : Fin P) (q : Fin Q)
    (e : Fin N) (he : (idx (ix2 b 0)).toInt.toNat = e.val) : Host.gather d x idx (ix3 b p q) = x (ix3 e p q) := by
  obtain ⟨od, cs, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ [(0 : Fin 3)] from List.mem_singleton.mpr rfl)]
    have hsi : ∀ h, GatherDims.siIdx (⟨[1, 2], [0], [], [], [0], 1, ![1, P, Q], wf⟩ : GatherDims ⟨3, ![N, P, Q]⟩ ⟨2, ![B, 1]⟩ ⟨3, ![B, P, Q]⟩) (ix3 b p q) ⟨List.idxOf (0 : Fin 3) [(0 : Fin 3)], h⟩ = ix2 b 0 := by
      intro h
      funext k; refine Fin.ext ?_
      match k with
      | ⟨0, _⟩ => rfl
      | ⟨1, _⟩ => rfl
    rw [hsi, he]
    show min e.val (N - 1) = e.val
    have := e.isLt; omega
  | ⟨1, _⟩ =>
    show GatherDims.start _ _ _ 1 + GatherDims.batchCoord _ _ 1 + GatherDims.offCoord _ _ 1 = _
    rw [GatherDims.batchCoord_eq_zero _ _ _ List.not_mem_nil]
    have hs : GatherDims.start (⟨[1, 2], [0], [], [], [0], 1, ![1, P, Q], wf⟩ : GatherDims ⟨3, ![N, P, Q]⟩ ⟨2, ![B, 1]⟩ ⟨3, ![B, P, Q]⟩) (ix3 b p q) idx 1 = 0 := by
      unfold GatherDims.start; rw [dif_neg (show ¬ (1 : Fin 3) ∈ [(0 : Fin 3)] by decide)]
    rw [hs]; simp only [Nat.zero_add, Nat.add_zero]; rfl
  | ⟨2, _⟩ =>
    show GatherDims.start _ _ _ 2 + GatherDims.batchCoord _ _ 2 + GatherDims.offCoord _ _ 2 = _
    rw [GatherDims.batchCoord_eq_zero _ _ _ List.not_mem_nil]
    have hs : GatherDims.start (⟨[1, 2], [0], [], [], [0], 1, ![1, P, Q], wf⟩ : GatherDims ⟨3, ![N, P, Q]⟩ ⟨2, ![B, 1]⟩ ⟨3, ![B, P, Q]⟩) (ix3 b p q) idx 2 = 0 := by
      unfold GatherDims.start; rw [dif_neg (show ¬ (2 : Fin 3) ∈ [(0 : Fin 3)] by decide)]
    rw [hs]; simp only [Nat.zero_add, Nat.add_zero]; rfl

/-- The same of a matrix's rows. -/
theorem gather2 (d : GatherDims ⟨2, ![N, P]⟩ ⟨2, ![B, 1]⟩ ⟨2, ![B, P]⟩) (h1 : d.offsetDims = [1]) (h2 : d.collapsedSliceDims = [0])
    (h3 : d.operandBatchingDims = []) (h4 : d.startIndicesBatchingDims = []) (h5 : d.startIndexMap = [0]) (h6 : d.indexVectorDim = 1)
    (h7 : d.sliceSizes = ![1, P]) (x : (⟨2, ![N, P]⟩ : Shape).Idx → α) (idx : IVec ⟨2, ![B, 1]⟩ w) (b : Fin B) (p : Fin P)
    (e : Fin N) (he : (idx (ix2 b 0)).toInt.toNat = e.val) : Host.gather d x idx (ix2 b p) = x (ix2 e p) := by
  obtain ⟨od, cs, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start _ _ _ 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : ∀ h, GatherDims.siIdx (⟨[1], [0], [], [], [0], 1, ![1, P], wf⟩ : GatherDims ⟨2, ![N, P]⟩ ⟨2, ![B, 1]⟩ ⟨2, ![B, P]⟩) (ix2 b p) ⟨List.idxOf (0 : Fin 2) [(0 : Fin 2)], h⟩ = ix2 b 0 := by
      intro h
      funext k; refine Fin.ext ?_
      match k with
      | ⟨0, _⟩ => rfl
      | ⟨1, _⟩ => rfl
    rw [hsi, he]
    show min e.val (N - 1) = e.val
    have := e.isLt; omega
  | ⟨1, _⟩ =>
    show GatherDims.start _ _ _ 1 + GatherDims.batchCoord _ _ 1 + GatherDims.offCoord _ _ 1 = _
    rw [GatherDims.batchCoord_eq_zero _ _ _ List.not_mem_nil]
    have hs : GatherDims.start (⟨[1], [0], [], [], [0], 1, ![1, P], wf⟩ : GatherDims ⟨2, ![N, P]⟩ ⟨2, ![B, 1]⟩ ⟨2, ![B, P]⟩) (ix2 b p) idx 1 = 0 := by
      unfold GatherDims.start; rw [dif_neg (show ¬ (1 : Fin 2) ∈ [(0 : Fin 2)] by decide)]
    rw [hs]; simp only [Nat.zero_add, Nat.add_zero]; rfl
end Gather

variable {F : FTy → Type} [FloatOps F]

theorem wrapped_at (e : Vec F S288 .i32) (n : Fin 288) (E : Fin 32) (he : (e (ix1 n)).toNat = E.val) :
    (wrapped e (ix2 n 0)).toInt.toNat = E.val := by
  have h : wrapped e (ix2 n 0) = e (ix1 n) := by
    unfold wrapped
    pointwise
    exact Routing.wrap_of_lt _ _ (by rw [he]; have := E.isLt; omega)
  rw [h, WordCmp.toInt_eq_toNat_of_lt_half (by rw [he]; have := E.isLt; omega), he]; rfl

section At
variable (e : Vec F S288 .i32) (n : Fin 288) (E : Fin 32) (he : (e (ix1 n)).toNat = E.val)
include he

theorem wA_at (w1 : Vec F S2x32x1024x2048 .f32) (k : Fin 1024) (h : Fin 2048) : wA e w1 (ix3 n k h) = w1 (ix4 0 E k h) := by
  unfold wA
  refine (gather3 _ rfl rfl rfl rfl rfl rfl rfl _ _ n k h E (wrapped_at e n E he)).trans ?_
  pointwise

theorem wB_at (w2 : Vec F S2x32x1024x1024 .f32) (k : Fin 1024) (h : Fin 1024) : wB e w2 (ix3 n k h) = w2 (ix4 0 E k h) := by
  unfold wB
  refine (gather3 _ rfl rfl rfl rfl rfl rfl rfl _ _ n k h E (wrapped_at e n E he)).trans ?_
  pointwise

theorem bA_at (b1 : Vec F S32x2048 .f32) (h : Fin 2048) : bA e b1 (ix2 n h) = b1 (ix2 E h) :=
  gather2 _ rfl rfl rfl rfl rfl rfl rfl _ _ n h E (wrapped_at e n E he)

theorem bB_at (b2 : Vec F S32x1024 .f32) (h : Fin 1024) : bB e b2 (ix2 n h) = b2 (ix2 E h) :=
  gather2 _ rfl rfl rfl rfl rfl rfl rfl _ _ n h E (wrapped_at e n E he)
end At

/-- A block's row of the operand. -/
abbrev tok (n : Fin 288) (t : Fin 512) : Fin 147456 := ⟨n.val * 512 + t.val, by omega⟩

theorem mid_at (x : Vec Ideal S147456x1024 .f32) (wa : Vec Ideal S288x1024x2048 .f32) (ba : Vec Ideal S288x2048 .f32) (n : Fin 288) (t : Fin 512) (h : Fin 2048) :
    mid x wa ba (ix3 n t h) = (∑ k : Fin 1024, x (ix2 (tok n t) k) * wa (ix3 n k h) : EReal) + ba (ix2 n h) := by
  unfold mid
  pointwise

theorem out_at (a : Vec Ideal S288x512x1024 .f32) (wb : Vec Ideal S288x1024x1024 .f32) (bb : Vec Ideal S288x1024 .f32) (n : Fin 288) (t : Fin 512) (h : Fin 1024) :
    out a wb bb (ix3 n t h) = (∑ k : Fin 1024, a (ix3 n t k) * wb (ix3 n k h) : EReal) + bb (ix2 n h) := by
  unfold out
  pointwise

/-- The gate's cap, -/
def capS (h : EReal) : EReal := min h (Ideal.ofBits .f32 0x40E00000#32)
/-- the other half's clip, -/
def clipS (h : EReal) : EReal := min (Ideal.ofBits .f32 0x40E00000#32) (max (Ideal.ofBits .f32 0xC0E00000#32) h)
/-- and the activation, of one element each. -/
def actS (g l : EReal) : EReal := g * Ideal.div 1 (1 + Ideal.exp (-(Ideal.ofBits .f32 0x3FD9DB23#32 * g))) * (l + 1)

theorem gateR_at (h : Vec Ideal S288x512x2048 .f32) (n : Fin 288) (t : Fin 512) (k : Fin 1024) :
    gateR h (ix3 n t k) = capS (h (ix3 n t ⟨k.val, by omega⟩)) := by
  unfold gateR splat capS
  pointwise

theorem linR_at (h : Vec Ideal S288x512x2048 .f32) (n : Fin 288) (t : Fin 512) (k : Fin 1024) :
    linR h (ix3 n t k) = clipS (h (ix3 n t ⟨1024 + k.val, by omega⟩)) := by
  unfold linR clipS
  pointwise
  rfl

theorem act_at (g l : Vec Ideal S288x512x1024 .f32) (n : Fin 288) (t : Fin 512) (k : Fin 1024) :
    act g l (ix3 n t k) = actS (g (ix3 n t k)) (l (ix3 n t k)) := by
  unfold act splat actS
  pointwise

theorem kept_at (p : Vec Ideal S32 .i32) (y : Vec Ideal S288x512x1024 .f32) (n : Fin 288) (t : Fin 512) (k : Fin 1024) :
    kept p y (ix3 n t k) = if live p (ix1 n) = 1#1 then y (ix3 n t k) else 0 := by
  unfold kept
  pointwise
  refine congrArg (Scalar.select _ _) ?_
  exact Ideal.ofBits_zero_f32

theorem live_at (p : Vec F S32 .i32) (n : Fin 288) :
    live p (ix1 n) = IntOp.cmpi .slt (IntOp.muli (BitVec.ofNat 32 n.val) 512#32) (p (ix1 31)) := by
  unfold live Cert.Kernel2Ideal.Hand.starts
  pointwise

/-- One element of a block in use. -/
def elem (e : Fin 288 → Fin 32) (x : Vec Ideal S147456x1024 .f32) (w1 : Vec Ideal S2x32x1024x2048 .f32) (b1 : Vec Ideal S32x2048 .f32)
    (w2 : Vec Ideal S2x32x1024x1024 .f32) (b2 : Vec Ideal S32x1024 .f32) (n : Fin 288) (t : Fin 512) (q : Fin 1024) : EReal :=
  let h : Fin 2048 → EReal := fun h => (∑ k : Fin 1024, x (ix2 (tok n t) k) * w1 (ix4 0 (e n) k h) : EReal) + b1 (ix2 (e n) h)
  (∑ k : Fin 1024, actS (capS (h ⟨k.val, by omega⟩)) (clipS (h ⟨1024 + k.val, by omega⟩)) * w2 (ix4 0 (e n) k q) : EReal) + b2 (ix2 (e n) q)

theorem ffn_at (p : Vec Ideal S32 .i32) (ev : Vec Ideal S288 .i32) (e : Fin 288 → Fin 32) (he : ∀ n, (ev (ix1 n)).toNat = (e n).val)
    (x : Vec Ideal S147456x1024 .f32) (w1 : Vec Ideal S2x32x1024x2048 .f32) (b1 : Vec Ideal S32x2048 .f32)
    (w2 : Vec Ideal S2x32x1024x1024 .f32) (b2 : Vec Ideal S32x1024 .f32) (n : Fin 288) (t : Fin 512) (q : Fin 1024) :
    ffn p ev x w1 b1 w2 b2 (ix3 n t q)
      = if IntOp.cmpi .slt (IntOp.muli (BitVec.ofNat 32 n.val) 512#32) (p (ix1 31)) = 1#1 then elem e x w1 b1 w2 b2 n t q else 0 := by
  unfold ffn
  rw [kept_at, live_at]
  congr 1
  rw [out_at]
  simp only [act_at, gateR_at, linR_at, mid_at, wA_at ev n (e n) (he n), bA_at ev n (e n) (he n), wB_at ev n (e n) (he n), bB_at ev n (e n) (he n)]
  rfl

end Cert.Reference2Ideal.Hand
-- ==== Proof.FfnVal.lean ====
/- The experts' products: what a grid point stores, read at an element, at exact values. -/
module

public import proofs.«01_k».proof.Proof.FfnBody
public import proofs.«01_k».proof.Proof.FfnAt
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Cert.Reference2Ideal.Hand (capS clipS actS)

variable (x : Vec Ideal S4096x128 .f32) (w1 : Vec Ideal S1x1x1024x2048 .bf16) (b1 : Vec Ideal S1x1x2048 .f32)
  (w2 : Vec Ideal S1x1x1024x1024 .bf16) (b2 : Vec Ideal S1x1x1024 .f32)

/-- Column `k` of row `t` of the block, whose rows are cut in eight pieces. -/
def xk (t : Fin 512) (k : Fin 1024) : EReal := x (ix2 ⟨8 * t.val + k.val / 128, by omega⟩ ⟨k.val % 128, by omega⟩)

theorem ldx_at (j : ℕ) (inb) (hj : j < 8) (t : Fin 512) (c : ℕ) (hc : c < 128) (k : Fin 1024) (h : k.val = 128 * j + c) :
    View.ld (Val := Elt Ideal) (e' := .f32) x (⟨(⟨![j, 0], S512x128.size, ![8, 1], inb⟩ : LoadRect S4096x128), spos_8_1⟩ : Rect S4096x128) (ix2 t ⟨c, hc⟩) = xk x t k := by
  show x _ = x _
  refine congrArg x (funext fun a => Fin.ext ?_)
  match a with
  | ⟨0, _⟩ => show j + 8 * t.val = 8 * t.val + k.val / 128; omega
  | ⟨1, _⟩ => show 0 + 1 * c = k.val % 128; omega

/-- The first product, of one element. -/
def midS (t : Fin 512) (h : Fin 2048) : EReal := (∑ k : Fin 1024, xk x t k * w1 (ix4 0 0 k h) : EReal) + b1 (ix3 0 0 h)

theorem ldw1 : View.ld (Val := Elt Ideal) (e' := .bf16) w1 rW1 = w1 :=
  View.ld_unit_lit _ _ (by decide)
theorem ldb1 : View.ld (Val := Elt Ideal) (e' := .f32) b1 rB1 = b1 :=
  View.ld_unit_lit _ _ (by decide)
theorem ldw2 : View.ld (Val := Elt Ideal) (e' := .bf16) w2 rW2 = w2 :=
  View.ld_unit_lit _ _ (by decide)
theorem ldb2 : View.ld (Val := Elt Ideal) (e' := .f32) b2 rB2 = b2 :=
  View.ld_unit_lit _ _ (by decide)

theorem mid_at (t : Fin 512) (h : Fin 2048) :
   k0_pay4 (View.ld x q0) (View.ld x q1) (View.ld x q2) (View.ld x q3) (View.ld x q4) (View.ld x q5) (View.ld x q6) (View.ld x q7) w1 b1 (ix2 t h) = midS x w1 b1 t h := by
  unfold k0_pay4 midS
  generalize h0 : View.ld x q0 = x0
  generalize h1 : View.ld x q1 = x1
  generalize h2 : View.ld x q2 = x2
  generalize h3 : View.ld x q3 = x3
  generalize h4 : View.ld x q4 = x4
  generalize h5 : View.ld x q5 = x5
  generalize h6 : View.ld x q6 = x6
  generalize h7 : View.ld x q7 = x7
  pointwise
  refine congrArg (· + _) (Finset.sum_congr rfl fun k _ => congrArg (· * _) ?_)
  subst h0 h1 h2 h3 h4 h5 h6 h7
  have hk := k.isLt
  split_ifs <;> first
    | exact ldx_at x 0 _ (by omega) t _ _ k (by omega)
    | exact ldx_at x 1 _ (by omega) t _ _ k (by omega)
    | exact ldx_at x 2 _ (by omega) t _ _ k (by omega)
    | exact ldx_at x 3 _ (by omega) t _ _ k (by omega)
    | exact ldx_at x 4 _ (by omega) t _ _ k (by omega)
    | exact ldx_at x 5 _ (by omega) t _ _ k (by omega)
    | exact ldx_at x 6 _ (by omega) t _ _ k (by omega)
    | exact ldx_at x 7 _ (by omega) t _ _ k (by omega)

theorem gate_at (t : Fin 512) (k : Fin 1024) : gate x w1 b1 (ix2 t k) = capS (midS x w1 b1 t ⟨k.val, by omega⟩) := by
  unfold gate k0_pay5 capS
  rw [ldw1, ldb1, ← mid_at]
  pointwise

theorem lin_at (t : Fin 512) (k : Fin 1024) : lin x w1 b1 (ix2 t k) = clipS (midS x w1 b1 t ⟨1024 + k.val, by omega⟩) := by
  unfold lin k0_pay6 clipS
  rw [ldw1, ldb1, ← mid_at]
  pointwise

theorem prod2_at (t : Fin 512) (q : Fin 1024) :
   prod2 x w1 b1 w2 b2 (ix2 t q)
     = (∑ k : Fin 1024, actS (capS (midS x w1 b1 t ⟨k.val, by omega⟩)) (clipS (midS x w1 b1 t ⟨1024 + k.val, by omega⟩)) * w2 (ix4 0 0 k q) : EReal) + b2 (ix3 0 0 q) := by
  unfold prod2 k0_pay7
  rw [ldw2, ldb2]
  pointwise
  refine congrArg (· + _) (Finset.sum_congr rfl fun k _ => congrArg (· * _) ?_)
  rw [gate_at, lin_at]
  unfold actS
  rw [zero_sub]

/-- What a block in use holds at row `r` and lane `c`. -/
theorem canon_at (r : Fin 4096) (c : Fin 128) :
    View.canon (pieces x w1 b1 w2 b2) (ix2 r c)
      = prod2 x w1 b1 w2 b2 (ix2 ⟨r.val / 8, by omega⟩ ⟨r.val % 8 * 128 + c.val, by omega⟩) := by
  have key : ∀ (j : ℕ) (inb) (hj : j < 8) (w : Vec Ideal S512x128 .f32) (hw : ∀ (t : Fin 512) (l : Fin 128), w (ix2 t l) = prod2 x w1 b1 w2 b2 (ix2 t ⟨j * 128 + l.val, by omega⟩))
      (z : S512x128.Idx), (⟨(⟨![j, 0], S512x128.size, ![8, 1], inb⟩ : LoadRect S4096x128), spos_8_1⟩ : Rect S4096x128).emb z = ix2 r c →
      w z = prod2 x w1 b1 w2 b2 (ix2 ⟨r.val / 8, by omega⟩ ⟨r.val % 8 * 128 + c.val, by omega⟩) := by
    intro j inb hj w hw z hz
    have e0 : j + 8 * (z 0).val = r.val := congrArg Fin.val (congrFun hz 0)
    have e1 : 0 + 1 * (z 1).val = c.val := congrArg Fin.val (congrFun hz 1)
    refine (congrArg w (eq_ix2 z)).trans ((hw (z 0) (z 1)).trans ?_)
    refine congrArg (prod2 x w1 b1 w2 b2) (congrArg₂ ix2 (Fin.ext ?_) (Fin.ext ?_))
    · show (z 0).val = r.val / 8; omega
    · show j * 128 + (z 1).val = r.val % 8 * 128 + c.val; omega
  refine View.canon_eq_of_allAt _ _ _ (cover _ _ _ _ _ _ _ _ _) ?_
  unfold pieces
  refine View.allAt_cons _ _ _ (key 7 _ (by omega) _ fun t l => by unfold k0_pay2; pointwise) ?_
  refine View.allAt_cons _ _ _ (key 6 _ (by omega) _ fun t l => by unfold k0_pay1; pointwise) ?_
  refine View.allAt_cons _ _ _ (key 5 _ (by omega) _ fun t l => by unfold k0_pay13 prod2; pointwise) ?_
  refine View.allAt_cons _ _ _ (key 4 _ (by omega) _ fun t l => by unfold k0_pay12 prod2; pointwise) ?_
  refine View.allAt_cons _ _ _ (key 3 _ (by omega) _ fun t l => by unfold k0_pay11 prod2; pointwise) ?_
  refine View.allAt_cons _ _ _ (key 2 _ (by omega) _ fun t l => by unfold k0_pay10 prod2; pointwise) ?_
  refine View.allAt_cons _ _ _ (key 1 _ (by omega) _ fun t l => by unfold k0_pay9 prod2; pointwise) ?_
  refine View.allAt_cons _ _ _ (key 0 _ (by omega) _ fun t l => by unfold k0_pay8 prod2; pointwise) ?_
  exact View.allAt_nil _ _

theorem zero_at (r : Fin 4096) (c : Fin 128) : View.canon (Val := Elt Ideal) (e := .f32) [⟨rA, k0_pay3 (F := Ideal)⟩] (ix2 r c) = (0 : EReal) := by
  rw [View.canon_cons_unit_lit _ _ _ (by decide)]
  unfold k0_pay3
  pointwise

theorem cond_at (i : grid0.Coords) (w : BitVec 32) : k0_cond1 i w = IntOp.cmpi .slt (IntOp.muli (BitVec.ofNat 32 (i 0).val) 512#32) w := by
  show Scalar.cmpi .ne (Scalar.extui (Scalar.cmpi .slt (Scalar.muli (BitVec.ofNat 32 (i 0).val) 512#32) w)) 0#32 = Scalar.cmpi .slt (Scalar.muli (BitVec.ofNat 32 (i 0).val) 512#32) w
  generalize Scalar.cmpi .slt (Scalar.muli (BitVec.ofNat 32 (i 0).val) 512#32) w = z
  revert z; decide

end Cert.Kernel2Ideal.Hand
-- ==== Proof.FfnFinal.lean ====
/- The experts' products: the array the region leaves is the reference's, at exact values. -/
module

public import proofs.«01_k».proof.Proof.FfnRun
public import proofs.«01_k».proof.Proof.FfnVal

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.Sem
open Idealize.ShloMosaic.Pipeline (Dat Cfg Window)
open Cert.Reference2Ideal.Hand (capS clipS actS)

attribute [local irreducible] tbl

variable (m : (ℓ : Loc nD τ sig) → Buf (Elt Ideal) ℓ)

abbrev A0 (c : Dev nD) : Vec Ideal S32 .i32 := m ((c.tc : Thread nD τ).loc main_arg0)
abbrev A1 (c : Dev nD) : Vec Ideal S147456x1024 .f32 := m ((c.tc : Thread nD τ).loc main_arg1)
abbrev A2 (c : Dev nD) : Vec Ideal S2x32x1024x2048 .f32 := m ((c.tc : Thread nD τ).loc main_arg2)
abbrev A3 (c : Dev nD) : Vec Ideal S32x2048 .f32 := m ((c.tc : Thread nD τ).loc main_arg3)
abbrev A4 (c : Dev nD) : Vec Ideal S2x32x1024x1024 .f32 := m ((c.tc : Thread nD τ).loc main_arg4)
abbrev A5 (c : Dev nD) : Vec Ideal S32x1024 .f32 := m ((c.tc : Thread nD τ).loc main_arg5)

/-- Each block's expert. -/
def eOf (c : Dev nD) (n : Fin 288) : Fin 32 := ⟨(blockE (pends (A0 m c)) (ix1 n) : BitVec 32).toNat, blockE_lt _ _⟩

theorem coords0 (t : Fin grid0.N) : ((grid0.coords t) 0).val = t.val := by
  have h := Pipeline.Grid.coords_val t 0 (S := 1) (B := 288) (by decide) (by decide)
  have ht : t.val < 288 := t.isLt
  rw [h]; omega

theorem ex_eq (c : Dev nD) (t : Fin (cfgM m).N) : ex (tbl m) (grid0.coords t) = (eOf m c ⟨t.val, t.isLt⟩).val := by
  unfold ex eOf
  rw [tbl0 m c]
  refine congrArg (fun i => BitVec.toNat (blockE (F := Ideal) (pends (A0 m c)) i)) (funext fun a => ?_)
  match a with
  | ⟨0, _⟩ => exact Fin.ext (coords0 t)

theorem tr0 (t : Fin grid0.N) : cc0_transform_0 (grid0.coords t) = ![t.val, 0] := by
  have h := coords0 t
  have ht : t.val < 288 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ => rfl

/-- The rows of the operand, cut in eight. -/
theorem cut_at {α : Type} (x : S147456x1024.Idx → α) (h : S147456x1024.ShapeCasts S1179648x128) (i : Fin 1179648) (l : Fin 128) :
    shapeCast S1179648x128 x h (ix2 i l) = x (ix2 ⟨i.val / 8, by omega⟩ ⟨i.val % 8 * 128 + l.val, by omega⟩) := by
  refine shapeCast_apply x h _ _ ?_
  rw [Shape.rowMajor_val_two, Shape.rowMajor_val_two]
  show i.val / 8 * 1024 + (i.val % 8 * 128 + l.val) = i.val * 128 + l.val
  omega

theorem idx0 (t : Fin (cfgM m).N) : ((cfgM m).win 0).index t = ![t.val, 0] := tr0 t

theorem iblk0_at (c : Dev nD) (t : Fin (cfgM m).N) (r : Fin 4096) (l : Fin 128) :
    iblk m c 0 t (ix2 r l) = A1 m c (ix2 ⟨t.val * 512 + r.val / 8, by have : t.val < 288 := t.isLt; omega⟩ ⟨r.val % 8 * 128 + l.val, by omega⟩) := by
  have ht : t.val < 288 := t.isLt
  have e : (((cfgM m).win 0).rect t).emb (ix2 r l) = ix2 (⟨t.val * 4096 + r.val, by omega⟩ : Fin 1179648) l := by
    funext a
    refine Fin.ext ?_
    refine (((cfgM m).win 0).rect_emb_val t _ a).trans ?_
    rw [idx0 m t]
    match a with
    | ⟨0, _⟩ => rfl
    | ⟨1, _⟩ => show 0 * 128 + l.val = l.val; omega
  refine Eq.trans (b := V m c main_v21 ((((cfgM m).win 0).rect t).emb (ix2 r l))) rfl ?_
  rw [V_v21, e, cut_at]
  refine congrArg (A1 m c) (congrArg₂ ix2 (Fin.ext ?_) (Fin.ext ?_))
  · show (t.val * 4096 + r.val) / 8 = t.val * 512 + r.val / 8; omega
  · show (t.val * 4096 + r.val) % 8 * 128 + l.val = r.val % 8 * 128 + l.val; omega

theorem iblk1_at (c : Dev nD) (t : Fin (cfgM m).N) (k : Fin 1024) (h : Fin 2048) :
    iblk m c 1 t (ix4 0 0 k h) = A2 m c (ix4 0 (eOf m c ⟨t.val, t.isLt⟩) k h) := by
  have e : (((cfgM m).win 1).rect t).emb (ix4 0 0 k h) = ix4 (0 : Fin 2) (eOf m c ⟨t.val, t.isLt⟩) k h := by
    funext a
    refine Fin.ext ?_
    refine (((cfgM m).win 1).rect_emb_val t _ a).trans ?_
    have hi : ((cfgM m).win 1).index t = ![0, ex (tbl m) (grid0.coords t), 0, 0] := tr1 (tbl m) (grid0.coords t)
    rw [hi, ex_eq m c t]
    match a with
    | ⟨0, _⟩ => rfl
    | ⟨1, _⟩ => show (eOf m c ⟨t.val, t.isLt⟩).val * 1 + 0 = (eOf m c ⟨t.val, t.isLt⟩).val; omega
    | ⟨2, _⟩ => show 0 * 1024 + k.val = k.val; omega
    | ⟨3, _⟩ => show 0 * 2048 + h.val = h.val; omega
  refine Eq.trans (b := V m c main_v22 ((((cfgM m).win 1).rect t).emb (ix4 0 0 k h))) rfl ?_
  rw [V_v22, e]
  rfl

theorem iblk2_at (c : Dev nD) (t : Fin (cfgM m).N) (h : Fin 2048) :
    iblk m c 2 t (ix3 0 0 h) = A3 m c (ix2 (eOf m c ⟨t.val, t.isLt⟩) h) := by
  have e : (((cfgM m).win 2).rect t).emb (ix3 0 0 h) = ix3 (eOf m c ⟨t.val, t.isLt⟩) (0 : Fin 1) h := by
    funext a
    refine Fin.ext ?_
    refine (((cfgM m).win 2).rect_emb_val t _ a).trans ?_
    have hi : ((cfgM m).win 2).index t = ![ex (tbl m) (grid0.coords t), 0, 0] := tr2 (tbl m) (grid0.coords t)
    rw [hi, ex_eq m c t]
    match a with
    | ⟨0, _⟩ => show (eOf m c ⟨t.val, t.isLt⟩).val * 1 + 0 = (eOf m c ⟨t.val, t.isLt⟩).val; omega
    | ⟨1, _⟩ => rfl
    | ⟨2, _⟩ => show 0 * 2048 + h.val = h.val; omega
  refine Eq.trans (b := V m c main_v23 ((((cfgM m).win 2).rect t).emb (ix3 0 0 h))) rfl ?_
  rw [V_v23, e]
  pointwise

theorem iblk3_at (c : Dev nD) (t : Fin (cfgM m).N) (k : Fin 1024) (h : Fin 1024) :
    iblk m c 3 t (ix4 0 0 k h) = A4 m c (ix4 0 (eOf m c ⟨t.val, t.isLt⟩) k h) := by
  have e : (((cfgM m).win 3).rect t).emb (ix4 0 0 k h) = ix4 (0 : Fin 2) (eOf m c ⟨t.val, t.isLt⟩) k h := by
    funext a
    refine Fin.ext ?_
    refine (((cfgM m).win 3).rect_emb_val t _ a).trans ?_
    have hi : ((cfgM m).win 3).index t = ![0, ex (tbl m) (grid0.coords t), 0, 0] := tr3 (tbl m) (grid0.coords t)
    rw [hi, ex_eq m c t]
    match a with
    | ⟨0, _⟩ => rfl
    | ⟨1, _⟩ => show (eOf m c ⟨t.val, t.isLt⟩).val * 1 + 0 = (eOf m c ⟨t.val, t.isLt⟩).val; omega
    | ⟨2, _⟩ => show 0 * 1024 + k.val = k.val; omega
    | ⟨3, _⟩ => show 0 * 1024 + h.val = h.val; omega
  refine Eq.trans (b := V m c main_v24 ((((cfgM m).win 3).rect t).emb (ix4 0 0 k h))) rfl ?_
  rw [V_v24, e]
  rfl

theorem iblk4_at (c : Dev nD) (t : Fin (cfgM m).N) (h : Fin 1024) :
    iblk m c 4 t (ix3 0 0 h) = A5 m c (ix2 (eOf m c ⟨t.val, t.isLt⟩) h) := by
  have e : (((cfgM m).win 4).rect t).emb (ix3 0 0 h) = ix3 (eOf m c ⟨t.val, t.isLt⟩) (0 : Fin 1) h := by
    funext a
    refine Fin.ext ?_
    refine (((cfgM m).win 4).rect_emb_val t _ a).trans ?_
    have hi : ((cfgM m).win 4).index t = ![ex (tbl m) (grid0.coords t), 0, 0] := tr4 (tbl m) (grid0.coords t)
    rw [hi, ex_eq m c t]
    match a with
    | ⟨0, _⟩ => show (eOf m c ⟨t.val, t.isLt⟩).val * 1 + 0 = (eOf m c ⟨t.val, t.isLt⟩).val; omega
    | ⟨1, _⟩ => rfl
    | ⟨2, _⟩ => show 0 * 1024 + h.val = h.val; omega
  refine Eq.trans (b := V m c main_v25 ((((cfgM m).win 4).rect t).emb (ix3 0 0 h))) rfl ?_
  rw [V_v25, e]
  pointwise

theorem nv_eq (c : Dev nD) : nv m = pends (A0 m c) (ix1 31) := by
  have h : ∀ j : S1.Idx, tbl m 1 j = pends (A0 m c) (ix1 31) := fun j => by
    rw [tbl1 m c]
    unfold nval
    have hj : j = ix1 0 := by
      funext a
      match a with
      | ⟨0, _⟩ => exact Subsingleton.elim (α := Fin 1) _ _
    rw [hj]
    pointwise
  exact h _

/-- A block in use, from what its operands' blocks hold. -/
theorem used_at (x : Vec Ideal S4096x128 .f32) (w1 : Vec Ideal S1x1x1024x2048 .bf16) (b1 : Vec Ideal S1x1x2048 .f32)
    (w2 : Vec Ideal S1x1x1024x1024 .bf16) (b2 : Vec Ideal S1x1x1024 .f32) (X : Vec Ideal S147456x1024 .f32) (W1 : Vec Ideal S2x32x1024x2048 .f32)
    (B1 : Vec Ideal S32x2048 .f32) (W2 : Vec Ideal S2x32x1024x1024 .f32) (B2 : Vec Ideal S32x1024 .f32) (n : Fin 288) (e : Fin 288 → Fin 32)
    (hx : ∀ (r : Fin 4096) (l : Fin 128), x (ix2 r l) = X (ix2 ⟨n.val * 512 + r.val / 8, by omega⟩ ⟨r.val % 8 * 128 + l.val, by omega⟩))
    (hw1 : ∀ (k : Fin 1024) (h : Fin 2048), w1 (ix4 0 0 k h) = W1 (ix4 0 (e n) k h)) (hb1 : ∀ h : Fin 2048, b1 (ix3 0 0 h) = B1 (ix2 (e n) h))
    (hw2 : ∀ k h : Fin 1024, w2 (ix4 0 0 k h) = W2 (ix4 0 (e n) k h)) (hb2 : ∀ h : Fin 1024, b2 (ix3 0 0 h) = B2 (ix2 (e n) h))
    (r : Fin 4096) (l : Fin 128) :
    View.canon (pieces x w1 b1 w2 b2) (ix2 r l)
      = Cert.Reference2Ideal.Hand.elem e X W1 B1 W2 B2 n (⟨r.val / 8, by omega⟩ : Fin 512) (⟨r.val % 8 * 128 + l.val, by omega⟩ : Fin 1024) := by
  have hX : ∀ (t : Fin 512) (k : Fin 1024), xk x t k = X (ix2 (Cert.Reference2Ideal.Hand.tok n t) k) := fun t k => by
    unfold xk
    rw [hx]
    refine congrArg X (congrArg₂ ix2 (Fin.ext ?_) (Fin.ext ?_))
    · show n.val * 512 + (8 * t.val + k.val / 128) / 8 = n.val * 512 + t.val; omega
    · show (8 * t.val + k.val / 128) % 8 * 128 + k.val % 128 = k.val; omega
  rw [canon_at, prod2_at]
  unfold Cert.Reference2Ideal.Hand.elem midS
  simp only [hX, hw1, hb1, hw2, hb2]

/-- One element of what a point leaves. -/
theorem point_at (c : Dev nD) (t : Fin (cfgM m).N) (r : Fin 4096) (l : Fin 128) :
    outF (grid0.coords t) (nv m) (iblk m c 0 t) (iblk m c 1 t) (iblk m c 2 t) (iblk m c 3 t) (iblk m c 4 t) (ix2 r l)
      = Cert.Reference2Ideal.Hand.ffn (pends (A0 m c)) (blockE (pends (A0 m c))) (A1 m c) (A2 m c) (A3 m c) (A4 m c) (A5 m c)
          (ix3 (⟨t.val, t.isLt⟩ : Fin 288) (⟨r.val / 8, by omega⟩ : Fin 512) (⟨r.val % 8 * 128 + l.val, by omega⟩ : Fin 1024)) := by
  rw [Cert.Reference2Ideal.Hand.ffn_at _ _ (eOf m c) (fun _ => rfl)]
  unfold outF
  rw [cond_at, nv_eq m c, coords0]
  split_ifs
  · exact used_at _ _ _ _ _ (A1 m c) (A2 m c) (A3 m c) (A4 m c) (A5 m c) ⟨t.val, t.isLt⟩ (eOf m c) (iblk0_at m c t) (iblk1_at m c t) (iblk2_at m c t)
      (iblk3_at m c t) (iblk4_at m c t) r l
  · exact zero_at r l

/-- The result's blocks, put back together. -/
theorem joined_at {α : Type} (x : (⟨3, ![288, 512, 1024]⟩ : Shape).Idx → α) (h : (⟨3, ![288, 512, 1024]⟩ : Shape).ShapeCasts S1179648x128) (n : Fin 288) (r : Fin 4096) (l : Fin 128) :
    shapeCast S1179648x128 x h (ix2 (⟨n.val * 4096 + r.val, by omega⟩ : Fin 1179648) l)
      = x (ix3 n (⟨r.val / 8, by omega⟩ : Fin 512) (⟨r.val % 8 * 128 + l.val, by omega⟩ : Fin 1024)) := by
  refine shapeCast_apply x h _ _ ?_
  rw [Shape.rowMajor_val_two, Shape.rowMajor_val_three]
  show (n.val * 512 + r.val / 8) * 1024 + (r.val % 8 * 128 + l.val) = (n.val * 4096 + r.val) * 128 + l.val
  omega

theorem emb5 (t : Fin (cfgM m).N) (r : Fin 4096) (l : Fin 128) :
    (((cfgM m).win 5).rect t).emb (ix2 r l) = ix2 (⟨t.val * 4096 + r.val, by have : t.val < 288 := t.isLt; omega⟩ : Fin 1179648) l := by
  funext a
  refine Fin.ext ?_
  refine (((cfgM m).win 5).rect_emb_val t _ a).trans ?_
  rw [show ((cfgM m).win 5).index t = ![t.val, 0] from tr0 t]
  match a with
  | ⟨0, _⟩ => rfl
  | ⟨1, _⟩ => show 0 * 128 + l.val = l.val; omega

theorem flush5 (t : Fin (cfgM m).N) : ((cfgM m).win 5).flush t = true :=
  (Pipeline.Window.flush_reads ((cfgM m).win 5) rfl 0 (show 1 < 288 by decide) rfl (Pipeline.Window.sep_of_coord cc0_transform_5 0 0 (fun _ => rfl) (by decide)) (P := 1) (m := 0) (show grid0.stride 0 = 1 by decide) rfl t).mpr (Nat.mod_one _)

/-- The reference's array, of the kernel's arguments. -/
abbrev refArr (c : Dev nD) : S1179648x128.Idx → EReal :=
  shapeCast S1179648x128 (Cert.Reference2Ideal.Hand.ffn (pends (A0 m c)) (blockE (pends (A0 m c))) (A1 m c) (A2 m c) (A3 m c) (A4 m c) (A5 m c))
    Cert.Reference2Ideal.Hand.whole_ok

theorem read5 (t : Fin (cfgM m).N) (G : S1179648x128.Idx → EReal) (r : Fin 4096) (l : Fin 128) :
    (((cfgM m).win 5).blk t).view.read (Elt Ideal) G (ix2 r l) = G ((((cfgM m).win 5).rect t).emb (ix2 r l)) := rfl

theorem cut5 (t : Fin (cfgM m).N) (x : Vec Ideal S4096x128 .f32) (r : Fin 4096) (l : Fin 128) :
    ((cfgM m).win 5).cut ((cfgM m).grid.coords t) x (ix2 r l) = x (ix2 r l) := rfl

theorem arr_of (c : Dev nD) (G : S1179648x128.Idx → EReal)
    (hG : ∀ (t : Fin (cfgM m).N) (r : Fin 4096) (l : Fin 128), outF (grid0.coords t) (nv m) (iblk m c 0 t) (iblk m c 1 t) (iblk m c 2 t) (iblk m c 3 t) (iblk m c 4 t) (ix2 r l)
      = G (ix2 (⟨t.val * 4096 + r.val, by have : t.val < 288 := t.isLt; omega⟩ : Fin 1179648) l)) :
    (dats m 0 c).arrAt 5 (cfgM m).N = G := by
  refine (dats m 0 c).arrAt_eq_of_cover 5 G (fun t _ => ?_) (fun i => ?_)
  · funext y
    obtain ⟨r, l, rfl⟩ : ∃ (r : Fin 4096) (l : Fin 128), y = ix2 r l := ⟨(show S4096x128.Idx from y) 0, (show S4096x128.Idx from y) 1, eq_ix2 (n0 := 4096) (n1 := 128) y⟩
    refine Eq.trans ?_ ((read5 m t G r l).trans (congrArg G (emb5 m t r l))).symm
    exact (cut5 m t _ r l).trans (hG t r l)
  · obtain ⟨n, l, rfl⟩ : ∃ (n : Fin 1179648) (l : Fin 128), i = ix2 n l := ⟨(show S1179648x128.Idx from i) 0, (show S1179648x128.Idx from i) 1, eq_ix2 (n0 := 1179648) (n1 := 128) i⟩
    have h0 := n.isLt
    refine ⟨(⟨n.val / 4096, show _ < 288 by omega⟩ : Fin (cfgM m).N), flush5 m _, ?_⟩
    refine Finset.mem_map.mpr ⟨ix2 (n0 := 4096) (n1 := 128) ⟨n.val % 4096, by omega⟩ l, Finset.mem_univ _, ?_⟩
    refine (emb5 m _ _ _).trans ?_
    exact congrArg (fun k => (ix2 k l : S1179648x128.Idx)) (Fin.ext (show n.val / 4096 * 4096 + n.val % 4096 = n.val by omega))

theorem arr_eq (c : Dev nD) : (dats m 0 c).arrAt 5 (cfgM m).N = refArr m c :=
  arr_of m c _ fun t r l => (point_at m c t r l).trans (joined_at _ _ ⟨t.val, t.isLt⟩ r l).symm

end Cert.Kernel2Ideal.Hand
-- ==== Proof.FfnClaim.lean ====
/- The experts' products: the frames of both prints of the kernel and of the reference, and the equality of their values. -/
module

public import proofs.«01_k».proof.Defs
public import proofs.«01_k».proof.Proof.Gen.Kernel2
public import proofs.«01_k».proof.Proof.Gen.Kernel2Ideal
public import proofs.«01_k».proof.Proof.Gen.Reference2Ideal.Run
public import proofs.«01_k».proof.Proof.FfnFinal
public import Idealize.ShloMosaic.Adequacy
public import Idealize.ShloMosaic.Init

@[expose] public section

noncomputable section

namespace Cert.FfnClaim

open Idealize.ShloMosaic

section Generic
variable {F : FTy → Type} [FloatOps F]

/-- The kernel runs, its arguments unchanged and every semaphore zero again. -/
theorem frame_any (m : (ℓ : Loc Cert.Kernel2Ideal.nD Cert.Kernel2Ideal.τ Cert.Kernel2Ideal.sig) → Buf (Elt F) ℓ)
    (g : Dev Cert.Kernel2Ideal.nD → PrngReg) :
    θ_run (Cert.Kernel2Ideal.defs (F := F)) (onTc (τ := Cert.Kernel2Ideal.τ) (Cert.Kernel2Ideal.main (F := F))) ⟨m, fun _ => 0, g⟩
      (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
        ∧ r.2.sem = fun _ => 0) :=
  (θ_run Cert.Kernel2Ideal.defs _ _).mono (fun _ r => ⟨fun c => (r.1 c).2, r.2⟩) (Cert.Kernel2Ideal.Hand.run m g)

end Generic

/-- The two prints of the kernel have one body table. -/
theorem table₀_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | ⟨0, _⟩, (t, s) => rfl

theorem table_eq : Cert.Kernel2.defs (F := Bits) = Cert.Kernel2Ideal.defs (F := Bits) :=
  congrArg (Pipeline.defs (Cert.Kernel2Ideal.pcfgs (F := Bits))) table₀_eq

set_option maxHeartbeats 2000000 in
theorem main_eq : Cert.Kernel2.main (F := Bits) = Cert.Kernel2Ideal.main (F := Bits) := by
  unfold Cert.Kernel2.main Cert.Kernel2Ideal.main; rfl

theorem frame_kernel : Cert.quiescent_Kernel2 := fun m g _ => by
  have e := frame_any (F := Bits) m g
  rw [← table_eq, ← main_eq] at e
  exact e

theorem frame_ideal : Cert.quiescent_Kernel2Ideal := fun m g _ => frame_any (F := Ideal) m g

theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem ref_congr {a0 b0 : Cert.Kernel2Ideal.S32.Idx → BitVec 32} (x w1 b1 w2 b2 x' w1' b1' w2' b2') (h0 : a0 = b0) (h1 : x = x') (h2 : w1 = w1') (h3 : b1 = b1')
    (h4 : w2 = w2') (h5 : b2 = b2') :
    Cert.Reference2Ideal.Hand.ffn (F := Ideal) (Cert.Kernel2Ideal.Hand.pends (F := Ideal) a0) (Cert.Kernel2Ideal.Hand.blockE (F := Ideal) (Cert.Kernel2Ideal.Hand.pends (F := Ideal) a0)) x w1 b1 w2 b2
      = Cert.Reference2Ideal.Hand.ffn (F := Ideal) (Cert.Kernel2Ideal.Hand.pends (F := Ideal) b0) (Cert.Kernel2Ideal.Hand.blockE (F := Ideal) (Cert.Kernel2Ideal.Hand.pends (F := Ideal) b0)) x' w1' b1' w2' b2' := by
  subst h0; subst h1; subst h2; subst h3; subst h4; subst h5; rfl

/-- The values agree, over the extended reals. -/
theorem values : Cert.algebraic_Kernel2Ideal_Reference2Ideal := fun m g m' g' _ hag =>
  ⟨fun c => Cert.Kernel2Ideal.Hand.refArr m c,
    (θ_run Cert.Kernel2Ideal.defs _ _).mono (fun _ r c => ⟨(r.1 c).1.trans (Cert.Kernel2Ideal.Hand.arr_eq m c), (r.1 c).2⟩) (Cert.Kernel2Ideal.Hand.run m g),
    (θ_run Cert.Reference2Ideal.defs _ _).mono (fun r h c => ⟨(h c).1.trans ((Cert.Reference2Ideal.Hand.res_eq m' c).trans
      (congrArg (fun y => shapeCast Cert.Reference2Ideal.S1179648x128 y Cert.Reference2Ideal.Hand.whole_ok)
        (ref_congr _ _ _ _ _ _ _ _ _ _ (hag c).1 (hag c).2.1 (hag c).2.2.1 (hag c).2.2.2.1 (hag c).2.2.2.2.1 (hag c).2.2.2.2.2))), (h c).2⟩)
      (Cert.Reference2Ideal.Value.run (F := Ideal) m' g')⟩

end Cert.FfnClaim

end
-- ==== Proof.InVal.lean ====
/- The input projection: the arrays the region leaves are the reference's, at exact values. -/
module

public import proofs.«01_k».proof.Proof.Gen.Kernel3Ideal.Value
public import proofs.«01_k».proof.Proof.Gen.Reference3Ideal
public import Idealize.ShloMosaic.Lib.Pipeline.ValueKit
public import Idealize.ShloMosaic.Lib.Pointwise.Index

@[expose] public section

set_option maxRecDepth 16384

noncomputable section

namespace Cert.Reference3Ideal.Hand

open Cert.Reference3Ideal Cert.Reference3Ideal.Gen
open Idealize.ShloMosaic Idealize.ShloMosaic.TcCoe Idealize.ShloMosaic.Tactic

section
variable {F : FTy → Type} [FloatOps F]

/-- The normed tokens. -/
def normed (x : FVec F S16x2048x1024 .f32) (g : FVec F S1024 .f32) : FVec F S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- All the projections of the normed tokens, side by side. -/
def proj (x : FVec F S16x2048x1024 .f32) (g : FVec F S1024 .f32) (w : FVec F S1024x3600 .f32) : FVec F S16x2048x3600 .f32 :=
  Host.dotGeneral dot_S16x2048x1024_S1024x3600_S16x2048x3600_2_0_01_1_n_n none (normed x g) w

/-- The reference's seven results, from the projections. -/
def qkvOf (y : FVec F S16x2048x3600 .f32) : FVec F S32768x1536 .f32 :=
  shapeCast _ (concatenate S16x2048x1536 2 [⟨S16x2048x512, extractStridedSlice S16x2048x512 ![0, 0, 0] y slices_S16x2048x3600_S16x2048x512_0_0_0⟩, ⟨S16x2048x512, extractStridedSlice S16x2048x512 ![0, 0, 512] y slices_S16x2048x3600_S16x2048x512_0_0_512⟩, ⟨S16x2048x512, extractStridedSlice S16x2048x512 ![0, 0, 1024] y slices_S16x2048x3600_S16x2048x512_0_0_1024⟩] concatenates_S16x2048x512_S16x2048x512_S16x2048x512_S16x2048x1536_d2 : FVec F S16x2048x1536 .f32) shapeCasts_S16x2048x1536_S32768x1536

def zOf (y : FVec F S16x2048x3600 .f32) : FVec F S32768x512 .f32 :=
  shapeCast _ (extractStridedSlice S16x2048x512 ![0, 0, 1536] y slices_S16x2048x3600_S16x2048x512_0_0_1536) shapeCasts_S16x2048x512_S32768x512

def fqOf (y : FVec F S16x2048x3600 .f32) : FVec F S32768x512 .f32 :=
  shapeCast _ (extractStridedSlice S16x2048x512 ![0, 0, 2056] y slices_S16x2048x3600_S16x2048x512_0_0_2056) shapeCasts_S16x2048x512_S32768x512

def fkOf (y : FVec F S16x2048x3600 .f32) : FVec F S16x512x2048 .f32 :=
  transpose S16x512x2048 [0, 2, 1] (extractStridedSlice S16x2048x512 ![0, 0, 2568] y slices_S16x2048x3600_S16x2048x512_0_0_2568) transposes_S16x2048x512_S16x512x2048_0_2_1

def fvOf (y : FVec F S16x2048x3600 .f32) : FVec F S16x512x2048 .f32 :=
  transpose S16x512x2048 [0, 2, 1] (extractStridedSlice S16x2048x512 ![0, 0, 3080] y slices_S16x2048x3600_S16x2048x512_0_0_3080) transposes_S16x2048x512_S16x512x2048_0_2_1

/-- The small columns joined. -/
def smOf (y : FVec F S16x2048x3600 .f32) : FVec F S32768x16 .f32 :=
  shapeCast _ (concatenate S16x2048x16 2 [⟨S16x2048x4, extractStridedSlice S16x2048x4 ![0, 0, 2048] y slices_S16x2048x3600_S16x2048x4_0_0_2048⟩, ⟨S16x2048x4, extractStridedSlice S16x2048x4 ![0, 0, 2052] y slices_S16x2048x3600_S16x2048x4_0_0_2052⟩, ⟨S16x2048x8, extractStridedSlice S16x2048x8 ![0, 0, 3592] y slices_S16x2048x3600_S16x2048x8_0_0_3592⟩] concatenates_S16x2048x4_S16x2048x4_S16x2048x8_S16x2048x16_d2 : FVec F S16x2048x16 .f32) shapeCasts_S16x2048x16_S32768x16

def padOf (y : FVec F S16x2048x3600 .f32) : FVec F S32768x128 .f32 :=
  concatenate S32768x128 1 [⟨S32768x16, smOf y⟩, ⟨S32768x112, broadcastInDim S32768x112 ![] bcast_S_S32768x112 (constant S_ .f32 0x00000000#32)⟩] concatenates_S32768x16_S32768x112_S32768x128_d1

def smtOf (y : FVec F S16x2048x3600 .f32) : FVec F S16x32768 .f32 :=
  transpose S16x32768 [1, 0] (smOf y) transposes_S32768x16_S16x32768_1_0
end

/-- One element of a normed row. -/
def nrm (row : Fin 1024 → EReal) (gk : EReal) (k : Fin 1024) : EReal :=
  row k * Ideal.rsqrt (Ideal.div (∑ j, row j * row j) (Ideal.ofBits FTy.f32 1149239296#32) + Ideal.ofBits FTy.f32 897988541#32) * gk

/-- One element of the projections: a normed row by a column of the weight. -/
def el (row : Fin 1024 → EReal) (g : Fin 1024 → EReal) (w : Fin 1024 → EReal) : EReal := ∑ k : Fin 1024, nrm row (g k) k * w k

theorem normed_at (x : FVec Ideal S16x2048x1024 .f32) (g : FVec Ideal S1024 .f32) (b : Fin 16) (p : Fin 2048) (k : Fin 1024) :
    normed x g (ix3 b p k) = nrm (fun j => x (ix3 b p j)) (g (ix1 k)) k := by
  unfold normed nrm
  pointwise

theorem proj_at (x : FVec Ideal S16x2048x1024 .f32) (g : FVec Ideal S1024 .f32) (w : FVec Ideal S1024x3600 .f32) (b : Fin 16) (p : Fin 2048) (q : Fin 3600) :
    proj x g w (ix3 b p q) = el (fun j => x (ix3 b p j)) (fun k => g (ix1 k)) (fun k => w (ix2 k q)) := by
  unfold proj el
  pointwise
  simp only [normed_at]

/-- Row `n` of the joined rows is position `n % 2048` of sequence `n / 2048`. -/
abbrev bat (n : Fin 32768) : Fin 16 := ⟨n.val / 2048, by omega⟩
abbrev pos (n : Fin 32768) : Fin 2048 := ⟨n.val % 2048, by omega⟩

/-- The column of the weight that a small column comes from. -/
def sm (j : Fin 16) : Fin 3600 := if h : j.val < 8 then ⟨2048 + j.val, by omega⟩ else ⟨3584 + j.val, by omega⟩

theorem sm_lo (j : Fin 16) (h : j.val < 8) : sm j = ⟨2048 + j.val, by omega⟩ := dif_pos h
theorem sm_hi (j : Fin 16) (h : ¬ j.val < 8) : sm j = ⟨3584 + j.val, by omega⟩ := dif_neg h

theorem at3 (y : FVec Ideal S16x2048x3600 .f32) (b : Fin 16) (p : Fin 2048) {a a' : ℕ} {h : a < 3600} {h' : a' < 3600} (e : a = a') :
    y (ix3 b p ⟨a, h⟩) = y (ix3 b p ⟨a', h'⟩) := by
  subst e; rfl

theorem qkvOf_at (y : FVec Ideal S16x2048x3600 .f32) (n : Fin 32768) (q : Fin 1536) :
    qkvOf y (ix2 n q) = y (ix3 (bat n) (pos n) (⟨q.val, by omega⟩ : Fin 3600)) := by
  unfold qkvOf
  refine (shapeCast_apply _ _ (ix2 n q) (ix3 (bat n) (pos n) q) ?_).trans ?_
  · rw [Shape.rowMajor_val_two, Shape.rowMajor_val_three]
    show (n.val / 2048 * 2048 + n.val % 2048) * 1536 + q.val = n.val * 1536 + q.val
    omega
  · pointwise
    split_ifs <;> exact at3 y _ _ (by omega)

theorem zOf_at (y : FVec Ideal S16x2048x3600 .f32) (n : Fin 32768) (q : Fin 512) :
    zOf y (ix2 n q) = y (ix3 (bat n) (pos n) (⟨1536 + q.val, by omega⟩ : Fin 3600)) := by
  unfold zOf
  refine (shapeCast_apply _ _ (ix2 n q) (ix3 (bat n) (pos n) q) ?_).trans ?_
  · rw [Shape.rowMajor_val_two, Shape.rowMajor_val_three]
    show (n.val / 2048 * 2048 + n.val % 2048) * 512 + q.val = n.val * 512 + q.val
    omega
  · pointwise

theorem fqOf_at (y : FVec Ideal S16x2048x3600 .f32) (n : Fin 32768) (q : Fin 512) :
    fqOf y (ix2 n q) = y (ix3 (bat n) (pos n) (⟨2056 + q.val, by omega⟩ : Fin 3600)) := by
  unfold fqOf
  refine (shapeCast_apply _ _ (ix2 n q) (ix3 (bat n) (pos n) q) ?_).trans ?_
  · rw [Shape.rowMajor_val_two, Shape.rowMajor_val_three]
    show (n.val / 2048 * 2048 + n.val % 2048) * 512 + q.val = n.val * 512 + q.val
    omega
  · pointwise

theorem fkOf_at (y : FVec Ideal S16x2048x3600 .f32) (b : Fin 16) (q : Fin 512) (p : Fin 2048) :
    fkOf y (ix3 b q p) = y (ix3 b p (⟨2568 + q.val, by omega⟩ : Fin 3600)) := by
  unfold fkOf
  pointwise

theorem fvOf_at (y : FVec Ideal S16x2048x3600 .f32) (b : Fin 16) (q : Fin 512) (p : Fin 2048) :
    fvOf y (ix3 b q p) = y (ix3 b p (⟨3080 + q.val, by omega⟩ : Fin 3600)) := by
  unfold fvOf
  pointwise

theorem smOf_at (y : FVec Ideal S16x2048x3600 .f32) (n : Fin 32768) (q : Fin 16) :
    smOf y (ix2 n q) = y (ix3 (bat n) (pos n) (sm q)) := by
  unfold smOf
  refine (shapeCast_apply _ _ (ix2 n q) (ix3 (bat n) (pos n) q) ?_).trans ?_
  · rw [Shape.rowMajor_val_two, Shape.rowMajor_val_three]
    show (n.val / 2048 * 2048 + n.val % 2048) * 16 + q.val = n.val * 16 + q.val
    omega
  · pointwise
    by_cases h8 : q.val < 8
    · rw [sm_lo q h8]
      split_ifs <;> first | omega | exact at3 y _ _ (by omega)
    · rw [sm_hi q h8]
      split_ifs <;> first | omega | exact at3 y _ _ (by omega)

theorem padOf_at (y : FVec Ideal S16x2048x3600 .f32) (n : Fin 32768) (q : Fin 128) :
    padOf y (ix2 n q) = if h : q.val < 16 then y (ix3 (bat n) (pos n) (sm ⟨q.val, h⟩)) else 0 := by
  unfold padOf
  have e : ∀ q : Fin 16, smOf y (ix2 n q) = y (ix3 (bat n) (pos n) (sm q)) := smOf_at y n
  generalize smOf y = z at e ⊢
  pointwise
  split_ifs
  · exact e _
  · rfl

theorem smtOf_at (y : FVec Ideal S16x2048x3600 .f32) (n : Fin 32768) (q : Fin 16) :
    smtOf y (ix2 q n) = y (ix3 (bat n) (pos n) (sm q)) := by
  unfold smtOf
  have e : ∀ q : Fin 16, smOf y (ix2 n q) = y (ix3 (bat n) (pos n) (sm q)) := smOf_at y n
  generalize smOf y = z at e ⊢
  pointwise
  exact e _

end Cert.Reference3Ideal.Hand

namespace Cert.Kernel3Ideal.Hand

open Cert.Kernel3Ideal Cert.Kernel3Ideal.Gen
open Cert.Reference3Ideal.Hand (nrm el sm sm_lo sm_hi bat pos proj proj_at qkvOf zOf fqOf fkOf fvOf padOf smtOf qkvOf_at zOf_at fqOf_at fkOf_at fvOf_at padOf_at smtOf_at)
open Idealize.ShloMosaic Idealize.ShloMosaic.TcCoe Idealize.ShloMosaic.Tactic
open Idealize.SL Idealize.SL.RA Idealize.SL.Sem
open Idealize.ShloMosaic.Pipeline (Dat Cfg Window)

section
variable {F : FTy → Type} [FloatOps F]

/-- The column groups side by side but for the small ones. -/
def wMain (w : FVec F S1024x3600 .f32) : FVec F S1024x3584 .bf16 :=
  truncf .bf16 (concatenate S1024x3584 1 [⟨S1024x512, extractStridedSlice S1024x512 ![0, 0] w slices_S1024x3600_S1024x512_0_0⟩, ⟨S1024x512, extractStridedSlice S1024x512 ![0, 512] w slices_S1024x3600_S1024x512_0_512⟩, ⟨S1024x512, extractStridedSlice S1024x512 ![0, 1024] w slices_S1024x3600_S1024x512_0_1024⟩, ⟨S1024x512, extractStridedSlice S1024x512 ![0, 1536] w slices_S1024x3600_S1024x512_0_1536⟩, ⟨S1024x512, extractStridedSlice S1024x512 ![0, 2056] w slices_S1024x3600_S1024x512_0_2056⟩, ⟨S1024x512, extractStridedSlice S1024x512 ![0, 2568] w slices_S1024x3600_S1024x512_0_2568⟩, ⟨S1024x512, extractStridedSlice S1024x512 ![0, 3080] w slices_S1024x3600_S1024x512_0_3080⟩] concatenates_S1024x512_S1024x512_S1024x512_S1024x512_S1024x512_S1024x512_S1024x512_S1024x3584_d1 : FVec F S1024x3584 .f32) bitsLt_bf16_f32

/-- The attention's keys' and values' columns as rows. -/
def wKv (w : FVec F S1024x3600 .f32) : FVec F S1024x1024 .bf16 :=
  truncf .bf16 (transpose S1024x1024 [1, 0] (concatenate S1024x1024 1 [⟨S1024x512, extractStridedSlice S1024x512 ![0, 2568] w slices_S1024x3600_S1024x512_0_2568⟩, ⟨S1024x512, extractStridedSlice S1024x512 ![0, 3080] w slices_S1024x3600_S1024x512_0_3080⟩] concatenates_S1024x512_S1024x512_S1024x1024_d1 : FVec F S1024x1024 .f32) transposes_S1024x1024_S1024x1024_1_0) bitsLt_bf16_f32

/-- The small columns, zeros after them. -/
def wSmall (w : FVec F S1024x3600 .f32) : FVec F S1024x128 .bf16 :=
  truncf .bf16 (concatenate S1024x128 1 [⟨S1024x4, extractStridedSlice S1024x4 ![0, 2048] w slices_S1024x3600_S1024x4_0_2048⟩, ⟨S1024x4, extractStridedSlice S1024x4 ![0, 2052] w slices_S1024x3600_S1024x4_0_2052⟩, ⟨S1024x8, extractStridedSlice S1024x8 ![0, 3592] w slices_S1024x3600_S1024x8_0_3592⟩, ⟨S1024x112, broadcastInDim S1024x112 ![] bcast_S_S1024x112 (constant S_ .f32 0x00000000#32)⟩] concatenates_S1024x4_S1024x4_S1024x8_S1024x112_S1024x128_d1 : FVec F S1024x128 .f32) bitsLt_bf16_f32

/-- The small columns as rows. -/
def wSmallT (w : FVec F S1024x3600 .f32) : FVec F S16x1024 .bf16 :=
  transpose S16x1024 [1, 0] (extractStridedSlice S1024x16 ![0, 0] (wSmall w) slices_S1024x128_S1024x16_0_0) transposes_S1024x16_S16x1024_1_0

theorem V_v20 (m : (ℓ : Loc nD τ sig) → Buf (Elt F) ℓ) (c : Dev nD) :
    V m c main_v20 = shapeCast S32768x1024 (m ((c.tc : Thread nD τ).loc main_arg0) : FVec F S16x2048x1024 .f32) shapeCasts_S16x2048x1024_S32768x1024 := by
  simp only [V, hostOps0]
  after_results_simp <;> rfl

theorem V_v21 (m : (ℓ : Loc nD τ sig) → Buf (Elt F) ℓ) (c : Dev nD) :
    V m c main_v21 = shapeCast S1x1024 (m ((c.tc : Thread nD τ).loc main_arg1) : FVec F S1024 .f32) shapeCasts_S1024_S1x1024 := by
  simp only [V, hostOps0]
  after_results_simp <;> rfl

theorem V_v14 (m : (ℓ : Loc nD τ sig) → Buf (Elt F) ℓ) (c : Dev nD) :
    V m c main_v14 = wKv (m ((c.tc : Thread nD τ).loc main_arg2) : FVec F S1024x3600 .f32) := by
  simp only [V, hostOps0]
  after_results_simp <;> (try dsimp only [Matrix.cons_val]) <;> (try after_results_simp) <;> rfl

theorem V_v11 (m : (ℓ : Loc nD τ sig) → Buf (Elt F) ℓ) (c : Dev nD) :
    V m c main_v11 = wMain (m ((c.tc : Thread nD τ).loc main_arg2) : FVec F S1024x3600 .f32) := by
  simp only [V, hostOps0]
  after_results_simp <;> (try dsimp only [Matrix.cons_val]) <;> (try after_results_simp) <;> rfl

theorem V_v17 (m : (ℓ : Loc nD τ sig) → Buf (Elt F) ℓ) (c : Dev nD) :
    V m c main_v17 = wSmall (m ((c.tc : Thread nD τ).loc main_arg2) : FVec F S1024x3600 .f32) := by
  simp only [V, hostOps0]
  after_results_simp <;> (try dsimp only [Matrix.cons_val]) <;> (try after_results_simp) <;> rfl

theorem V_v19 (m : (ℓ : Loc nD τ sig) → Buf (Elt F) ℓ) (c : Dev nD) :
    V m c main_v19 = wSmallT (m ((c.tc : Thread nD τ).loc main_arg2) : FVec F S1024x3600 .f32) := by
  simp only [V, hostOps0]
  after_results_simp <;> (try dsimp only [Matrix.cons_val]) <;> (try after_results_simp) <;> rfl
end

theorem at2 (w : Vec Ideal S1024x3600 .f32) (k : Fin 1024) {a a' : ℕ} {h : a < 3600} {h' : a' < 3600} (e : a = a') :
    w (ix2 k ⟨a, h⟩) = w (ix2 k ⟨a', h'⟩) := by
  subst e; rfl

theorem wMain_at (w : Vec Ideal S1024x3600 .f32) (k : Fin 1024) (j : Fin 3584) :
    wMain (F := Ideal) w (ix2 k j) = w (ix2 k (⟨if j.val < 2048 then j.val else j.val + 8, by split <;> omega⟩ : Fin 3600)) := by
  unfold wMain
  pointwise
  split_ifs <;> first | omega | exact at2 w k (by split_ifs <;> omega)

theorem wKv_at (w : Vec Ideal S1024x3600 .f32) (k : Fin 1024) (j : Fin 1024) :
    wKv (F := Ideal) w (ix2 j k) = w (ix2 k (⟨2568 + j.val, by omega⟩ : Fin 3600)) := by
  unfold wKv
  pointwise
  split_ifs <;> exact at2 w k (by first | omega | rfl | (dsimp only; omega))

theorem wSmall_at (w : Vec Ideal S1024x3600 .f32) (k : Fin 1024) (j : Fin 128) :
    wSmall (F := Ideal) w (ix2 k j) = if h : j.val < 16 then w (ix2 k (sm ⟨j.val, h⟩)) else 0 := by
  unfold wSmall
  pointwise
  by_cases h : j.val < 16
  · rw [dif_pos h]
    by_cases h8 : j.val < 8
    · rw [sm_lo ⟨j.val, h⟩ h8]
      split_ifs <;> first | omega | exact at2 w k (by first | omega | rfl | (dsimp only; omega))
    · rw [sm_hi ⟨j.val, h⟩ h8]
      split_ifs <;> first | omega | exact at2 w k (by first | omega | rfl | (dsimp only; omega))
  · rw [dif_neg h]
    split_ifs <;> first | omega | rfl

theorem wSmallT_at (w : Vec Ideal S1024x3600 .f32) (k : Fin 1024) (j : Fin 16) :
    wSmallT (F := Ideal) w (ix2 j k) = w (ix2 k (sm j)) := by
  unfold wSmallT
  have e : ∀ j : Fin 128, wSmall (F := Ideal) w (ix2 k j) = if h : j.val < 16 then w (ix2 k (sm ⟨j.val, h⟩)) else 0 := wSmall_at w k
  generalize wSmall (F := Ideal) w = z at e ⊢
  pointwise
  exact (e _).trans (dif_pos j.isLt)

variable (m : (ℓ : Loc nD τ sig) → Buf (Elt Ideal) ℓ)

abbrev A0 (c : Dev nD) : Vec Ideal S16x2048x1024 .f32 := m ((c.tc : Thread nD τ).loc main_arg0)
abbrev A1 (c : Dev nD) : Vec Ideal S1024 .f32 := m ((c.tc : Thread nD τ).loc main_arg1)
abbrev A2 (c : Dev nD) : Vec Ideal S1024x3600 .f32 := m ((c.tc : Thread nD τ).loc main_arg2)

theorem rows_at (x : Vec Ideal S16x2048x1024 .f32) (n : Fin 32768) (k : Fin 1024) :
    (shapeCast S32768x1024 x shapeCasts_S16x2048x1024_S32768x1024 : Vec Ideal S32768x1024 .f32) (ix2 n k) = x (ix3 (bat n) (pos n) k) := by
  refine shapeCast_apply _ _ (ix2 n k) (ix3 (bat n) (pos n) k) ?_
  rw [Shape.rowMajor_val_two, Shape.rowMajor_val_three]
  show (n.val / 2048 * 2048 + n.val % 2048) * 1024 + k.val = n.val * 1024 + k.val
  omega

theorem gain_at (x : Vec Ideal S1024 .f32) (k : Fin 1024) :
    (shapeCast S1x1024 x shapeCasts_S1024_S1x1024 : Vec Ideal S1x1024 .f32) (ix2 0 k) = x (ix1 k) := by
  pointwise

theorem coords0 (t : Fin grid0.N) : ((grid0.coords t) 0).val = t.val := by
  have h := Pipeline.Grid.coords_val t 0 (S := 1) (B := 128) (by decide) (by decide)
  have ht : t.val < 128 := t.isLt
  rw [h]; omega

theorem tr0 (t : Fin grid0.N) : cc0_transform_0 (grid0.coords t) = ![t.val, 0] := by
  have h := coords0 t
  have ht : t.val < 128 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ => rfl

theorem tr12 (t : Fin grid0.N) : cc0_transform_12 (grid0.coords t) = ![0, t.val] := by
  have h := coords0 t
  have ht : t.val < 128 := t.isLt
  unfold cc0_transform_12
  funext a
  match a with
  | ⟨0, _⟩ => rfl
  | ⟨1, _⟩ =>
    show (BitVec.ofNat 32 ((grid0.coords t) 0).val).toNat = t.val
    rw [h, BitVec.toNat_ofNat, Nat.mod_eq_of_lt (by omega)]

theorem tr9 : ∀ t : Fin grid0.N, cc0_transform_9 (grid0.coords t) = ![t.val / 8, 0, t.val % 8] := by decide +kernel

abbrev row (t : Fin 128) (r : Fin 256) : Fin 32768 := ⟨t.val * 256 + r.val, by omega⟩

theorem iblk0_at (c : Dev nD) (t : Fin cfg0.N) (r : Fin 256) (q : Fin 1024) :
    iblk m c 0 t (ix2 r q) = A0 m c (ix3 (bat (row t r)) (pos (row t r)) q) := by
  have e : ((cfg0.win 0).rect t).emb (ix2 r q) = ix2 (row t r) q := by
    funext a
    refine Fin.ext ?_
    refine ((cfg0.win 0).rect_emb_val t _ a).trans ?_
    rw [show (cfg0.win 0).index t = ![t.val, 0] from tr0 t]
    match a with
    | ⟨0, _⟩ => rfl
    | ⟨1, _⟩ => show 0 * 1024 + q.val = q.val; omega
  refine Eq.trans (b := V m c main_v20 (((cfg0.win 0).rect t).emb (ix2 r q))) rfl ?_
  rw [V_v20, e]
  exact rows_at _ _ _

theorem iblk1_at (c : Dev nD) (t : Fin cfg0.N) (k : Fin 1024) :
    iblk m c 1 t (ix2 0 k) = A1 m c (ix1 k) := by
  have e : ((cfg0.win 1).rect t).emb (ix2 0 k) = ix2 0 k := by
    funext a
    refine Fin.ext ?_
    refine ((cfg0.win 1).rect_emb_val t _ a).trans ?_
    rw [show (cfg0.win 1).index t = ![0, 0] from funext fun a => match a with | ⟨0, _⟩ => rfl | ⟨1, _⟩ => rfl]
    match a with
    | ⟨0, _⟩ => rfl
    | ⟨1, _⟩ => show 0 * 1024 + k.val = k.val; omega
  refine Eq.trans (b := V m c main_v21 (((cfg0.win 1).rect t).emb (ix2 0 k))) rfl ?_
  rw [V_v21, e]
  exact gain_at _ _

theorem iblk2_at (c : Dev nD) (t : Fin cfg0.N) (a : Fin 1024) (b : Fin 3584) :
    iblk m c 2 t (ix2 a b) = wMain (F := Ideal) (A2 m c) (ix2 a b) := by
  have e : ((cfg0.win 2).rect t).emb (ix2 a b) = ix2 a b := by
    funext d
    refine Fin.ext ?_
    refine ((cfg0.win 2).rect_emb_val t _ d).trans ?_
    rw [show (cfg0.win 2).index t = ![0, 0] from funext fun a => match a with | ⟨0, _⟩ => rfl | ⟨1, _⟩ => rfl]
    match d with
    | ⟨0, _⟩ => show 0 * 1024 + a.val = a.val; omega
    | ⟨1, _⟩ => show 0 * 3584 + b.val = b.val; omega
  refine Eq.trans (b := V m c main_v11 (((cfg0.win 2).rect t).emb (ix2 a b))) rfl ?_
  rw [V_v11, e]

theorem iblk3_at (c : Dev nD) (t : Fin cfg0.N) (a : Fin 1024) (b : Fin 1024) :
    iblk m c 3 t (ix2 a b) = wKv (F := Ideal) (A2 m c) (ix2 a b) := by
  have e : ((cfg0.win 3).rect t).emb (ix2 a b) = ix2 a b := by
    funext d
    refine Fin.ext ?_
    refine ((cfg0.win 3).rect_emb_val t _ d).trans ?_
    rw [show (cfg0.win 3).index t = ![0, 0] from funext fun a => match a with | ⟨0, _⟩ => rfl | ⟨1, _⟩ => rfl]
    match d with
    | ⟨0, _⟩ => show 0 * 1024 + a.val = a.val; omega
    | ⟨1, _⟩ => show 0 * 1024 + b.val = b.val; omega
  refine Eq.trans (b := V m c main_v14 (((cfg0.win 3).rect t).emb (ix2 a b))) rfl ?_
  rw [V_v14, e]

theorem iblk4_at (c : Dev nD) (t : Fin cfg0.N) (a : Fin 1024) (b : Fin 128) :
    iblk m c 4 t (ix2 a b) = wSmall (F := Ideal) (A2 m c) (ix2 a b) := by
  have e : ((cfg0.win 4).rect t).emb (ix2 a b) = ix2 a b := by
    funext d
    refine Fin.ext ?_
    refine ((cfg0.win 4).rect_emb_val t _ d).trans ?_
    rw [show (cfg0.win 4).index t = ![0, 0] from funext fun a => match a with | ⟨0, _⟩ => rfl | ⟨1, _⟩ => rfl]
    match d with
    | ⟨0, _⟩ => show 0 * 1024 + a.val = a.val; omega
    | ⟨1, _⟩ => show 0 * 128 + b.val = b.val; omega
  refine Eq.trans (b := V m c main_v17 (((cfg0.win 4).rect t).emb (ix2 a b))) rfl ?_
  rw [V_v17, e]

theorem iblk5_at (c : Dev nD) (t : Fin cfg0.N) (a : Fin 16) (b : Fin 1024) :
    iblk m c 5 t (ix2 a b) = wSmallT (F := Ideal) (A2 m c) (ix2 a b) := by
  have e : ((cfg0.win 5).rect t).emb (ix2 a b) = ix2 a b := by
    funext d
    refine Fin.ext ?_
    refine ((cfg0.win 5).rect_emb_val t _ d).trans ?_
    rw [show (cfg0.win 5).index t = ![0, 0] from funext fun a => match a with | ⟨0, _⟩ => rfl | ⟨1, _⟩ => rfl]
    match d with
    | ⟨0, _⟩ => show 0 * 16 + a.val = a.val; omega
    | ⟨1, _⟩ => show 0 * 1024 + b.val = b.val; omega
  refine Eq.trans (b := V m c main_v19 (((cfg0.win 5).rect t).emb (ix2 a b))) rfl ?_
  rw [V_v19, e]

theorem hb_at (x : Vec Ideal S256x1024 .f32) (g : Vec Ideal S1x1024 .f32) (r : Fin 256) (k : Fin 1024) :
    k0_pay5 x g (ix2 r k) = nrm (fun j => x (ix2 r j)) (g (ix2 0 k)) k := by
  unfold k0_pay5 nrm
  pointwise

theorem pay6_at (x : Vec Ideal S256x1024 .f32) (g : Vec Ideal S1x1024 .f32) (w : Vec Ideal S1024x1536 .bf16) (r : Fin 256) (q : Fin 1536) :
    k0_pay6 x g w (ix2 r q) = el (fun j => x (ix2 r j)) (fun k => g (ix2 0 k)) (fun k => w (ix2 k q)) := by
  unfold k0_pay6 el
  pointwise
  simp only [hb_at]

theorem pay7_at (x : Vec Ideal S256x1024 .f32) (g : Vec Ideal S1x1024 .f32) (w : Vec Ideal S1024x512 .bf16) (r : Fin 256) (q : Fin 512) :
    k0_pay7 x g w (ix2 r q) = el (fun j => x (ix2 r j)) (fun k => g (ix2 0 k)) (fun k => w (ix2 k q)) := by
  unfold k0_pay7 el
  pointwise
  simp only [hb_at]

theorem pay8_at (x : Vec Ideal S256x1024 .f32) (g : Vec Ideal S1x1024 .f32) (w : Vec Ideal S1024x512 .bf16) (r : Fin 256) (q : Fin 512) :
    k0_pay8 x g w (ix2 r q) = el (fun j => x (ix2 r j)) (fun k => g (ix2 0 k)) (fun k => w (ix2 k q)) := by
  unfold k0_pay8 el
  pointwise
  simp only [hb_at]

theorem pay1_at (h : FVec Ideal S256x1024 .bf16) (w : Vec Ideal S512x1024 .bf16) (q : Fin 512) (r : Fin 256) :
    k0_pay1 h (k0_pay9 w) (constant S512x256 .f32 0x00000000#32) (ix3 0 q r) = ∑ k : Fin 1024, h (ix2 r k) * w (ix2 q k) := by
  unfold k0_pay1 k0_pay9
  pointwise
  exact Finset.sum_congr rfl fun k _ => mul_comm _ _

theorem pay2_at (h : FVec Ideal S256x1024 .bf16) (w : Vec Ideal S512x1024 .bf16) (q : Fin 512) (r : Fin 256) :
    k0_pay2 h w (ix3 0 q r) = ∑ k : Fin 1024, h (ix2 r k) * w (ix2 q k) := by
  unfold k0_pay2
  pointwise
  exact Finset.sum_congr rfl fun k _ => mul_comm _ _

theorem pay3_at (h : FVec Ideal S256x1024 .bf16) (w : Vec Ideal S1024x128 .bf16) (r : Fin 256) (q : Fin 128) :
    k0_pay3 h w (ix2 r q) = ∑ k : Fin 1024, h (ix2 r k) * w (ix2 k q) := by
  unfold k0_pay3
  pointwise

theorem pay4_at (h : FVec Ideal S256x1024 .bf16) (w : Vec Ideal S16x1024 .bf16) (q : Fin 16) (r : Fin 256) :
    k0_pay4 h w (ix2 q r) = ∑ k : Fin 1024, h (ix2 r k) * w (ix2 q k) := by
  unfold k0_pay4
  pointwise
  exact Finset.sum_congr rfl fun k _ => mul_comm _ _

theorem lx (x : Vec Ideal S256x1024 .f32) : View.ld (Val := Elt Ideal) (e' := .f32) x r0_0 = x := View.ld_unit_lit _ _ (by decide)
theorem lg (g : Vec Ideal S1x1024 .f32) : View.ld (Val := Elt Ideal) (e' := .f32) g r0_1 = g := View.ld_unit_lit _ _ (by decide)

/-- What a point's blocks hold. -/
structure Blk (t : Fin 128) (X : Vec Ideal S16x2048x1024 .f32) (G : Vec Ideal S1024 .f32) (W : Vec Ideal S1024x3600 .f32)
    (x : Vec Ideal S256x1024 .f32) (g : Vec Ideal S1x1024 .f32) (w2 : Vec Ideal S1024x3584 .bf16) (w3 : Vec Ideal S1024x1024 .bf16)
    (w4 : Vec Ideal S1024x128 .bf16) (w5 : Vec Ideal S16x1024 .bf16) : Prop where
  hx : ∀ (r : Fin 256) (q : Fin 1024), x (ix2 r q) = X (ix3 (bat (row t r)) (pos (row t r)) q)
  hg : ∀ (k : Fin 1024), g (ix2 0 k) = G (ix1 k)
  h2 : ∀ (k : Fin 1024) (j : Fin 3584), w2 (ix2 k j) = W (ix2 k (⟨if j.val < 2048 then j.val else j.val + 8, by split <;> omega⟩ : Fin 3600))
  h3 : ∀ (j : Fin 1024) (k : Fin 1024), w3 (ix2 j k) = W (ix2 k (⟨2568 + j.val, by omega⟩ : Fin 3600))
  h4 : ∀ (k : Fin 1024) (j : Fin 128), w4 (ix2 k j) = if h : j.val < 16 then W (ix2 k (sm ⟨j.val, h⟩)) else 0
  h5 : ∀ (j : Fin 16) (k : Fin 1024), w5 (ix2 j k) = W (ix2 k (sm j))

theorem blk (c : Dev nD) (t : Fin cfg0.N) :
    Blk t (A0 m c) (A1 m c) (A2 m c) (iblk m c 0 t) (iblk m c 1 t) (iblk m c 2 t) (iblk m c 3 t) (iblk m c 4 t) (iblk m c 5 t) :=
  ⟨iblk0_at m c t, iblk1_at m c t, fun k j => (iblk2_at m c t k j).trans (wMain_at _ k j), fun j k => (iblk3_at m c t j k).trans (wKv_at _ k j),
    fun k j => (iblk4_at m c t k j).trans (wSmall_at _ k j), fun j k => (iblk5_at m c t j k).trans (wSmallT_at _ k j)⟩

section
variable {t : Fin 128} {X : Vec Ideal S16x2048x1024 .f32} {G : Vec Ideal S1024 .f32} {W : Vec Ideal S1024x3600 .f32}
  {x : Vec Ideal S256x1024 .f32} {g : Vec Ideal S1x1024 .f32} {w2 : Vec Ideal S1024x3584 .bf16} {w3 : Vec Ideal S1024x1024 .bf16}
  {w4 : Vec Ideal S1024x128 .bf16} {w5 : Vec Ideal S16x1024 .bf16}

theorem Blk.el_eq (h : Blk t X G W x g w2 w3 w4 w5) (r : Fin 256) (c : Fin 3600) (w : Fin 1024 → EReal) (hw : ∀ k, w k = W (ix2 k c)) :
    el (fun j => x (ix2 r j)) (fun k => g (ix2 0 k)) w = proj (F := Ideal) X G W (ix3 (bat (row t r)) (pos (row t r)) c) := by
  refine Eq.trans ?_ (proj_at X G W _ _ _).symm
  rw [show (fun j => x (ix2 r j)) = fun j => X (ix3 (bat (row t r)) (pos (row t r)) j) from funext fun j => h.hx r j,
    show (fun k => g (ix2 0 k)) = fun k => G (ix1 k) from funext h.hg, show w = fun k => W (ix2 k c) from funext hw]

theorem h10 (r : Fin 256) (k : Fin 1024) : k0_pay10 x g w2 w3 w4 w5 (ix2 r k) = nrm (fun j => x (ix2 r j)) (g (ix2 0 k)) k := by
  unfold k0_pay10
  rw [lx, lg]
  exact hb_at x g r k

theorem sum10 (r : Fin 256) (w : Fin 1024 → EReal) :
    ∑ k : Fin 1024, k0_pay10 x g w2 w3 w4 w5 (ix2 r k) * w k = el (fun j => x (ix2 r j)) (fun k => g (ix2 0 k)) w :=
  Finset.sum_congr rfl fun k _ => by rw [h10]

theorem block6 (h : Blk t X G W x g w2 w3 w4 w5) (r : Fin 256) (q : Fin 1536) :
    out0_6 x g w2 w3 w4 w5 (ix2 r q) = qkvOf (F := Ideal) (proj (F := Ideal) X G W) (ix2 (row t r) q) := by
  have hk : out0_6 x g w2 w3 w4 w5 = k0_pay6 x g (View.ld w2 r0_2) := by
    unfold out0_6
    rw [lx, lg]
    exact View.canon_cons_unit_lit _ _ _ (by decide)
  refine (congrFun hk _).trans ((pay6_at _ _ _ _ _).trans (Eq.trans ?_ (qkvOf_at _ (row t r) q).symm))
  refine h.el_eq r _ _ fun k => ?_
  refine Eq.trans (b := w2 (ix2 k (⟨0 + q.val, by omega⟩ : Fin 3584))) (congrArg w2 (funext fun a => Fin.ext ?_)) ((h.h2 _ _).trans ?_)
  · match a with
    | ⟨0, _⟩ => show 0 + 1 * k.val = k.val; omega
    | ⟨1, _⟩ => show 0 + 1 * q.val = 0 + q.val; omega
  · exact at2 W k (by dsimp only; split_ifs <;> omega)

theorem block7 (h : Blk t X G W x g w2 w3 w4 w5) (r : Fin 256) (q : Fin 512) :
    out0_7 x g w2 w3 w4 w5 (ix2 r q) = zOf (F := Ideal) (proj (F := Ideal) X G W) (ix2 (row t r) q) := by
  have hk : out0_7 x g w2 w3 w4 w5 = k0_pay7 x g (View.ld w2 r0_4) := by
    unfold out0_7
    rw [lx, lg]
    exact View.canon_cons_unit_lit _ _ _ (by decide)
  refine (congrFun hk _).trans ((pay7_at _ _ _ _ _).trans (Eq.trans ?_ (zOf_at _ (row t r) q).symm))
  refine h.el_eq r _ _ fun k => ?_
  refine Eq.trans (b := w2 (ix2 k (⟨1536 + q.val, by omega⟩ : Fin 3584))) (congrArg w2 (funext fun a => Fin.ext ?_)) ((h.h2 _ _).trans ?_)
  · match a with
    | ⟨0, _⟩ => show 0 + 1 * k.val = k.val; omega
    | ⟨1, _⟩ => show 1536 + 1 * q.val = 1536 + q.val; omega
  · exact at2 W k (by dsimp only; split_ifs <;> omega)

theorem block8 (h : Blk t X G W x g w2 w3 w4 w5) (r : Fin 256) (q : Fin 512) :
    out0_8 x g w2 w3 w4 w5 (ix2 r q) = fqOf (F := Ideal) (proj (F := Ideal) X G W) (ix2 (row t r) q) := by
  have hk : out0_8 x g w2 w3 w4 w5 = k0_pay8 x g (View.ld w2 r0_6) := by
    unfold out0_8
    rw [lx, lg]
    exact View.canon_cons_unit_lit _ _ _ (by decide)
  refine (congrFun hk _).trans ((pay8_at _ _ _ _ _).trans (Eq.trans ?_ (fqOf_at _ (row t r) q).symm))
  refine h.el_eq r _ _ fun k => ?_
  refine Eq.trans (b := w2 (ix2 k (⟨2048 + q.val, by omega⟩ : Fin 3584))) (congrArg w2 (funext fun a => Fin.ext ?_)) ((h.h2 _ _).trans ?_)
  · match a with
    | ⟨0, _⟩ => show 0 + 1 * k.val = k.val; omega
    | ⟨1, _⟩ => show 2048 + 1 * q.val = 2048 + q.val; omega
  · exact at2 W k (by dsimp only; split_ifs <;> omega)

theorem block9 (h : Blk t X G W x g w2 w3 w4 w5) (q : Fin 512) (r : Fin 256) :
    out0_9 x g w2 w3 w4 w5 (ix3 0 q r) = fkOf (F := Ideal) (proj (F := Ideal) X G W) (ix3 (bat (row t r)) q (pos (row t r))) := by
  have hk : out0_9 x g w2 w3 w4 w5 = k0_pay1 (k0_pay10 x g w2 w3 w4 w5) (k0_pay9 (View.ld w3 r0_7)) (constant S512x256 .f32 0x00000000#32) := by
    unfold out0_9
    exact View.canon_cons_unit_lit _ _ _ (by decide)
  refine (congrFun hk _).trans ((pay1_at _ _ _ _).trans ((sum10 r _).trans (Eq.trans ?_ (fkOf_at _ (bat (row t r)) q (pos (row t r))).symm)))
  refine h.el_eq r _ _ fun k => ?_
  refine Eq.trans (b := w3 (ix2 (⟨0 + q.val, by omega⟩ : Fin 1024) k)) (congrArg w3 (funext fun a => Fin.ext ?_)) ((h.h3 _ _).trans ?_)
  · match a with
    | ⟨0, _⟩ => show 0 + 1 * q.val = 0 + q.val; omega
    | ⟨1, _⟩ => show 0 + 1 * k.val = k.val; omega
  · exact at2 W k (by dsimp only; omega)

theorem block10 (h : Blk t X G W x g w2 w3 w4 w5) (q : Fin 512) (r : Fin 256) :
    out0_10 x g w2 w3 w4 w5 (ix3 0 q r) = fvOf (F := Ideal) (proj (F := Ideal) X G W) (ix3 (bat (row t r)) q (pos (row t r))) := by
  have hk : out0_10 x g w2 w3 w4 w5 = k0_pay2 (k0_pay10 x g w2 w3 w4 w5) (View.ld w3 r0_9) := by
    unfold out0_10
    exact View.canon_cons_unit_lit _ _ _ (by decide)
  refine (congrFun hk _).trans ((pay2_at _ _ _ _).trans ((sum10 r _).trans (Eq.trans ?_ (fvOf_at _ (bat (row t r)) q (pos (row t r))).symm)))
  refine h.el_eq r _ _ fun k => ?_
  refine Eq.trans (b := w3 (ix2 (⟨512 + q.val, by omega⟩ : Fin 1024) k)) (congrArg w3 (funext fun a => Fin.ext ?_)) ((h.h3 _ _).trans ?_)
  · match a with
    | ⟨0, _⟩ => show 512 + 1 * q.val = 512 + q.val; omega
    | ⟨1, _⟩ => show 0 + 1 * k.val = k.val; omega
  · exact at2 W k (by dsimp only; omega)

theorem block11 (h : Blk t X G W x g w2 w3 w4 w5) (r : Fin 256) (q : Fin 128) :
    out0_11 x g w2 w3 w4 w5 (ix2 r q) = padOf (F := Ideal) (proj (F := Ideal) X G W) (ix2 (row t r) q) := by
  have hk : out0_11 x g w2 w3 w4 w5 = k0_pay3 (k0_pay10 x g w2 w3 w4 w5) w4 := by
    unfold out0_11
    rw [show View.ld (Val := Elt Ideal) (e' := .bf16) w4 r0_10 = w4 from View.ld_unit_lit _ _ (by decide)]
    exact View.canon_cons_unit_lit _ _ _ (by decide)
  refine (congrFun hk _).trans ((pay3_at _ _ _ _).trans (Eq.trans ?_ (padOf_at _ (row t r) q).symm))
  by_cases hq : q.val < 16
  · rw [dif_pos hq]
    exact (sum10 r _).trans (h.el_eq r _ _ fun k => (h.h4 k q).trans (dif_pos hq))
  · rw [dif_neg hq]
    exact Finset.sum_eq_zero fun k _ => by rw [h.h4 k q, dif_neg hq, mul_zero]

theorem block12 (h : Blk t X G W x g w2 w3 w4 w5) (q : Fin 16) (r : Fin 256) :
    out0_12 x g w2 w3 w4 w5 (ix2 q r) = smtOf (F := Ideal) (proj (F := Ideal) X G W) (ix2 q (row t r)) := by
  have hk : out0_12 x g w2 w3 w4 w5 = k0_pay4 (k0_pay10 x g w2 w3 w4 w5) w5 := by
    unfold out0_12
    rw [show View.ld (Val := Elt Ideal) (e' := .bf16) w5 r0_12 = w5 from View.ld_unit_lit _ _ (by decide)]
    exact View.canon_cons_unit_lit _ _ _ (by decide)
  refine (congrFun hk _).trans ((pay4_at _ _ _ _).trans ((sum10 r _).trans (Eq.trans ?_ (smtOf_at _ (row t r) q).symm)))
  exact h.el_eq r _ _ fun k => h.h5 q k
end

theorem emb6 (t : Fin cfg0.N) (r : Fin 256) (l : Fin 1536) :
    ((cfg0.win 6).rect t).emb (ix2 r l) = ix2 (row t r) l := by
  funext a
  refine Fin.ext ?_
  refine ((cfg0.win 6).rect_emb_val t _ a).trans ?_
  rw [show (cfg0.win 6).index t = ![t.val, 0] from tr0 t]
  match a with
  | ⟨0, _⟩ => rfl
  | ⟨1, _⟩ => show 0 * 1536 + l.val = l.val; omega

theorem read6 (t : Fin cfg0.N) (G : S32768x1536.Idx → EReal) (r : Fin 256) (l : Fin 1536) :
    ((cfg0.win 6).blk t).view.read (Elt Ideal) G (ix2 r l) = G (((cfg0.win 6).rect t).emb (ix2 r l)) := rfl

theorem cut6 (t : Fin cfg0.N) (x : Vec Ideal S256x1536 .f32) (r : Fin 256) (l : Fin 1536) :
    (cfg0.win 6).cut (grid0.coords t) x (ix2 r l) = x (ix2 r l) := rfl

theorem arr_of6 (c : Dev nD) (G : S32768x1536.Idx → EReal)
    (hG : ∀ (t : Fin cfg0.N) (r : Fin 256) (l : Fin 1536), out0_6 (iblk m c 0 t) (iblk m c 1 t) (iblk m c 2 t) (iblk m c 3 t) (iblk m c 4 t) (iblk m c 5 t) (ix2 r l) = G (ix2 (row t r) l)) :
    (dats m 0 c).arrAt 6 cfg0.N = G := by
  refine (dats m 0 c).arrAt_eq_of_cover 6 G (fun t _ => ?_) (fun i => ?_)
  · funext y
    obtain ⟨r, l, rfl⟩ : ∃ (r : Fin 256) (l : Fin 1536), y = ix2 r l := ⟨(show S256x1536.Idx from y) 0, (show S256x1536.Idx from y) 1, eq_ix2 (n0 := 256) (n1 := 1536) y⟩
    refine Eq.trans ?_ ((read6 t G r l).trans (congrArg G (emb6 t r l))).symm
    rw [Value.flushed6]
    exact (cut6 t _ r l).trans (hG t r l)
  · obtain ⟨n, l, rfl⟩ : ∃ (n : Fin 32768) (l : Fin 1536), i = ix2 n l := ⟨(show S32768x1536.Idx from i) 0, (show S32768x1536.Idx from i) 1, eq_ix2 (n0 := 32768) (n1 := 1536) i⟩
    have h0 := n.isLt
    refine ⟨(⟨n.val / 256, show _ < 128 by omega⟩ : Fin cfg0.N), flush0_6 _, ?_⟩
    refine Finset.mem_map.mpr ⟨ix2 (n0 := 256) (n1 := 1536) ⟨n.val % 256, by omega⟩ l, Finset.mem_univ _, ?_⟩
    refine (emb6 _ _ _).trans ?_
    exact congrArg (fun k => (ix2 k l : S32768x1536.Idx)) (Fin.ext (show n.val / 256 * 256 + n.val % 256 = n.val by omega))

theorem arr_eq6 (c : Dev nD) : (dats m 0 c).arrAt 6 cfg0.N = qkvOf (F := Ideal) (proj (F := Ideal) (A0 m c) (A1 m c) (A2 m c)) :=
  arr_of6 m c _ fun t r l => block6 (blk m c t) r l

theorem emb7 (t : Fin cfg0.N) (r : Fin 256) (l : Fin 512) :
    ((cfg0.win 7).rect t).emb (ix2 r l) = ix2 (row t r) l := by
  funext a
  refine Fin.ext ?_
  refine ((cfg0.win 7).rect_emb_val t _ a).trans ?_
  rw [show (cfg0.win 7).index t = ![t.val, 0] from tr0 t]
  match a with
  | ⟨0, _⟩ => rfl
  | ⟨1, _⟩ => show 0 * 512 + l.val = l.val; omega

theorem read7 (t : Fin cfg0.N) (G : S32768x512.Idx → EReal) (r : Fin 256) (l : Fin 512) :
    ((cfg0.win 7).blk t).view.read (Elt Ideal) G (ix2 r l) = G (((cfg0.win 7).rect t).emb (ix2 r l)) := rfl

theorem cut7 (t : Fin cfg0.N) (x : Vec Ideal S256x512 .f32) (r : Fin 256) (l : Fin 512) :
    (cfg0.win 7).cut (grid0.coords t) x (ix2 r l) = x (ix2 r l) := rfl

theorem arr_of7 (c : Dev nD) (G : S32768x512.Idx → EReal)
    (hG : ∀ (t : Fin cfg0.N) (r : Fin 256) (l : Fin 512), out0_7 (iblk m c 0 t) (iblk m c 1 t) (iblk m c 2 t) (iblk m c 3 t) (iblk m c 4 t) (iblk m c 5 t) (ix2 r l) = G (ix2 (row t r) l)) :
    (dats m 0 c).arrAt 7 cfg0.N = G := by
  refine (dats m 0 c).arrAt_eq_of_cover 7 G (fun t _ => ?_) (fun i => ?_)
  · funext y
    obtain ⟨r, l, rfl⟩ : ∃ (r : Fin 256) (l : Fin 512), y = ix2 r l := ⟨(show S256x512.Idx from y) 0, (show S256x512.Idx from y) 1, eq_ix2 (n0 := 256) (n1 := 512) y⟩
    refine Eq.trans ?_ ((read7 t G r l).trans (congrArg G (emb7 t r l))).symm
    rw [Value.flushed7]
    exact (cut7 t _ r l).trans (hG t r l)
  · obtain ⟨n, l, rfl⟩ : ∃ (n : Fin 32768) (l : Fin 512), i = ix2 n l := ⟨(show S32768x512.Idx from i) 0, (show S32768x512.Idx from i) 1, eq_ix2 (n0 := 32768) (n1 := 512) i⟩
    have h0 := n.isLt
    refine ⟨(⟨n.val / 256, show _ < 128 by omega⟩ : Fin cfg0.N), flush0_7 _, ?_⟩
    refine Finset.mem_map.mpr ⟨ix2 (n0 := 256) (n1 := 512) ⟨n.val % 256, by omega⟩ l, Finset.mem_univ _, ?_⟩
    refine (emb7 _ _ _).trans ?_
    exact congrArg (fun k => (ix2 k l : S32768x512.Idx)) (Fin.ext (show n.val / 256 * 256 + n.val % 256 = n.val by omega))

theorem arr_eq7 (c : Dev nD) : (dats m 0 c).arrAt 7 cfg0.N = zOf (F := Ideal) (proj (F := Ideal) (A0 m c) (A1 m c) (A2 m c)) :=
  arr_of7 m c _ fun t r l => block7 (blk m c t) r l

theorem emb8 (t : Fin cfg0.N) (r : Fin 256) (l : Fin 512) :
    ((cfg0.win 8).rect t).emb (ix2 r l) = ix2 (row t r) l := by
  funext a
  refine Fin.ext ?_
  refine ((cfg0.win 8).rect_emb_val t _ a).trans ?_
  rw [show (cfg0.win 8).index t = ![t.val, 0] from tr0 t]
  match a with
  | ⟨0, _⟩ => rfl
  | ⟨1, _⟩ => show 0 * 512 + l.val = l.val; omega

theorem read8 (t : Fin cfg0.N) (G : S32768x512.Idx → EReal) (r : Fin 256) (l : Fin 512) :
    ((cfg0.win 8).blk t).view.read (Elt Ideal) G (ix2 r l) = G (((cfg0.win 8).rect t).emb (ix2 r l)) := rfl

theorem cut8 (t : Fin cfg0.N) (x : Vec Ideal S256x512 .f32) (r : Fin 256) (l : Fin 512) :
    (cfg0.win 8).cut (grid0.coords t) x (ix2 r l) = x (ix2 r l) := rfl

theorem arr_of8 (c : Dev nD) (G : S32768x512.Idx → EReal)
    (hG : ∀ (t : Fin cfg0.N) (r : Fin 256) (l : Fin 512), out0_8 (iblk m c 0 t) (iblk m c 1 t) (iblk m c 2 t) (iblk m c 3 t) (iblk m c 4 t) (iblk m c 5 t) (ix2 r l) = G (ix2 (row t r) l)) :
    (dats m 0 c).arrAt 8 cfg0.N = G := by
  refine (dats m 0 c).arrAt_eq_of_cover 8 G (fun t _ => ?_) (fun i => ?_)
  · funext y
    obtain ⟨r, l, rfl⟩ : ∃ (r : Fin 256) (l : Fin 512), y = ix2 r l := ⟨(show S256x512.Idx from y) 0, (show S256x512.Idx from y) 1, eq_ix2 (n0 := 256) (n1 := 512) y⟩
    refine Eq.trans ?_ ((read8 t G r l).trans (congrArg G (emb8 t r l))).symm
    rw [Value.flushed8]
    exact (cut8 t _ r l).trans (hG t r l)
  · obtain ⟨n, l, rfl⟩ : ∃ (n : Fin 32768) (l : Fin 512), i = ix2 n l := ⟨(show S32768x512.Idx from i) 0, (show S32768x512.Idx from i) 1, eq_ix2 (n0 := 32768) (n1 := 512) i⟩
    have h0 := n.isLt
    refine ⟨(⟨n.val / 256, show _ < 128 by omega⟩ : Fin cfg0.N), flush0_8 _, ?_⟩
    refine Finset.mem_map.mpr ⟨ix2 (n0 := 256) (n1 := 512) ⟨n.val % 256, by omega⟩ l, Finset.mem_univ _, ?_⟩
    refine (emb8 _ _ _).trans ?_
    exact congrArg (fun k => (ix2 k l : S32768x512.Idx)) (Fin.ext (show n.val / 256 * 256 + n.val % 256 = n.val by omega))

theorem arr_eq8 (c : Dev nD) : (dats m 0 c).arrAt 8 cfg0.N = fqOf (F := Ideal) (proj (F := Ideal) (A0 m c) (A1 m c) (A2 m c)) :=
  arr_of8 m c _ fun t r l => block8 (blk m c t) r l

theorem emb11 (t : Fin cfg0.N) (r : Fin 256) (l : Fin 128) :
    ((cfg0.win 11).rect t).emb (ix2 r l) = ix2 (row t r) l := by
  funext a
  refine Fin.ext ?_
  refine ((cfg0.win 11).rect_emb_val t _ a).trans ?_
  rw [show (cfg0.win 11).index t = ![t.val, 0] from tr0 t]
  match a with
  | ⟨0, _⟩ => rfl
  | ⟨1, _⟩ => show 0 * 128 + l.val = l.val; omega

theorem read11 (t : Fin cfg0.N) (G : S32768x128.Idx → EReal) (r : Fin 256) (l : Fin 128) :
    ((cfg0.win 11).blk t).view.read (Elt Ideal) G (ix2 r l) = G (((cfg0.win 11).rect t).emb (ix2 r l)) := rfl

theorem cut11 (t : Fin cfg0.N) (x : Vec Ideal S256x128 .f32) (r : Fin 256) (l : Fin 128) :
    (cfg0.win 11).cut (grid0.coords t) x (ix2 r l) = x (ix2 r l) := rfl

theorem arr_of11 (c : Dev nD) (G : S32768x128.Idx → EReal)
    (hG : ∀ (t : Fin cfg0.N) (r : Fin 256) (l : Fin 128), out0_11 (iblk m c 0 t) (iblk m c 1 t) (iblk m c 2 t) (iblk m c 3 t) (iblk m c 4 t) (iblk m c 5 t) (ix2 r l) = G (ix2 (row t r) l)) :
    (dats m 0 c).arrAt 11 cfg0.N = G := by
  refine (dats m 0 c).arrAt_eq_of_cover 11 G (fun t _ => ?_) (fun i => ?_)
  · funext y
    obtain ⟨r, l, rfl⟩ : ∃ (r : Fin 256) (l : Fin 128), y = ix2 r l := ⟨(show S256x128.Idx from y) 0, (show S256x128.Idx from y) 1, eq_ix2 (n0 := 256) (n1 := 128) y⟩
    refine Eq.trans ?_ ((read11 t G r l).trans (congrArg G (emb11 t r l))).symm
    rw [Value.flushed11]
    exact (cut11 t _ r l).trans (hG t r l)
  · obtain ⟨n, l, rfl⟩ : ∃ (n : Fin 32768) (l : Fin 128), i = ix2 n l := ⟨(show S32768x128.Idx from i) 0, (show S32768x128.Idx from i) 1, eq_ix2 (n0 := 32768) (n1 := 128) i⟩
    have h0 := n.isLt
    refine ⟨(⟨n.val / 256, show _ < 128 by omega⟩ : Fin cfg0.N), flush0_11 _, ?_⟩
    refine Finset.mem_map.mpr ⟨ix2 (n0 := 256) (n1 := 128) ⟨n.val % 256, by omega⟩ l, Finset.mem_univ _, ?_⟩
    refine (emb11 _ _ _).trans ?_
    exact congrArg (fun k => (ix2 k l : S32768x128.Idx)) (Fin.ext (show n.val / 256 * 256 + n.val % 256 = n.val by omega))

theorem arr_eq11 (c : Dev nD) : (dats m 0 c).arrAt 11 cfg0.N = padOf (F := Ideal) (proj (F := Ideal) (A0 m c) (A1 m c) (A2 m c)) :=
  arr_of11 m c _ fun t r l => block11 (blk m c t) r l

theorem emb9 (t : Fin cfg0.N) (q : Fin 512) (r : Fin 256) :
    ((cfg0.win 9).rect t).emb (ix3 0 q r) = ix3 (bat (row t r)) q (pos (row t r)) := by
  have ht : t.val < 128 := t.isLt
  have hr := r.isLt
  funext a
  refine Fin.ext ?_
  refine ((cfg0.win 9).rect_emb_val t _ a).trans ?_
  rw [show (cfg0.win 9).index t = ![t.val / 8, 0, t.val % 8] from tr9 t]
  match a with
  | ⟨0, _⟩ => show t.val / 8 * 1 + 0 = (t.val * 256 + r.val) / 2048; omega
  | ⟨1, _⟩ => show 0 * 512 + q.val = q.val; omega
  | ⟨2, _⟩ => show t.val % 8 * 256 + r.val = (t.val * 256 + r.val) % 2048; omega

theorem read9 (t : Fin cfg0.N) (G : S16x512x2048.Idx → EReal) (q : Fin 512) (r : Fin 256) :
    ((cfg0.win 9).blk t).view.read (Elt Ideal) G (ix3 0 q r) = G (((cfg0.win 9).rect t).emb (ix3 0 q r)) := rfl

theorem cut9 (t : Fin cfg0.N) (x : Vec Ideal S1x512x256 .f32) (q : Fin 512) (r : Fin 256) :
    (cfg0.win 9).cut (grid0.coords t) x (ix3 0 q r) = x (ix3 0 q r) := rfl

theorem arr_of9 (c : Dev nD) (G : S16x512x2048.Idx → EReal)
    (hG : ∀ (t : Fin cfg0.N) (q : Fin 512) (r : Fin 256), out0_9 (iblk m c 0 t) (iblk m c 1 t) (iblk m c 2 t) (iblk m c 3 t) (iblk m c 4 t) (iblk m c 5 t) (ix3 0 q r) = G (ix3 (bat (row t r)) q (pos (row t r)))) :
    (dats m 0 c).arrAt 9 cfg0.N = G := by
  refine (dats m 0 c).arrAt_eq_of_cover 9 G (fun t _ => ?_) (fun i => ?_)
  · funext y
    obtain ⟨z, q, r, rfl⟩ : ∃ (z : Fin 1) (q : Fin 512) (r : Fin 256), y = ix3 z q r :=
      ⟨(show S1x512x256.Idx from y) 0, (show S1x512x256.Idx from y) 1, (show S1x512x256.Idx from y) 2, eq_ix3 (n0 := 1) (n1 := 512) (n2 := 256) y⟩
    obtain rfl : z = 0 := Subsingleton.elim _ _
    refine Eq.trans ?_ ((read9 t G q r).trans (congrArg G (emb9 t q r))).symm
    rw [Value.flushed9]
    exact (cut9 t _ q r).trans (hG t q r)
  · obtain ⟨b, q, p, rfl⟩ : ∃ (b : Fin 16) (q : Fin 512) (p : Fin 2048), i = ix3 b q p :=
      ⟨(show S16x512x2048.Idx from i) 0, (show S16x512x2048.Idx from i) 1, (show S16x512x2048.Idx from i) 2, eq_ix3 (n0 := 16) (n1 := 512) (n2 := 2048) i⟩
    have h0 := b.isLt
    have h1 := p.isLt
    refine ⟨(⟨b.val * 8 + p.val / 256, show _ < 128 by omega⟩ : Fin cfg0.N), flush0_9 _, ?_⟩
    refine Finset.mem_map.mpr ⟨ix3 (n0 := 1) (n1 := 512) (n2 := 256) 0 q ⟨p.val % 256, by omega⟩, Finset.mem_univ _, ?_⟩
    refine (emb9 _ _ _).trans ?_
    have e0 : bat (row ⟨b.val * 8 + p.val / 256, by omega⟩ ⟨p.val % 256, by omega⟩) = b := Fin.ext (by show ((b.val * 8 + p.val / 256) * 256 + p.val % 256) / 2048 = b.val; omega)
    have e1 : pos (row ⟨b.val * 8 + p.val / 256, by omega⟩ ⟨p.val % 256, by omega⟩) = p := Fin.ext (by show ((b.val * 8 + p.val / 256) * 256 + p.val % 256) % 2048 = p.val; omega)
    exact congrArg₂ (fun k l => (ix3 k q l : S16x512x2048.Idx)) e0 e1

theorem arr_eq9 (c : Dev nD) : (dats m 0 c).arrAt 9 cfg0.N = fkOf (F := Ideal) (proj (F := Ideal) (A0 m c) (A1 m c) (A2 m c)) :=
  arr_of9 m c _ fun t q r => block9 (blk m c t) q r

theorem emb10 (t : Fin cfg0.N) (q : Fin 512) (r : Fin 256) :
    ((cfg0.win 10).rect t).emb (ix3 0 q r) = ix3 (bat (row t r)) q (pos (row t r)) := by
  have ht : t.val < 128 := t.isLt
  have hr := r.isLt
  funext a
  refine Fin.ext ?_
  refine ((cfg0.win 10).rect_emb_val t _ a).trans ?_
  rw [show (cfg0.win 10).index t = ![t.val / 8, 0, t.val % 8] from tr9 t]
  match a with
  | ⟨0, _⟩ => show t.val / 8 * 1 + 0 = (t.val * 256 + r.val) / 2048; omega
  | ⟨1, _⟩ => show 0 * 512 + q.val = q.val; omega
  | ⟨2, _⟩ => show t.val % 8 * 256 + r.val = (t.val * 256 + r.val) % 2048; omega

theorem read10 (t : Fin cfg0.N) (G : S16x512x2048.Idx → EReal) (q : Fin 512) (r : Fin 256) :
    ((cfg0.win 10).blk t).view.read (Elt Ideal) G (ix3 0 q r) = G (((cfg0.win 10).rect t).emb (ix3 0 q r)) := rfl

theorem cut10 (t : Fin cfg0.N) (x : Vec Ideal S1x512x256 .f32) (q : Fin 512) (r : Fin 256) :
    (cfg0.win 10).cut (grid0.coords t) x (ix3 0 q r) = x (ix3 0 q r) := rfl

theorem arr_of10 (c : Dev nD) (G : S16x512x2048.Idx → EReal)
    (hG : ∀ (t : Fin cfg0.N) (q : Fin 512) (r : Fin 256), out0_10 (iblk m c 0 t) (iblk m c 1 t) (iblk m c 2 t) (iblk m c 3 t) (iblk m c 4 t) (iblk m c 5 t) (ix3 0 q r) = G (ix3 (bat (row t r)) q (pos (row t r)))) :
    (dats m 0 c).arrAt 10 cfg0.N = G := by
  refine (dats m 0 c).arrAt_eq_of_cover 10 G (fun t _ => ?_) (fun i => ?_)
  · funext y
    obtain ⟨z, q, r, rfl⟩ : ∃ (z : Fin 1) (q : Fin 512) (r : Fin 256), y = ix3 z q r :=
      ⟨(show S1x512x256.Idx from y) 0, (show S1x512x256.Idx from y) 1, (show S1x512x256.Idx from y) 2, eq_ix3 (n0 := 1) (n1 := 512) (n2 := 256) y⟩
    obtain rfl : z = 0 := Subsingleton.elim _ _
    refine Eq.trans ?_ ((read10 t G q r).trans (congrArg G (emb10 t q r))).symm
    rw [Value.flushed10]
    exact (cut10 t _ q r).trans (hG t q r)
  · obtain ⟨b, q, p, rfl⟩ : ∃ (b : Fin 16) (q : Fin 512) (p : Fin 2048), i = ix3 b q p :=
      ⟨(show S16x512x2048.Idx from i) 0, (show S16x512x2048.Idx from i) 1, (show S16x512x2048.Idx from i) 2, eq_ix3 (n0 := 16) (n1 := 512) (n2 := 2048) i⟩
    have h0 := b.isLt
    have h1 := p.isLt
    refine ⟨(⟨b.val * 8 + p.val / 256, show _ < 128 by omega⟩ : Fin cfg0.N), flush0_10 _, ?_⟩
    refine Finset.mem_map.mpr ⟨ix3 (n0 := 1) (n1 := 512) (n2 := 256) 0 q ⟨p.val % 256, by omega⟩, Finset.mem_univ _, ?_⟩
    refine (emb10 _ _ _).trans ?_
    have e0 : bat (row ⟨b.val * 8 + p.val / 256, by omega⟩ ⟨p.val % 256, by omega⟩) = b := Fin.ext (by show ((b.val * 8 + p.val / 256) * 256 + p.val % 256) / 2048 = b.val; omega)
    have e1 : pos (row ⟨b.val * 8 + p.val / 256, by omega⟩ ⟨p.val % 256, by omega⟩) = p := Fin.ext (by show ((b.val * 8 + p.val / 256) * 256 + p.val % 256) % 2048 = p.val; omega)
    exact congrArg₂ (fun k l => (ix3 k q l : S16x512x2048.Idx)) e0 e1

theorem arr_eq10 (c : Dev nD) : (dats m 0 c).arrAt 10 cfg0.N = fvOf (F := Ideal) (proj (F := Ideal) (A0 m c) (A1 m c) (A2 m c)) :=
  arr_of10 m c _ fun t q r => block10 (blk m c t) q r

theorem emb12 (t : Fin cfg0.N) (q : Fin 16) (r : Fin 256) :
    ((cfg0.win 12).rect t).emb (ix2 q r) = ix2 q (row t r) := by
  funext a
  refine Fin.ext ?_
  refine ((cfg0.win 12).rect_emb_val t _ a).trans ?_
  rw [show (cfg0.win 12).index t = ![0, t.val] from tr12 t]
  match a with
  | ⟨0, _⟩ => show 0 * 16 + q.val = q.val; omega
  | ⟨1, _⟩ => rfl

theorem read12 (t : Fin cfg0.N) (G : S16x32768.Idx → EReal) (q : Fin 16) (r : Fin 256) :
    ((cfg0.win 12).blk t).view.read (Elt Ideal) G (ix2 q r) = G (((cfg0.win 12).rect t).emb (ix2 q r)) := rfl

theorem cut12 (t : Fin cfg0.N) (x : Vec Ideal S16x256 .f32) (q : Fin 16) (r : Fin 256) :
    (cfg0.win 12).cut (grid0.coords t) x (ix2 q r) = x (ix2 q r) := rfl

theorem arr_of12 (c : Dev nD) (G : S16x32768.Idx → EReal)
    (hG : ∀ (t : Fin cfg0.N) (q : Fin 16) (r : Fin 256), out0_12 (iblk m c 0 t) (iblk m c 1 t) (iblk m c 2 t) (iblk m c 3 t) (iblk m c 4 t) (iblk m c 5 t) (ix2 q r) = G (ix2 q (row t r))) :
    (dats m 0 c).arrAt 12 cfg0.N = G := by
  refine (dats m 0 c).arrAt_eq_of_cover 12 G (fun t _ => ?_) (fun i => ?_)
  · funext y
    obtain ⟨q, r, rfl⟩ : ∃ (q : Fin 16) (r : Fin 256), y = ix2 q r := ⟨(show S16x256.Idx from y) 0, (show S16x256.Idx from y) 1, eq_ix2 (n0 := 16) (n1 := 256) y⟩
    refine Eq.trans ?_ ((read12 t G q r).trans (congrArg G (emb12 t q r))).symm
    rw [Value.flushed12]
    exact (cut12 t _ q r).trans (hG t q r)
  · obtain ⟨q, n, rfl⟩ : ∃ (q : Fin 16) (n : Fin 32768), i = ix2 q n := ⟨(show S16x32768.Idx from i) 0, (show S16x32768.Idx from i) 1, eq_ix2 (n0 := 16) (n1 := 32768) i⟩
    have h0 := n.isLt
    refine ⟨(⟨n.val / 256, show _ < 128 by omega⟩ : Fin cfg0.N), flush0_12 _, ?_⟩
    refine Finset.mem_map.mpr ⟨ix2 (n0 := 16) (n1 := 256) q ⟨n.val % 256, by omega⟩, Finset.mem_univ _, ?_⟩
    refine (emb12 _ _ _).trans ?_
    exact congrArg (fun k => (ix2 q k : S16x32768.Idx)) (Fin.ext (show n.val / 256 * 256 + n.val % 256 = n.val by omega))

theorem arr_eq12 (c : Dev nD) : (dats m 0 c).arrAt 12 cfg0.N = smtOf (F := Ideal) (proj (F := Ideal) (A0 m c) (A1 m c) (A2 m c)) :=
  arr_of12 m c _ fun t q r => block12 (blk m c t) q r

end Cert.Kernel3Ideal.Hand

end
-- ==== Proof.InClaim.lean ====
/- The input projection: its frames and the equality of its values. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.InVal
public import Idealize.ShloMosaic.Adequacy
public import Idealize.ShloMosaic.Init

@[expose] public section

noncomputable section

namespace Cert.InClaim

open Cert.Kernel3Ideal.Hand
open Cert.Reference3Ideal.Hand (proj qkvOf zOf fqOf fkOf fvOf padOf smtOf)
open Idealize.ShloMosaic Idealize.ShloMosaic.TcCoe Idealize.SL.Sem

theorem frame_kernel : Cert.quiescent_Kernel3 := fun m g _ => Cert.Kernel3.Gen.frame m g

theorem frame_ideal : Cert.quiescent_Kernel3Ideal := fun m g _ => Cert.Kernel3Ideal.Gen.frame m g

theorem frame_reference : Cert.quiescent_Reference3Ideal := fun m g _ =>
  (θ_run Cert.Reference3Ideal.defs _ _).mono (fun r h => ⟨fun c => (h c).2.2.2.2.2.2.2, sem_eq_zero_of_no_sems (by decide) r.2⟩)
    (Cert.Reference3Ideal.Value.run (F := Ideal) m g)

theorem proj_congr {x x' : FVec Ideal Cert.Reference3Ideal.S16x2048x1024 .f32} {g g' : FVec Ideal Cert.Reference3Ideal.S1024 .f32} {w w' : FVec Ideal Cert.Reference3Ideal.S1024x3600 .f32}
    (hx : x = x') (hg : g = g') (hw : w = w') : proj (F := Ideal) x g w = proj (F := Ideal) x' g' w' := by
  subst hx; subst hg; subst hw; rfl

theorem values : Cert.algebraic_Kernel3Ideal_Reference3Ideal := fun m g m' g' _ hag =>
  ⟨fun c => qkvOf (F := Ideal) (proj (F := Ideal) (A0 m c) (A1 m c) (A2 m c)), fun c => zOf (F := Ideal) (proj (F := Ideal) (A0 m c) (A1 m c) (A2 m c)),
    fun c => fqOf (F := Ideal) (proj (F := Ideal) (A0 m c) (A1 m c) (A2 m c)), fun c => fkOf (F := Ideal) (proj (F := Ideal) (A0 m c) (A1 m c) (A2 m c)),
    fun c => fvOf (F := Ideal) (proj (F := Ideal) (A0 m c) (A1 m c) (A2 m c)), fun c => padOf (F := Ideal) (proj (F := Ideal) (A0 m c) (A1 m c) (A2 m c)),
    fun c => smtOf (F := Ideal) (proj (F := Ideal) (A0 m c) (A1 m c) (A2 m c)),
    (θ_run Cert.Kernel3Ideal.defs _ _).mono (fun _ h c => by
        obtain ⟨h0, h1, h2, h3, h4, h5, h6, h7⟩ := h c
        exact ⟨h0.trans (arr_eq6 m c), h1.trans (arr_eq7 m c), h2.trans (arr_eq8 m c), h3.trans (arr_eq9 m c), h4.trans (arr_eq10 m c), h5.trans (arr_eq11 m c), h6.trans (arr_eq12 m c), h7⟩)
      (Cert.Kernel3Ideal.Value.run_blocks m g),
    (θ_run Cert.Reference3Ideal.defs _ _).mono (fun r h c => by
        have e := proj_congr (hag c).1 (hag c).2.1 (hag c).2.2
        obtain ⟨h0, h1, h2, h3, h4, h5, h6, h7⟩ := h c
        exact ⟨h0.trans (congrArg (qkvOf (F := Ideal)) e), h1.trans (congrArg (zOf (F := Ideal)) e), h2.trans (congrArg (fqOf (F := Ideal)) e), h3.trans (congrArg (fkOf (F := Ideal)) e),
          h4.trans (congrArg (fvOf (F := Ideal)) e), h5.trans (congrArg (padOf (F := Ideal)) e), h6.trans (congrArg (smtOf (F := Ideal)) e), h7⟩)
      (Cert.Reference3Ideal.Value.run (F := Ideal) m' g')⟩

end Cert.InClaim

end
-- ==== Proof.OutVal.lean ====
/- The output projection: the array the region leaves is the reference's, at exact values. -/
module

public import proofs.«01_k».proof.Proof.Gen.Kernel4Ideal.Value
public import proofs.«01_k».proof.Proof.Gen.Reference4Ideal
public import Idealize.ShloMosaic.Lib.Pipeline.ValueKit
public import Idealize.ShloMosaic.Lib.Pointwise.Index

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.Sem
open Idealize.ShloMosaic.Pipeline (Dat Cfg Window)

theorem V_v0 {F : FTy → Type} [FloatOps F] (m : (ℓ : Loc nD τ sig) → Buf (Elt F) ℓ) (c : Dev nD) :
    V m c main_v0 = truncf .bf16 (m ((c.tc : Thread nD τ).loc main_arg3) : FVec F S1024x1024 .f32) bitsLt_bf16_f32 := by
  simp only [V, hostOps0]
  after_results_simp <;> rfl

variable (m : (ℓ : Loc nD τ sig) → Buf (Elt Ideal) ℓ)

abbrev A0 (c : Dev nD) : Vec Ideal S32768x1024 .f32 := m ((c.tc : Thread nD τ).loc main_arg0)
abbrev A1 (c : Dev nD) : Vec Ideal S32768x512 .f32 := m ((c.tc : Thread nD τ).loc main_arg1)
abbrev A2 (c : Dev nD) : Vec Ideal S32768x512 .f32 := m ((c.tc : Thread nD τ).loc main_arg2)
abbrev A3 (c : Dev nD) : Vec Ideal S1024x1024 .f32 := m ((c.tc : Thread nD τ).loc main_arg3)

/-- The reference's array. -/
def outArr (x : FVec Ideal Cert.Reference4Ideal.S32768x1024 .f32) (a b : FVec Ideal Cert.Reference4Ideal.S32768x512 .f32) (w : FVec Ideal Cert.Reference4Ideal.S1024x1024 .f32) :
    FVec Ideal Cert.Reference4Ideal.S32768x1024 .f32 :=
  addf x (Host.dotGeneral Cert.Reference4Ideal.dot_S32768x1024_S1024x1024_S32768x1024_1_0_0_1_n_n none
    (concatenate Cert.Reference4Ideal.S32768x1024 1 [⟨Cert.Reference4Ideal.S32768x512, a⟩, ⟨Cert.Reference4Ideal.S32768x512, b⟩] Cert.Reference4Ideal.Facts₀.concatenates_S32768x512_S32768x512_S32768x1024_d1) w)

/-- An element of the result: the residual and the two halves of the product. -/
def elem (x : Vec Ideal S32768x1024 .f32) (a b : Vec Ideal S32768x512 .f32) (w : Vec Ideal S1024x1024 .f32) (r : Fin 32768) (q : Fin 1024) : EReal :=
  x (ix2 r q) + (∑ k : Fin 512, a (ix2 r k) * w (ix2 (⟨k.val, by omega⟩ : Fin 1024) q)) + (∑ k : Fin 512, b (ix2 r k) * w (ix2 (⟨512 + k.val, by omega⟩ : Fin 1024) q))

theorem outArr_at (x : Vec Ideal S32768x1024 .f32) (a b : Vec Ideal S32768x512 .f32) (w : Vec Ideal S1024x1024 .f32) (r : Fin 32768) (q : Fin 1024) :
    outArr x a b w (ix2 r q) = elem x a b w r q := by
  unfold outArr elem
  pointwise
  rw [add_assoc]

theorem coords0 (t : Fin grid0.N) : ((grid0.coords t) 0).val = t.val := by
  have h := Pipeline.Grid.coords_val t 0 (S := 1) (B := 64) (by decide) (by decide)
  have ht : t.val < 64 := t.isLt
  rw [h]; omega

theorem tr0 (t : Fin grid0.N) : cc0_transform_0 (grid0.coords t) = ![t.val, 0] := by
  have h := coords0 t
  have ht : t.val < 64 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ => rfl

theorem iblk0_at (c : Dev nD) (t : Fin cfg0.N) (r : Fin 512) (q : Fin 1024) :
    iblk m c 0 t (ix2 r q) = A0 m c (ix2 ⟨t.val * 512 + r.val, by have : t.val < 64 := t.isLt; omega⟩ q) := by
  have ht : t.val < 64 := t.isLt
  have e : ((cfg0.win 0).rect t).emb (ix2 r q) = ix2 (⟨t.val * 512 + r.val, by omega⟩ : Fin 32768) q := by
    funext a
    refine Fin.ext ?_
    refine ((cfg0.win 0).rect_emb_val t _ a).trans ?_
    rw [show (cfg0.win 0).index t = ![t.val, 0] from tr0 t]
    match a with
    | ⟨0, _⟩ => rfl
    | ⟨1, _⟩ => show 0 * 1024 + q.val = q.val; omega
  refine Eq.trans (b := V m c main_arg0 (((cfg0.win 0).rect t).emb (ix2 r q))) rfl ?_
  rw [V_main_arg0, e]

theorem iblk1_at (c : Dev nD) (t : Fin cfg0.N) (r : Fin 512) (q : Fin 512) :
    iblk m c 1 t (ix2 r q) = A1 m c (ix2 ⟨t.val * 512 + r.val, by have : t.val < 64 := t.isLt; omega⟩ q) := by
  have ht : t.val < 64 := t.isLt
  have e : ((cfg0.win 1).rect t).emb (ix2 r q) = ix2 (⟨t.val * 512 + r.val, by omega⟩ : Fin 32768) q := by
    funext a
    refine Fin.ext ?_
    refine ((cfg0.win 1).rect_emb_val t _ a).trans ?_
    rw [show (cfg0.win 1).index t = ![t.val, 0] from tr0 t]
    match a with
    | ⟨0, _⟩ => rfl
    | ⟨1, _⟩ => show 0 * 512 + q.val = q.val; omega
  refine Eq.trans (b := V m c main_arg1 (((cfg0.win 1).rect t).emb (ix2 r q))) rfl ?_
  rw [V_main_arg1, e]

theorem iblk2_at (c : Dev nD) (t : Fin cfg0.N) (r : Fin 512) (q : Fin 512) :
    iblk m c 2 t (ix2 r q) = A2 m c (ix2 ⟨t.val * 512 + r.val, by have : t.val < 64 := t.isLt; omega⟩ q) := by
  have ht : t.val < 64 := t.isLt
  have e : ((cfg0.win 2).rect t).emb (ix2 r q) = ix2 (⟨t.val * 512 + r.val, by omega⟩ : Fin 32768) q := by
    funext a
    refine Fin.ext ?_
    refine ((cfg0.win 2).rect_emb_val t _ a).trans ?_
    rw [show (cfg0.win 2).index t = ![t.val, 0] from tr0 t]
    match a with
    | ⟨0, _⟩ => rfl
    | ⟨1, _⟩ => show 0 * 512 + q.val = q.val; omega
  refine Eq.trans (b := V m c main_arg2 (((cfg0.win 2).rect t).emb (ix2 r q))) rfl ?_
  rw [V_main_arg2, e]

theorem iblk3_at (c : Dev nD) (t : Fin cfg0.N) (k q : Fin 1024) :
    iblk m c 3 t (ix2 k q) = A3 m c (ix2 k q) := by
  have e : ((cfg0.win 3).rect t).emb (ix2 k q) = ix2 k q := by
    funext a
    refine Fin.ext ?_
    refine ((cfg0.win 3).rect_emb_val t _ a).trans ?_
    rw [show (cfg0.win 3).index t = ![0, 0] from funext fun a => match a with | ⟨0, _⟩ => rfl | ⟨1, _⟩ => rfl]
    match a with
    | ⟨0, _⟩ => show 0 * 1024 + k.val = k.val; omega
    | ⟨1, _⟩ => show 0 * 1024 + q.val = q.val; omega
  refine Eq.trans (b := V m c main_v0 (((cfg0.win 3).rect t).emb (ix2 k q))) rfl ?_
  rw [V_v0, e]
  rfl

/-- A block of the result, from what its operands' blocks hold. -/
theorem block_at (x : Vec Ideal S512x1024 .f32) (a b : Vec Ideal S512x512 .f32) (w : Vec Ideal S1024x1024 .bf16)
    (X : Vec Ideal S32768x1024 .f32) (A B : Vec Ideal S32768x512 .f32) (W : Vec Ideal S1024x1024 .f32) (n : Fin 64)
    (hx : ∀ (r : Fin 512) (q : Fin 1024), x (ix2 r q) = X (ix2 ⟨n.val * 512 + r.val, by omega⟩ q))
    (ha : ∀ (r : Fin 512) (q : Fin 512), a (ix2 r q) = A (ix2 ⟨n.val * 512 + r.val, by omega⟩ q))
    (hb : ∀ (r : Fin 512) (q : Fin 512), b (ix2 r q) = B (ix2 ⟨n.val * 512 + r.val, by omega⟩ q))
    (hw : ∀ (k q : Fin 1024), w (ix2 k q) = W (ix2 k q)) (r : Fin 512) (q : Fin 1024) :
    out0_4 x a b w (ix2 r q) = outArr X A B W (ix2 ⟨n.val * 512 + r.val, by omega⟩ q) := by
  rw [outArr_at]
  have hk : out0_4 x a b w = k0_pay1 x a (View.ld w r0_2) b (View.ld w r0_3) := by
    unfold out0_4
    rw [show View.ld (Val := Elt Ideal) (e' := .f32) x r0_0 = x from View.ld_unit_lit _ _ (by decide),
      show View.ld (Val := Elt Ideal) (e' := .f32) a r0_1 = a from View.ld_unit_lit _ _ (by decide),
      show View.ld (Val := Elt Ideal) (e' := .f32) b r0_1 = b from View.ld_unit_lit _ _ (by decide)]
    exact View.canon_cons_unit_lit _ _ _ (by decide)
  rw [hk]
  have h2 : ∀ (k : Fin 512) (q : Fin 1024), View.ld (Val := Elt Ideal) (e' := .bf16) w r0_2 (ix2 k q) = W (ix2 ⟨k.val, by omega⟩ q) := fun k q => by
    rw [← hw]
    show w _ = w _
    refine congrArg w (funext fun a => Fin.ext ?_)
    match a with
    | ⟨0, _⟩ => show 0 + 1 * k.val = k.val; omega
    | ⟨1, _⟩ => show 0 + 1 * q.val = q.val; omega
  have h3 : ∀ (k : Fin 512) (q : Fin 1024), View.ld (Val := Elt Ideal) (e' := .bf16) w r0_3 (ix2 k q) = W (ix2 ⟨512 + k.val, by omega⟩ q) := fun k q => by
    rw [← hw]
    show w _ = w _
    refine congrArg w (funext fun a => Fin.ext ?_)
    match a with
    | ⟨0, _⟩ => show 512 + 1 * k.val = 512 + k.val; omega
    | ⟨1, _⟩ => show 0 + 1 * q.val = q.val; omega
  generalize View.ld (Val := Elt Ideal) (e' := .bf16) w r0_2 = w2 at h2 ⊢
  generalize View.ld (Val := Elt Ideal) (e' := .bf16) w r0_3 = w3 at h3 ⊢
  unfold k0_pay1 elem
  pointwise
  simp only [hx, ha, hb, h2, h3]

theorem emb4 (t : Fin cfg0.N) (r : Fin 512) (l : Fin 1024) :
    ((cfg0.win 4).rect t).emb (ix2 r l) = ix2 (⟨t.val * 512 + r.val, by have : t.val < 64 := t.isLt; omega⟩ : Fin 32768) l := by
  funext a
  refine Fin.ext ?_
  refine ((cfg0.win 4).rect_emb_val t _ a).trans ?_
  rw [show (cfg0.win 4).index t = ![t.val, 0] from tr0 t]
  match a with
  | ⟨0, _⟩ => rfl
  | ⟨1, _⟩ => show 0 * 1024 + l.val = l.val; omega

theorem read4 (t : Fin cfg0.N) (G : S32768x1024.Idx → EReal) (r : Fin 512) (l : Fin 1024) :
    ((cfg0.win 4).blk t).view.read (Elt Ideal) G (ix2 r l) = G (((cfg0.win 4).rect t).emb (ix2 r l)) := rfl

theorem cut4 (t : Fin cfg0.N) (x : Vec Ideal S512x1024 .f32) (r : Fin 512) (l : Fin 1024) :
    (cfg0.win 4).cut (grid0.coords t) x (ix2 r l) = x (ix2 r l) := rfl

theorem arr_of (c : Dev nD) (G : S32768x1024.Idx → EReal)
    (hG : ∀ (t : Fin cfg0.N) (r : Fin 512) (l : Fin 1024), out0_4 (iblk m c 0 t) (iblk m c 1 t) (iblk m c 2 t) (iblk m c 3 t) (ix2 r l)
      = G (ix2 (⟨t.val * 512 + r.val, by have : t.val < 64 := t.isLt; omega⟩ : Fin 32768) l)) :
    (dats m 0 c).arrAt 4 cfg0.N = G := by
  refine (dats m 0 c).arrAt_eq_of_cover 4 G (fun t _ => ?_) (fun i => ?_)
  · funext y
    obtain ⟨r, l, rfl⟩ : ∃ (r : Fin 512) (l : Fin 1024), y = ix2 r l := ⟨(show S512x1024.Idx from y) 0, (show S512x1024.Idx from y) 1, eq_ix2 (n0 := 512) (n1 := 1024) y⟩
    refine Eq.trans ?_ ((read4 t G r l).trans (congrArg G (emb4 t r l))).symm
    rw [Value.flushed4]
    exact (cut4 t _ r l).trans (hG t r l)
  · obtain ⟨n, l, rfl⟩ : ∃ (n : Fin 32768) (l : Fin 1024), i = ix2 n l := ⟨(show S32768x1024.Idx from i) 0, (show S32768x1024.Idx from i) 1, eq_ix2 (n0 := 32768) (n1 := 1024) i⟩
    have h0 := n.isLt
    refine ⟨(⟨n.val / 512, show _ < 64 by omega⟩ : Fin cfg0.N), flush0_4 _, ?_⟩
    refine Finset.mem_map.mpr ⟨ix2 (n0 := 512) (n1 := 1024) ⟨n.val % 512, by omega⟩ l, Finset.mem_univ _, ?_⟩
    refine (emb4 _ _ _).trans ?_
    exact congrArg (fun k => (ix2 k l : S32768x1024.Idx)) (Fin.ext (show n.val / 512 * 512 + n.val % 512 = n.val by omega))

theorem arr_eq (c : Dev nD) : (dats m 0 c).arrAt 4 cfg0.N = outArr (A0 m c) (A1 m c) (A2 m c) (A3 m c) :=
  arr_of m c _ fun t r l => block_at _ _ _ _ _ _ _ _ ⟨t.val, t.isLt⟩ (iblk0_at m c t) (iblk1_at m c t) (iblk2_at m c t) (iblk3_at m c t) r l

end Cert.Kernel4Ideal.Hand

end
-- ==== Proof.OutClaim.lean ====
/- The output projection: its frames and the equality of its values. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.OutVal
public import Idealize.ShloMosaic.Adequacy
public import Idealize.ShloMosaic.Init

@[expose] public section

noncomputable section

namespace Cert.OutClaim

open Idealize.ShloMosaic

theorem frame_kernel : Cert.quiescent_Kernel4 := fun m g _ => Cert.Kernel4.Gen.frame m g

theorem frame_ideal : Cert.quiescent_Kernel4Ideal := fun m g _ => Cert.Kernel4Ideal.Gen.frame m g

theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem arr_congr {x x' a a' b b' w w'} (h0 : x = x') (h1 : a = a') (h2 : b = b') (h3 : w = w') :
    Cert.Kernel4Ideal.Hand.outArr x a b w = Cert.Kernel4Ideal.Hand.outArr x' a' b' w' := by
  subst h0; subst h1; subst h2; subst h3; rfl

/-- The values agree, over the extended reals. -/
theorem values : Cert.algebraic_Kernel4Ideal_Reference4Ideal := fun m g m' g' _ hag =>
  ⟨fun c => Cert.Kernel4Ideal.Hand.outArr (Cert.Kernel4Ideal.Hand.A0 m c) (Cert.Kernel4Ideal.Hand.A1 m c) (Cert.Kernel4Ideal.Hand.A2 m c) (Cert.Kernel4Ideal.Hand.A3 m c),
    (θ_run Cert.Kernel4Ideal.defs _ _).mono (fun _ h c => ⟨(h c).1.trans (Cert.Kernel4Ideal.Hand.arr_eq m c), (h c).2⟩) (Cert.Kernel4Ideal.Value.run_blocks m g),
    (θ_run Cert.Reference4Ideal.defs _ _).mono (fun r h c => ⟨(h c).1.trans (arr_congr (hag c).1 (hag c).2.1 (hag c).2.2.1 (hag c).2.2.2), (h c).2⟩)
      (Cert.Reference4Ideal.Value.run (F := Ideal) m' g')⟩

end Cert.OutClaim

end
-- ==== Proof.MemVal.lean ====
/- The memory's keys and values: the arrays the region leaves are the reference's, at exact values. -/
module

public import proofs.«01_k».proof.Proof.Gen.Kernel5Ideal.Value
public import proofs.«01_k».proof.Proof.Gen.Reference5Ideal
public import Idealize.ShloMosaic.Lib.Pipeline.ValueKit
public import Idealize.ShloMosaic.Lib.Pointwise.Index

@[expose] public section

set_option maxRecDepth 16384

noncomputable section

namespace Cert.Reference5Ideal.Hand

open Cert.Reference5Ideal Cert.Reference5Ideal.Gen
open Idealize.ShloMosaic Idealize.ShloMosaic.TcCoe Idealize.ShloMosaic.Tactic

section
variable {F : FTy → Type} [FloatOps F]

/-- The normed tokens. -/
def normed (x : FVec F S16x256x1024 .f32) (g : FVec F S1024 .f32) : FVec F S16x256x1024 .f32 :=
  mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 g))

/-- The two projections of the normed tokens, side by side. -/
def proj (x : FVec F S16x256x1024 .f32) (g : FVec F S1024 .f32) (w : FVec F S1024x1024 .f32) : FVec F S16x256x1024 .f32 :=
  Host.dotGeneral dot_S16x256x1024_S1024x1024_S16x256x1024_2_0_01_1_n_n none (normed x g) w

/-- The keys and the values, the first and the last half of the columns. -/
def keys (x : FVec F S16x256x1024 .f32) (g : FVec F S1024 .f32) (w : FVec F S1024x1024 .f32) : FVec F S4096x512 .f32 :=
  shapeCast _ (extractStridedSlice S16x256x512 ![0, 0, 0] (proj x g w) slices_S16x256x1024_S16x256x512_0_0_0) shapeCasts_S16x256x512_S4096x512
def vals (x : FVec F S16x256x1024 .f32) (g : FVec F S1024 .f32) (w : FVec F S1024x1024 .f32) : FVec F S4096x512 .f32 :=
  shapeCast _ (extractStridedSlice S16x256x512 ![0, 0, 512] (proj x g w) slices_S16x256x1024_S16x256x512_0_0_512) shapeCasts_S16x256x512_S4096x512
end

/-- One element of a normed row. -/
def nrm (row : Fin 1024 → EReal) (gk : EReal) (k : Fin 1024) : EReal :=
  row k * Ideal.rsqrt (Ideal.div (∑ j, row j * row j) (Ideal.ofBits FTy.f32 1149239296#32) + Ideal.ofBits FTy.f32 897988541#32) * gk

theorem normed_at (x : FVec Ideal S16x256x1024 .f32) (g : FVec Ideal S1024 .f32) (b : Fin 16) (p : Fin 256) (k : Fin 1024) :
    normed x g (ix3 b p k) = nrm (fun j => x (ix3 b p j)) (g (ix1 k)) k := by
  unfold normed nrm
  pointwise

theorem proj_at (x : FVec Ideal S16x256x1024 .f32) (g : FVec Ideal S1024 .f32) (w : FVec Ideal S1024x1024 .f32) (b : Fin 16) (p : Fin 256) (q : Fin 1024) :
    proj x g w (ix3 b p q) = ∑ k : Fin 1024, nrm (fun j => x (ix3 b p j)) (g (ix1 k)) k * w (ix2 k q) := by
  unfold proj
  pointwise
  simp only [normed_at]

/-- Row `n` of the joined rows is position `n % 256` of sequence `n / 256`. -/
abbrev bat (n : Fin 4096) : Fin 16 := ⟨n.val / 256, by omega⟩
abbrev pos (n : Fin 4096) : Fin 256 := ⟨n.val % 256, by omega⟩

theorem keys_at (x : FVec Ideal S16x256x1024 .f32) (g : FVec Ideal S1024 .f32) (w : FVec Ideal S1024x1024 .f32) (n : Fin 4096) (q : Fin 512) :
    keys x g w (ix2 n q) = ∑ k : Fin 1024, nrm (fun j => x (ix3 (bat n) (pos n) j)) (g (ix1 k)) k * w (ix2 k (⟨q.val, by omega⟩ : Fin 1024)) := by
  unfold keys
  refine (shapeCast_apply _ _ (ix2 n q) (ix3 (bat n) (pos n) q) ?_).trans ?_
  · rw [Shape.rowMajor_val_two, Shape.rowMajor_val_three]
    show (n.val / 256 * 256 + n.val % 256) * 512 + q.val = n.val * 512 + q.val
    omega
  · refine Eq.trans ?_ (proj_at x g w (bat n) (pos n) ⟨q.val, by omega⟩)
    generalize proj x g w = y
    pointwise

theorem vals_at (x : FVec Ideal S16x256x1024 .f32) (g : FVec Ideal S1024 .f32) (w : FVec Ideal S1024x1024 .f32) (n : Fin 4096) (q : Fin 512) :
    vals x g w (ix2 n q) = ∑ k : Fin 1024, nrm (fun j => x (ix3 (bat n) (pos n) j)) (g (ix1 k)) k * w (ix2 k (⟨512 + q.val, by omega⟩ : Fin 1024)) := by
  unfold vals
  refine (shapeCast_apply _ _ (ix2 n q) (ix3 (bat n) (pos n) q) ?_).trans ?_
  · rw [Shape.rowMajor_val_two, Shape.rowMajor_val_three]
    show (n.val / 256 * 256 + n.val % 256) * 512 + q.val = n.val * 512 + q.val
    omega
  · refine Eq.trans ?_ (proj_at x g w (bat n) (pos n) ⟨512 + q.val, by omega⟩)
    generalize proj x g w = y
    pointwise

end Cert.Reference5Ideal.Hand

namespace Cert.Kernel5Ideal.Hand

open Cert.Kernel5Ideal Cert.Kernel5Ideal.Gen
open Cert.Reference5Ideal.Hand (nrm keys vals keys_at vals_at bat pos)
open Idealize.ShloMosaic Idealize.ShloMosaic.TcCoe Idealize.ShloMosaic.Tactic
open Idealize.SL Idealize.SL.RA Idealize.SL.Sem
open Idealize.ShloMosaic.Pipeline (Dat Cfg Window)

theorem hb_at (x : Vec Ideal S512x1024 .f32) (g : Vec Ideal S1x1024 .f32) (r : Fin 512) (k : Fin 1024) :
    k0_pay1 x g (ix2 r k) = nrm (fun j => x (ix2 r j)) (g (ix2 0 k)) k := by
  unfold k0_pay1 nrm
  pointwise

section
variable {F : FTy → Type} [FloatOps F]

theorem V_v0 (m : (ℓ : Loc nD τ sig) → Buf (Elt F) ℓ) (c : Dev nD) :
    V m c main_v0 = shapeCast S4096x1024 (m ((c.tc : Thread nD τ).loc main_arg0) : FVec F S16x256x1024 .f32) shapeCasts_S16x256x1024_S4096x1024 := by
  simp only [V, hostOps0]
  after_results_simp <;> rfl

theorem V_v1 (m : (ℓ : Loc nD τ sig) → Buf (Elt F) ℓ) (c : Dev nD) :
    V m c main_v1 = shapeCast S1x1024 (m ((c.tc : Thread nD τ).loc main_arg1) : FVec F S1024 .f32) shapeCasts_S1024_S1x1024 := by
  simp only [V, hostOps0]
  after_results_simp <;> rfl

theorem V_v2 (m : (ℓ : Loc nD τ sig) → Buf (Elt F) ℓ) (c : Dev nD) :
    V m c main_v2 = truncf .bf16 (m ((c.tc : Thread nD τ).loc main_arg2) : FVec F S1024x1024 .f32) bitsLt_bf16_f32 := by
  simp only [V, hostOps0]
  after_results_simp <;> rfl
end

variable (m : (ℓ : Loc nD τ sig) → Buf (Elt Ideal) ℓ)

abbrev A0 (c : Dev nD) : Vec Ideal S16x256x1024 .f32 := m ((c.tc : Thread nD τ).loc main_arg0)
abbrev A1 (c : Dev nD) : Vec Ideal S1024 .f32 := m ((c.tc : Thread nD τ).loc main_arg1)
abbrev A2 (c : Dev nD) : Vec Ideal S1024x1024 .f32 := m ((c.tc : Thread nD τ).loc main_arg2)

theorem rows_at (x : Vec Ideal S16x256x1024 .f32) (n : Fin 4096) (k : Fin 1024) :
    (shapeCast S4096x1024 x shapeCasts_S16x256x1024_S4096x1024 : Vec Ideal S4096x1024 .f32) (ix2 n k) = x (ix3 (bat n) (pos n) k) := by
  refine shapeCast_apply _ _ (ix2 n k) (ix3 (bat n) (pos n) k) ?_
  rw [Shape.rowMajor_val_two, Shape.rowMajor_val_three]
  show (n.val / 256 * 256 + n.val % 256) * 1024 + k.val = n.val * 1024 + k.val
  omega

theorem gain_at (x : Vec Ideal S1024 .f32) (k : Fin 1024) :
    (shapeCast S1x1024 x shapeCasts_S1024_S1x1024 : Vec Ideal S1x1024 .f32) (ix2 0 k) = x (ix1 k) := by
  pointwise

theorem coords0 (t : Fin grid0.N) : ((grid0.coords t) 0).val = t.val := by
  have h := Pipeline.Grid.coords_val t 0 (S := 1) (B := 8) (by decide) (by decide)
  have ht : t.val < 8 := t.isLt
  rw [h]; omega

theorem tr0 (t : Fin grid0.N) : cc0_transform_0 (grid0.coords t) = ![t.val, 0] := by
  have h := coords0 t
  have ht : t.val < 8 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ => rfl

abbrev row (t : Fin 8) (r : Fin 512) : Fin 4096 := ⟨t.val * 512 + r.val, by omega⟩

theorem iblk0_at (c : Dev nD) (t : Fin cfg0.N) (r : Fin 512) (q : Fin 1024) :
    iblk m c 0 t (ix2 r q) = A0 m c (ix3 (bat (row t r)) (pos (row t r)) q) := by
  have e : ((cfg0.win 0).rect t).emb (ix2 r q) = ix2 (row t r) q := by
    funext a
    refine Fin.ext ?_
    refine ((cfg0.win 0).rect_emb_val t _ a).trans ?_
    rw [show (cfg0.win 0).index t = ![t.val, 0] from tr0 t]
    match a with
    | ⟨0, _⟩ => rfl
    | ⟨1, _⟩ => show 0 * 1024 + q.val = q.val; omega
  refine Eq.trans (b := V m c main_v0 (((cfg0.win 0).rect t).emb (ix2 r q))) rfl ?_
  rw [V_v0, e]
  exact rows_at _ _ _

theorem iblk1_at (c : Dev nD) (t : Fin cfg0.N) (k : Fin 1024) :
    iblk m c 1 t (ix2 0 k) = A1 m c (ix1 k) := by
  have e : ((cfg0.win 1).rect t).emb (ix2 0 k) = ix2 0 k := by
    funext a
    refine Fin.ext ?_
    refine ((cfg0.win 1).rect_emb_val t _ a).trans ?_
    rw [show (cfg0.win 1).index t = ![0, 0] from funext fun a => match a with | ⟨0, _⟩ => rfl | ⟨1, _⟩ => rfl]
    match a with
    | ⟨0, _⟩ => rfl
    | ⟨1, _⟩ => show 0 * 1024 + k.val = k.val; omega
  refine Eq.trans (b := V m c main_v1 (((cfg0.win 1).rect t).emb (ix2 0 k))) rfl ?_
  rw [V_v1, e]
  exact gain_at _ _

theorem iblk2_at (c : Dev nD) (t : Fin cfg0.N) (k q : Fin 1024) :
    iblk m c 2 t (ix2 k q) = A2 m c (ix2 k q) := by
  have e : ((cfg0.win 2).rect t).emb (ix2 k q) = ix2 k q := by
    funext a
    refine Fin.ext ?_
    refine ((cfg0.win 2).rect_emb_val t _ a).trans ?_
    rw [show (cfg0.win 2).index t = ![0, 0] from funext fun a => match a with | ⟨0, _⟩ => rfl | ⟨1, _⟩ => rfl]
    match a with
    | ⟨0, _⟩ => show 0 * 1024 + k.val = k.val; omega
    | ⟨1, _⟩ => show 0 * 1024 + q.val = q.val; omega
  refine Eq.trans (b := V m c main_v2 (((cfg0.win 2).rect t).emb (ix2 k q))) rfl ?_
  rw [V_v2, e]
  rfl

theorem pay2_at (x : Vec Ideal S512x1024 .f32) (g : Vec Ideal S1x1024 .f32) (w : Vec Ideal S1024x512 .bf16) (r q : Fin 512) :
    k0_pay2 x g w (ix2 r q) = ∑ k : Fin 1024, nrm (fun j => x (ix2 r j)) (g (ix2 0 k)) k * w (ix2 k q) := by
  unfold k0_pay2
  pointwise
  simp only [hb_at]

theorem pay3_at (x : Vec Ideal S512x1024 .f32) (g : Vec Ideal S1x1024 .f32) (w : Vec Ideal S1024x512 .bf16) (r q : Fin 512) :
    k0_pay3 x g w (ix2 r q) = ∑ k : Fin 1024, nrm (fun j => x (ix2 r j)) (g (ix2 0 k)) k * w (ix2 k q) := by
  unfold k0_pay3
  pointwise
  simp only [hb_at]

theorem block3 (x : Vec Ideal S512x1024 .f32) (g : Vec Ideal S1x1024 .f32) (w : Vec Ideal S1024x1024 .bf16)
    (X : Vec Ideal S16x256x1024 .f32) (G : Vec Ideal S1024 .f32) (W : Vec Ideal S1024x1024 .f32) (t : Fin 8)
    (hx : ∀ (r : Fin 512) (q : Fin 1024), x (ix2 r q) = X (ix3 (bat (row t r)) (pos (row t r)) q))
    (hg : ∀ (k : Fin 1024), g (ix2 0 k) = G (ix1 k))
    (hw : ∀ (k q : Fin 1024), w (ix2 k q) = W (ix2 k q)) (r q : Fin 512) :
    out0_3 x g w (ix2 r q) = keys (F := Ideal) X G W (ix2 (row t r) q) := by
  have hk : out0_3 x g w = k0_pay2 x g (View.ld w r0_2) := by
    unfold out0_3
    rw [show View.ld (Val := Elt Ideal) (e' := .f32) x r0_0 = x from View.ld_unit_lit _ _ (by decide),
      show View.ld (Val := Elt Ideal) (e' := .f32) g r0_1 = g from View.ld_unit_lit _ _ (by decide)]
    exact View.canon_cons_unit_lit _ _ _ (by decide)
  have h2 : ∀ (k : Fin 1024) (q : Fin 512), View.ld (Val := Elt Ideal) (e' := .bf16) w r0_2 (ix2 k q) = W (ix2 k (⟨q.val, by omega⟩ : Fin 1024)) := fun k q => by
    rw [← hw]
    show w _ = w _
    refine congrArg w (funext fun a => Fin.ext ?_)
    match a with
    | ⟨0, _⟩ => show 0 + 1 * k.val = k.val; omega
    | ⟨1, _⟩ => show 0 + 1 * q.val = q.val; omega
  refine (congrFun hk _).trans ((pay2_at _ _ _ _ _).trans (Eq.trans ?_ (keys_at X G W (row t r) q).symm))
  refine Finset.sum_congr rfl fun k _ => ?_
  rw [h2, hg, show (fun j => x (ix2 r j)) = fun j => X (ix3 (bat (row t r)) (pos (row t r)) j) from funext fun j => hx r j]

theorem emb3 (t : Fin cfg0.N) (r l : Fin 512) :
    ((cfg0.win 3).rect t).emb (ix2 r l) = ix2 (row t r) l := by
  funext a
  refine Fin.ext ?_
  refine ((cfg0.win 3).rect_emb_val t _ a).trans ?_
  rw [show (cfg0.win 3).index t = ![t.val, 0] from tr0 t]
  match a with
  | ⟨0, _⟩ => rfl
  | ⟨1, _⟩ => show 0 * 512 + l.val = l.val; omega

theorem read3 (t : Fin cfg0.N) (G : S4096x512.Idx → EReal) (r l : Fin 512) :
    ((cfg0.win 3).blk t).view.read (Elt Ideal) G (ix2 r l) = G (((cfg0.win 3).rect t).emb (ix2 r l)) := rfl

theorem cut3 (t : Fin cfg0.N) (x : Vec Ideal S512x512 .f32) (r l : Fin 512) :
    (cfg0.win 3).cut (grid0.coords t) x (ix2 r l) = x (ix2 r l) := rfl

theorem arr_of3 (c : Dev nD) (G : S4096x512.Idx → EReal)
    (hG : ∀ (t : Fin cfg0.N) (r l : Fin 512), out0_3 (iblk m c 0 t) (iblk m c 1 t) (iblk m c 2 t) (ix2 r l) = G (ix2 (row t r) l)) :
    (dats m 0 c).arrAt 3 cfg0.N = G := by
  refine (dats m 0 c).arrAt_eq_of_cover 3 G (fun t _ => ?_) (fun i => ?_)
  · funext y
    obtain ⟨r, l, rfl⟩ : ∃ (r l : Fin 512), y = ix2 r l := ⟨(show S512x512.Idx from y) 0, (show S512x512.Idx from y) 1, eq_ix2 (n0 := 512) (n1 := 512) y⟩
    refine Eq.trans ?_ ((read3 t G r l).trans (congrArg G (emb3 t r l))).symm
    rw [Value.flushed3]
    exact (cut3 t _ r l).trans (hG t r l)
  · obtain ⟨n, l, rfl⟩ : ∃ (n : Fin 4096) (l : Fin 512), i = ix2 n l := ⟨(show S4096x512.Idx from i) 0, (show S4096x512.Idx from i) 1, eq_ix2 (n0 := 4096) (n1 := 512) i⟩
    have h0 := n.isLt
    refine ⟨(⟨n.val / 512, show _ < 8 by omega⟩ : Fin cfg0.N), flush0_3 _, ?_⟩
    refine Finset.mem_map.mpr ⟨ix2 (n0 := 512) (n1 := 512) ⟨n.val % 512, by omega⟩ l, Finset.mem_univ _, ?_⟩
    refine (emb3 _ _ _).trans ?_
    exact congrArg (fun k => (ix2 k l : S4096x512.Idx)) (Fin.ext (show n.val / 512 * 512 + n.val % 512 = n.val by omega))

theorem arr_eq3 (c : Dev nD) : (dats m 0 c).arrAt 3 cfg0.N = keys (F := Ideal) (A0 m c) (A1 m c) (A2 m c) :=
  arr_of3 m c _ fun t r l => block3 _ _ _ _ _ _ t (iblk0_at m c t) (iblk1_at m c t) (iblk2_at m c t) r l

theorem block4 (x : Vec Ideal S512x1024 .f32) (g : Vec Ideal S1x1024 .f32) (w : Vec Ideal S1024x1024 .bf16)
    (X : Vec Ideal S16x256x1024 .f32) (G : Vec Ideal S1024 .f32) (W : Vec Ideal S1024x1024 .f32) (t : Fin 8)
    (hx : ∀ (r : Fin 512) (q : Fin 1024), x (ix2 r q) = X (ix3 (bat (row t r)) (pos (row t r)) q))
    (hg : ∀ (k : Fin 1024), g (ix2 0 k) = G (ix1 k))
    (hw : ∀ (k q : Fin 1024), w (ix2 k q) = W (ix2 k q)) (r q : Fin 512) :
    out0_4 x g w (ix2 r q) = vals (F := Ideal) X G W (ix2 (row t r) q) := by
  have hk : out0_4 x g w = k0_pay3 x g (View.ld w r0_4) := by
    unfold out0_4
    rw [show View.ld (Val := Elt Ideal) (e' := .f32) x r0_0 = x from View.ld_unit_lit _ _ (by decide),
      show View.ld (Val := Elt Ideal) (e' := .f32) g r0_1 = g from View.ld_unit_lit _ _ (by decide)]
    exact View.canon_cons_unit_lit _ _ _ (by decide)
  have h2 : ∀ (k : Fin 1024) (q : Fin 512), View.ld (Val := Elt Ideal) (e' := .bf16) w r0_4 (ix2 k q) = W (ix2 k (⟨512 + q.val, by omega⟩ : Fin 1024)) := fun k q => by
    rw [← hw]
    show w _ = w _
    refine congrArg w (funext fun a => Fin.ext ?_)
    match a with
    | ⟨0, _⟩ => show 0 + 1 * k.val = k.val; omega
    | ⟨1, _⟩ => show 512 + 1 * q.val = 512 + q.val; omega
  refine (congrFun hk _).trans ((pay3_at _ _ _ _ _).trans (Eq.trans ?_ (vals_at X G W (row t r) q).symm))
  refine Finset.sum_congr rfl fun k _ => ?_
  rw [h2, hg, show (fun j => x (ix2 r j)) = fun j => X (ix3 (bat (row t r)) (pos (row t r)) j) from funext fun j => hx r j]

theorem emb4 (t : Fin cfg0.N) (r l : Fin 512) :
    ((cfg0.win 4).rect t).emb (ix2 r l) = ix2 (row t r) l := by
  funext a
  refine Fin.ext ?_
  refine ((cfg0.win 4).rect_emb_val t _ a).trans ?_
  rw [show (cfg0.win 4).index t = ![t.val, 0] from tr0 t]
  match a with
  | ⟨0, _⟩ => rfl
  | ⟨1, _⟩ => show 0 * 512 + l.val = l.val; omega

theorem read4 (t : Fin cfg0.N) (G : S4096x512.Idx → EReal) (r l : Fin 512) :
    ((cfg0.win 4).blk t).view.read (Elt Ideal) G (ix2 r l) = G (((cfg0.win 4).rect t).emb (ix2 r l)) := rfl

theorem cut4 (t : Fin cfg0.N) (x : Vec Ideal S512x512 .f32) (r l : Fin 512) :
    (cfg0.win 4).cut (grid0.coords t) x (ix2 r l) = x (ix2 r l) := rfl

theorem arr_of4 (c : Dev nD) (G : S4096x512.Idx → EReal)
    (hG : ∀ (t : Fin cfg0.N) (r l : Fin 512), out0_4 (iblk m c 0 t) (iblk m c 1 t) (iblk m c 2 t) (ix2 r l) = G (ix2 (row t r) l)) :
    (dats m 0 c).arrAt 4 cfg0.N = G := by
  refine (dats m 0 c).arrAt_eq_of_cover 4 G (fun t _ => ?_) (fun i => ?_)
  · funext y
    obtain ⟨r, l, rfl⟩ : ∃ (r l : Fin 512), y = ix2 r l := ⟨(show S512x512.Idx from y) 0, (show S512x512.Idx from y) 1, eq_ix2 (n0 := 512) (n1 := 512) y⟩
    refine Eq.trans ?_ ((read4 t G r l).trans (congrArg G (emb4 t r l))).symm
    rw [Value.flushed4]
    exact (cut4 t _ r l).trans (hG t r l)
  · obtain ⟨n, l, rfl⟩ : ∃ (n : Fin 4096) (l : Fin 512), i = ix2 n l := ⟨(show S4096x512.Idx from i) 0, (show S4096x512.Idx from i) 1, eq_ix2 (n0 := 4096) (n1 := 512) i⟩
    have h0 := n.isLt
    refine ⟨(⟨n.val / 512, show _ < 8 by omega⟩ : Fin cfg0.N), flush0_4 _, ?_⟩
    refine Finset.mem_map.mpr ⟨ix2 (n0 := 512) (n1 := 512) ⟨n.val % 512, by omega⟩ l, Finset.mem_univ _, ?_⟩
    refine (emb4 _ _ _).trans ?_
    exact congrArg (fun k => (ix2 k l : S4096x512.Idx)) (Fin.ext (show n.val / 512 * 512 + n.val % 512 = n.val by omega))

theorem arr_eq4 (c : Dev nD) : (dats m 0 c).arrAt 4 cfg0.N = vals (F := Ideal) (A0 m c) (A1 m c) (A2 m c) :=
  arr_of4 m c _ fun t r l => block4 _ _ _ _ _ _ t (iblk0_at m c t) (iblk1_at m c t) (iblk2_at m c t) r l

end Cert.Kernel5Ideal.Hand

end
-- ==== Proof.MemClaim.lean ====
/- The memory's keys and values: its programs' claims. -/
module

public import proofs.«01_k».proof.Proof.MemVal
public import proofs.«01_k».proof.Defs
public import proofs.«01_k».proof.Proof.Gen.Kernel5.Frame
public import proofs.«01_k».proof.Proof.Gen.Reference5Ideal.Run

@[expose] public section

noncomputable section

namespace Cert.MemClaim

open Cert.Kernel5Ideal.Hand
open Cert.Reference5Ideal.Hand (keys vals)
open Idealize.ShloMosaic Idealize.ShloMosaic.TcCoe Idealize.SL.Sem

theorem frame_kernel : Cert.quiescent_Kernel5 := fun m g _ => Cert.Kernel5.Gen.frame m g

theorem frame_ideal : Cert.quiescent_Kernel5Ideal := fun m g _ => Cert.Kernel5Ideal.Gen.frame m g

theorem frame_reference : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

theorem congr_args {α : Type*} (f : FVec Ideal Cert.Reference5Ideal.S16x256x1024 .f32 → FVec Ideal Cert.Reference5Ideal.S1024 .f32 → FVec Ideal Cert.Reference5Ideal.S1024x1024 .f32 → α)
    {x x' : FVec Ideal Cert.Reference5Ideal.S16x256x1024 .f32} {g g' : FVec Ideal Cert.Reference5Ideal.S1024 .f32} {w w' : FVec Ideal Cert.Reference5Ideal.S1024x1024 .f32}
    (hx : x = x') (hg : g = g') (hw : w = w') : f x g w = f x' g' w' := by
  subst hx; subst hg; subst hw; rfl

theorem values : Cert.algebraic_Kernel5Ideal_Reference5Ideal := fun m g m' g' _ hag =>
  ⟨fun c => keys (F := Ideal) (A0 m c) (A1 m c) (A2 m c), fun c => vals (F := Ideal) (A0 m c) (A1 m c) (A2 m c),
    (θ_run Cert.Kernel5Ideal.defs _ _).mono (fun _ h c => ⟨(h c).1.trans (arr_eq3 m c), (h c).2.1.trans (arr_eq4 m c), (h c).2.2⟩) (Cert.Kernel5Ideal.Value.run_blocks m g),
    (θ_run Cert.Reference5Ideal.defs _ _).mono (fun r h c =>
        ⟨(h c).1.trans (congr_args (keys (F := Ideal)) (hag c).1 (hag c).2.1 (hag c).2.2),
          (h c).2.1.trans (congr_args (vals (F := Ideal)) (hag c).1 (hag c).2.1 (hag c).2.2), (h c).2.2⟩)
      (Cert.Reference5Ideal.Value.run (F := Ideal) m' g')⟩

end Cert.MemClaim

end
-- ==== Proof.SampVal.lean ====
/- The input projection of the sample: the arrays the region leaves are the reference's, at exact values. -/
module

public import proofs.«01_k».proof.Proof.Gen.Kernel6Ideal.Value
public import proofs.«01_k».proof.Proof.Gen.Reference6Ideal
public import Idealize.ShloMosaic.Lib.Pipeline.ValueKit
public import Idealize.ShloMosaic.Lib.Pointwise.Index

@[expose] public section

set_option maxRecDepth 16384

noncomputable section

namespace Cert.Reference6Ideal.Hand

open Cert.Reference6Ideal Cert.Reference6Ideal.Gen
open Idealize.ShloMosaic Idealize.ShloMosaic.TcCoe Idealize.ShloMosaic.Tactic

section
variable {F : FTy → Type} [FloatOps F]

/-- The normed tokens. -/
def normed (x : FVec F S32x8x1024 .f32) (g : FVec F S1024 .f32) : FVec F S32x8x1024 .f32 :=
  mulf (mulf x (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x x) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))

/-- All the projections of the normed tokens, side by side. -/
def proj (x : FVec F S32x8x1024 .f32) (g : FVec F S1024 .f32) (w : FVec F S1024x3600 .f32) : FVec F S32x8x3600 .f32 :=
  Host.dotGeneral dot_S32x8x1024_S1024x3600_S32x8x3600_2_0_01_1_n_n none (normed x g) w

/-- The reference's seven results, from the projections. -/
def qkvOf (y : FVec F S32x8x3600 .f32) : FVec F S256x1536 .f32 :=
  shapeCast _ (concatenate S32x8x1536 2 [⟨S32x8x512, extractStridedSlice S32x8x512 ![0, 0, 0] y slices_S32x8x3600_S32x8x512_0_0_0⟩, ⟨S32x8x512, extractStridedSlice S32x8x512 ![0, 0, 512] y slices_S32x8x3600_S32x8x512_0_0_512⟩, ⟨S32x8x512, extractStridedSlice S32x8x512 ![0, 0, 1024] y slices_S32x8x3600_S32x8x512_0_0_1024⟩] concatenates_S32x8x512_S32x8x512_S32x8x512_S32x8x1536_d2 : FVec F S32x8x1536 .f32) shapeCasts_S32x8x1536_S256x1536

def zOf (y : FVec F S32x8x3600 .f32) : FVec F S256x512 .f32 :=
  shapeCast _ (extractStridedSlice S32x8x512 ![0, 0, 1536] y slices_S32x8x3600_S32x8x512_0_0_1536) shapeCasts_S32x8x512_S256x512

def fqOf (y : FVec F S32x8x3600 .f32) : FVec F S256x512 .f32 :=
  shapeCast _ (extractStridedSlice S32x8x512 ![0, 0, 2056] y slices_S32x8x3600_S32x8x512_0_0_2056) shapeCasts_S32x8x512_S256x512

def fkOf (y : FVec F S32x8x3600 .f32) : FVec F S256x512 .f32 :=
  shapeCast _ (extractStridedSlice S32x8x512 ![0, 0, 2568] y slices_S32x8x3600_S32x8x512_0_0_2568) shapeCasts_S32x8x512_S256x512

def fvOf (y : FVec F S32x8x3600 .f32) : FVec F S256x512 .f32 :=
  shapeCast _ (extractStridedSlice S32x8x512 ![0, 0, 3080] y slices_S32x8x3600_S32x8x512_0_0_3080) shapeCasts_S32x8x512_S256x512

/-- The small columns joined. -/
def smOf (y : FVec F S32x8x3600 .f32) : FVec F S256x16 .f32 :=
  shapeCast _ (concatenate S32x8x16 2 [⟨S32x8x4, extractStridedSlice S32x8x4 ![0, 0, 2048] y slices_S32x8x3600_S32x8x4_0_0_2048⟩, ⟨S32x8x4, extractStridedSlice S32x8x4 ![0, 0, 2052] y slices_S32x8x3600_S32x8x4_0_0_2052⟩, ⟨S32x8x8, extractStridedSlice S32x8x8 ![0, 0, 3592] y slices_S32x8x3600_S32x8x8_0_0_3592⟩] concatenates_S32x8x4_S32x8x4_S32x8x8_S32x8x16_d2 : FVec F S32x8x16 .f32) shapeCasts_S32x8x16_S256x16

def padOf (y : FVec F S32x8x3600 .f32) : FVec F S256x128 .f32 :=
  concatenate S256x128 1 [⟨S256x16, smOf y⟩, ⟨S256x112, broadcastInDim S256x112 ![] bcast_S_S256x112 (constant S_ .f32 0x00000000#32)⟩] concatenates_S256x16_S256x112_S256x128_d1

def smtOf (y : FVec F S32x8x3600 .f32) : FVec F S16x256 .f32 :=
  transpose S16x256 [1, 0] (smOf y) transposes_S256x16_S16x256_1_0
end

/-- One element of a normed row. -/
def nrm (row : Fin 1024 → EReal) (gk : EReal) (k : Fin 1024) : EReal :=
  row k * Ideal.rsqrt (Ideal.div (∑ j, row j * row j) (Ideal.ofBits FTy.f32 1149239296#32) + Ideal.ofBits FTy.f32 897988541#32) * gk

/-- One element of the projections: a normed row by a column of the weight. -/
def el (row : Fin 1024 → EReal) (g : Fin 1024 → EReal) (w : Fin 1024 → EReal) : EReal := ∑ k : Fin 1024, nrm row (g k) k * w k

theorem normed_at (x : FVec Ideal S32x8x1024 .f32) (g : FVec Ideal S1024 .f32) (b : Fin 32) (p : Fin 8) (k : Fin 1024) :
    normed x g (ix3 b p k) = nrm (fun j => x (ix3 b p j)) (g (ix1 k)) k := by
  unfold normed nrm
  pointwise

theorem proj_at (x : FVec Ideal S32x8x1024 .f32) (g : FVec Ideal S1024 .f32) (w : FVec Ideal S1024x3600 .f32) (b : Fin 32) (p : Fin 8) (q : Fin 3600) :
    proj x g w (ix3 b p q) = el (fun j => x (ix3 b p j)) (fun k => g (ix1 k)) (fun k => w (ix2 k q)) := by
  unfold proj el
  pointwise
  simp only [normed_at]

/-- Row `n` of the joined rows is position `n % 8` of sequence `n / 8`. -/
abbrev bat (n : Fin 256) : Fin 32 := ⟨n.val / 8, by omega⟩
abbrev pos (n : Fin 256) : Fin 8 := ⟨n.val % 8, by omega⟩

/-- The column of the weight that a small column comes from. -/
def sm (j : Fin 16) : Fin 3600 := if h : j.val < 8 then ⟨2048 + j.val, by omega⟩ else ⟨3584 + j.val, by omega⟩

theorem sm_lo (j : Fin 16) (h : j.val < 8) : sm j = ⟨2048 + j.val, by omega⟩ := dif_pos h
theorem sm_hi (j : Fin 16) (h : ¬ j.val < 8) : sm j = ⟨3584 + j.val, by omega⟩ := dif_neg h

theorem at3 (y : FVec Ideal S32x8x3600 .f32) (b : Fin 32) (p : Fin 8) {a a' : ℕ} {h : a < 3600} {h' : a' < 3600} (e : a = a') :
    y (ix3 b p ⟨a, h⟩) = y (ix3 b p ⟨a', h'⟩) := by
  subst e; rfl

theorem qkvOf_at (y : FVec Ideal S32x8x3600 .f32) (n : Fin 256) (q : Fin 1536) :
    qkvOf y (ix2 n q) = y (ix3 (bat n) (pos n) (⟨q.val, by omega⟩ : Fin 3600)) := by
  unfold qkvOf
  refine (shapeCast_apply _ _ (ix2 n q) (ix3 (bat n) (pos n) q) ?_).trans ?_
  · rw [Shape.rowMajor_val_two, Shape.rowMajor_val_three]
    show (n.val / 8 * 8 + n.val % 8) * 1536 + q.val = n.val * 1536 + q.val
    omega
  · pointwise
    split_ifs <;> exact at3 y _ _ (by omega)

theorem zOf_at (y : FVec Ideal S32x8x3600 .f32) (n : Fin 256) (q : Fin 512) :
    zOf y (ix2 n q) = y (ix3 (bat n) (pos n) (⟨1536 + q.val, by omega⟩ : Fin 3600)) := by
  unfold zOf
  refine (shapeCast_apply _ _ (ix2 n q) (ix3 (bat n) (pos n) q) ?_).trans ?_
  · rw [Shape.rowMajor_val_two, Shape.rowMajor_val_three]
    show (n.val / 8 * 8 + n.val % 8) * 512 + q.val = n.val * 512 + q.val
    omega
  · pointwise

theorem fqOf_at (y : FVec Ideal S32x8x3600 .f32) (n : Fin 256) (q : Fin 512) :
    fqOf y (ix2 n q) = y (ix3 (bat n) (pos n) (⟨2056 + q.val, by omega⟩ : Fin 3600)) := by
  unfold fqOf
  refine (shapeCast_apply _ _ (ix2 n q) (ix3 (bat n) (pos n) q) ?_).trans ?_
  · rw [Shape.rowMajor_val_two, Shape.rowMajor_val_three]
    show (n.val / 8 * 8 + n.val % 8) * 512 + q.val = n.val * 512 + q.val
    omega
  · pointwise

theorem fkOf_at (y : FVec Ideal S32x8x3600 .f32) (n : Fin 256) (q : Fin 512) :
    fkOf y (ix2 n q) = y (ix3 (bat n) (pos n) (⟨2568 + q.val, by omega⟩ : Fin 3600)) := by
  unfold fkOf
  refine (shapeCast_apply _ _ (ix2 n q) (ix3 (bat n) (pos n) q) ?_).trans ?_
  · rw [Shape.rowMajor_val_two, Shape.rowMajor_val_three]
    show (n.val / 8 * 8 + n.val % 8) * 512 + q.val = n.val * 512 + q.val
    omega
  · pointwise

theorem fvOf_at (y : FVec Ideal S32x8x3600 .f32) (n : Fin 256) (q : Fin 512) :
    fvOf y (ix2 n q) = y (ix3 (bat n) (pos n) (⟨3080 + q.val, by omega⟩ : Fin 3600)) := by
  unfold fvOf
  refine (shapeCast_apply _ _ (ix2 n q) (ix3 (bat n) (pos n) q) ?_).trans ?_
  · rw [Shape.rowMajor_val_two, Shape.rowMajor_val_three]
    show (n.val / 8 * 8 + n.val % 8) * 512 + q.val = n.val * 512 + q.val
    omega
  · pointwise

theorem smOf_at (y : FVec Ideal S32x8x3600 .f32) (n : Fin 256) (q : Fin 16) :
    smOf y (ix2 n q) = y (ix3 (bat n) (pos n) (sm q)) := by
  unfold smOf
  refine (shapeCast_apply _ _ (ix2 n q) (ix3 (bat n) (pos n) q) ?_).trans ?_
  · rw [Shape.rowMajor_val_two, Shape.rowMajor_val_three]
    show (n.val / 8 * 8 + n.val % 8) * 16 + q.val = n.val * 16 + q.val
    omega
  · pointwise
    by_cases h8 : q.val < 8
    · rw [sm_lo q h8]
      split_ifs <;> first | omega | exact at3 y _ _ (by omega)
    · rw [sm_hi q h8]
      split_ifs <;> first | omega | exact at3 y _ _ (by omega)

theorem padOf_at (y : FVec Ideal S32x8x3600 .f32) (n : Fin 256) (q : Fin 128) :
    padOf y (ix2 n q) = if h : q.val < 16 then y (ix3 (bat n) (pos n) (sm ⟨q.val, h⟩)) else 0 := by
  unfold padOf
  have e : ∀ q : Fin 16, smOf y (ix2 n q) = y (ix3 (bat n) (pos n) (sm q)) := smOf_at y n
  generalize smOf y = z at e ⊢
  pointwise
  split_ifs
  · exact e _
  · rfl

theorem smtOf_at (y : FVec Ideal S32x8x3600 .f32) (n : Fin 256) (q : Fin 16) :
    smtOf y (ix2 q n) = y (ix3 (bat n) (pos n) (sm q)) := by
  unfold smtOf
  have e : ∀ q : Fin 16, smOf y (ix2 n q) = y (ix3 (bat n) (pos n) (sm q)) := smOf_at y n
  generalize smOf y = z at e ⊢
  pointwise
  exact e _

end Cert.Reference6Ideal.Hand

namespace Cert.Kernel6Ideal.Hand

open Cert.Kernel6Ideal Cert.Kernel6Ideal.Gen
open Cert.Reference6Ideal.Hand (nrm el sm sm_lo sm_hi bat pos proj proj_at qkvOf zOf fqOf fkOf fvOf padOf smtOf qkvOf_at zOf_at fqOf_at fkOf_at fvOf_at padOf_at smtOf_at)
open Idealize.ShloMosaic Idealize.ShloMosaic.TcCoe Idealize.ShloMosaic.Tactic
open Idealize.SL Idealize.SL.RA Idealize.SL.Sem
open Idealize.ShloMosaic.Pipeline (Dat Cfg Window)

section
variable {F : FTy → Type} [FloatOps F]

/-- The column groups side by side but for the small ones. -/
def wMain (w : FVec F S1024x3600 .f32) : FVec F S1024x3584 .bf16 :=
  truncf .bf16 (concatenate S1024x3584 1 [⟨S1024x512, extractStridedSlice S1024x512 ![0, 0] w slices_S1024x3600_S1024x512_0_0⟩, ⟨S1024x512, extractStridedSlice S1024x512 ![0, 512] w slices_S1024x3600_S1024x512_0_512⟩, ⟨S1024x512, extractStridedSlice S1024x512 ![0, 1024] w slices_S1024x3600_S1024x512_0_1024⟩, ⟨S1024x512, extractStridedSlice S1024x512 ![0, 1536] w slices_S1024x3600_S1024x512_0_1536⟩, ⟨S1024x512, extractStridedSlice S1024x512 ![0, 2056] w slices_S1024x3600_S1024x512_0_2056⟩, ⟨S1024x512, extractStridedSlice S1024x512 ![0, 2568] w slices_S1024x3600_S1024x512_0_2568⟩, ⟨S1024x512, extractStridedSlice S1024x512 ![0, 3080] w slices_S1024x3600_S1024x512_0_3080⟩] concatenates_S1024x512_S1024x512_S1024x512_S1024x512_S1024x512_S1024x512_S1024x512_S1024x3584_d1 : FVec F S1024x3584 .f32) bitsLt_bf16_f32

/-- The attention's keys' and values' columns as rows. -/
def wKv (w : FVec F S1024x3600 .f32) : FVec F S1024x1024 .bf16 :=
  truncf .bf16 (transpose S1024x1024 [1, 0] (concatenate S1024x1024 1 [⟨S1024x512, extractStridedSlice S1024x512 ![0, 2568] w slices_S1024x3600_S1024x512_0_2568⟩, ⟨S1024x512, extractStridedSlice S1024x512 ![0, 3080] w slices_S1024x3600_S1024x512_0_3080⟩] concatenates_S1024x512_S1024x512_S1024x1024_d1 : FVec F S1024x1024 .f32) transposes_S1024x1024_S1024x1024_1_0) bitsLt_bf16_f32

/-- The small columns, zeros after them. -/
def wSmall (w : FVec F S1024x3600 .f32) : FVec F S1024x128 .bf16 :=
  truncf .bf16 (concatenate S1024x128 1 [⟨S1024x4, extractStridedSlice S1024x4 ![0, 2048] w slices_S1024x3600_S1024x4_0_2048⟩, ⟨S1024x4, extractStridedSlice S1024x4 ![0, 2052] w slices_S1024x3600_S1024x4_0_2052⟩, ⟨S1024x8, extractStridedSlice S1024x8 ![0, 3592] w slices_S1024x3600_S1024x8_0_3592⟩, ⟨S1024x112, broadcastInDim S1024x112 ![] bcast_S_S1024x112 (constant S_ .f32 0x00000000#32)⟩] concatenates_S1024x4_S1024x4_S1024x8_S1024x112_S1024x128_d1 : FVec F S1024x128 .f32) bitsLt_bf16_f32

/-- The small columns as rows. -/
def wSmallT (w : FVec F S1024x3600 .f32) : FVec F S16x1024 .bf16 :=
  transpose S16x1024 [1, 0] (extractStridedSlice S1024x16 ![0, 0] (wSmall w) slices_S1024x128_S1024x16_0_0) transposes_S1024x16_S16x1024_1_0

theorem V_v20 (m : (ℓ : Loc nD τ sig) → Buf (Elt F) ℓ) (c : Dev nD) :
    V m c main_v20 = shapeCast S256x1024 (m ((c.tc : Thread nD τ).loc main_arg0) : FVec F S32x8x1024 .f32) shapeCasts_S32x8x1024_S256x1024 := by
  simp only [V, hostOps0]
  after_results_simp <;> rfl

theorem V_v21 (m : (ℓ : Loc nD τ sig) → Buf (Elt F) ℓ) (c : Dev nD) :
    V m c main_v21 = shapeCast S1x1024 (m ((c.tc : Thread nD τ).loc main_arg1) : FVec F S1024 .f32) shapeCasts_S1024_S1x1024 := by
  simp only [V, hostOps0]
  after_results_simp <;> rfl

theorem V_v14 (m : (ℓ : Loc nD τ sig) → Buf (Elt F) ℓ) (c : Dev nD) :
    V m c main_v14 = wKv (m ((c.tc : Thread nD τ).loc main_arg2) : FVec F S1024x3600 .f32) := by
  simp only [V, hostOps0]
  after_results_simp <;> (try dsimp only [Matrix.cons_val]) <;> (try after_results_simp) <;> rfl

theorem V_v11 (m : (ℓ : Loc nD τ sig) → Buf (Elt F) ℓ) (c : Dev nD) :
    V m c main_v11 = wMain (m ((c.tc : Thread nD τ).loc main_arg2) : FVec F S1024x3600 .f32) := by
  simp only [V, hostOps0]
  after_results_simp <;> (try dsimp only [Matrix.cons_val]) <;> (try after_results_simp) <;> rfl

theorem V_v17 (m : (ℓ : Loc nD τ sig) → Buf (Elt F) ℓ) (c : Dev nD) :
    V m c main_v17 = wSmall (m ((c.tc : Thread nD τ).loc main_arg2) : FVec F S1024x3600 .f32) := by
  simp only [V, hostOps0]
  after_results_simp <;> (try dsimp only [Matrix.cons_val]) <;> (try after_results_simp) <;> rfl

theorem V_v19 (m : (ℓ : Loc nD τ sig) → Buf (Elt F) ℓ) (c : Dev nD) :
    V m c main_v19 = wSmallT (m ((c.tc : Thread nD τ).loc main_arg2) : FVec F S1024x3600 .f32) := by
  simp only [V, hostOps0]
  after_results_simp <;> (try dsimp only [Matrix.cons_val]) <;> (try after_results_simp) <;> rfl
end

theorem at2 (w : Vec Ideal S1024x3600 .f32) (k : Fin 1024) {a a' : ℕ} {h : a < 3600} {h' : a' < 3600} (e : a = a') :
    w (ix2 k ⟨a, h⟩) = w (ix2 k ⟨a', h'⟩) := by
  subst e; rfl

theorem wMain_at (w : Vec Ideal S1024x3600 .f32) (k : Fin 1024) (j : Fin 3584) :
    wMain (F := Ideal) w (ix2 k j) = w (ix2 k (⟨if j.val < 2048 then j.val else j.val + 8, by split <;> omega⟩ : Fin 3600)) := by
  unfold wMain
  pointwise
  split_ifs <;> first | omega | exact at2 w k (by split_ifs <;> omega)

theorem wSmall_at (w : Vec Ideal S1024x3600 .f32) (k : Fin 1024) (j : Fin 128) :
    wSmall (F := Ideal) w (ix2 k j) = if h : j.val < 16 then w (ix2 k (sm ⟨j.val, h⟩)) else 0 := by
  unfold wSmall
  pointwise
  by_cases h : j.val < 16
  · rw [dif_pos h]
    by_cases h8 : j.val < 8
    · rw [sm_lo ⟨j.val, h⟩ h8]
      split_ifs <;> first | omega | exact at2 w k (by first | omega | rfl | (dsimp only; omega))
    · rw [sm_hi ⟨j.val, h⟩ h8]
      split_ifs <;> first | omega | exact at2 w k (by first | omega | rfl | (dsimp only; omega))
  · rw [dif_neg h]
    split_ifs <;> first | omega | rfl

theorem wSmallT_at (w : Vec Ideal S1024x3600 .f32) (k : Fin 1024) (j : Fin 16) :
    wSmallT (F := Ideal) w (ix2 j k) = w (ix2 k (sm j)) := by
  unfold wSmallT
  have e : ∀ j : Fin 128, wSmall (F := Ideal) w (ix2 k j) = if h : j.val < 16 then w (ix2 k (sm ⟨j.val, h⟩)) else 0 := wSmall_at w k
  generalize wSmall (F := Ideal) w = z at e ⊢
  pointwise
  exact (e _).trans (dif_pos j.isLt)

variable (m : (ℓ : Loc nD τ sig) → Buf (Elt Ideal) ℓ)

abbrev A0 (c : Dev nD) : Vec Ideal S32x8x1024 .f32 := m ((c.tc : Thread nD τ).loc main_arg0)
abbrev A1 (c : Dev nD) : Vec Ideal S1024 .f32 := m ((c.tc : Thread nD τ).loc main_arg1)
abbrev A2 (c : Dev nD) : Vec Ideal S1024x3600 .f32 := m ((c.tc : Thread nD τ).loc main_arg2)

theorem rows_at (x : Vec Ideal S32x8x1024 .f32) (n : Fin 256) (k : Fin 1024) :
    (shapeCast S256x1024 x shapeCasts_S32x8x1024_S256x1024 : Vec Ideal S256x1024 .f32) (ix2 n k) = x (ix3 (bat n) (pos n) k) := by
  refine shapeCast_apply _ _ (ix2 n k) (ix3 (bat n) (pos n) k) ?_
  rw [Shape.rowMajor_val_two, Shape.rowMajor_val_three]
  show (n.val / 8 * 8 + n.val % 8) * 1024 + k.val = n.val * 1024 + k.val
  omega

theorem gain_at (x : Vec Ideal S1024 .f32) (k : Fin 1024) :
    (shapeCast S1x1024 x shapeCasts_S1024_S1x1024 : Vec Ideal S1x1024 .f32) (ix2 0 k) = x (ix1 k) := by
  pointwise

theorem coords0 (t : Fin grid0.N) : ((grid0.coords t) 0).val = t.val := by
  have h := Pipeline.Grid.coords_val t 0 (S := 1) (B := 1) (by decide) (by decide)
  have ht : t.val < 1 := t.isLt
  rw [h]; omega

theorem tr0 (t : Fin grid0.N) : cc0_transform_0 (grid0.coords t) = ![t.val, 0] := by
  have h := coords0 t
  have ht : t.val < 1 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ => rfl

theorem tr12 (t : Fin grid0.N) : cc0_transform_12 (grid0.coords t) = ![0, t.val] := by
  have h := coords0 t
  have ht : t.val < 1 := t.isLt
  unfold cc0_transform_12
  funext a
  match a with
  | ⟨0, _⟩ => rfl
  | ⟨1, _⟩ =>
    show (BitVec.ofNat 32 ((grid0.coords t) 0).val).toNat = t.val
    rw [h, BitVec.toNat_ofNat, Nat.mod_eq_of_lt (by omega)]

abbrev row (t : Fin 1) (r : Fin 256) : Fin 256 := ⟨t.val * 256 + r.val, by omega⟩

theorem iblk0_at (c : Dev nD) (t : Fin cfg0.N) (r : Fin 256) (q : Fin 1024) :
    iblk m c 0 t (ix2 r q) = A0 m c (ix3 (bat (row t r)) (pos (row t r)) q) := by
  have e : ((cfg0.win 0).rect t).emb (ix2 r q) = ix2 (row t r) q := by
    funext a
    refine Fin.ext ?_
    refine ((cfg0.win 0).rect_emb_val t _ a).trans ?_
    rw [show (cfg0.win 0).index t = ![t.val, 0] from tr0 t]
    match a with
    | ⟨0, _⟩ => rfl
    | ⟨1, _⟩ => show 0 * 1024 + q.val = q.val; omega
  refine Eq.trans (b := V m c main_v20 (((cfg0.win 0).rect t).emb (ix2 r q))) rfl ?_
  rw [V_v20, e]
  exact rows_at _ _ _

theorem iblk1_at (c : Dev nD) (t : Fin cfg0.N) (k : Fin 1024) :
    iblk m c 1 t (ix2 0 k) = A1 m c (ix1 k) := by
  have e : ((cfg0.win 1).rect t).emb (ix2 0 k) = ix2 0 k := by
    funext a
    refine Fin.ext ?_
    refine ((cfg0.win 1).rect_emb_val t _ a).trans ?_
    rw [show (cfg0.win 1).index t = ![0, 0] from funext fun a => match a with | ⟨0, _⟩ => rfl | ⟨1, _⟩ => rfl]
    match a with
    | ⟨0, _⟩ => rfl
    | ⟨1, _⟩ => show 0 * 1024 + k.val = k.val; omega
  refine Eq.trans (b := V m c main_v21 (((cfg0.win 1).rect t).emb (ix2 0 k))) rfl ?_
  rw [V_v21, e]
  exact gain_at _ _

theorem iblk2_at (c : Dev nD) (t : Fin cfg0.N) (a : Fin 1024) (b : Fin 3584) :
    iblk m c 2 t (ix2 a b) = wMain (F := Ideal) (A2 m c) (ix2 a b) := by
  have e : ((cfg0.win 2).rect t).emb (ix2 a b) = ix2 a b := by
    funext d
    refine Fin.ext ?_
    refine ((cfg0.win 2).rect_emb_val t _ d).trans ?_
    rw [show (cfg0.win 2).index t = ![0, 0] from funext fun a => match a with | ⟨0, _⟩ => rfl | ⟨1, _⟩ => rfl]
    match d with
    | ⟨0, _⟩ => show 0 * 1024 + a.val = a.val; omega
    | ⟨1, _⟩ => show 0 * 3584 + b.val = b.val; omega
  refine Eq.trans (b := V m c main_v11 (((cfg0.win 2).rect t).emb (ix2 a b))) rfl ?_
  rw [V_v11, e]

theorem iblk4_at (c : Dev nD) (t : Fin cfg0.N) (a : Fin 1024) (b : Fin 128) :
    iblk m c 4 t (ix2 a b) = wSmall (F := Ideal) (A2 m c) (ix2 a b) := by
  have e : ((cfg0.win 4).rect t).emb (ix2 a b) = ix2 a b := by
    funext d
    refine Fin.ext ?_
    refine ((cfg0.win 4).rect_emb_val t _ d).trans ?_
    rw [show (cfg0.win 4).index t = ![0, 0] from funext fun a => match a with | ⟨0, _⟩ => rfl | ⟨1, _⟩ => rfl]
    match d with
    | ⟨0, _⟩ => show 0 * 1024 + a.val = a.val; omega
    | ⟨1, _⟩ => show 0 * 128 + b.val = b.val; omega
  refine Eq.trans (b := V m c main_v17 (((cfg0.win 4).rect t).emb (ix2 a b))) rfl ?_
  rw [V_v17, e]

theorem iblk5_at (c : Dev nD) (t : Fin cfg0.N) (a : Fin 16) (b : Fin 1024) :
    iblk m c 5 t (ix2 a b) = wSmallT (F := Ideal) (A2 m c) (ix2 a b) := by
  have e : ((cfg0.win 5).rect t).emb (ix2 a b) = ix2 a b := by
    funext d
    refine Fin.ext ?_
    refine ((cfg0.win 5).rect_emb_val t _ d).trans ?_
    rw [show (cfg0.win 5).index t = ![0, 0] from funext fun a => match a with | ⟨0, _⟩ => rfl | ⟨1, _⟩ => rfl]
    match d with
    | ⟨0, _⟩ => show 0 * 16 + a.val = a.val; omega
    | ⟨1, _⟩ => show 0 * 1024 + b.val = b.val; omega
  refine Eq.trans (b := V m c main_v19 (((cfg0.win 5).rect t).emb (ix2 a b))) rfl ?_
  rw [V_v19, e]

theorem hb_at (x : Vec Ideal S256x1024 .f32) (g : Vec Ideal S1x1024 .f32) (r : Fin 256) (k : Fin 1024) :
    k0_pay5 x g (ix2 r k) = nrm (fun j => x (ix2 r j)) (g (ix2 0 k)) k := by
  unfold k0_pay5 nrm
  pointwise

theorem pay6_at (x : Vec Ideal S256x1024 .f32) (g : Vec Ideal S1x1024 .f32) (w : Vec Ideal S1024x1536 .bf16) (r : Fin 256) (q : Fin 1536) :
    k0_pay6 x g w (ix2 r q) = el (fun j => x (ix2 r j)) (fun k => g (ix2 0 k)) (fun k => w (ix2 k q)) := by
  unfold k0_pay6 el
  pointwise
  simp only [hb_at]

theorem pay7_at (x : Vec Ideal S256x1024 .f32) (g : Vec Ideal S1x1024 .f32) (w : Vec Ideal S1024x512 .bf16) (r : Fin 256) (q : Fin 512) :
    k0_pay7 x g w (ix2 r q) = el (fun j => x (ix2 r j)) (fun k => g (ix2 0 k)) (fun k => w (ix2 k q)) := by
  unfold k0_pay7 el
  pointwise
  simp only [hb_at]

theorem pay8_at (x : Vec Ideal S256x1024 .f32) (g : Vec Ideal S1x1024 .f32) (w : Vec Ideal S1024x512 .bf16) (r : Fin 256) (q : Fin 512) :
    k0_pay8 x g w (ix2 r q) = el (fun j => x (ix2 r j)) (fun k => g (ix2 0 k)) (fun k => w (ix2 k q)) := by
  unfold k0_pay8 el
  pointwise
  simp only [hb_at]

theorem pay1_at (h : FVec Ideal S256x1024 .bf16) (w : Vec Ideal S1024x512 .bf16) (r : Fin 256) (q : Fin 512) :
    k0_pay1 h (k0_pay9 w) (constant S256x512 .f32 0x00000000#32) (ix2 r q) = ∑ k : Fin 1024, h (ix2 r k) * w (ix2 k q) := by
  unfold k0_pay1 k0_pay9
  pointwise

theorem pay2_at (h : FVec Ideal S256x1024 .bf16) (w : Vec Ideal S1024x512 .bf16) (r : Fin 256) (q : Fin 512) :
    k0_pay2 h w (ix2 r q) = ∑ k : Fin 1024, h (ix2 r k) * w (ix2 k q) := by
  unfold k0_pay2
  pointwise

theorem pay3_at (h : FVec Ideal S256x1024 .bf16) (w : Vec Ideal S1024x128 .bf16) (r : Fin 256) (q : Fin 128) :
    k0_pay3 h w (ix2 r q) = ∑ k : Fin 1024, h (ix2 r k) * w (ix2 k q) := by
  unfold k0_pay3
  pointwise

theorem pay4_at (h : FVec Ideal S256x1024 .bf16) (w : Vec Ideal S16x1024 .bf16) (q : Fin 16) (r : Fin 256) :
    k0_pay4 h w (ix2 q r) = ∑ k : Fin 1024, h (ix2 r k) * w (ix2 q k) := by
  unfold k0_pay4
  pointwise
  exact Finset.sum_congr rfl fun k _ => mul_comm _ _

theorem lx (x : Vec Ideal S256x1024 .f32) : View.ld (Val := Elt Ideal) (e' := .f32) x r0_0 = x := View.ld_unit_lit _ _ (by decide)
theorem lg (g : Vec Ideal S1x1024 .f32) : View.ld (Val := Elt Ideal) (e' := .f32) g r0_1 = g := View.ld_unit_lit _ _ (by decide)

/-- What a point's blocks hold. -/
structure Blk (t : Fin 1) (X : Vec Ideal S32x8x1024 .f32) (G : Vec Ideal S1024 .f32) (W : Vec Ideal S1024x3600 .f32)
    (x : Vec Ideal S256x1024 .f32) (g : Vec Ideal S1x1024 .f32) (w2 : Vec Ideal S1024x3584 .bf16) (w3 : Vec Ideal S1024x1024 .bf16)
    (w4 : Vec Ideal S1024x128 .bf16) (w5 : Vec Ideal S16x1024 .bf16) : Prop where
  hx : ∀ (r : Fin 256) (q : Fin 1024), x (ix2 r q) = X (ix3 (bat (row t r)) (pos (row t r)) q)
  hg : ∀ (k : Fin 1024), g (ix2 0 k) = G (ix1 k)
  h2 : ∀ (k : Fin 1024) (j : Fin 3584), w2 (ix2 k j) = W (ix2 k (⟨if j.val < 2048 then j.val else j.val + 8, by split <;> omega⟩ : Fin 3600))
  h4 : ∀ (k : Fin 1024) (j : Fin 128), w4 (ix2 k j) = if h : j.val < 16 then W (ix2 k (sm ⟨j.val, h⟩)) else 0
  h5 : ∀ (j : Fin 16) (k : Fin 1024), w5 (ix2 j k) = W (ix2 k (sm j))

theorem blk (c : Dev nD) (t : Fin cfg0.N) :
    Blk t (A0 m c) (A1 m c) (A2 m c) (iblk m c 0 t) (iblk m c 1 t) (iblk m c 2 t) (iblk m c 3 t) (iblk m c 4 t) (iblk m c 5 t) :=
  ⟨iblk0_at m c t, iblk1_at m c t, fun k j => (iblk2_at m c t k j).trans (wMain_at _ k j),  fun k j => (iblk4_at m c t k j).trans (wSmall_at _ k j), fun j k => (iblk5_at m c t j k).trans (wSmallT_at _ k j)⟩

section
variable {t : Fin 1} {X : Vec Ideal S32x8x1024 .f32} {G : Vec Ideal S1024 .f32} {W : Vec Ideal S1024x3600 .f32}
  {x : Vec Ideal S256x1024 .f32} {g : Vec Ideal S1x1024 .f32} {w2 : Vec Ideal S1024x3584 .bf16} {w3 : Vec Ideal S1024x1024 .bf16}
  {w4 : Vec Ideal S1024x128 .bf16} {w5 : Vec Ideal S16x1024 .bf16}

theorem Blk.el_eq (h : Blk t X G W x g w2 w3 w4 w5) (r : Fin 256) (c : Fin 3600) (w : Fin 1024 → EReal) (hw : ∀ k, w k = W (ix2 k c)) :
    el (fun j => x (ix2 r j)) (fun k => g (ix2 0 k)) w = proj (F := Ideal) X G W (ix3 (bat (row t r)) (pos (row t r)) c) := by
  refine Eq.trans ?_ (proj_at X G W _ _ _).symm
  rw [show (fun j => x (ix2 r j)) = fun j => X (ix3 (bat (row t r)) (pos (row t r)) j) from funext fun j => h.hx r j,
    show (fun k => g (ix2 0 k)) = fun k => G (ix1 k) from funext h.hg, show w = fun k => W (ix2 k c) from funext hw]

theorem h10 (r : Fin 256) (k : Fin 1024) : k0_pay10 x g w2 w3 w4 w5 (ix2 r k) = nrm (fun j => x (ix2 r j)) (g (ix2 0 k)) k := by
  unfold k0_pay10
  rw [lx, lg]
  exact hb_at x g r k

theorem sum10 (r : Fin 256) (w : Fin 1024 → EReal) :
    ∑ k : Fin 1024, k0_pay10 x g w2 w3 w4 w5 (ix2 r k) * w k = el (fun j => x (ix2 r j)) (fun k => g (ix2 0 k)) w :=
  Finset.sum_congr rfl fun k _ => by rw [h10]

theorem block6 (h : Blk t X G W x g w2 w3 w4 w5) (r : Fin 256) (q : Fin 1536) :
    out0_6 x g w2 w3 w4 w5 (ix2 r q) = qkvOf (F := Ideal) (proj (F := Ideal) X G W) (ix2 (row t r) q) := by
  have hk : out0_6 x g w2 w3 w4 w5 = k0_pay6 x g (View.ld w2 r0_2) := by
    unfold out0_6
    rw [lx, lg]
    exact View.canon_cons_unit_lit _ _ _ (by decide)
  refine (congrFun hk _).trans ((pay6_at _ _ _ _ _).trans (Eq.trans ?_ (qkvOf_at _ (row t r) q).symm))
  refine h.el_eq r _ _ fun k => ?_
  refine Eq.trans (b := w2 (ix2 k (⟨0 + q.val, by omega⟩ : Fin 3584))) (congrArg w2 (funext fun a => Fin.ext ?_)) ((h.h2 _ _).trans ?_)
  · match a with
    | ⟨0, _⟩ => show 0 + 1 * k.val = k.val; omega
    | ⟨1, _⟩ => show 0 + 1 * q.val = 0 + q.val; omega
  · exact at2 W k (by dsimp only; split_ifs <;> omega)

theorem block7 (h : Blk t X G W x g w2 w3 w4 w5) (r : Fin 256) (q : Fin 512) :
    out0_7 x g w2 w3 w4 w5 (ix2 r q) = zOf (F := Ideal) (proj (F := Ideal) X G W) (ix2 (row t r) q) := by
  have hk : out0_7 x g w2 w3 w4 w5 = k0_pay7 x g (View.ld w2 r0_4) := by
    unfold out0_7
    rw [lx, lg]
    exact View.canon_cons_unit_lit _ _ _ (by decide)
  refine (congrFun hk _).trans ((pay7_at _ _ _ _ _).trans (Eq.trans ?_ (zOf_at _ (row t r) q).symm))
  refine h.el_eq r _ _ fun k => ?_
  refine Eq.trans (b := w2 (ix2 k (⟨1536 + q.val, by omega⟩ : Fin 3584))) (congrArg w2 (funext fun a => Fin.ext ?_)) ((h.h2 _ _).trans ?_)
  · match a with
    | ⟨0, _⟩ => show 0 + 1 * k.val = k.val; omega
    | ⟨1, _⟩ => show 1536 + 1 * q.val = 1536 + q.val; omega
  · exact at2 W k (by dsimp only; split_ifs <;> omega)

theorem block8 (h : Blk t X G W x g w2 w3 w4 w5) (r : Fin 256) (q : Fin 512) :
    out0_8 x g w2 w3 w4 w5 (ix2 r q) = fqOf (F := Ideal) (proj (F := Ideal) X G W) (ix2 (row t r) q) := by
  have hk : out0_8 x g w2 w3 w4 w5 = k0_pay8 x g (View.ld w2 r0_6) := by
    unfold out0_8
    rw [lx, lg]
    exact View.canon_cons_unit_lit _ _ _ (by decide)
  refine (congrFun hk _).trans ((pay8_at _ _ _ _ _).trans (Eq.trans ?_ (fqOf_at _ (row t r) q).symm))
  refine h.el_eq r _ _ fun k => ?_
  refine Eq.trans (b := w2 (ix2 k (⟨2048 + q.val, by omega⟩ : Fin 3584))) (congrArg w2 (funext fun a => Fin.ext ?_)) ((h.h2 _ _).trans ?_)
  · match a with
    | ⟨0, _⟩ => show 0 + 1 * k.val = k.val; omega
    | ⟨1, _⟩ => show 2048 + 1 * q.val = 2048 + q.val; omega
  · exact at2 W k (by dsimp only; split_ifs <;> omega)

theorem block9 (h : Blk t X G W x g w2 w3 w4 w5) (r : Fin 256) (q : Fin 512) :
    out0_9 x g w2 w3 w4 w5 (ix2 r q) = fkOf (F := Ideal) (proj (F := Ideal) X G W) (ix2 (row t r) q) := by
  have hk : out0_9 x g w2 w3 w4 w5 = k0_pay1 (k0_pay10 x g w2 w3 w4 w5) (k0_pay9 (View.ld w2 r0_7)) (constant S256x512 .f32 0x00000000#32) := by
    unfold out0_9
    exact View.canon_cons_unit_lit _ _ _ (by decide)
  refine (congrFun hk _).trans ((pay1_at _ _ _ _).trans ((sum10 r _).trans (Eq.trans ?_ (fkOf_at _ (row t r) q).symm)))
  refine h.el_eq r _ _ fun k => ?_
  refine Eq.trans (b := w2 (ix2 k (⟨2560 + q.val, by omega⟩ : Fin 3584))) (congrArg w2 (funext fun a => Fin.ext ?_)) ((h.h2 _ _).trans ?_)
  · match a with
    | ⟨0, _⟩ => show 0 + 1 * k.val = k.val; omega
    | ⟨1, _⟩ => show 2560 + 1 * q.val = 2560 + q.val; omega
  · exact at2 W k (by dsimp only; split_ifs <;> omega)

theorem block10 (h : Blk t X G W x g w2 w3 w4 w5) (r : Fin 256) (q : Fin 512) :
    out0_10 x g w2 w3 w4 w5 (ix2 r q) = fvOf (F := Ideal) (proj (F := Ideal) X G W) (ix2 (row t r) q) := by
  have hk : out0_10 x g w2 w3 w4 w5 = k0_pay2 (k0_pay10 x g w2 w3 w4 w5) (View.ld w2 r0_8) := by
    unfold out0_10
    exact View.canon_cons_unit_lit _ _ _ (by decide)
  refine (congrFun hk _).trans ((pay2_at _ _ _ _).trans ((sum10 r _).trans (Eq.trans ?_ (fvOf_at _ (row t r) q).symm)))
  refine h.el_eq r _ _ fun k => ?_
  refine Eq.trans (b := w2 (ix2 k (⟨3072 + q.val, by omega⟩ : Fin 3584))) (congrArg w2 (funext fun a => Fin.ext ?_)) ((h.h2 _ _).trans ?_)
  · match a with
    | ⟨0, _⟩ => show 0 + 1 * k.val = k.val; omega
    | ⟨1, _⟩ => show 3072 + 1 * q.val = 3072 + q.val; omega
  · exact at2 W k (by dsimp only; split_ifs <;> omega)

theorem block11 (h : Blk t X G W x g w2 w3 w4 w5) (r : Fin 256) (q : Fin 128) :
    out0_11 x g w2 w3 w4 w5 (ix2 r q) = padOf (F := Ideal) (proj (F := Ideal) X G W) (ix2 (row t r) q) := by
  have hk : out0_11 x g w2 w3 w4 w5 = k0_pay3 (k0_pay10 x g w2 w3 w4 w5) w4 := by
    unfold out0_11
    rw [show View.ld (Val := Elt Ideal) (e' := .bf16) w4 r0_9 = w4 from View.ld_unit_lit _ _ (by decide)]
    exact View.canon_cons_unit_lit _ _ _ (by decide)
  refine (congrFun hk _).trans ((pay3_at _ _ _ _).trans (Eq.trans ?_ (padOf_at _ (row t r) q).symm))
  by_cases hq : q.val < 16
  · rw [dif_pos hq]
    exact (sum10 r _).trans (h.el_eq r _ _ fun k => (h.h4 k q).trans (dif_pos hq))
  · rw [dif_neg hq]
    exact Finset.sum_eq_zero fun k _ => by rw [h.h4 k q, dif_neg hq, mul_zero]

theorem block12 (h : Blk t X G W x g w2 w3 w4 w5) (q : Fin 16) (r : Fin 256) :
    out0_12 x g w2 w3 w4 w5 (ix2 q r) = smtOf (F := Ideal) (proj (F := Ideal) X G W) (ix2 q (row t r)) := by
  have hk : out0_12 x g w2 w3 w4 w5 = k0_pay4 (k0_pay10 x g w2 w3 w4 w5) w5 := by
    unfold out0_12
    rw [show View.ld (Val := Elt Ideal) (e' := .bf16) w5 r0_11 = w5 from View.ld_unit_lit _ _ (by decide)]
    exact View.canon_cons_unit_lit _ _ _ (by decide)
  refine (congrFun hk _).trans ((pay4_at _ _ _ _).trans ((sum10 r _).trans (Eq.trans ?_ (smtOf_at _ (row t r) q).symm)))
  exact h.el_eq r _ _ fun k => h.h5 q k
end

theorem emb6 (t : Fin cfg0.N) (r : Fin 256) (l : Fin 1536) :
    ((cfg0.win 6).rect t).emb (ix2 r l) = ix2 (row t r) l := by
  funext a
  refine Fin.ext ?_
  refine ((cfg0.win 6).rect_emb_val t _ a).trans ?_
  rw [show (cfg0.win 6).index t = ![t.val, 0] from tr0 t]
  match a with
  | ⟨0, _⟩ => rfl
  | ⟨1, _⟩ => show 0 * 1536 + l.val = l.val; omega

theorem read6 (t : Fin cfg0.N) (G : S256x1536.Idx → EReal) (r : Fin 256) (l : Fin 1536) :
    ((cfg0.win 6).blk t).view.read (Elt Ideal) G (ix2 r l) = G (((cfg0.win 6).rect t).emb (ix2 r l)) := rfl

theorem cut6 (t : Fin cfg0.N) (x : Vec Ideal S256x1536 .f32) (r : Fin 256) (l : Fin 1536) :
    (cfg0.win 6).cut (grid0.coords t) x (ix2 r l) = x (ix2 r l) := rfl

theorem arr_of6 (c : Dev nD) (G : S256x1536.Idx → EReal)
    (hG : ∀ (t : Fin cfg0.N) (r : Fin 256) (l : Fin 1536), out0_6 (iblk m c 0 t) (iblk m c 1 t) (iblk m c 2 t) (iblk m c 3 t) (iblk m c 4 t) (iblk m c 5 t) (ix2 r l) = G (ix2 (row t r) l)) :
    (dats m 0 c).arrAt 6 cfg0.N = G := by
  refine (dats m 0 c).arrAt_eq_of_cover 6 G (fun t _ => ?_) (fun i => ?_)
  · funext y
    obtain ⟨r, l, rfl⟩ : ∃ (r : Fin 256) (l : Fin 1536), y = ix2 r l := ⟨(show S256x1536.Idx from y) 0, (show S256x1536.Idx from y) 1, eq_ix2 (n0 := 256) (n1 := 1536) y⟩
    refine Eq.trans ?_ ((read6 t G r l).trans (congrArg G (emb6 t r l))).symm
    rw [Value.flushed6]
    exact (cut6 t _ r l).trans (hG t r l)
  · obtain ⟨n, l, rfl⟩ : ∃ (n : Fin 256) (l : Fin 1536), i = ix2 n l := ⟨(show S256x1536.Idx from i) 0, (show S256x1536.Idx from i) 1, eq_ix2 (n0 := 256) (n1 := 1536) i⟩
    have h0 := n.isLt
    refine ⟨(⟨n.val / 256, show _ < 1 by omega⟩ : Fin cfg0.N), flush0_6 _, ?_⟩
    refine Finset.mem_map.mpr ⟨ix2 (n0 := 256) (n1 := 1536) ⟨n.val % 256, by omega⟩ l, Finset.mem_univ _, ?_⟩
    refine (emb6 _ _ _).trans ?_
    exact congrArg (fun k => (ix2 k l : S256x1536.Idx)) (Fin.ext (show n.val / 256 * 256 + n.val % 256 = n.val by omega))

theorem arr_eq6 (c : Dev nD) : (dats m 0 c).arrAt 6 cfg0.N = qkvOf (F := Ideal) (proj (F := Ideal) (A0 m c) (A1 m c) (A2 m c)) :=
  arr_of6 m c _ fun t r l => block6 (blk m c t) r l

theorem emb7 (t : Fin cfg0.N) (r : Fin 256) (l : Fin 512) :
    ((cfg0.win 7).rect t).emb (ix2 r l) = ix2 (row t r) l := by
  funext a
  refine Fin.ext ?_
  refine ((cfg0.win 7).rect_emb_val t _ a).trans ?_
  rw [show (cfg0.win 7).index t = ![t.val, 0] from tr0 t]
  match a with
  | ⟨0, _⟩ => rfl
  | ⟨1, _⟩ => show 0 * 512 + l.val = l.val; omega

theorem read7 (t : Fin cfg0.N) (G : S256x512.Idx → EReal) (r : Fin 256) (l : Fin 512) :
    ((cfg0.win 7).blk t).view.read (Elt Ideal) G (ix2 r l) = G (((cfg0.win 7).rect t).emb (ix2 r l)) := rfl

theorem cut7 (t : Fin cfg0.N) (x : Vec Ideal S256x512 .f32) (r : Fin 256) (l : Fin 512) :
    (cfg0.win 7).cut (grid0.coords t) x (ix2 r l) = x (ix2 r l) := rfl

theorem arr_of7 (c : Dev nD) (G : S256x512.Idx → EReal)
    (hG : ∀ (t : Fin cfg0.N) (r : Fin 256) (l : Fin 512), out0_7 (iblk m c 0 t) (iblk m c 1 t) (iblk m c 2 t) (iblk m c 3 t) (iblk m c 4 t) (iblk m c 5 t) (ix2 r l) = G (ix2 (row t r) l)) :
    (dats m 0 c).arrAt 7 cfg0.N = G := by
  refine (dats m 0 c).arrAt_eq_of_cover 7 G (fun t _ => ?_) (fun i => ?_)
  · funext y
    obtain ⟨r, l, rfl⟩ : ∃ (r : Fin 256) (l : Fin 512), y = ix2 r l := ⟨(show S256x512.Idx from y) 0, (show S256x512.Idx from y) 1, eq_ix2 (n0 := 256) (n1 := 512) y⟩
    refine Eq.trans ?_ ((read7 t G r l).trans (congrArg G (emb7 t r l))).symm
    rw [Value.flushed7]
    exact (cut7 t _ r l).trans (hG t r l)
  · obtain ⟨n, l, rfl⟩ : ∃ (n : Fin 256) (l : Fin 512), i = ix2 n l := ⟨(show S256x512.Idx from i) 0, (show S256x512.Idx from i) 1, eq_ix2 (n0 := 256) (n1 := 512) i⟩
    have h0 := n.isLt
    refine ⟨(⟨n.val / 256, show _ < 1 by omega⟩ : Fin cfg0.N), flush0_7 _, ?_⟩
    refine Finset.mem_map.mpr ⟨ix2 (n0 := 256) (n1 := 512) ⟨n.val % 256, by omega⟩ l, Finset.mem_univ _, ?_⟩
    refine (emb7 _ _ _).trans ?_
    exact congrArg (fun k => (ix2 k l : S256x512.Idx)) (Fin.ext (show n.val / 256 * 256 + n.val % 256 = n.val by omega))

theorem arr_eq7 (c : Dev nD) : (dats m 0 c).arrAt 7 cfg0.N = zOf (F := Ideal) (proj (F := Ideal) (A0 m c) (A1 m c) (A2 m c)) :=
  arr_of7 m c _ fun t r l => block7 (blk m c t) r l

theorem emb8 (t : Fin cfg0.N) (r : Fin 256) (l : Fin 512) :
    ((cfg0.win 8).rect t).emb (ix2 r l) = ix2 (row t r) l := by
  funext a
  refine Fin.ext ?_
  refine ((cfg0.win 8).rect_emb_val t _ a).trans ?_
  rw [show (cfg0.win 8).index t = ![t.val, 0] from tr0 t]
  match a with
  | ⟨0, _⟩ => rfl
  | ⟨1, _⟩ => show 0 * 512 + l.val = l.val; omega

theorem read8 (t : Fin cfg0.N) (G : S256x512.Idx → EReal) (r : Fin 256) (l : Fin 512) :
    ((cfg0.win 8).blk t).view.read (Elt Ideal) G (ix2 r l) = G (((cfg0.win 8).rect t).emb (ix2 r l)) := rfl

theorem cut8 (t : Fin cfg0.N) (x : Vec Ideal S256x512 .f32) (r : Fin 256) (l : Fin 512) :
    (cfg0.win 8).cut (grid0.coords t) x (ix2 r l) = x (ix2 r l) := rfl

theorem arr_of8 (c : Dev nD) (G : S256x512.Idx → EReal)
    (hG : ∀ (t : Fin cfg0.N) (r : Fin 256) (l : Fin 512), out0_8 (iblk m c 0 t) (iblk m c 1 t) (iblk m c 2 t) (iblk m c 3 t) (iblk m c 4 t) (iblk m c 5 t) (ix2 r l) = G (ix2 (row t r) l)) :
    (dats m 0 c).arrAt 8 cfg0.N = G := by
  refine (dats m 0 c).arrAt_eq_of_cover 8 G (fun t _ => ?_) (fun i => ?_)
  · funext y
    obtain ⟨r, l, rfl⟩ : ∃ (r : Fin 256) (l : Fin 512), y = ix2 r l := ⟨(show S256x512.Idx from y) 0, (show S256x512.Idx from y) 1, eq_ix2 (n0 := 256) (n1 := 512) y⟩
    refine Eq.trans ?_ ((read8 t G r l).trans (congrArg G (emb8 t r l))).symm
    rw [Value.flushed8]
    exact (cut8 t _ r l).trans (hG t r l)
  · obtain ⟨n, l, rfl⟩ : ∃ (n : Fin 256) (l : Fin 512), i = ix2 n l := ⟨(show S256x512.Idx from i) 0, (show S256x512.Idx from i) 1, eq_ix2 (n0 := 256) (n1 := 512) i⟩
    have h0 := n.isLt
    refine ⟨(⟨n.val / 256, show _ < 1 by omega⟩ : Fin cfg0.N), flush0_8 _, ?_⟩
    refine Finset.mem_map.mpr ⟨ix2 (n0 := 256) (n1 := 512) ⟨n.val % 256, by omega⟩ l, Finset.mem_univ _, ?_⟩
    refine (emb8 _ _ _).trans ?_
    exact congrArg (fun k => (ix2 k l : S256x512.Idx)) (Fin.ext (show n.val / 256 * 256 + n.val % 256 = n.val by omega))

theorem arr_eq8 (c : Dev nD) : (dats m 0 c).arrAt 8 cfg0.N = fqOf (F := Ideal) (proj (F := Ideal) (A0 m c) (A1 m c) (A2 m c)) :=
  arr_of8 m c _ fun t r l => block8 (blk m c t) r l

theorem emb9 (t : Fin cfg0.N) (r : Fin 256) (l : Fin 512) :
    ((cfg0.win 9).rect t).emb (ix2 r l) = ix2 (row t r) l := by
  funext a
  refine Fin.ext ?_
  refine ((cfg0.win 9).rect_emb_val t _ a).trans ?_
  rw [show (cfg0.win 9).index t = ![t.val, 0] from tr0 t]
  match a with
  | ⟨0, _⟩ => rfl
  | ⟨1, _⟩ => show 0 * 512 + l.val = l.val; omega

theorem read9 (t : Fin cfg0.N) (G : S256x512.Idx → EReal) (r : Fin 256) (l : Fin 512) :
    ((cfg0.win 9).blk t).view.read (Elt Ideal) G (ix2 r l) = G (((cfg0.win 9).rect t).emb (ix2 r l)) := rfl

theorem cut9 (t : Fin cfg0.N) (x : Vec Ideal S256x512 .f32) (r : Fin 256) (l : Fin 512) :
    (cfg0.win 9).cut (grid0.coords t) x (ix2 r l) = x (ix2 r l) := rfl

theorem arr_of9 (c : Dev nD) (G : S256x512.Idx → EReal)
    (hG : ∀ (t : Fin cfg0.N) (r : Fin 256) (l : Fin 512), out0_9 (iblk m c 0 t) (iblk m c 1 t) (iblk m c 2 t) (iblk m c 3 t) (iblk m c 4 t) (iblk m c 5 t) (ix2 r l) = G (ix2 (row t r) l)) :
    (dats m 0 c).arrAt 9 cfg0.N = G := by
  refine (dats m 0 c).arrAt_eq_of_cover 9 G (fun t _ => ?_) (fun i => ?_)
  · funext y
    obtain ⟨r, l, rfl⟩ : ∃ (r : Fin 256) (l : Fin 512), y = ix2 r l := ⟨(show S256x512.Idx from y) 0, (show S256x512.Idx from y) 1, eq_ix2 (n0 := 256) (n1 := 512) y⟩
    refine Eq.trans ?_ ((read9 t G r l).trans (congrArg G (emb9 t r l))).symm
    rw [Value.flushed9]
    exact (cut9 t _ r l).trans (hG t r l)
  · obtain ⟨n, l, rfl⟩ : ∃ (n : Fin 256) (l : Fin 512), i = ix2 n l := ⟨(show S256x512.Idx from i) 0, (show S256x512.Idx from i) 1, eq_ix2 (n0 := 256) (n1 := 512) i⟩
    have h0 := n.isLt
    refine ⟨(⟨n.val / 256, show _ < 1 by omega⟩ : Fin cfg0.N), flush0_9 _, ?_⟩
    refine Finset.mem_map.mpr ⟨ix2 (n0 := 256) (n1 := 512) ⟨n.val % 256, by omega⟩ l, Finset.mem_univ _, ?_⟩
    refine (emb9 _ _ _).trans ?_
    exact congrArg (fun k => (ix2 k l : S256x512.Idx)) (Fin.ext (show n.val / 256 * 256 + n.val % 256 = n.val by omega))

theorem arr_eq9 (c : Dev nD) : (dats m 0 c).arrAt 9 cfg0.N = fkOf (F := Ideal) (proj (F := Ideal) (A0 m c) (A1 m c) (A2 m c)) :=
  arr_of9 m c _ fun t r l => block9 (blk m c t) r l

theorem emb10 (t : Fin cfg0.N) (r : Fin 256) (l : Fin 512) :
    ((cfg0.win 10).rect t).emb (ix2 r l) = ix2 (row t r) l := by
  funext a
  refine Fin.ext ?_
  refine ((cfg0.win 10).rect_emb_val t _ a).trans ?_
  rw [show (cfg0.win 10).index t = ![t.val, 0] from tr0 t]
  match a with
  | ⟨0, _⟩ => rfl
  | ⟨1, _⟩ => show 0 * 512 + l.val = l.val; omega

theorem read10 (t : Fin cfg0.N) (G : S256x512.Idx → EReal) (r : Fin 256) (l : Fin 512) :
    ((cfg0.win 10).blk t).view.read (Elt Ideal) G (ix2 r l) = G (((cfg0.win 10).rect t).emb (ix2 r l)) := rfl

theorem cut10 (t : Fin cfg0.N) (x : Vec Ideal S256x512 .f32) (r : Fin 256) (l : Fin 512) :
    (cfg0.win 10).cut (grid0.coords t) x (ix2 r l) = x (ix2 r l) := rfl

theorem arr_of10 (c : Dev nD) (G : S256x512.Idx → EReal)
    (hG : ∀ (t : Fin cfg0.N) (r : Fin 256) (l : Fin 512), out0_10 (iblk m c 0 t) (iblk m c 1 t) (iblk m c 2 t) (iblk m c 3 t) (iblk m c 4 t) (iblk m c 5 t) (ix2 r l) = G (ix2 (row t r) l)) :
    (dats m 0 c).arrAt 10 cfg0.N = G := by
  refine (dats m 0 c).arrAt_eq_of_cover 10 G (fun t _ => ?_) (fun i => ?_)
  · funext y
    obtain ⟨r, l, rfl⟩ : ∃ (r : Fin 256) (l : Fin 512), y = ix2 r l := ⟨(show S256x512.Idx from y) 0, (show S256x512.Idx from y) 1, eq_ix2 (n0 := 256) (n1 := 512) y⟩
    refine Eq.trans ?_ ((read10 t G r l).trans (congrArg G (emb10 t r l))).symm
    rw [Value.flushed10]
    exact (cut10 t _ r l).trans (hG t r l)
  · obtain ⟨n, l, rfl⟩ : ∃ (n : Fin 256) (l : Fin 512), i = ix2 n l := ⟨(show S256x512.Idx from i) 0, (show S256x512.Idx from i) 1, eq_ix2 (n0 := 256) (n1 := 512) i⟩
    have h0 := n.isLt
    refine ⟨(⟨n.val / 256, show _ < 1 by omega⟩ : Fin cfg0.N), flush0_10 _, ?_⟩
    refine Finset.mem_map.mpr ⟨ix2 (n0 := 256) (n1 := 512) ⟨n.val % 256, by omega⟩ l, Finset.mem_univ _, ?_⟩
    refine (emb10 _ _ _).trans ?_
    exact congrArg (fun k => (ix2 k l : S256x512.Idx)) (Fin.ext (show n.val / 256 * 256 + n.val % 256 = n.val by omega))

theorem arr_eq10 (c : Dev nD) : (dats m 0 c).arrAt 10 cfg0.N = fvOf (F := Ideal) (proj (F := Ideal) (A0 m c) (A1 m c) (A2 m c)) :=
  arr_of10 m c _ fun t r l => block10 (blk m c t) r l

theorem emb11 (t : Fin cfg0.N) (r : Fin 256) (l : Fin 128) :
    ((cfg0.win 11).rect t).emb (ix2 r l) = ix2 (row t r) l := by
  funext a
  refine Fin.ext ?_
  refine ((cfg0.win 11).rect_emb_val t _ a).trans ?_
  rw [show (cfg0.win 11).index t = ![t.val, 0] from tr0 t]
  match a with
  | ⟨0, _⟩ => rfl
  | ⟨1, _⟩ => show 0 * 128 + l.val = l.val; omega

theorem read11 (t : Fin cfg0.N) (G : S256x128.Idx → EReal) (r : Fin 256) (l : Fin 128) :
    ((cfg0.win 11).blk t).view.read (Elt Ideal) G (ix2 r l) = G (((cfg0.win 11).rect t).emb (ix2 r l)) := rfl

theorem cut11 (t : Fin cfg0.N) (x : Vec Ideal S256x128 .f32) (r : Fin 256) (l : Fin 128) :
    (cfg0.win 11).cut (grid0.coords t) x (ix2 r l) = x (ix2 r l) := rfl

theorem arr_of11 (c : Dev nD) (G : S256x128.Idx → EReal)
    (hG : ∀ (t : Fin cfg0.N) (r : Fin 256) (l : Fin 128), out0_11 (iblk m c 0 t) (iblk m c 1 t) (iblk m c 2 t) (iblk m c 3 t) (iblk m c 4 t) (iblk m c 5 t) (ix2 r l) = G (ix2 (row t r) l)) :
    (dats m 0 c).arrAt 11 cfg0.N = G := by
  refine (dats m 0 c).arrAt_eq_of_cover 11 G (fun t _ => ?_) (fun i => ?_)
  · funext y
    obtain ⟨r, l, rfl⟩ : ∃ (r : Fin 256) (l : Fin 128), y = ix2 r l := ⟨(show S256x128.Idx from y) 0, (show S256x128.Idx from y) 1, eq_ix2 (n0 := 256) (n1 := 128) y⟩
    refine Eq.trans ?_ ((read11 t G r l).trans (congrArg G (emb11 t r l))).symm
    rw [Value.flushed11]
    exact (cut11 t _ r l).trans (hG t r l)
  · obtain ⟨n, l, rfl⟩ : ∃ (n : Fin 256) (l : Fin 128), i = ix2 n l := ⟨(show S256x128.Idx from i) 0, (show S256x128.Idx from i) 1, eq_ix2 (n0 := 256) (n1 := 128) i⟩
    have h0 := n.isLt
    refine ⟨(⟨n.val / 256, show _ < 1 by omega⟩ : Fin cfg0.N), flush0_11 _, ?_⟩
    refine Finset.mem_map.mpr ⟨ix2 (n0 := 256) (n1 := 128) ⟨n.val % 256, by omega⟩ l, Finset.mem_univ _, ?_⟩
    refine (emb11 _ _ _).trans ?_
    exact congrArg (fun k => (ix2 k l : S256x128.Idx)) (Fin.ext (show n.val / 256 * 256 + n.val % 256 = n.val by omega))

theorem arr_eq11 (c : Dev nD) : (dats m 0 c).arrAt 11 cfg0.N = padOf (F := Ideal) (proj (F := Ideal) (A0 m c) (A1 m c) (A2 m c)) :=
  arr_of11 m c _ fun t r l => block11 (blk m c t) r l

theorem emb12 (t : Fin cfg0.N) (q : Fin 16) (r : Fin 256) :
    ((cfg0.win 12).rect t).emb (ix2 q r) = ix2 q (row t r) := by
  funext a
  refine Fin.ext ?_
  refine ((cfg0.win 12).rect_emb_val t _ a).trans ?_
  rw [show (cfg0.win 12).index t = ![0, t.val] from tr12 t]
  match a with
  | ⟨0, _⟩ => show 0 * 16 + q.val = q.val; omega
  | ⟨1, _⟩ => rfl

theorem read12 (t : Fin cfg0.N) (G : S16x256.Idx → EReal) (q : Fin 16) (r : Fin 256) :
    ((cfg0.win 12).blk t).view.read (Elt Ideal) G (ix2 q r) = G (((cfg0.win 12).rect t).emb (ix2 q r)) := rfl

theorem cut12 (t : Fin cfg0.N) (x : Vec Ideal S16x256 .f32) (q : Fin 16) (r : Fin 256) :
    (cfg0.win 12).cut (grid0.coords t) x (ix2 q r) = x (ix2 q r) := rfl

theorem arr_of12 (c : Dev nD) (G : S16x256.Idx → EReal)
    (hG : ∀ (t : Fin cfg0.N) (q : Fin 16) (r : Fin 256), out0_12 (iblk m c 0 t) (iblk m c 1 t) (iblk m c 2 t) (iblk m c 3 t) (iblk m c 4 t) (iblk m c 5 t) (ix2 q r) = G (ix2 q (row t r))) :
    (dats m 0 c).arrAt 12 cfg0.N = G := by
  refine (dats m 0 c).arrAt_eq_of_cover 12 G (fun t _ => ?_) (fun i => ?_)
  · funext y
    obtain ⟨q, r, rfl⟩ : ∃ (q : Fin 16) (r : Fin 256), y = ix2 q r := ⟨(show S16x256.Idx from y) 0, (show S16x256.Idx from y) 1, eq_ix2 (n0 := 16) (n1 := 256) y⟩
    refine Eq.trans ?_ ((read12 t G q r).trans (congrArg G (emb12 t q r))).symm
    rw [Value.flushed12]
    exact (cut12 t _ q r).trans (hG t q r)
  · obtain ⟨q, n, rfl⟩ : ∃ (q : Fin 16) (n : Fin 256), i = ix2 q n := ⟨(show S16x256.Idx from i) 0, (show S16x256.Idx from i) 1, eq_ix2 (n0 := 16) (n1 := 256) i⟩
    have h0 := n.isLt
    refine ⟨(⟨n.val / 256, show _ < 1 by omega⟩ : Fin cfg0.N), flush0_12 _, ?_⟩
    refine Finset.mem_map.mpr ⟨ix2 (n0 := 16) (n1 := 256) q ⟨n.val % 256, by omega⟩, Finset.mem_univ _, ?_⟩
    refine (emb12 _ _ _).trans ?_
    exact congrArg (fun k => (ix2 q k : S16x256.Idx)) (Fin.ext (show n.val / 256 * 256 + n.val % 256 = n.val by omega))

theorem arr_eq12 (c : Dev nD) : (dats m 0 c).arrAt 12 cfg0.N = smtOf (F := Ideal) (proj (F := Ideal) (A0 m c) (A1 m c) (A2 m c)) :=
  arr_of12 m c _ fun t q r => block12 (blk m c t) q r

end Cert.Kernel6Ideal.Hand

end
-- ==== Proof.SampClaim.lean ====
/- The input projection of the sample: its frames and the equality of its values. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.SampVal
public import Idealize.ShloMosaic.Adequacy
public import Idealize.ShloMosaic.Init

@[expose] public section

noncomputable section

namespace Cert.SampClaim

open Cert.Kernel6Ideal.Hand
open Cert.Reference6Ideal.Hand (proj qkvOf zOf fqOf fkOf fvOf padOf smtOf)
open Idealize.ShloMosaic Idealize.ShloMosaic.TcCoe Idealize.SL.Sem

theorem frame_kernel : Cert.quiescent_Kernel6 := fun m g _ => Cert.Kernel6.Gen.frame m g

theorem frame_ideal : Cert.quiescent_Kernel6Ideal := fun m g _ => Cert.Kernel6Ideal.Gen.frame m g

theorem frame_reference : Cert.quiescent_Reference6Ideal := fun m g _ =>
  (θ_run Cert.Reference6Ideal.defs _ _).mono (fun r h => ⟨fun c => (h c).2.2.2.2.2.2.2, sem_eq_zero_of_no_sems (by decide) r.2⟩)
    (Cert.Reference6Ideal.Value.run (F := Ideal) m g)

theorem proj_congr {x x' : FVec Ideal Cert.Reference6Ideal.S32x8x1024 .f32} {g g' : FVec Ideal Cert.Reference6Ideal.S1024 .f32} {w w' : FVec Ideal Cert.Reference6Ideal.S1024x3600 .f32}
    (hx : x = x') (hg : g = g') (hw : w = w') : proj (F := Ideal) x g w = proj (F := Ideal) x' g' w' := by
  subst hx; subst hg; subst hw; rfl

theorem values : Cert.algebraic_Kernel6Ideal_Reference6Ideal := fun m g m' g' _ hag =>
  ⟨fun c => qkvOf (F := Ideal) (proj (F := Ideal) (A0 m c) (A1 m c) (A2 m c)), fun c => zOf (F := Ideal) (proj (F := Ideal) (A0 m c) (A1 m c) (A2 m c)),
    fun c => fqOf (F := Ideal) (proj (F := Ideal) (A0 m c) (A1 m c) (A2 m c)), fun c => fkOf (F := Ideal) (proj (F := Ideal) (A0 m c) (A1 m c) (A2 m c)),
    fun c => fvOf (F := Ideal) (proj (F := Ideal) (A0 m c) (A1 m c) (A2 m c)), fun c => padOf (F := Ideal) (proj (F := Ideal) (A0 m c) (A1 m c) (A2 m c)),
    fun c => smtOf (F := Ideal) (proj (F := Ideal) (A0 m c) (A1 m c) (A2 m c)),
    (θ_run Cert.Kernel6Ideal.defs _ _).mono (fun _ h c => by
        obtain ⟨h0, h1, h2, h3, h4, h5, h6, h7⟩ := h c
        exact ⟨h0.trans (arr_eq6 m c), h1.trans (arr_eq7 m c), h2.trans (arr_eq8 m c), h3.trans (arr_eq9 m c), h4.trans (arr_eq10 m c), h5.trans (arr_eq11 m c), h6.trans (arr_eq12 m c), h7⟩)
      (Cert.Kernel6Ideal.Value.run_blocks m g),
    (θ_run Cert.Reference6Ideal.defs _ _).mono (fun r h c => by
        have e := proj_congr (hag c).1 (hag c).2.1 (hag c).2.2
        obtain ⟨h0, h1, h2, h3, h4, h5, h6, h7⟩ := h c
        exact ⟨h0.trans (congrArg (qkvOf (F := Ideal)) e), h1.trans (congrArg (zOf (F := Ideal)) e), h2.trans (congrArg (fqOf (F := Ideal)) e), h3.trans (congrArg (fkOf (F := Ideal)) e),
          h4.trans (congrArg (fvOf (F := Ideal)) e), h5.trans (congrArg (padOf (F := Ideal)) e), h6.trans (congrArg (smtOf (F := Ideal)) e), h7⟩)
      (Cert.Reference6Ideal.Value.run (F := Ideal) m' g')⟩

end Cert.SampClaim

end
-- ==== Proof.LogLib.lean ====
/- The log of the sigmoid in its two spellings, and running sums, at exact values. -/
module

public import Idealize.ShloMosaic.Lib.Pipeline.ValueKit
public import Idealize.ShloMosaic.Lib.Pointwise.Index
public import Idealize.ShloMosaic.Lib.Routing.OpsOne
public import Idealize.ShloMosaic.Lib.WordCmp

@[expose] public section

noncomputable section

namespace Cert.LogLib

open Idealize.ShloMosaic Idealize.ShloMosaic.TcCoe Idealize.ShloMosaic.Tactic

/-- The log of the sigmoid as the kernel writes it. -/
def ls (a : EReal) : EReal := min a 0 - Ideal.log1p (Ideal.exp (0 - max a (-a)))

/-- The correction term is a finite number. -/
theorem tail_real (a : EReal) : ∃ r : ℝ, Ideal.log1p (Ideal.exp (0 - max a (-a))) = (r : EReal) := by
  have hlog : ∀ s : ℝ, 0 ≤ s → Ideal.log1p (s : EReal) = ((Real.log (1 + s) : ℝ) : EReal) := by
    intro s hs
    have h1 : (1 : EReal) + (s : EReal) = ((1 + s : ℝ) : EReal) := by rw [EReal.coe_add]; rfl
    unfold Ideal.log1p
    rw [h1]
    show (if 1 + s ≤ 0 then (⊥ : EReal) else ((Real.log (1 + s) : ℝ) : EReal)) = _
    rw [if_neg (by linarith)]
  induction a with
  | bot =>
    refine ⟨_, Eq.trans (congrArg Ideal.log1p ?_) (hlog 0 le_rfl)⟩
    simp
  | top =>
    refine ⟨_, Eq.trans (congrArg Ideal.log1p ?_) (hlog 0 le_rfl)⟩
    simp
  | coe x =>
    refine ⟨_, Eq.trans (congrArg Ideal.log1p ?_) (hlog (Real.exp (0 - max x (-x))) (Real.exp_pos _).le)⟩
    have : (0 : EReal) - max (x : EReal) (-(x : EReal)) = ((0 - max x (-x) : ℝ) : EReal) := by
      rw [EReal.coe_sub, EReal.coe_strictMono.monotone.map_max, EReal.coe_neg]; rfl
    rw [this]
    rfl

/-- The negated softplus of the negated argument is the log of the sigmoid. -/
theorem softplus_neg (a : EReal) :
    -(max (-a) 0 + Ideal.log1p (Ideal.exp (-(max (-a - 0) (-(-a - 0)))))) = ls a := by
  have e : Ideal.exp (-(max (-a - 0) (-(-a - 0)))) = Ideal.exp (0 - max a (-a)) := by
    rw [sub_zero, neg_neg, max_comm, zero_sub]
  unfold ls
  rw [e]
  obtain ⟨r, hr⟩ := tail_real a
  rw [hr, EReal.neg_add (Or.inr (EReal.coe_ne_top r)) (Or.inr (EReal.coe_ne_bot r))]
  have hm : -max (-a) 0 = min a 0 := by
    rcases le_total a 0 with h | h
    · rw [min_eq_left h, max_eq_left (by rw [EReal.le_neg]; simpa using h), neg_neg]
    · rw [min_eq_right h, max_eq_right (by rw [EReal.neg_le]; simpa using h), neg_zero]
  rw [hm]

/-! ## Running sums -/

/-- A row read at a natural position, nothing beyond its end. -/
def tail {N : Nat} (v : Fin N → EReal) (n : Nat) : EReal := if h : n < N then v ⟨n, h⟩ else 0

theorem tail_of {N : Nat} (v : Fin N → EReal) (n : Nat) (h : n < N) : tail v n = v ⟨n, h⟩ := dif_pos h

/-- The sum of the entries of a row before position `n`. -/
def run {N : Nat} (v : Fin N → EReal) (n : Nat) : EReal := ∑ i ∈ Finset.range n, tail v i

/-- A left fold that adds is the sum. -/
theorem foldl_plus {ι : Type} (g : ι → EReal) (L : List ι) (z : EReal) : L.foldl (fun r n => r + g n) z = z + (L.map g).sum := by
  induction L generalizing z with
  | nil => simp
  | cons a L ih => rw [List.foldl_cons, ih, List.map_cons, List.sum_cons, add_assoc]

/-- A sum shifted down by `M`, over positions up to `j + M`, is the sum up to `j`. -/
theorem shifted (f : Nat → EReal) (M j : Nat) (hj : j ≤ M) :
    ∑ k ∈ Finset.range (M + 1), (if M ≤ j + k then f (j + k - M) else 0) = ∑ i ∈ Finset.range (j + 1), f i := by
  rw [show M + 1 = (M - j) + (j + 1) by omega, Finset.sum_range_add, Finset.sum_eq_zero, zero_add]
  · refine Finset.sum_congr rfl fun k _ => ?_
    rw [if_pos (by omega)]
    exact congrArg f (by omega)
  · intro k hk
    rw [if_neg]
    have := Finset.mem_range.1 hk
    omega

/-- The sum over the windows that end at position `j` is the sum of the entries up to it. -/
theorem window_sum {N M : Nat} (hN : M + 1 = N) (v : Fin N → EReal) (j : Nat) (hj : j < N) :
    ∑ k : Fin N, (if M ≤ j + k.val then tail v (j + k.val - M) else 0) = run v (j + 1) := by
  rw [Fin.sum_univ_eq_sum_range (fun k => if M ≤ j + k then tail v (j + k - M) else 0) N]
  subst hN
  exact shifted (tail v) M j (by omega)

/-- The one row of positions of a window one element deep and wide. -/
def posOf {N : Nat} (k : Fin N) : (⟨3, ![1, N, 1]⟩ : Shape).Idx := ix3 (0 : Fin 1) k (0 : Fin 1)

theorem posOf_bij {N : Nat} : Function.Bijective (posOf (N := N)) := by
  refine ⟨fun a b h => ?_, fun i => ⟨i 1, ?_⟩⟩
  · exact congrFun h 1
  · funext a
    match a with
    | ⟨0, _⟩ => exact Subsingleton.elim (α := Fin 1) _ _
    | ⟨1, _⟩ => rfl
    | ⟨2, _⟩ => exact Subsingleton.elim (α := Fin 1) _ _

/-- The running sum along the middle axis, as the reference takes it: entry `j` is the sum of the entries up to it. -/
theorem running {B N M C : Nat} (hN : M + 1 = N) (x : (⟨3, ![B, N, C]⟩ : Shape).Idx → EReal) (init : EReal) (h0 : init = 0)
    (h : (⟨3, ![B, N, C]⟩ : Shape).ReduceWindows (![1, N, 1] : Fin 3 → Nat) ![1, 1, 1] ![0, M, 0] ![0, 0, 0] ⟨3, ![B, N, C]⟩)
    (b : Fin B) (j : Fin N) (c : Fin C) :
    Ideal.hostReduceWindowAdd (![1, N, 1] : Fin 3 → Nat) ![1, 1, 1] ![0, M, 0] ![0, 0, 0] h x init (ix3 b j c)
      = run (fun i => x (ix3 b i c)) (j.val + 1) := by
  unfold Ideal.hostReduceWindowAdd Host.reduceWindow
  dsimp only
  rw [foldl_plus, ← Fin.sum_univ_def, h0, zero_add]
  refine Eq.trans (((⟨3, ![1, N, 1]⟩ : Shape).rowMajor.bijective.comp posOf_bij).sum_comp _).symm ?_
  simp only [Function.comp_apply, Equiv.symm_apply_apply]
  rw [← window_sum hN _ j.val j.isLt]
  refine Finset.sum_congr rfl fun k _ => ?_
  have hb := b.isLt
  have hj := j.isLt
  have hk := k.isLt
  have hc := c.isLt
  by_cases hM : M ≤ j.val + k.val
  · rw [if_pos hM, dif_pos, tail_of _ _ (by omega)]
    · refine congrArg x (funext fun a => Fin.ext ?_)
      match a with
      | ⟨0, _⟩ => show b.val * 1 + 0 - 0 = b.val; omega
      | ⟨1, _⟩ => show j.val * 1 + k.val - M = j.val + k.val - M; omega
      | ⟨2, _⟩ => show c.val * 1 + 0 - 0 = c.val; omega
    · intro a
      match a with
      | ⟨0, _⟩ => show 0 ≤ b.val * 1 + 0 ∧ b.val * 1 + 0 - 0 < B; omega
      | ⟨1, _⟩ => show M ≤ j.val * 1 + k.val ∧ j.val * 1 + k.val - M < N; omega
      | ⟨2, _⟩ => show 0 ≤ c.val * 1 + 0 ∧ c.val * 1 + 0 - 0 < C; omega
  · rw [if_neg hM, dif_neg]
    intro q
    have q1 : M ≤ j.val * 1 + k.val := (q 1).1
    omega

/-- The same of the operation as it stands in a program. -/
theorem running_host {B N M C : Nat} (hN : M + 1 = N) {u : Shape} (x : FVec Ideal (⟨3, ![B, N, C]⟩ : Shape) .f32) (init : FVec Ideal u .f32) (hu : 0 < u.numel)
    (h0 : init (Shape.Idx.first hu) = 0)
    (h : (⟨3, ![B, N, C]⟩ : Shape).ReduceWindows (![1, N, 1] : Fin 3 → Nat) ![1, 1, 1] ![0, M, 0] ![0, 0, 0] ⟨3, ![B, N, C]⟩)
    (b : Fin B) (j : Fin N) (c : Fin C) :
    Host.reduceWindowAdd (F := Ideal) (![1, N, 1] : Fin 3 → Nat) ![1, 1, 1] ![0, M, 0] ![0, 0, 0] x init h hu (ix3 b j c)
      = run (fun i => x (ix3 b i c)) (j.val + 1) :=
  running hN x _ h0 h b j c

/-- One more stretch of `K` entries: the entries before it, and those of the stretch up to `q`. -/
theorem run_stretch {N K : Nat} (v : Fin N → EReal) (o : Nat) (ho : o + K ≤ N) (q : Fin K) :
    (∑ i : Fin K, v ⟨o + i.val, by omega⟩ * (if i.val ≤ q.val then 1 else 0)) + run v o = run v (o + q.val + 1) := by
  have hq := q.isLt
  have e : ∀ i : Fin K, v ⟨o + i.val, by omega⟩ * (if i.val ≤ q.val then 1 else 0) = (fun n => if n < q.val + 1 then tail v (o + n) else 0) i.val := fun i => by
    dsimp only
    by_cases hi : i.val ≤ q.val
    · rw [if_pos hi, if_pos (by omega), tail_of _ _ (by omega), mul_one]
    · rw [if_neg hi, if_neg (by omega), mul_zero]
  rw [Finset.sum_congr rfl fun i _ => e i, Fin.sum_univ_eq_sum_range (fun n => if n < q.val + 1 then tail v (o + n) else 0) K, ← Finset.sum_filter,
    show (Finset.range K).filter (fun n => n < q.val + 1) = Finset.range (q.val + 1) from Finset.ext fun n => by
      rw [Finset.mem_filter, Finset.mem_range, Finset.mem_range]; omega,
    add_comm]
  unfold run
  rw [add_assoc o, Finset.sum_range_add _ o (q.val + 1)]

/-- The comparison of two small positions as a number, one or zero. -/
theorem flag (a b : Nat) (ha : a < 2 ^ 31) (hb : b < 2 ^ 31) :
    FloatOps.sitofp (F := Ideal) FTy.f32 (BitVec.setWidth 32 (IntOp.cmpi CmpIPredicate.sle (BitVec.ofNat 32 a) (BitVec.ofNat 32 b))) = (if a ≤ b then 1 else 0 : EReal) := by
  rw [WordCmp.cmpi_sle_ofNat ha hb]
  by_cases h : a ≤ b
  · rw [if_pos h, decide_eq_true h]
    show (((1 : Int) : ℝ) : EReal) = 1
    norm_num
  · rw [if_neg h, decide_eq_false h]
    show (((0 : Int) : ℝ) : EReal) = 0
    norm_num

theorem run_zero {N : Nat} (v : Fin N → EReal) : run v 0 = 0 := rfl

end Cert.LogLib

end
-- ==== Proof.LogVal.lean ====
/- The gates' logarithms of the prompts: the arrays the region leaves are the reference's, at exact values. -/
module

public import proofs.«01_k».proof.Proof.Gen.Kernel7Ideal.Frame
public import proofs.«01_k».proof.Proof.Gen.Reference7Ideal
public import proofs.«01_k».proof.Proof.LogLib

@[expose] public section

set_option maxRecDepth 16384

noncomputable section

namespace Cert.Reference7Ideal.Hand

open Cert.Reference7Ideal Cert.Reference7Ideal.Gen
open Cert.LogLib (ls softplus_neg run running_host)
open Idealize.ShloMosaic Idealize.ShloMosaic.TcCoe Idealize.ShloMosaic.Tactic

section
variable {F : FTy → Type} [FloatOps F]

/-- The gates before the sigmoid: the last eight rows, token by token, and the bias. -/
def gate (x : FVec F S16x32768 .f32) (f : FVec F S8 .f32) : FVec F S16x2048x8 .f32 :=
  addf (shapeCast _ (transpose S32768x8 [1, 0] (extractStridedSlice S8x32768 ![8, 0] x slices_S16x32768_S8x32768_8_0) transposes_S8x32768_S32768x8_1_0) shapeCasts_S32768x8_S16x2048x8) (broadcastInDim S16x2048x8 ![0, 1, 2] bcast_S1x1x8_S16x2048x8_0_1_2 (broadcastInDim S1x1x8 ![2] bcast_S8_S1x1x8_2 f))

/-- The log of the sigmoid as the reference takes it: the negated softplus of the negated argument. -/
def logsig (y : FVec F S16x2048x8 .f32) : FVec F S16x2048x8 .f32 :=
  Host.negf (select (cmpf .une (subf (Host.negf y) (broadcastInDim S16x2048x8 ![] bcast_S_S16x2048x8 (constant S_ .f32 0x00000000#32))) (subf (Host.negf y) (broadcastInDim S16x2048x8 ![] bcast_S_S16x2048x8 (constant S_ .f32 0x00000000#32)))) (addf (Host.negf y) (broadcastInDim S16x2048x8 ![] bcast_S_S16x2048x8 (constant S_ .f32 0x00000000#32))) (addf (maximumf (Host.negf y) (broadcastInDim S16x2048x8 ![] bcast_S_S16x2048x8 (constant S_ .f32 0x00000000#32))) (Host.log1p (Host.exp (Host.negf (Host.absf (subf (Host.negf y) (broadcastInDim S16x2048x8 ![] bcast_S_S16x2048x8 (constant S_ .f32 0x00000000#32)))))))))

/-- The logarithms and their running sums along the positions, positions last. -/
def logs (x : FVec F S16x32768 .f32) (f : FVec F S8 .f32) : FVec F S16x8x2048 .f32 :=
  transpose S16x8x2048 [0, 2, 1] (logsig (gate x f)) transposes_S16x2048x8_S16x8x2048_0_2_1
def sums (x : FVec F S16x32768 .f32) (f : FVec F S8 .f32) : FVec F S16x8x2048 .f32 :=
  transpose S16x8x2048 [0, 2, 1] (Host.reduceWindowAdd ![1, 2048, 1] ![1, 1, 1] ![0, 2047, 0] ![0, 0, 0] (logsig (gate x f)) (broadcastInDim S_ ![] bcast_S_S_ (constant S_ .f32 0x00000000#32)) reduceWindows_S16x2048x8_S16x2048x8_w1s1p0_0_w2048s1p2047_0_w1s1p0_0 h_S_) transposes_S16x2048x8_S16x8x2048_0_2_1
end

/-- Position `p` of sequence `b` is token `2048 b + p`. -/
abbrev tok (b : Fin 16) (p : Fin 2048) : Fin 32768 := ⟨b.val * 2048 + p.val, by omega⟩

theorem slice_at (x : FVec Ideal S16x32768 .f32) (n : Fin 32768) (h : Fin 8) :
    transpose S32768x8 [1, 0] (extractStridedSlice S8x32768 ![8, 0] x slices_S16x32768_S8x32768_8_0) transposes_S8x32768_S32768x8_1_0 (ix2 n h)
      = x (ix2 (⟨8 + h.val, by omega⟩ : Fin 16) n) := by
  pointwise

theorem gate_at (x : FVec Ideal S16x32768 .f32) (f : FVec Ideal S8 .f32) (b : Fin 16) (p : Fin 2048) (h : Fin 8) :
    gate x f (ix3 b p h) = x (ix2 (⟨8 + h.val, by omega⟩ : Fin 16) (tok b p)) + f (ix1 h) := by
  unfold gate
  refine congrArg₂ (fun u v : EReal => u + v) ?_ ?_
  · refine (shapeCast_apply _ _ (ix3 b p h) (ix2 (tok b p) h) ?_).trans (slice_at x (tok b p) h)
    rw [Shape.rowMajor_val_two, Shape.rowMajor_val_three]
    show (b.val * 2048 + p.val) * 8 + h.val = (b.val * 2048 + p.val) * 8 + h.val
    rfl
  · pointwise

theorem logsig_at (y : FVec Ideal S16x2048x8 .f32) (b : Fin 16) (p : Fin 2048) (h : Fin 8) :
    logsig y (ix3 b p h) = ls (y (ix3 b p h)) := by
  rw [← softplus_neg]
  unfold logsig
  pointwise
  rw [if_neg (fun q => q rfl)]
  rfl

theorem logs_at (x : FVec Ideal S16x32768 .f32) (f : FVec Ideal S8 .f32) (b : Fin 16) (h : Fin 8) (p : Fin 2048) :
    logs x f (ix3 b h p) = ls (x (ix2 (⟨8 + h.val, by omega⟩ : Fin 16) (tok b p)) + f (ix1 h)) := by
  refine Eq.trans ?_ ((logsig_at (gate x f) b p h).trans (congrArg ls (gate_at x f b p h)))
  unfold logs
  generalize logsig (gate x f) = y
  pointwise

theorem sums_at (x : FVec Ideal S16x32768 .f32) (f : FVec Ideal S8 .f32) (b : Fin 16) (h : Fin 8) (p : Fin 2048) :
    sums x f (ix3 b h p) = run (fun i : Fin 2048 => ls (x (ix2 (⟨8 + h.val, by omega⟩ : Fin 16) (tok b i)) + f (ix1 h))) (p.val + 1) := by
  have e : (fun i : Fin 2048 => ls (x (ix2 (⟨8 + h.val, by omega⟩ : Fin 16) (tok b i)) + f (ix1 h))) = fun i : Fin 2048 => logsig (F := Ideal) (gate x f) (ix3 b i h) :=
    funext fun i => ((logsig_at (gate x f) b i h).trans (congrArg ls (gate_at x f b i h))).symm
  rw [e]
  unfold sums
  generalize logsig (F := Ideal) (gate x f) = y
  have z : (broadcastInDim S_ ![] bcast_S_S_ (constant S_ .f32 0x00000000#32) : FVec Ideal S_ .f32) (Shape.Idx.first h_S_) = (0 : EReal) := by
    generalize Shape.Idx.first h_S_ = i
    pointwise
  have g : ∀ w : FVec Ideal S16x2048x8 .f32, transpose S16x8x2048 [0, 2, 1] w transposes_S16x2048x8_S16x8x2048_0_2_1 (ix3 b h p) = w (ix3 b p h) := fun w => by
    pointwise
  exact (g _).trans (running_host (B := 16) (N := 2048) (M := 2047) (C := 8) rfl y _ h_S_ z _ b p h)

end Cert.Reference7Ideal.Hand

namespace Cert.Kernel7Ideal.Hand

open Cert.Kernel7Ideal Cert.Kernel7Ideal.Gen
open Cert.Reference7Ideal.Hand (logs sums logs_at sums_at tok)
open Cert.LogLib (ls run run_stretch run_zero)
open Idealize.ShloMosaic Idealize.ShloMosaic.TcCoe Idealize.ShloMosaic.Tactic
open Idealize.SL Idealize.SL.RA Idealize.SL.Sem
open Idealize.ShloMosaic.Pipeline (Dat Cfg Window)

/-! ## What the program leaves -/

section
variable {F : FTy → Type} [FloatOps F]

theorem out2 (m : (ℓ : Loc nD τ sig) → Buf (Elt F) ℓ) (c : Dev nD) (t : Fin cfg0.N) :
    (dats m 0 c).flushed 2 t = (cfg0.win 2).cut (grid0.coords t) (out0_2 (iblk m c 0 t) (iblk m c 1 t)) :=
  congrArg ((cfg0.win 2).cut (grid0.coords t)) (after0_2 m c t)

theorem out3 (m : (ℓ : Loc nD τ sig) → Buf (Elt F) ℓ) (c : Dev nD) (t : Fin cfg0.N) :
    (dats m 0 c).flushed 3 t = (cfg0.win 3).cut (grid0.coords t) (out0_3 (iblk m c 0 t) (iblk m c 1 t)) :=
  congrArg ((cfg0.win 3).cut (grid0.coords t)) (after0_3 m c t)

/-- Every run ends with the two result arrays as the region leaves them, the arguments as they were. -/
theorem ends (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7_0) = (dats m 0 c).arrAt 2 cfg0.N
      ∧ r.2.mem ((c.tc : Thread nD τ).loc main_v7_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  obtain ⟨ha, hb⟩ := h c
  refine ⟨ha 2, ha 3, ?_, ?_⟩
  · exact (hb main_arg0 (Pipeline.mem_restRefs_of main_arg0 (by decide) (by decide))).trans (V_main_arg0 m c)
  · exact (hb main_arg1 (Pipeline.mem_restRefs_of main_arg1 (by decide) (by decide))).trans (V_main_arg1 m c)

/-! ## The host code before the region -/

theorem V_v1 (m : (ℓ : Loc nD τ sig) → Buf (Elt F) ℓ) (c : Dev nD) :
    V m c main_v1 = transpose S16x16x2048 [1, 0, 2] (shapeCast S16x16x2048 (m ((c.tc : Thread nD τ).loc main_arg0) : FVec F S16x32768 .f32) shapeCasts_S16x32768_S16x16x2048) transposes_S16x16x2048_S16x16x2048_1_0_2 := by
  simp only [V, hostOps0]
  after_results_simp <;> rfl

/-- Where the bias is written: row 8, column 0. -/
def at80 : IVec S2 32 := concatenate S2 0 [⟨S1, broadcastInDim S1 ![] bcast_S_S1 (constantI S_ 32 8#32)⟩, ⟨S1, broadcastInDim S1 ![] bcast_S_S1 (constantI S_ 32 0#32)⟩] concatenates_S1_S1_S2_d0

theorem V_v6 (m : (ℓ : Loc nD τ sig) → Buf (Elt F) ℓ) (c : Dev nD) :
    V m c main_v6 = Host.scatter scatter_S16x128_S2_S8_0_1_01_0 (fun _ b => b) (broadcastInDim S16x128 ![] bcast_S_S16x128 (constant S_ .f32 0x00000000#32) : FVec F S16x128 .f32) at80 (m ((c.tc : Thread nD τ).loc main_arg1) : FVec F S8 .f32) := by
  unfold at80
  simp only [V, hostOps0]
  after_results_simp <;> rfl
end

variable (m : (ℓ : Loc nD τ sig) → Buf (Elt Ideal) ℓ)

abbrev A0 (c : Dev nD) : Vec Ideal S16x32768 .f32 := m ((c.tc : Thread nD τ).loc main_arg0)
abbrev A1 (c : Dev nD) : Vec Ideal S8 .f32 := m ((c.tc : Thread nD τ).loc main_arg1)

theorem cols_at (x : Vec Ideal S16x32768 .f32) (b : Fin 16) (r : Fin 16) (p : Fin 2048) :
    (transpose S16x16x2048 [1, 0, 2] (shapeCast S16x16x2048 x shapeCasts_S16x32768_S16x16x2048) transposes_S16x16x2048_S16x16x2048_1_0_2 : Vec Ideal S16x16x2048 .f32) (ix3 b r p)
      = x (ix2 r (tok b p)) := by
  refine Eq.trans (b := (shapeCast S16x16x2048 x shapeCasts_S16x32768_S16x16x2048 : Vec Ideal S16x16x2048 .f32) (ix3 r b p)) ?_ (shapeCast_apply _ _ (ix3 r b p) (ix2 r (tok b p)) ?_)
  · generalize (shapeCast S16x16x2048 x shapeCasts_S16x32768_S16x16x2048 : Vec Ideal S16x16x2048 .f32) = y
    pointwise
  · rw [Shape.rowMajor_val_two, Shape.rowMajor_val_three]
    show r.val * 32768 + (b.val * 2048 + p.val) = (r.val * 16 + b.val) * 2048 + p.val
    omega

theorem bias_at (z : Vec Ideal S16x128 .f32) (f : Vec Ideal S8 .f32) (h : Fin 8) :
    Host.scatter scatter_S16x128_S2_S8_0_1_01_0 (fun _ b => b) z at80 f (ix2 (⟨8 + h.val, by omega⟩ : Fin 16) (0 : Fin 128)) = f (ix1 h) := by
  have hh := h.isLt
  have i0 : at80 (ValueIdx.ix1 (0 : Fin 2)) = 8#32 := rfl
  have i1 : at80 (ValueIdx.ix1 (1 : Fin 2)) = 0#32 := rfl
  refine (Routing.scatter_column_signed (R := 16) (C := 128) (U := 8) scatter_S16x128_S2_S8_0_1_01_0 (by decide) rfl rfl rfl z at80 f _).trans ?_
  rw [i0, i1]
  show (if (0 : Int) = 0 ∧ (8 : Int) ≤ ((8 + h.val : Nat) : Int) ∧ ((8 + h.val : Nat) : Int) < 8 + 8
    then f (ix1 ⟨(((8 + h.val : Nat) : Int) - 8).toNat % 8, _⟩) else _) = _
  rw [if_pos ⟨rfl, by omega, by omega⟩]
  exact congrArg (fun k => f (ix1 k)) (Fin.ext (show (((8 + h.val : Nat) : Int) - 8).toNat % 8 = h.val by omega))

theorem coords0 (t : Fin grid0.N) : ((grid0.coords t) 0).val = t.val := by
  have h := Pipeline.Grid.coords_val t 0 (S := 1) (B := 16) (by decide) (by decide)
  have ht : t.val < 16 := t.isLt
  rw [h]; omega

theorem tr0 (t : Fin grid0.N) : cc0_transform_0 (grid0.coords t) = ![t.val, 0, 0] := by
  have h := coords0 t
  have ht : t.val < 16 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ => rfl
  | ⟨2, _⟩ => rfl

theorem iblk0_at (c : Dev nD) (t : Fin cfg0.N) (r : Fin 16) (p : Fin 2048) :
    iblk m c 0 t (ix3 (0 : Fin 1) r p) = A0 m c (ix2 r (tok t p)) := by
  have e : ((cfg0.win 0).rect t).emb (ix3 (0 : Fin 1) r p) = ix3 (n0 := 16) t r p := by
    funext a
    refine Fin.ext ?_
    refine ((cfg0.win 0).rect_emb_val t _ a).trans ?_
    rw [show (cfg0.win 0).index t = ![t.val, 0, 0] from tr0 t]
    match a with
    | ⟨0, _⟩ => show t.val * 1 + 0 = t.val; omega
    | ⟨1, _⟩ => show 0 * 16 + r.val = r.val; omega
    | ⟨2, _⟩ => show 0 * 2048 + p.val = p.val; omega
  refine Eq.trans (b := V m c main_v1 (((cfg0.win 0).rect t).emb (ix3 (0 : Fin 1) r p))) rfl ?_
  rw [V_v1, e]
  exact cols_at _ _ _ _

theorem iblk1_at (c : Dev nD) (t : Fin cfg0.N) (h : Fin 8) :
    iblk m c 1 t (ix2 (⟨8 + h.val, by omega⟩ : Fin 16) (0 : Fin 128)) = A1 m c (ix1 h) := by
  have e : ((cfg0.win 1).rect t).emb (ix2 (⟨8 + h.val, by omega⟩ : Fin 16) (0 : Fin 128)) = ix2 (⟨8 + h.val, by omega⟩ : Fin 16) (0 : Fin 128) := by
    funext a
    refine Fin.ext ?_
    refine ((cfg0.win 1).rect_emb_val t _ a).trans ?_
    rw [show (cfg0.win 1).index t = ![0, 0] from funext fun a => match a with | ⟨0, _⟩ => rfl | ⟨1, _⟩ => rfl]
    match a with
    | ⟨0, _⟩ => show 0 * 16 + (8 + h.val) = 8 + h.val; omega
    | ⟨1, _⟩ => rfl
  refine Eq.trans (b := V m c main_v6 (((cfg0.win 1).rect t).emb (ix2 (⟨8 + h.val, by omega⟩ : Fin 16) (0 : Fin 128)))) rfl ?_
  rw [V_v6, e]
  exact bias_at _ _ _

/-! ## The body -/

theorem body_at (x : Vec Ideal S1x16x2048 .f32) (f : Vec Ideal S8x1 .f32) (h : Fin 8) (p : Fin 2048) :
    k0_pay3 x f (ix2 h p) = ls (x (ix3 (0 : Fin 1) (⟨8 + h.val, by omega⟩ : Fin 16) p) + f (ix2 h (0 : Fin 1))) := by
  unfold k0_pay3 ls
  pointwise
  rfl

/-- The two loads, entry by entry. -/
theorem ld0 (x : Vec Ideal S1x16x2048 .f32) : View.ld (Val := Elt Ideal) (e' := .f32) x r0_0 = x := View.ld_unit_lit _ _ (by decide)

theorem ld1 (f : Vec Ideal S16x128 .f32) (h : Fin 8) :
    View.ld (Val := Elt Ideal) (e' := .f32) f r0_1 (ix2 h (0 : Fin 1)) = f (ix2 (⟨8 + h.val, by omega⟩ : Fin 16) (0 : Fin 128)) := by
  show f _ = f _
  refine congrArg f (funext fun a => Fin.ext ?_)
  match a with
  | ⟨0, _⟩ => show 8 + 1 * h.val = 8 + h.val; omega
  | ⟨1, _⟩ => rfl

/-- One row of a block's logarithms. -/
def lrow (x : Vec Ideal S1x16x2048 .f32) (f : Vec Ideal S16x128 .f32) (h : Fin 8) (p : Fin 2048) : EReal :=
  ls (x (ix3 (0 : Fin 1) (⟨8 + h.val, by omega⟩ : Fin 16) p) + f (ix2 (⟨8 + h.val, by omega⟩ : Fin 16) (0 : Fin 128)))

theorem vals_at (x : Vec Ideal S1x16x2048 .f32) (f : Vec Ideal S16x128 .f32) (h : Fin 8) (p : Fin 2048) :
    k0_pay3 (View.ld x r0_0) (View.ld f r0_1) (ix2 h p) = lrow x f h p := by
  refine (body_at _ _ h p).trans ?_
  rw [ld0, ld1]
  rfl

theorem block2 (x : Vec Ideal S1x16x2048 .f32) (f : Vec Ideal S16x128 .f32) (h : Fin 8) (p : Fin 2048) :
    out0_2 x f (ix3 (0 : Fin 1) h p) = lrow x f h p := by
  refine Eq.trans ?_ (vals_at x f h p)
  have hk : out0_2 x f = k0_pay4 (View.ld x r0_0) (View.ld f r0_1) := by
    unfold out0_2
    exact View.canon_cons_unit_lit _ _ _ (by decide)
  refine (congrFun hk _).trans ?_
  unfold k0_pay4
  generalize k0_pay3 (F := Ideal) (View.ld x r0_0) (View.ld f r0_1) = y
  pointwise

/-- The matrix of ones on and above the diagonal. -/
theorem ones_at (i q : Fin 256) : k0_pay5 (F := Ideal) (ix2 i q) = if i.val ≤ q.val then 1 else 0 := by
  unfold k0_pay5
  pointwise
  exact Cert.LogLib.flag i.val q.val (by omega) (by omega)

theorem chunk0 (x : Vec Ideal S1x16x2048 .f32) (f : Vec Ideal S8x1 .f32) (h : Fin 8) (q : Fin 256) :
    k0_pay6 x f (ix2 h q) = (∑ i : Fin 256, k0_pay3 x f (ix2 h (⟨0 + i.val, by omega⟩ : Fin 2048)) * k0_pay5 (F := Ideal) (ix2 i q)) + 0 := by
  unfold k0_pay6
  generalize k0_pay3 (F := Ideal) x f = v
  generalize k0_pay5 (F := Ideal) = w
  pointwise

theorem chunk1 (x : Vec Ideal S1x16x2048 .f32) (f : Vec Ideal S8x1 .f32) (h : Fin 8) (q : Fin 256) :
    k0_pay8 x f (ix2 h q) = (∑ i : Fin 256, k0_pay3 x f (ix2 h (⟨256 + i.val, by omega⟩ : Fin 2048)) * k0_pay5 (F := Ideal) (ix2 i q)) + k0_pay6 x f (ix2 h (255 : Fin 256)) := by
  unfold k0_pay8
  generalize k0_pay6 (F := Ideal) x f = u
  generalize k0_pay3 (F := Ideal) x f = v
  generalize k0_pay5 (F := Ideal) = w
  pointwise

theorem chunk2 (v : FVec Ideal S8x2048 .f32) (w : FVec Ideal S256x256 .f32) (u : FVec Ideal S8x256 .f32) (h : Fin 8) (q : Fin 256) :
    k0_pay10 v w u (ix2 h q) = (∑ i : Fin 256, v (ix2 h (⟨512 + i.val, by omega⟩ : Fin 2048)) * w (ix2 i q)) + u (ix2 h (255 : Fin 256)) := by
  unfold k0_pay10
  pointwise

theorem chunk3 (v : FVec Ideal S8x2048 .f32) (w : FVec Ideal S256x256 .f32) (u : FVec Ideal S8x256 .f32) (h : Fin 8) (q : Fin 256) :
    k0_pay12 v w u (ix2 h q) = (∑ i : Fin 256, v (ix2 h (⟨768 + i.val, by omega⟩ : Fin 2048)) * w (ix2 i q)) + k0_pay10 v w u (ix2 h (255 : Fin 256)) := by
  unfold k0_pay12
  generalize k0_pay10 (F := Ideal) v w u = u'
  pointwise

theorem chunk4 (v : FVec Ideal S8x2048 .f32) (w : FVec Ideal S256x256 .f32) (u : FVec Ideal S8x256 .f32) (h : Fin 8) (q : Fin 256) :
    k0_pay14 v w u (ix2 h q) = (∑ i : Fin 256, v (ix2 h (⟨1024 + i.val, by omega⟩ : Fin 2048)) * w (ix2 i q)) + k0_pay12 v w u (ix2 h (255 : Fin 256)) := by
  unfold k0_pay14
  generalize k0_pay12 (F := Ideal) v w u = u'
  pointwise

theorem chunk5 (v : FVec Ideal S8x2048 .f32) (w : FVec Ideal S256x256 .f32) (u : FVec Ideal S8x256 .f32) (h : Fin 8) (q : Fin 256) :
    k0_pay16 v w u (ix2 h q) = (∑ i : Fin 256, v (ix2 h (⟨1280 + i.val, by omega⟩ : Fin 2048)) * w (ix2 i q)) + k0_pay14 v w u (ix2 h (255 : Fin 256)) := by
  unfold k0_pay16
  generalize k0_pay14 (F := Ideal) v w u = u'
  pointwise

theorem chunk6 (v : FVec Ideal S8x2048 .f32) (w : FVec Ideal S256x256 .f32) (u : FVec Ideal S8x256 .f32) (h : Fin 8) (q : Fin 256) :
    k0_pay18 v w u (ix2 h q) = (∑ i : Fin 256, v (ix2 h (⟨1536 + i.val, by omega⟩ : Fin 2048)) * w (ix2 i q)) + k0_pay16 v w u (ix2 h (255 : Fin 256)) := by
  unfold k0_pay18
  generalize k0_pay16 (F := Ideal) v w u = u'
  pointwise

theorem chunk7 (v : FVec Ideal S8x2048 .f32) (w : FVec Ideal S256x256 .f32) (u : FVec Ideal S8x256 .f32) (h : Fin 8) (q : Fin 256) :
    k0_pay2 v w u (ix3 (0 : Fin 1) h q) = (∑ i : Fin 256, v (ix2 h (⟨1792 + i.val, by omega⟩ : Fin 2048)) * w (ix2 i q)) + u (ix2 h (255 : Fin 256)) := by
  unfold k0_pay2
  pointwise

/-- One more chunk: its own ones below the diagonal, and the last running sum before it. -/
theorem one_more (v : FVec Ideal S8x2048 .f32) (h : Fin 8) (g : Fin 2048 → EReal) (hv : ∀ p, v (ix2 h p) = g p) (o : Nat) (ho : o + 256 ≤ 2048) (q : Fin 256) (z : EReal) (hz : z = run g o) :
    (∑ i : Fin 256, v (ix2 h (⟨o + i.val, by omega⟩ : Fin 2048)) * k0_pay5 (F := Ideal) (ix2 i q)) + z = run g (o + q.val + 1) := by
  rw [hz, ← run_stretch g o ho q]
  refine congrArg (fun s => s + run g o) (Finset.sum_congr rfl fun i _ => ?_)
  rw [hv, ones_at]

/-- What each chunk holds. -/
structure Chunks (x : Vec Ideal S1x16x2048 .f32) (f : Vec Ideal S16x128 .f32) (h : Fin 8) : Prop where
  c0 : ∀ q : Fin 256, k0_pay6 (View.ld x r0_0) (View.ld f r0_1) (ix2 h q) = run (lrow x f h) (0 + q.val + 1)
  c1 : ∀ q : Fin 256, k0_pay21 x f (ix2 h q) = run (lrow x f h) (256 + q.val + 1)
  c2 : ∀ q : Fin 256, k0_pay10 (k0_pay19 x f) (k0_pay20 x f) (k0_pay21 x f) (ix2 h q) = run (lrow x f h) (512 + q.val + 1)
  c3 : ∀ q : Fin 256, k0_pay12 (k0_pay19 x f) (k0_pay20 x f) (k0_pay21 x f) (ix2 h q) = run (lrow x f h) (768 + q.val + 1)
  c4 : ∀ q : Fin 256, k0_pay14 (k0_pay19 x f) (k0_pay20 x f) (k0_pay21 x f) (ix2 h q) = run (lrow x f h) (1024 + q.val + 1)
  c5 : ∀ q : Fin 256, k0_pay16 (k0_pay19 x f) (k0_pay20 x f) (k0_pay21 x f) (ix2 h q) = run (lrow x f h) (1280 + q.val + 1)
  c6 : ∀ q : Fin 256, k0_pay22 x f (ix2 h q) = run (lrow x f h) (1536 + q.val + 1)
  c7 : ∀ q : Fin 256, k0_pay2 (k0_pay19 x f) (k0_pay20 x f) (k0_pay22 x f) (ix3 (0 : Fin 1) h q) = run (lrow x f h) (1792 + q.val + 1)

theorem chunks (x : Vec Ideal S1x16x2048 .f32) (f : Vec Ideal S16x128 .f32) (h : Fin 8) : Chunks x f h := by
  have hv : ∀ p, k0_pay19 x f (ix2 h p) = lrow x f h p := fun p => vals_at x f h p
  have c0 : ∀ q : Fin 256, k0_pay6 (View.ld x r0_0) (View.ld f r0_1) (ix2 h q) = run (lrow x f h) (0 + q.val + 1) := fun q =>
    (chunk0 _ _ h q).trans (one_more _ h _ hv 0 (by decide) q 0 (run_zero _).symm)
  have c1 : ∀ q : Fin 256, k0_pay21 x f (ix2 h q) = run (lrow x f h) (256 + q.val + 1) := fun q =>
    (chunk1 _ _ h q).trans (one_more _ h _ hv 256 (by decide) q _ (c0 255))
  have c2 : ∀ q : Fin 256, k0_pay10 (k0_pay19 x f) (k0_pay20 x f) (k0_pay21 x f) (ix2 h q) = run (lrow x f h) (512 + q.val + 1) := fun q =>
    (chunk2 _ _ _ h q).trans (one_more _ h _ hv 512 (by decide) q _ (c1 255))
  have c3 : ∀ q : Fin 256, k0_pay12 (k0_pay19 x f) (k0_pay20 x f) (k0_pay21 x f) (ix2 h q) = run (lrow x f h) (768 + q.val + 1) := fun q =>
    (chunk3 _ _ _ h q).trans (one_more _ h _ hv 768 (by decide) q _ (c2 255))
  have c4 : ∀ q : Fin 256, k0_pay14 (k0_pay19 x f) (k0_pay20 x f) (k0_pay21 x f) (ix2 h q) = run (lrow x f h) (1024 + q.val + 1) := fun q =>
    (chunk4 _ _ _ h q).trans (one_more _ h _ hv 1024 (by decide) q _ (c3 255))
  have c5 : ∀ q : Fin 256, k0_pay16 (k0_pay19 x f) (k0_pay20 x f) (k0_pay21 x f) (ix2 h q) = run (lrow x f h) (1280 + q.val + 1) := fun q =>
    (chunk5 _ _ _ h q).trans (one_more _ h _ hv 1280 (by decide) q _ (c4 255))
  have c6 : ∀ q : Fin 256, k0_pay22 x f (ix2 h q) = run (lrow x f h) (1536 + q.val + 1) := fun q =>
    (chunk6 _ _ _ h q).trans (one_more _ h _ hv 1536 (by decide) q _ (c5 255))
  exact ⟨c0, c1, c2, c3, c4, c5, c6, fun q => (chunk7 _ _ _ h q).trans (one_more _ h _ hv 1792 (by decide) q _ (c6 255))⟩

/-- A chunk as stored, entry by entry. -/
theorem stored (u : FVec Ideal S8x256 .f32) (h : Fin 8) (q : Fin 256) :
    (shapeCast S1x8x256 u shapeCasts_S8x256_S1x8x256 : FVec Ideal S1x8x256 .f32) (ix3 (0 : Fin 1) h q) = u (ix2 h q) := by
  pointwise

/-- A position before a stretch of columns is outside it; one inside is its own entry. -/
theorem before (o : Nat) (hin) (h : Fin 8) (p : Fin 2048) (hp : p.val < o) :
    (ix3 (0 : Fin 1) h p : S1x8x2048.Idx) ∉ (Rect.unit (s := S1x8x2048) ![0, 0, o] S1x8x256.size hin).set := by
  intro hm
  have h2 : o ≤ p.val := ((Rect.mem_set_unit (s := S1x8x2048)).1 hm 2).1
  omega

theorem inside (o : Nat) (hin) (h : Fin 8) (p : Fin 2048) (q : Fin 256) (hp : p.val = o + q.val) :
    (ix3 (0 : Fin 1) h p : S1x8x2048.Idx) = (Rect.unit (s := S1x8x2048) ![0, 0, o] S1x8x256.size hin).emb (ix3 (0 : Fin 1) h q) := by
  funext a
  refine Fin.ext ?_
  match a with
  | ⟨0, _⟩ => rfl
  | ⟨1, _⟩ => show h.val = 0 + 1 * h.val; omega
  | ⟨2, _⟩ => show p.val = o + 1 * q.val; omega

/-- One store more: below it the earlier ones are read, on it its own entry. -/
theorem peel (o : Nat) (hin) (w : S1x8x256.Idx → EReal) (L : List (View.Piece (Elt Ideal) S1x8x2048 .f32)) (h : Fin 8) (R : Nat → EReal)
    (hw : ∀ q : Fin 256, w (ix3 (0 : Fin 1) h q) = R (o + q.val + 1)) (p : Fin 2048) (hp : p.val < o + 256)
    (hL : p.val < o → View.canon L (ix3 (0 : Fin 1) h p) = R (p.val + 1)) :
    View.canon ((⟨Rect.unit (s := S1x8x2048) ![0, 0, o] S1x8x256.size hin, w⟩ : View.Piece (Elt Ideal) S1x8x2048 .f32) :: L) (ix3 (0 : Fin 1) h p) = R (p.val + 1) := by
  by_cases hlt : p.val < o
  · have nb : (ix3 (0 : Fin 1) h p : S1x8x2048.Idx) ∉ (⟨Rect.unit (s := S1x8x2048) ![0, 0, o] S1x8x256.size hin, w⟩ : View.Piece (Elt Ideal) S1x8x2048 .f32).1.set := before o hin h p hlt
    rw [View.canon_cons_of_not_mem _ L nb]
    exact hL hlt
  · have e := inside o hin h p ⟨p.val - o, by omega⟩ (show p.val = o + (p.val - o) by omega)
    have k := (View.canon_cons_emb (Rect.unit (s := S1x8x2048) ![0, 0, o] S1x8x256.size hin) w L (ix3 (0 : Fin 1) h (⟨p.val - o, by omega⟩ : Fin 256))).trans (hw _)
    rw [e, k]
    refine congrArg R ?_
    show o + (p.val - o) + 1 = p.val + 1
    omega

theorem block3 (x : Vec Ideal S1x16x2048 .f32) (f : Vec Ideal S16x128 .f32) (h : Fin 8) (p : Fin 2048) :
    out0_3 x f (ix3 (0 : Fin 1) h p) = run (lrow x f h) (p.val + 1) := by
  have C := chunks x f h
  have hp := p.isLt
  unfold out0_3
  refine peel 1792 _ _ _ h (run (lrow x f h)) C.c7 p hp fun h7 => ?_
  refine peel 1536 _ _ _ h (run (lrow x f h)) (fun q => (stored _ h q).trans (C.c6 q)) p h7 fun h6 => ?_
  refine peel 1280 _ _ _ h (run (lrow x f h)) (fun q => (stored _ h q).trans (C.c5 q)) p h6 fun h5 => ?_
  refine peel 1024 _ _ _ h (run (lrow x f h)) (fun q => (stored _ h q).trans (C.c4 q)) p h5 fun h4 => ?_
  refine peel 768 _ _ _ h (run (lrow x f h)) (fun q => (stored _ h q).trans (C.c3 q)) p h4 fun h3 => ?_
  refine peel 512 _ _ _ h (run (lrow x f h)) (fun q => (stored _ h q).trans (C.c2 q)) p h3 fun h2 => ?_
  refine peel 256 _ _ _ h (run (lrow x f h)) (fun q => (stored _ h q).trans (C.c1 q)) p h2 fun h1 => ?_
  exact peel 0 _ _ _ h (run (lrow x f h)) (fun q => (stored _ h q).trans (C.c0 q)) p h1 fun h0 => absurd h0 (Nat.not_lt_zero _)

/-! ## The arrays -/

theorem emb2 (t : Fin cfg0.N) (h : Fin 8) (p : Fin 2048) :
    ((cfg0.win 2).rect t).emb (ix3 (0 : Fin 1) h p) = ix3 (n0 := 16) t h p := by
  funext a
  refine Fin.ext ?_
  refine ((cfg0.win 2).rect_emb_val t _ a).trans ?_
  rw [show (cfg0.win 2).index t = ![t.val, 0, 0] from tr0 t]
  match a with
  | ⟨0, _⟩ => show t.val * 1 + 0 = t.val; omega
  | ⟨1, _⟩ => show 0 * 8 + h.val = h.val; omega
  | ⟨2, _⟩ => show 0 * 2048 + p.val = p.val; omega

theorem read2 (t : Fin cfg0.N) (G : S16x8x2048.Idx → EReal) (h : Fin 8) (p : Fin 2048) :
    ((cfg0.win 2).blk t).view.read (Elt Ideal) G (ix3 (0 : Fin 1) h p) = G (((cfg0.win 2).rect t).emb (ix3 (0 : Fin 1) h p)) := rfl

theorem cut2 (t : Fin cfg0.N) (x : Vec Ideal S1x8x2048 .f32) (h : Fin 8) (p : Fin 2048) :
    (cfg0.win 2).cut (grid0.coords t) x (ix3 (0 : Fin 1) h p) = x (ix3 (0 : Fin 1) h p) := rfl

theorem arr_of2 (c : Dev nD) (G : S16x8x2048.Idx → EReal)
    (hG : ∀ (t : Fin cfg0.N) (h : Fin 8) (p : Fin 2048), out0_2 (iblk m c 0 t) (iblk m c 1 t) (ix3 (0 : Fin 1) h p) = G (ix3 (n0 := 16) t h p)) :
    (dats m 0 c).arrAt 2 cfg0.N = G := by
  refine (dats m 0 c).arrAt_eq_of_cover 2 G (fun t _ => ?_) (fun i => ?_)
  · funext y
    obtain ⟨h, p, rfl⟩ : ∃ (h : Fin 8) (p : Fin 2048), y = ix3 (0 : Fin 1) h p :=
      ⟨(show S1x8x2048.Idx from y) 1, (show S1x8x2048.Idx from y) 2, (eq_ix3 (n0 := 1) (n1 := 8) (n2 := 2048) y).trans (congrArg (fun k => ix3 k _ _) (Subsingleton.elim (α := Fin 1) _ _))⟩
    refine Eq.trans ?_ ((read2 t G h p).trans (congrArg G (emb2 t h p))).symm
    rw [out2]
    exact (cut2 t _ h p).trans (hG t h p)
  · obtain ⟨b, h, p, rfl⟩ : ∃ (b : Fin 16) (h : Fin 8) (p : Fin 2048), i = ix3 b h p :=
      ⟨(show S16x8x2048.Idx from i) 0, (show S16x8x2048.Idx from i) 1, (show S16x8x2048.Idx from i) 2, eq_ix3 (n0 := 16) (n1 := 8) (n2 := 2048) i⟩
    refine ⟨(b : Fin cfg0.N), flush0_2 _, ?_⟩
    exact Finset.mem_map.mpr ⟨ix3 (n0 := 1) (n1 := 8) (n2 := 2048) 0 h p, Finset.mem_univ _, emb2 _ _ _⟩

theorem emb3 (t : Fin cfg0.N) (h : Fin 8) (p : Fin 2048) :
    ((cfg0.win 3).rect t).emb (ix3 (0 : Fin 1) h p) = ix3 (n0 := 16) t h p := by
  funext a
  refine Fin.ext ?_
  refine ((cfg0.win 3).rect_emb_val t _ a).trans ?_
  rw [show (cfg0.win 3).index t = ![t.val, 0, 0] from tr0 t]
  match a with
  | ⟨0, _⟩ => show t.val * 1 + 0 = t.val; omega
  | ⟨1, _⟩ => show 0 * 8 + h.val = h.val; omega
  | ⟨2, _⟩ => show 0 * 2048 + p.val = p.val; omega

theorem read3 (t : Fin cfg0.N) (G : S16x8x2048.Idx → EReal) (h : Fin 8) (p : Fin 2048) :
    ((cfg0.win 3).blk t).view.read (Elt Ideal) G (ix3 (0 : Fin 1) h p) = G (((cfg0.win 3).rect t).emb (ix3 (0 : Fin 1) h p)) := rfl

theorem cut3 (t : Fin cfg0.N) (x : Vec Ideal S1x8x2048 .f32) (h : Fin 8) (p : Fin 2048) :
    (cfg0.win 3).cut (grid0.coords t) x (ix3 (0 : Fin 1) h p) = x (ix3 (0 : Fin 1) h p) := rfl

theorem arr_of3 (c : Dev nD) (G : S16x8x2048.Idx → EReal)
    (hG : ∀ (t : Fin cfg0.N) (h : Fin 8) (p : Fin 2048), out0_3 (iblk m c 0 t) (iblk m c 1 t) (ix3 (0 : Fin 1) h p) = G (ix3 (n0 := 16) t h p)) :
    (dats m 0 c).arrAt 3 cfg0.N = G := by
  refine (dats m 0 c).arrAt_eq_of_cover 3 G (fun t _ => ?_) (fun i => ?_)
  · funext y
    obtain ⟨h, p, rfl⟩ : ∃ (h : Fin 8) (p : Fin 2048), y = ix3 (0 : Fin 1) h p :=
      ⟨(show S1x8x2048.Idx from y) 1, (show S1x8x2048.Idx from y) 2, (eq_ix3 (n0 := 1) (n1 := 8) (n2 := 2048) y).trans (congrArg (fun k => ix3 k _ _) (Subsingleton.elim (α := Fin 1) _ _))⟩
    refine Eq.trans ?_ ((read3 t G h p).trans (congrArg G (emb3 t h p))).symm
    rw [out3]
    exact (cut3 t _ h p).trans (hG t h p)
  · obtain ⟨b, h, p, rfl⟩ : ∃ (b : Fin 16) (h : Fin 8) (p : Fin 2048), i = ix3 b h p :=
      ⟨(show S16x8x2048.Idx from i) 0, (show S16x8x2048.Idx from i) 1, (show S16x8x2048.Idx from i) 2, eq_ix3 (n0 := 16) (n1 := 8) (n2 := 2048) i⟩
    refine ⟨(b : Fin cfg0.N), flush0_3 _, ?_⟩
    exact Finset.mem_map.mpr ⟨ix3 (n0 := 1) (n1 := 8) (n2 := 2048) 0 h p, Finset.mem_univ _, emb3 _ _ _⟩

theorem lrow_eq (c : Dev nD) (t : Fin cfg0.N) (h : Fin 8) (p : Fin 2048) :
    lrow (iblk m c 0 t) (iblk m c 1 t) h p = ls (A0 m c (ix2 (⟨8 + h.val, by omega⟩ : Fin 16) (tok t p)) + A1 m c (ix1 h)) :=
  congrArg ls (congrArg₂ (fun u v : EReal => u + v) (iblk0_at m c t _ p) (iblk1_at m c t h))

theorem arr_eq2 (c : Dev nD) : (dats m 0 c).arrAt 2 cfg0.N = logs (F := Ideal) (A0 m c) (A1 m c) :=
  arr_of2 m c _ fun t h p => (block2 _ _ h p).trans ((lrow_eq m c t h p).trans (logs_at (A0 m c) (A1 m c) t h p).symm)

theorem arr_eq3 (c : Dev nD) : (dats m 0 c).arrAt 3 cfg0.N = sums (F := Ideal) (A0 m c) (A1 m c) :=
  arr_of3 m c _ fun t h p => (block3 _ _ h p).trans ((congrArg (fun g => run g (p.val + 1)) (funext fun i => lrow_eq m c t h i)).trans (sums_at (A0 m c) (A1 m c) t h p).symm)

end Cert.Kernel7Ideal.Hand

end
-- ==== Proof.LogClaim.lean ====
/- The gates' logarithms of the prompts: its programs' claims. -/
module

public import proofs.«01_k».proof.Proof.LogVal
public import proofs.«01_k».proof.Defs
public import proofs.«01_k».proof.Proof.Gen.Kernel7.Frame
public import proofs.«01_k».proof.Proof.Gen.Reference7Ideal.Run

@[expose] public section

noncomputable section

namespace Cert.LogClaim

open Cert.Kernel7Ideal.Hand
open Cert.Reference7Ideal.Hand (logs sums)
open Idealize.ShloMosaic Idealize.ShloMosaic.TcCoe Idealize.SL.Sem

theorem frame_kernel : Cert.quiescent_Kernel7 := fun m g _ => Cert.Kernel7.Gen.frame m g

theorem frame_ideal : Cert.quiescent_Kernel7Ideal := fun m g _ => Cert.Kernel7Ideal.Gen.frame m g

theorem frame_reference : Cert.quiescent_Reference7Ideal := fun m g _ =>
  (θ_run Cert.Reference7Ideal.defs _ _).mono (fun r h => ⟨fun c => (h c).2.2, sem_eq_zero_of_no_sems (by decide) r.2⟩)
    (Cert.Reference7Ideal.Value.run (F := Ideal) m g)

theorem congr_args {α : Type*} (f : FVec Ideal Cert.Reference7Ideal.S16x32768 .f32 → FVec Ideal Cert.Reference7Ideal.S8 .f32 → α)
    {x x' : FVec Ideal Cert.Reference7Ideal.S16x32768 .f32} {g g' : FVec Ideal Cert.Reference7Ideal.S8 .f32} (hx : x = x') (hg : g = g') : f x g = f x' g' := by
  subst hx; subst hg; rfl

theorem values : Cert.algebraic_Kernel7Ideal_Reference7Ideal := fun m g m' g' _ hag =>
  ⟨fun c => logs (F := Ideal) (A0 m c) (A1 m c), fun c => sums (F := Ideal) (A0 m c) (A1 m c),
    (θ_run Cert.Kernel7Ideal.defs _ _).mono (fun _ h c => ⟨(h c).1.trans (arr_eq2 m c), (h c).2.1.trans (arr_eq3 m c), (h c).2.2⟩) (ends m g),
    (θ_run Cert.Reference7Ideal.defs _ _).mono (fun r h c =>
        ⟨(h c).1.trans (congr_args (logs (F := Ideal)) (hag c).1 (hag c).2),
          (h c).2.1.trans (congr_args (sums (F := Ideal)) (hag c).1 (hag c).2), (h c).2.2⟩)
      (Cert.Reference7Ideal.Value.run (F := Ideal) m' g')⟩

end Cert.LogClaim

end
-- ==== Proof.LogSampVal.lean ====
/- The gates' logarithms of the sampled tokens: the arrays the region leaves are the reference's, at exact values. -/
module

public import proofs.«01_k».proof.Proof.Gen.Kernel8Ideal.Frame
public import proofs.«01_k».proof.Proof.Gen.Reference8Ideal
public import proofs.«01_k».proof.Proof.LogLib

@[expose] public section

set_option maxRecDepth 16384

noncomputable section

namespace Cert.Reference8Ideal.Hand

open Cert.Reference8Ideal Cert.Reference8Ideal.Gen
open Cert.LogLib (ls softplus_neg run running_host)
open Idealize.ShloMosaic Idealize.ShloMosaic.TcCoe Idealize.ShloMosaic.Tactic

section
variable {F : FTy → Type} [FloatOps F]

/-- The gates before the sigmoid: the last eight rows, token by token, and the bias. -/
def gate (x : FVec F S16x256 .f32) (f : FVec F S8 .f32) : FVec F S32x8x8 .f32 :=
  addf (shapeCast _ (transpose S256x8 [1, 0] (extractStridedSlice S8x256 ![8, 0] x slices_S16x256_S8x256_8_0) transposes_S8x256_S256x8_1_0) shapeCasts_S256x8_S32x8x8) (broadcastInDim S32x8x8 ![0, 1, 2] bcast_S1x1x8_S32x8x8_0_1_2 (broadcastInDim S1x1x8 ![2] bcast_S8_S1x1x8_2 f))

/-- The log of the sigmoid as the reference takes it: the negated softplus of the negated argument. -/
def logsig (y : FVec F S32x8x8 .f32) : FVec F S32x8x8 .f32 :=
  Host.negf (select (cmpf .une (subf (Host.negf y) (broadcastInDim S32x8x8 ![] bcast_S_S32x8x8 (constant S_ .f32 0x00000000#32))) (subf (Host.negf y) (broadcastInDim S32x8x8 ![] bcast_S_S32x8x8 (constant S_ .f32 0x00000000#32)))) (addf (Host.negf y) (broadcastInDim S32x8x8 ![] bcast_S_S32x8x8 (constant S_ .f32 0x00000000#32))) (addf (maximumf (Host.negf y) (broadcastInDim S32x8x8 ![] bcast_S_S32x8x8 (constant S_ .f32 0x00000000#32))) (Host.log1p (Host.exp (Host.negf (Host.absf (subf (Host.negf y) (broadcastInDim S32x8x8 ![] bcast_S_S32x8x8 (constant S_ .f32 0x00000000#32)))))))))

/-- The logarithms and their running sums along the positions, positions last. -/
def logs (x : FVec F S16x256 .f32) (f : FVec F S8 .f32) : FVec F S32x8x8 .f32 :=
  transpose S32x8x8 [0, 2, 1] (logsig (gate x f)) transposes_S32x8x8_S32x8x8_0_2_1
def sums (x : FVec F S16x256 .f32) (f : FVec F S8 .f32) : FVec F S32x8x8 .f32 :=
  transpose S32x8x8 [0, 2, 1] (Host.reduceWindowAdd ![1, 8, 1] ![1, 1, 1] ![0, 7, 0] ![0, 0, 0] (logsig (gate x f)) (broadcastInDim S_ ![] bcast_S_S_ (constant S_ .f32 0x00000000#32)) reduceWindows_S32x8x8_S32x8x8_w1s1p0_0_w8s1p7_0_w1s1p0_0 h_S_) transposes_S32x8x8_S32x8x8_0_2_1
end

/-- Position `p` of sequence `b` is token `8 b + p`. -/
abbrev tok (b : Fin 32) (p : Fin 8) : Fin 256 := ⟨b.val * 8 + p.val, by omega⟩

theorem slice_at (x : FVec Ideal S16x256 .f32) (n : Fin 256) (h : Fin 8) :
    transpose S256x8 [1, 0] (extractStridedSlice S8x256 ![8, 0] x slices_S16x256_S8x256_8_0) transposes_S8x256_S256x8_1_0 (ix2 n h)
      = x (ix2 (⟨8 + h.val, by omega⟩ : Fin 16) n) := by
  pointwise

theorem gate_at (x : FVec Ideal S16x256 .f32) (f : FVec Ideal S8 .f32) (b : Fin 32) (p : Fin 8) (h : Fin 8) :
    gate x f (ix3 b p h) = x (ix2 (⟨8 + h.val, by omega⟩ : Fin 16) (tok b p)) + f (ix1 h) := by
  unfold gate
  refine congrArg₂ (fun u v : EReal => u + v) ?_ ?_
  · refine (shapeCast_apply _ _ (ix3 b p h) (ix2 (tok b p) h) ?_).trans (slice_at x (tok b p) h)
    rw [Shape.rowMajor_val_two, Shape.rowMajor_val_three]
    show (b.val * 8 + p.val) * 8 + h.val = (b.val * 8 + p.val) * 8 + h.val
    rfl
  · pointwise

theorem logsig_at (y : FVec Ideal S32x8x8 .f32) (b : Fin 32) (p : Fin 8) (h : Fin 8) :
    logsig y (ix3 b p h) = ls (y (ix3 b p h)) := by
  rw [← softplus_neg]
  unfold logsig
  pointwise
  rw [if_neg (fun q => q rfl)]
  rfl

theorem logs_at (x : FVec Ideal S16x256 .f32) (f : FVec Ideal S8 .f32) (b : Fin 32) (h : Fin 8) (p : Fin 8) :
    logs x f (ix3 b h p) = ls (x (ix2 (⟨8 + h.val, by omega⟩ : Fin 16) (tok b p)) + f (ix1 h)) := by
  refine Eq.trans ?_ ((logsig_at (gate x f) b p h).trans (congrArg ls (gate_at x f b p h)))
  unfold logs
  generalize logsig (gate x f) = y
  pointwise

theorem sums_at (x : FVec Ideal S16x256 .f32) (f : FVec Ideal S8 .f32) (b : Fin 32) (h : Fin 8) (p : Fin 8) :
    sums x f (ix3 b h p) = run (fun i : Fin 8 => ls (x (ix2 (⟨8 + h.val, by omega⟩ : Fin 16) (tok b i)) + f (ix1 h))) (p.val + 1) := by
  have e : (fun i : Fin 8 => ls (x (ix2 (⟨8 + h.val, by omega⟩ : Fin 16) (tok b i)) + f (ix1 h))) = fun i : Fin 8 => logsig (F := Ideal) (gate x f) (ix3 b i h) :=
    funext fun i => ((logsig_at (gate x f) b i h).trans (congrArg ls (gate_at x f b i h))).symm
  rw [e]
  unfold sums
  generalize logsig (F := Ideal) (gate x f) = y
  have z : (broadcastInDim S_ ![] bcast_S_S_ (constant S_ .f32 0x00000000#32) : FVec Ideal S_ .f32) (Shape.Idx.first h_S_) = (0 : EReal) := by
    generalize Shape.Idx.first h_S_ = i
    pointwise
  have g : ∀ w : FVec Ideal S32x8x8 .f32, transpose S32x8x8 [0, 2, 1] w transposes_S32x8x8_S32x8x8_0_2_1 (ix3 b h p) = w (ix3 b p h) := fun w => by
    pointwise
  exact (g _).trans (running_host (B := 32) (N := 8) (M := 7) (C := 8) rfl y _ h_S_ z _ b p h)

end Cert.Reference8Ideal.Hand

namespace Cert.Kernel8Ideal.Hand

open Cert.Kernel8Ideal Cert.Kernel8Ideal.Gen
open Cert.Reference8Ideal.Hand (logs sums logs_at sums_at tok)
open Cert.LogLib (ls run run_stretch run_zero)
open Idealize.ShloMosaic Idealize.ShloMosaic.TcCoe Idealize.ShloMosaic.Tactic
open Idealize.SL Idealize.SL.RA Idealize.SL.Sem
open Idealize.ShloMosaic.Pipeline (Dat Cfg Window)

/-! ## What the program leaves -/

section
variable {F : FTy → Type} [FloatOps F]

theorem out2 (m : (ℓ : Loc nD τ sig) → Buf (Elt F) ℓ) (c : Dev nD) (t : Fin cfg0.N) :
    (dats m 0 c).flushed 2 t = (cfg0.win 2).cut (grid0.coords t) (out0_2 (iblk m c 0 t) (iblk m c 1 t)) :=
  congrArg ((cfg0.win 2).cut (grid0.coords t)) (after0_2 m c t)

theorem out3 (m : (ℓ : Loc nD τ sig) → Buf (Elt F) ℓ) (c : Dev nD) (t : Fin cfg0.N) :
    (dats m 0 c).flushed 3 t = (cfg0.win 3).cut (grid0.coords t) (out0_3 (iblk m c 0 t) (iblk m c 1 t)) :=
  congrArg ((cfg0.win 3).cut (grid0.coords t)) (after0_3 m c t)

/-- Every run ends with the two result arrays as the region leaves them, the arguments as they were. -/
theorem ends (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7_0) = (dats m 0 c).arrAt 2 cfg0.N
      ∧ r.2.mem ((c.tc : Thread nD τ).loc main_v7_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  obtain ⟨ha, hb⟩ := h c
  refine ⟨ha 2, ha 3, ?_, ?_⟩
  · exact (hb main_arg0 (Pipeline.mem_restRefs_of main_arg0 (by decide) (by decide))).trans (V_main_arg0 m c)
  · exact (hb main_arg1 (Pipeline.mem_restRefs_of main_arg1 (by decide) (by decide))).trans (V_main_arg1 m c)

/-! ## The host code before the region -/

theorem V_v1 (m : (ℓ : Loc nD τ sig) → Buf (Elt F) ℓ) (c : Dev nD) :
    V m c main_v1 = transpose S32x16x8 [1, 0, 2] (shapeCast S16x32x8 (m ((c.tc : Thread nD τ).loc main_arg0) : FVec F S16x256 .f32) shapeCasts_S16x256_S16x32x8) transposes_S16x32x8_S32x16x8_1_0_2 := by
  simp only [V, hostOps0]
  after_results_simp <;> rfl

/-- Where the bias is written: row 8, column 0. -/
def at80 : IVec S2 32 := concatenate S2 0 [⟨S1, broadcastInDim S1 ![] bcast_S_S1 (constantI S_ 32 8#32)⟩, ⟨S1, broadcastInDim S1 ![] bcast_S_S1 (constantI S_ 32 0#32)⟩] concatenates_S1_S1_S2_d0

theorem V_v6 (m : (ℓ : Loc nD τ sig) → Buf (Elt F) ℓ) (c : Dev nD) :
    V m c main_v6 = Host.scatter scatter_S16x128_S2_S8_0_1_01_0 (fun _ b => b) (broadcastInDim S16x128 ![] bcast_S_S16x128 (constant S_ .f32 0x00000000#32) : FVec F S16x128 .f32) at80 (m ((c.tc : Thread nD τ).loc main_arg1) : FVec F S8 .f32) := by
  unfold at80
  simp only [V, hostOps0]
  after_results_simp <;> rfl
end

variable (m : (ℓ : Loc nD τ sig) → Buf (Elt Ideal) ℓ)

abbrev A0 (c : Dev nD) : Vec Ideal S16x256 .f32 := m ((c.tc : Thread nD τ).loc main_arg0)
abbrev A1 (c : Dev nD) : Vec Ideal S8 .f32 := m ((c.tc : Thread nD τ).loc main_arg1)

theorem cols_at (x : Vec Ideal S16x256 .f32) (b : Fin 32) (r : Fin 16) (p : Fin 8) :
    (transpose S32x16x8 [1, 0, 2] (shapeCast S16x32x8 x shapeCasts_S16x256_S16x32x8) transposes_S16x32x8_S32x16x8_1_0_2 : Vec Ideal S32x16x8 .f32) (ix3 b r p)
      = x (ix2 r (tok b p)) := by
  refine Eq.trans (b := (shapeCast S16x32x8 x shapeCasts_S16x256_S16x32x8 : Vec Ideal S16x32x8 .f32) (ix3 r b p)) ?_ (shapeCast_apply _ _ (ix3 r b p) (ix2 r (tok b p)) ?_)
  · generalize (shapeCast S16x32x8 x shapeCasts_S16x256_S16x32x8 : Vec Ideal S16x32x8 .f32) = y
    pointwise
  · rw [Shape.rowMajor_val_two, Shape.rowMajor_val_three]
    show r.val * 256 + (b.val * 8 + p.val) = (r.val * 32 + b.val) * 8 + p.val
    omega

theorem bias_at (z : Vec Ideal S16x128 .f32) (f : Vec Ideal S8 .f32) (h : Fin 8) :
    Host.scatter scatter_S16x128_S2_S8_0_1_01_0 (fun _ b => b) z at80 f (ix2 (⟨8 + h.val, by omega⟩ : Fin 16) (0 : Fin 128)) = f (ix1 h) := by
  have hh := h.isLt
  have i0 : at80 (ValueIdx.ix1 (0 : Fin 2)) = 8#32 := rfl
  have i1 : at80 (ValueIdx.ix1 (1 : Fin 2)) = 0#32 := rfl
  refine (Routing.scatter_column_signed (R := 16) (C := 128) (U := 8) scatter_S16x128_S2_S8_0_1_01_0 (by decide) rfl rfl rfl z at80 f _).trans ?_
  rw [i0, i1]
  show (if (0 : Int) = 0 ∧ (8 : Int) ≤ ((8 + h.val : Nat) : Int) ∧ ((8 + h.val : Nat) : Int) < 8 + 8
    then f (ix1 ⟨(((8 + h.val : Nat) : Int) - 8).toNat % 8, _⟩) else _) = _
  rw [if_pos ⟨rfl, by omega, by omega⟩]
  exact congrArg (fun k => f (ix1 k)) (Fin.ext (show (((8 + h.val : Nat) : Int) - 8).toNat % 8 = h.val by omega))

theorem coords0 (t : Fin grid0.N) : ((grid0.coords t) 0).val = t.val := by
  have h := Pipeline.Grid.coords_val t 0 (S := 1) (B := 32) (by decide) (by decide)
  have ht : t.val < 32 := t.isLt
  rw [h]; omega

theorem tr0 (t : Fin grid0.N) : cc0_transform_0 (grid0.coords t) = ![t.val, 0, 0] := by
  have h := coords0 t
  have ht : t.val < 32 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ => rfl
  | ⟨2, _⟩ => rfl

theorem iblk0_at (c : Dev nD) (t : Fin cfg0.N) (r : Fin 16) (p : Fin 8) :
    iblk m c 0 t (ix3 (0 : Fin 1) r p) = A0 m c (ix2 r (tok t p)) := by
  have e : ((cfg0.win 0).rect t).emb (ix3 (0 : Fin 1) r p) = ix3 (n0 := 32) t r p := by
    funext a
    refine Fin.ext ?_
    refine ((cfg0.win 0).rect_emb_val t _ a).trans ?_
    rw [show (cfg0.win 0).index t = ![t.val, 0, 0] from tr0 t]
    match a with
    | ⟨0, _⟩ => show t.val * 1 + 0 = t.val; omega
    | ⟨1, _⟩ => show 0 * 16 + r.val = r.val; omega
    | ⟨2, _⟩ => show 0 * 8 + p.val = p.val; omega
  refine Eq.trans (b := V m c main_v1 (((cfg0.win 0).rect t).emb (ix3 (0 : Fin 1) r p))) rfl ?_
  rw [V_v1, e]
  exact cols_at _ _ _ _

theorem iblk1_at (c : Dev nD) (t : Fin cfg0.N) (h : Fin 8) :
    iblk m c 1 t (ix2 (⟨8 + h.val, by omega⟩ : Fin 16) (0 : Fin 128)) = A1 m c (ix1 h) := by
  have e : ((cfg0.win 1).rect t).emb (ix2 (⟨8 + h.val, by omega⟩ : Fin 16) (0 : Fin 128)) = ix2 (⟨8 + h.val, by omega⟩ : Fin 16) (0 : Fin 128) := by
    funext a
    refine Fin.ext ?_
    refine ((cfg0.win 1).rect_emb_val t _ a).trans ?_
    rw [show (cfg0.win 1).index t = ![0, 0] from funext fun a => match a with | ⟨0, _⟩ => rfl | ⟨1, _⟩ => rfl]
    match a with
    | ⟨0, _⟩ => show 0 * 16 + (8 + h.val) = 8 + h.val; omega
    | ⟨1, _⟩ => rfl
  refine Eq.trans (b := V m c main_v6 (((cfg0.win 1).rect t).emb (ix2 (⟨8 + h.val, by omega⟩ : Fin 16) (0 : Fin 128)))) rfl ?_
  rw [V_v6, e]
  exact bias_at _ _ _

/-! ## The body -/

theorem body_at (x : Vec Ideal S1x16x8 .f32) (f : Vec Ideal S8x1 .f32) (h : Fin 8) (p : Fin 8) :
    k0_pay2 x f (ix2 h p) = ls (x (ix3 (0 : Fin 1) (⟨8 + h.val, by omega⟩ : Fin 16) p) + f (ix2 h (0 : Fin 1))) := by
  unfold k0_pay2 ls
  pointwise
  rfl

/-- The two loads, entry by entry. -/
theorem ld0 (x : Vec Ideal S1x16x8 .f32) : View.ld (Val := Elt Ideal) (e' := .f32) x r0_0 = x := View.ld_unit_lit _ _ (by decide)

theorem ld1 (f : Vec Ideal S16x128 .f32) (h : Fin 8) :
    View.ld (Val := Elt Ideal) (e' := .f32) f r0_1 (ix2 h (0 : Fin 1)) = f (ix2 (⟨8 + h.val, by omega⟩ : Fin 16) (0 : Fin 128)) := by
  show f _ = f _
  refine congrArg f (funext fun a => Fin.ext ?_)
  match a with
  | ⟨0, _⟩ => show 8 + 1 * h.val = 8 + h.val; omega
  | ⟨1, _⟩ => rfl

/-- One row of a block's logarithms. -/
def lrow (x : Vec Ideal S1x16x8 .f32) (f : Vec Ideal S16x128 .f32) (h : Fin 8) (p : Fin 8) : EReal :=
  ls (x (ix3 (0 : Fin 1) (⟨8 + h.val, by omega⟩ : Fin 16) p) + f (ix2 (⟨8 + h.val, by omega⟩ : Fin 16) (0 : Fin 128)))

theorem vals_at (x : Vec Ideal S1x16x8 .f32) (f : Vec Ideal S16x128 .f32) (h : Fin 8) (p : Fin 8) :
    k0_pay2 (View.ld x r0_0) (View.ld f r0_1) (ix2 h p) = lrow x f h p := by
  refine (body_at _ _ h p).trans ?_
  rw [ld0, ld1]
  rfl

theorem block2 (x : Vec Ideal S1x16x8 .f32) (f : Vec Ideal S16x128 .f32) (h : Fin 8) (p : Fin 8) :
    out0_2 x f (ix3 (0 : Fin 1) h p) = lrow x f h p := by
  refine Eq.trans ?_ (vals_at x f h p)
  have hk : out0_2 x f = k0_pay3 (View.ld x r0_0) (View.ld f r0_1) := by
    unfold out0_2
    exact View.canon_cons_unit_lit _ _ _ (by decide)
  refine (congrFun hk _).trans ?_
  unfold k0_pay3
  generalize k0_pay2 (F := Ideal) (View.ld x r0_0) (View.ld f r0_1) = y
  pointwise

/-- The matrix of ones on and above the diagonal. -/
theorem ones_at (i q : Fin 8) : k0_pay4 (F := Ideal) (ix2 i q) = if i.val ≤ q.val then 1 else 0 := by
  unfold k0_pay4
  pointwise
  exact Cert.LogLib.flag i.val q.val (by omega) (by omega)

/-- The eight products, one column and one row of ones at a time. -/
theorem all_at (v w : FVec Ideal S8x8 .f32) (x : Vec Ideal S1x16x8 .f32) (f : Vec Ideal S8x1 .f32) (h q : Fin 8)
    (hv : k0_pay2 x f = v) (hw : k0_pay4 (F := Ideal) = w) :
    k0_pay1 v w (k0_pay5 (F := Ideal)) (k0_pay6 x f) (ix3 (0 : Fin 1) h q) = (∑ i : Fin 8, v (ix2 h i) * w (ix2 i q)) + 0 := by
  unfold k0_pay1 k0_pay5 k0_pay6
  rw [hv, hw, Fin.sum_univ_eight]
  pointwise

theorem block3 (x : Vec Ideal S1x16x8 .f32) (f : Vec Ideal S16x128 .f32) (h : Fin 8) (p : Fin 8) :
    out0_3 x f (ix3 (0 : Fin 1) h p) = run (lrow x f h) (p.val + 1) := by
  have hk : out0_3 x f = k0_pay1 (k0_pay2 (View.ld x r0_0) (View.ld f r0_1)) (k0_pay4 (F := Ideal)) (k0_pay5 (F := Ideal)) (k0_pay6 (View.ld x r0_0) (View.ld f r0_1)) := by
    unfold out0_3
    exact View.canon_cons_unit_lit _ _ _ (by decide)
  refine (congrFun hk _).trans ((all_at _ _ _ _ h p rfl rfl).trans ?_)
  refine Eq.trans ?_ ((run_stretch (lrow x f h) 0 (by decide : 0 + 8 ≤ 8) p).trans (congrArg _ (by omega)))
  rw [run_zero]
  refine congrArg (fun s => s + (0 : EReal)) (Finset.sum_congr rfl fun i _ => ?_)
  rw [vals_at, ones_at]
  refine congrArg (fun k => lrow x f h k * _) (Fin.ext (Nat.zero_add _).symm)

/-! ## The arrays -/

theorem emb2 (t : Fin cfg0.N) (h : Fin 8) (p : Fin 8) :
    ((cfg0.win 2).rect t).emb (ix3 (0 : Fin 1) h p) = ix3 (n0 := 32) t h p := by
  funext a
  refine Fin.ext ?_
  refine ((cfg0.win 2).rect_emb_val t _ a).trans ?_
  rw [show (cfg0.win 2).index t = ![t.val, 0, 0] from tr0 t]
  match a with
  | ⟨0, _⟩ => show t.val * 1 + 0 = t.val; omega
  | ⟨1, _⟩ => show 0 * 8 + h.val = h.val; omega
  | ⟨2, _⟩ => show 0 * 8 + p.val = p.val; omega

theorem read2 (t : Fin cfg0.N) (G : S32x8x8.Idx → EReal) (h : Fin 8) (p : Fin 8) :
    ((cfg0.win 2).blk t).view.read (Elt Ideal) G (ix3 (0 : Fin 1) h p) = G (((cfg0.win 2).rect t).emb (ix3 (0 : Fin 1) h p)) := rfl

theorem cut2 (t : Fin cfg0.N) (x : Vec Ideal S1x8x8 .f32) (h : Fin 8) (p : Fin 8) :
    (cfg0.win 2).cut (grid0.coords t) x (ix3 (0 : Fin 1) h p) = x (ix3 (0 : Fin 1) h p) := rfl

theorem arr_of2 (c : Dev nD) (G : S32x8x8.Idx → EReal)
    (hG : ∀ (t : Fin cfg0.N) (h : Fin 8) (p : Fin 8), out0_2 (iblk m c 0 t) (iblk m c 1 t) (ix3 (0 : Fin 1) h p) = G (ix3 (n0 := 32) t h p)) :
    (dats m 0 c).arrAt 2 cfg0.N = G := by
  refine (dats m 0 c).arrAt_eq_of_cover 2 G (fun t _ => ?_) (fun i => ?_)
  · funext y
    obtain ⟨h, p, rfl⟩ : ∃ (h : Fin 8) (p : Fin 8), y = ix3 (0 : Fin 1) h p :=
      ⟨(show S1x8x8.Idx from y) 1, (show S1x8x8.Idx from y) 2, (eq_ix3 (n0 := 1) (n1 := 8) (n2 := 8) y).trans (congrArg (fun k => ix3 k _ _) (Subsingleton.elim (α := Fin 1) _ _))⟩
    refine Eq.trans ?_ ((read2 t G h p).trans (congrArg G (emb2 t h p))).symm
    rw [out2]
    exact (cut2 t _ h p).trans (hG t h p)
  · obtain ⟨b, h, p, rfl⟩ : ∃ (b : Fin 32) (h : Fin 8) (p : Fin 8), i = ix3 b h p :=
      ⟨(show S32x8x8.Idx from i) 0, (show S32x8x8.Idx from i) 1, (show S32x8x8.Idx from i) 2, eq_ix3 (n0 := 32) (n1 := 8) (n2 := 8) i⟩
    refine ⟨(b : Fin cfg0.N), flush0_2 _, ?_⟩
    exact Finset.mem_map.mpr ⟨ix3 (n0 := 1) (n1 := 8) (n2 := 8) 0 h p, Finset.mem_univ _, emb2 _ _ _⟩

theorem emb3 (t : Fin cfg0.N) (h : Fin 8) (p : Fin 8) :
    ((cfg0.win 3).rect t).emb (ix3 (0 : Fin 1) h p) = ix3 (n0 := 32) t h p := by
  funext a
  refine Fin.ext ?_
  refine ((cfg0.win 3).rect_emb_val t _ a).trans ?_
  rw [show (cfg0.win 3).index t = ![t.val, 0, 0] from tr0 t]
  match a with
  | ⟨0, _⟩ => show t.val * 1 + 0 = t.val; omega
  | ⟨1, _⟩ => show 0 * 8 + h.val = h.val; omega
  | ⟨2, _⟩ => show 0 * 8 + p.val = p.val; omega

theorem read3 (t : Fin cfg0.N) (G : S32x8x8.Idx → EReal) (h : Fin 8) (p : Fin 8) :
    ((cfg0.win 3).blk t).view.read (Elt Ideal) G (ix3 (0 : Fin 1) h p) = G (((cfg0.win 3).rect t).emb (ix3 (0 : Fin 1) h p)) := rfl

theorem cut3 (t : Fin cfg0.N) (x : Vec Ideal S1x8x8 .f32) (h : Fin 8) (p : Fin 8) :
    (cfg0.win 3).cut (grid0.coords t) x (ix3 (0 : Fin 1) h p) = x (ix3 (0 : Fin 1) h p) := rfl

theorem arr_of3 (c : Dev nD) (G : S32x8x8.Idx → EReal)
    (hG : ∀ (t : Fin cfg0.N) (h : Fin 8) (p : Fin 8), out0_3 (iblk m c 0 t) (iblk m c 1 t) (ix3 (0 : Fin 1) h p) = G (ix3 (n0 := 32) t h p)) :
    (dats m 0 c).arrAt 3 cfg0.N = G := by
  refine (dats m 0 c).arrAt_eq_of_cover 3 G (fun t _ => ?_) (fun i => ?_)
  · funext y
    obtain ⟨h, p, rfl⟩ : ∃ (h : Fin 8) (p : Fin 8), y = ix3 (0 : Fin 1) h p :=
      ⟨(show S1x8x8.Idx from y) 1, (show S1x8x8.Idx from y) 2, (eq_ix3 (n0 := 1) (n1 := 8) (n2 := 8) y).trans (congrArg (fun k => ix3 k _ _) (Subsingleton.elim (α := Fin 1) _ _))⟩
    refine Eq.trans ?_ ((read3 t G h p).trans (congrArg G (emb3 t h p))).symm
    rw [out3]
    exact (cut3 t _ h p).trans (hG t h p)
  · obtain ⟨b, h, p, rfl⟩ : ∃ (b : Fin 32) (h : Fin 8) (p : Fin 8), i = ix3 b h p :=
      ⟨(show S32x8x8.Idx from i) 0, (show S32x8x8.Idx from i) 1, (show S32x8x8.Idx from i) 2, eq_ix3 (n0 := 32) (n1 := 8) (n2 := 8) i⟩
    refine ⟨(b : Fin cfg0.N), flush0_3 _, ?_⟩
    exact Finset.mem_map.mpr ⟨ix3 (n0 := 1) (n1 := 8) (n2 := 8) 0 h p, Finset.mem_univ _, emb3 _ _ _⟩

theorem lrow_eq (c : Dev nD) (t : Fin cfg0.N) (h : Fin 8) (p : Fin 8) :
    lrow (iblk m c 0 t) (iblk m c 1 t) h p = ls (A0 m c (ix2 (⟨8 + h.val, by omega⟩ : Fin 16) (tok t p)) + A1 m c (ix1 h)) :=
  congrArg ls (congrArg₂ (fun u v : EReal => u + v) (iblk0_at m c t _ p) (iblk1_at m c t h))

theorem arr_eq2 (c : Dev nD) : (dats m 0 c).arrAt 2 cfg0.N = logs (F := Ideal) (A0 m c) (A1 m c) :=
  arr_of2 m c _ fun t h p => (block2 _ _ h p).trans ((lrow_eq m c t h p).trans (logs_at (A0 m c) (A1 m c) t h p).symm)

theorem arr_eq3 (c : Dev nD) : (dats m 0 c).arrAt 3 cfg0.N = sums (F := Ideal) (A0 m c) (A1 m c) :=
  arr_of3 m c _ fun t h p => (block3 _ _ h p).trans ((congrArg (fun g => run g (p.val + 1)) (funext fun i => lrow_eq m c t h i)).trans (sums_at (A0 m c) (A1 m c) t h p).symm)

end Cert.Kernel8Ideal.Hand

end
-- ==== Proof.LogSampClaim.lean ====
/- The gates' logarithms of the sampled tokens: its programs' claims. -/
module

public import proofs.«01_k».proof.Proof.LogSampVal
public import proofs.«01_k».proof.Defs
public import proofs.«01_k».proof.Proof.Gen.Kernel8.Frame
public import proofs.«01_k».proof.Proof.Gen.Reference8Ideal.Run

@[expose] public section

noncomputable section

namespace Cert.LogSampClaim

open Cert.Kernel8Ideal.Hand
open Cert.Reference8Ideal.Hand (logs sums)
open Idealize.ShloMosaic Idealize.ShloMosaic.TcCoe Idealize.SL.Sem

theorem frame_kernel : Cert.quiescent_Kernel8 := fun m g _ => Cert.Kernel8.Gen.frame m g

theorem frame_ideal : Cert.quiescent_Kernel8Ideal := fun m g _ => Cert.Kernel8Ideal.Gen.frame m g

theorem frame_reference : Cert.quiescent_Reference8Ideal := fun m g _ =>
  (θ_run Cert.Reference8Ideal.defs _ _).mono (fun r h => ⟨fun c => (h c).2.2, sem_eq_zero_of_no_sems (by decide) r.2⟩)
    (Cert.Reference8Ideal.Value.run (F := Ideal) m g)

theorem congr_args {α : Type*} (f : FVec Ideal Cert.Reference8Ideal.S16x256 .f32 → FVec Ideal Cert.Reference8Ideal.S8 .f32 → α)
    {x x' : FVec Ideal Cert.Reference8Ideal.S16x256 .f32} {g g' : FVec Ideal Cert.Reference8Ideal.S8 .f32} (hx : x = x') (hg : g = g') : f x g = f x' g' := by
  subst hx; subst hg; rfl

theorem values : Cert.algebraic_Kernel8Ideal_Reference8Ideal := fun m g m' g' _ hag =>
  ⟨fun c => logs (F := Ideal) (A0 m c) (A1 m c), fun c => sums (F := Ideal) (A0 m c) (A1 m c),
    (θ_run Cert.Kernel8Ideal.defs _ _).mono (fun _ h c => ⟨(h c).1.trans (arr_eq2 m c), (h c).2.1.trans (arr_eq3 m c), (h c).2.2⟩) (ends m g),
    (θ_run Cert.Reference8Ideal.defs _ _).mono (fun r h c =>
        ⟨(h c).1.trans (congr_args (logs (F := Ideal)) (hag c).1 (hag c).2),
          (h c).2.1.trans (congr_args (sums (F := Ideal)) (hag c).1 (hag c).2), (h c).2.2⟩)
      (Cert.Reference8Ideal.Value.run (F := Ideal) m' g')⟩

end Cert.LogSampClaim

end
-- ==== Proof.ConvSampVal.lean ====
/- The convolution's state that the sampled tokens leave: the array the region leaves is the reference's, at exact values. -/
module

public import proofs.«01_k».proof.Proof.Gen.Kernel9Ideal.Frame
public import proofs.«01_k».proof.Proof.Gen.Reference9Ideal
public import Idealize.ShloMosaic.Lib.Pipeline.ValueKit
public import Idealize.ShloMosaic.Lib.Pointwise.Index

@[expose] public section

set_option maxRecDepth 16384

noncomputable section

namespace Cert.Reference9Ideal.Hand

open Cert.Reference9Ideal Cert.Reference9Ideal.Gen
open Idealize.ShloMosaic Idealize.ShloMosaic.TcCoe Idealize.ShloMosaic.Tactic

/-- The last three rows of the old state followed by the tokens' channels. -/
def rest {F : FTy → Type} [FloatOps F] (b : FVec F S32x3x1536 .f32) (x : FVec F S256x1536 .f32) : FVec F S32x3x1536 .f32 :=
  extractStridedSlice S32x3x1536 ![0, 8, 0] (concatenate S32x11x1536 1 [⟨S32x3x1536, b⟩, ⟨S32x8x1536, (shapeCast _ x shapeCasts_S256x1536_S32x8x1536)⟩] concatenates_S32x3x1536_S32x8x1536_S32x11x1536_d1) slices_S32x11x1536_S32x3x1536_0_8_0

theorem rows_at (x : FVec Ideal S256x1536 .f32) (i : Fin 32) (p : Fin 8) (q : Fin 1536) :
    (shapeCast S32x8x1536 x shapeCasts_S256x1536_S32x8x1536 : FVec Ideal S32x8x1536 .f32) (ix3 i p q) = x (ix2 (⟨i.val * 8 + p.val, by omega⟩ : Fin 256) q) := by
  refine shapeCast_apply _ _ (ix3 i p q) (ix2 (⟨i.val * 8 + p.val, by omega⟩ : Fin 256) q) ?_
  rw [Shape.rowMajor_val_two, Shape.rowMajor_val_three]
  rfl

theorem rest_at (b : FVec Ideal S32x3x1536 .f32) (x : FVec Ideal S256x1536 .f32) (i : Fin 32) (r : Fin 3) (q : Fin 1536) :
    rest b x (ix3 i r q) = x (ix2 (⟨i.val * 8 + (5 + r.val), by omega⟩ : Fin 256) q) := by
  refine Eq.trans ?_ (rows_at x i ⟨5 + r.val, by omega⟩ q)
  unfold rest
  generalize (shapeCast S32x8x1536 x shapeCasts_S256x1536_S32x8x1536 : FVec Ideal S32x8x1536 .f32) = y
  pointwise
  refine (dif_neg (show ¬ 8 + r.val < 3 by omega)).trans (congrArg (fun k => y (ix3 i k q)) (Fin.ext ?_))
  show 8 + r.val - 3 = 5 + r.val
  omega

end Cert.Reference9Ideal.Hand

namespace Cert.Kernel9Ideal.Hand

open Cert.Kernel9Ideal Cert.Kernel9Ideal.Gen
open Cert.Reference9Ideal.Hand (rest rest_at rows_at)
open Idealize.ShloMosaic Idealize.ShloMosaic.TcCoe Idealize.ShloMosaic.Tactic
open Idealize.SL Idealize.SL.RA Idealize.SL.Sem
open Idealize.ShloMosaic.Pipeline (Dat Cfg Window)

section
variable {F : FTy → Type} [FloatOps F]

/-- What a point leaves of the state: the last three rows of its block of channels. -/
theorem left (m : (ℓ : Loc nD τ sig) → Buf (Elt F) ℓ) (c : Dev nD) (t : Fin cfg0.N) :
    (outsAt0 m c t).2.2 = k0_pay10 (k0_pay6 (iblk m c 0 t)) := by
  unfold outsAt0
  dsimp only
  frame_out

theorem V_rows (m : (ℓ : Loc nD τ sig) → Buf (Elt F) ℓ) (c : Dev nD) :
    V m c main_v26 = shapeCast S32x8x1536 (m ((c.tc : Thread nD τ).loc main_arg0) : FVec F S256x1536 .f32) shapeCasts_S256x1536_S32x8x1536 := by
  simp only [V, hostOps0, hostOps0_1, hostOps0_2, List.flatten_cons, List.flatten_nil, List.append_nil, List.cons_append, List.nil_append]
  after_results_simp <;> rfl
/-- Every run ends with the state's array as the region leaves it, the arguments as they were. -/
theorem ends (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28_2) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run_main m ρ)
  obtain ⟨ha, hb⟩ := h c
  refine ⟨ha 11, ?_, ?_, ?_, ?_, ?_, ?_, ?_, ?_, ?_, ?_⟩
  · exact (hb main_arg0 (Pipeline.mem_restRefs_of main_arg0 (by decide) (by decide))).trans (V_main_arg0 m c)
  · exact (hb main_arg1 (Pipeline.mem_restRefs_of main_arg1 (by decide) (by decide))).trans (V_main_arg1 m c)
  · exact (hb main_arg2 (Pipeline.mem_restRefs_of main_arg2 (by decide) (by decide))).trans (V_main_arg2 m c)
  · exact (hb main_arg3 (Pipeline.mem_restRefs_of main_arg3 (by decide) (by decide))).trans (V_main_arg3 m c)
  · exact (hb main_arg4 (Pipeline.mem_restRefs_of main_arg4 (by decide) (by decide))).trans (V_main_arg4 m c)
  · exact (ha 5).trans (((dats m 0 c).arrAt_in 5 rfl _).trans ((A_eq m c 5).trans (V_main_arg5 m c)))
  · exact (ha 6).trans (((dats m 0 c).arrAt_in 6 rfl _).trans ((A_eq m c 6).trans (V_main_arg6 m c)))
  · exact (hb main_arg7 (Pipeline.mem_restRefs_of main_arg7 (by decide) (by decide))).trans (V_main_arg7 m c)
  · exact (hb main_arg8 (Pipeline.mem_restRefs_of main_arg8 (by decide) (by decide))).trans (V_main_arg8 m c)
  · exact (hb main_arg9 (Pipeline.mem_restRefs_of main_arg9 (by decide) (by decide))).trans (V_main_arg9 m c)
end

variable (m : (ℓ : Loc nD τ sig) → Buf (Elt Ideal) ℓ)

abbrev A0 (c : Dev nD) : Vec Ideal S256x1536 .f32 := m ((c.tc : Thread nD τ).loc main_arg0)
abbrev A4 (c : Dev nD) : Vec Ideal S32x3x1536 .f32 := m ((c.tc : Thread nD τ).loc main_arg4)

theorem coords0 (t : Fin grid0.N) : ((grid0.coords t) 0).val = t.val := by
  have h := Pipeline.Grid.coords_val t 0 (S := 1) (B := 32) (by decide) (by decide)
  have ht : t.val < 32 := t.isLt
  rw [h]; omega

theorem coords1 (t : Fin grid0.N) : ((grid0.coords t) 1).val = 0 := by
  have h : ((grid0.coords t) 1).val < 1 := ((grid0.coords t) 1).isLt
  omega

theorem tr0 (t : Fin grid0.N) : cc0_transform_0 (grid0.coords t) = ![t.val, 0, 0] := by
  have h := coords0 t
  have h1 := coords1 t
  have ht : t.val < 32 := t.isLt
  unfold cc0_transform_0
  funext a
  match a with
  | ⟨0, _⟩ =>
    show (BitVec.ofNat 32 ((grid0.coords t) 0).val).toNat = t.val
    rw [h, BitVec.toNat_ofNat, Nat.mod_eq_of_lt (by omega)]
  | ⟨1, _⟩ =>
    show (BitVec.ofNat 32 ((grid0.coords t) 1).val).toNat = 0
    rw [h1]; rfl
  | ⟨2, _⟩ => rfl

theorem tr11 (t : Fin grid0.N) : cc0_transform_11 (grid0.coords t) = ![t.val, 0, 0] := by
  have h := coords0 t
  have ht : t.val < 32 := t.isLt
  unfold cc0_transform_11
  funext a
  match a with
  | ⟨0, _⟩ =>
    show (BitVec.ofNat 32 ((grid0.coords t) 0).val).toNat = t.val
    rw [h, BitVec.toNat_ofNat, Nat.mod_eq_of_lt (by omega)]
  | ⟨1, _⟩ => rfl
  | ⟨2, _⟩ => rfl

theorem iblk0_at (c : Dev nD) (t : Fin cfg0.N) (p : Fin 8) (q : Fin 1536) :
    iblk m c 0 t (ix3 (0 : Fin 1) p q) = A0 m c (ix2 (⟨t.val * 8 + p.val, by have ht : t.val < 32 := t.isLt; omega⟩ : Fin 256) q) := by
  have e : ((cfg0.win 0).rect t).emb (ix3 (0 : Fin 1) p q) = ix3 (n0 := 32) t p q := by
    funext a
    refine Fin.ext ?_
    refine ((cfg0.win 0).rect_emb_val t _ a).trans ?_
    rw [show (cfg0.win 0).index t = ![t.val, 0, 0] from tr0 t]
    match a with
    | ⟨0, _⟩ => show t.val * 1 + 0 = t.val; omega
    | ⟨1, _⟩ => show 0 * 8 + p.val = p.val; omega
    | ⟨2, _⟩ => show 0 * 1536 + q.val = q.val; omega
  refine Eq.trans (b := V m c main_v26 (((cfg0.win 0).rect t).emb (ix3 (0 : Fin 1) p q))) rfl ?_
  rw [V_rows, e]
  exact rows_at _ _ _ _

/-- The three rows written are the block's last three. -/
theorem last_at (x : Vec Ideal S1x8x1536 .f32) (r : Fin 3) (q : Fin 1536) :
    k0_pay10 (k0_pay6 x) (ix3 (0 : Fin 1) r q) = x (ix3 (0 : Fin 1) (⟨5 + r.val, by omega⟩ : Fin 8) q) := by
  unfold k0_pay10 k0_pay6
  pointwise

theorem emb11 (t : Fin cfg0.N) (r : Fin 3) (q : Fin 1536) :
    ((cfg0.win 11).rect t).emb (ix3 (0 : Fin 1) r q) = ix3 (n0 := 32) t r q := by
  funext a
  refine Fin.ext ?_
  refine ((cfg0.win 11).rect_emb_val t _ a).trans ?_
  rw [show (cfg0.win 11).index t = ![t.val, 0, 0] from tr11 t]
  match a with
  | ⟨0, _⟩ => show t.val * 1 + 0 = t.val; omega
  | ⟨1, _⟩ => show 0 * 3 + r.val = r.val; omega
  | ⟨2, _⟩ => show 0 * 1536 + q.val = q.val; omega

theorem read11 (t : Fin cfg0.N) (G : S32x3x1536.Idx → EReal) (r : Fin 3) (q : Fin 1536) :
    ((cfg0.win 11).blk t).view.read (Elt Ideal) G (ix3 (0 : Fin 1) r q) = G (((cfg0.win 11).rect t).emb (ix3 (0 : Fin 1) r q)) := rfl

theorem cut11 (t : Fin cfg0.N) (x : Vec Ideal S1x3x1536 .f32) (r : Fin 3) (q : Fin 1536) :
    (cfg0.win 11).cut (grid0.coords t) x (ix3 (0 : Fin 1) r q) = x (ix3 (0 : Fin 1) r q) := rfl

theorem out11 (c : Dev nD) (t : Fin cfg0.N) :
    (dats m 0 c).flushed 11 t = (cfg0.win 11).cut (grid0.coords t) (k0_pay10 (k0_pay6 (iblk m c 0 t))) :=
  congrArg ((cfg0.win 11).cut (grid0.coords t)) ((after0_11 m c t).trans (left m c t))

theorem arr_eq (c : Dev nD) : (dats m 0 c).arrAt 11 cfg0.N = rest (F := Ideal) (A4 m c) (A0 m c) := by
  refine (dats m 0 c).arrAt_eq_of_cover 11 (rest (F := Ideal) (A4 m c) (A0 m c)) (fun t _ => ?_) (fun i => ?_)
  · funext y
    obtain ⟨r, q, rfl⟩ : ∃ (r : Fin 3) (q : Fin 1536), y = ix3 (0 : Fin 1) r q :=
      ⟨(show S1x3x1536.Idx from y) 1, (show S1x3x1536.Idx from y) 2, (eq_ix3 (n0 := 1) (n1 := 3) (n2 := 1536) y).trans (congrArg (fun k => ix3 k _ _) (Subsingleton.elim (α := Fin 1) _ _))⟩
    refine Eq.trans ?_ ((read11 t (rest (F := Ideal) (A4 m c) (A0 m c)) r q).trans (congrArg (rest (F := Ideal) (A4 m c) (A0 m c)) (emb11 t r q))).symm
    rw [out11]
    exact (cut11 t _ r q).trans ((last_at _ r q).trans ((iblk0_at m c t _ q).trans (rest_at (A4 m c) (A0 m c) t r q).symm))
  · obtain ⟨b, r, q, rfl⟩ : ∃ (b : Fin 32) (r : Fin 3) (q : Fin 1536), i = ix3 b r q :=
      ⟨(show S32x3x1536.Idx from i) 0, (show S32x3x1536.Idx from i) 1, (show S32x3x1536.Idx from i) 2, eq_ix3 (n0 := 32) (n1 := 3) (n2 := 1536) i⟩
    refine ⟨(b : Fin cfg0.N), flush0_11 _, ?_⟩
    exact Finset.mem_map.mpr ⟨ix3 (n0 := 1) (n1 := 3) (n2 := 1536) 0 r q, Finset.mem_univ _, emb11 _ _ _⟩

end Cert.Kernel9Ideal.Hand

end
-- ==== Proof.ConvSampClaim.lean ====
/- The convolution's state that the sampled tokens leave: its programs' claims. -/
module

public import proofs.«01_k».proof.Proof.ConvSampVal
public import proofs.«01_k».proof.Defs
public import proofs.«01_k».proof.Proof.Gen.Kernel9.Frame
public import proofs.«01_k».proof.Proof.Gen.Reference9Ideal.Run

@[expose] public section

noncomputable section

namespace Cert.ConvSampClaim

open Cert.Kernel9Ideal.Hand
open Cert.Reference9Ideal.Hand (rest)
open Idealize.ShloMosaic Idealize.ShloMosaic.TcCoe Idealize.SL.Sem

theorem frame_kernel : Cert.quiescent_Kernel9 := fun m g _ => Cert.Kernel9.Gen.frame m g

theorem frame_ideal : Cert.quiescent_Kernel9Ideal := fun m g _ => Cert.Kernel9Ideal.Gen.frame m g

theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem rest_congr {b b' : FVec Ideal Cert.Reference9Ideal.S32x3x1536 .f32} {x x' : FVec Ideal Cert.Reference9Ideal.S256x1536 .f32} (hb : b = b') (hx : x = x') :
    rest (F := Ideal) b x = rest (F := Ideal) b' x' := by
  subst hb; subst hx; rfl

theorem values : Cert.algebraic_Kernel9Ideal_Reference9Ideal := fun m g m' g' _ hag =>
  ⟨fun c => rest (F := Ideal) (A4 m c) (A0 m c),
    (θ_run Cert.Kernel9Ideal.defs _ _).mono (fun _ h c => ⟨(h c).1.trans (arr_eq m c), (h c).2⟩) (ends m g),
    (θ_run Cert.Reference9Ideal.defs _ _).mono (fun r h c => ⟨(h c).1.trans (rest_congr (hag c).2.2.2.2.1 (hag c).1), (h c).2⟩)
      (Cert.Reference9Ideal.Value.run (F := Ideal) m' g')⟩

end Cert.ConvSampClaim

end
-- ==== Proof.ConvVal.lean ====
/- The convolution's state that the prompts leave: the array the region leaves is the reference's, at exact values. -/
module

public import proofs.«01_k».proof.Proof.Gen.Kernel10Ideal.Frame
public import proofs.«01_k».proof.Proof.Gen.Reference10Ideal
public import Idealize.ShloMosaic.Lib.Pipeline.ValueKit
public import Idealize.ShloMosaic.Lib.Pointwise.Index

@[expose] public section

set_option maxRecDepth 16384

noncomputable section

namespace Cert.Reference10Ideal.Hand

open Cert.Reference10Ideal Cert.Reference10Ideal.Gen
open Idealize.ShloMosaic Idealize.ShloMosaic.TcCoe Idealize.ShloMosaic.Tactic

/-- The last three rows of an empty state followed by the tokens' channels. -/
def rest {F : FTy → Type} [FloatOps F] (x : FVec F S32768x1536 .f32) : FVec F S16x3x1536 .f32 :=
  extractStridedSlice S16x3x1536 ![0, 2048, 0] (concatenate S16x2051x1536 1 [⟨S16x3x1536, (broadcastInDim S16x3x1536 ![] bcast_S_S16x3x1536 (constant S_ .f32 0x00000000#32))⟩, ⟨S16x2048x1536, (shapeCast _ x shapeCasts_S32768x1536_S16x2048x1536)⟩] concatenates_S16x3x1536_S16x2048x1536_S16x2051x1536_d1) slices_S16x2051x1536_S16x3x1536_0_2048_0

theorem rows_at (x : FVec Ideal S32768x1536 .f32) (i : Fin 16) (p : Fin 2048) (q : Fin 1536) :
    (shapeCast S16x2048x1536 x shapeCasts_S32768x1536_S16x2048x1536 : FVec Ideal S16x2048x1536 .f32) (ix3 i p q) = x (ix2 (⟨i.val * 2048 + p.val, by omega⟩ : Fin 32768) q) := by
  refine shapeCast_apply _ _ (ix3 i p q) (ix2 (⟨i.val * 2048 + p.val, by omega⟩ : Fin 32768) q) ?_
  rw [Shape.rowMajor_val_two, Shape.rowMajor_val_three]
  rfl

theorem rest_at (x : FVec Ideal S32768x1536 .f32) (i : Fin 16) (r : Fin 3) (q : Fin 1536) :
    rest x (ix3 i r q) = x (ix2 (⟨i.val * 2048 + (2045 + r.val), by omega⟩ : Fin 32768) q) := by
  refine Eq.trans ?_ (rows_at x i ⟨2045 + r.val, by omega⟩ q)
  unfold rest
  generalize (shapeCast S16x2048x1536 x shapeCasts_S32768x1536_S16x2048x1536 : FVec Ideal S16x2048x1536 .f32) = y
  pointwise
  refine (dif_neg (show ¬ 2048 + r.val < 3 by omega)).trans (congrArg (fun k => y (ix3 i k q)) (Fin.ext ?_))
  show 2048 + r.val - 3 = 2045 + r.val
  omega

end Cert.Reference10Ideal.Hand

namespace Cert.Kernel10Ideal.Hand

open Cert.Kernel10Ideal Cert.Kernel10Ideal.Gen
open Cert.Reference10Ideal.Hand (rest rest_at rows_at)
open Idealize.ShloMosaic Idealize.ShloMosaic.TcCoe Idealize.ShloMosaic.Tactic
open Idealize.SL Idealize.SL.RA Idealize.SL.Sem
open Idealize.ShloMosaic.Pipeline (Dat Cfg Window)

section
variable {F : FTy → Type} [FloatOps F]

/-- What the last point of a sequence leaves of the state: the last three rows of its block of channels. -/
theorem left (m : (ℓ : Loc nD τ sig) → Buf (Elt F) ℓ) (c : Dev nD) (t : Fin cfg0.N) (h : t.val % 8 = 7) :
    (outsAt0 m c t.val t.isLt).2.2.1 = k0_pay12 (k0_pay5 (iblk m c 0 t)) := by
  rw [outsAt0_C m c t (by omega) h h]
  dsimp only
  frame_out

theorem V_rows (m : (ℓ : Loc nD τ sig) → Buf (Elt F) ℓ) (c : Dev nD) :
    V m c main_v27 = shapeCast S16x2048x1536 (m ((c.tc : Thread nD τ).loc main_arg0) : FVec F S32768x1536 .f32) shapeCasts_S32768x1536_S16x2048x1536 := by
  simp only [V, hostOps0]
  after_results_simp <;> rfl
/-- Every run ends with the state's array as the region leaves it, the arguments as they were. -/
theorem ends (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29_2) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_main m ρ)
  obtain ⟨ha, hb⟩ := h c
  refine ⟨ha 11, ?_, ?_, ?_, ?_, ?_, ?_, ?_, ?_⟩
  · exact (hb main_arg0 (Pipeline.mem_restRefs_of main_arg0 (by decide) (by decide))).trans (V_main_arg0 m c)
  · exact (hb main_arg1 (Pipeline.mem_restRefs_of main_arg1 (by decide) (by decide))).trans (V_main_arg1 m c)
  · exact (hb main_arg2 (Pipeline.mem_restRefs_of main_arg2 (by decide) (by decide))).trans (V_main_arg2 m c)
  · exact (hb main_arg3 (Pipeline.mem_restRefs_of main_arg3 (by decide) (by decide))).trans (V_main_arg3 m c)
  · exact (ha 6).trans (((dats m 0 c).arrAt_in 6 rfl _).trans ((A_eq m c 6).trans (V_main_arg4 m c)))
  · exact (hb main_arg5 (Pipeline.mem_restRefs_of main_arg5 (by decide) (by decide))).trans (V_main_arg5 m c)
  · exact (hb main_arg6 (Pipeline.mem_restRefs_of main_arg6 (by decide) (by decide))).trans (V_main_arg6 m c)
  · exact (hb main_arg7 (Pipeline.mem_restRefs_of main_arg7 (by decide) (by decide))).trans (V_main_arg7 m c)
end

variable (m : (ℓ : Loc nD τ sig) → Buf (Elt Ideal) ℓ)

abbrev A0 (c : Dev nD) : Vec Ideal S32768x1536 .f32 := m ((c.tc : Thread nD τ).loc main_arg0)

theorem coords0 (t : Fin grid0.N) : ((grid0.coords t) 0).val = t.val / 8 := by
  have h := Pipeline.Grid.coords_val t 0 (S := 8) (B := 16) (by decide) (by decide)
  have ht : t.val < 128 := t.isLt
  rw [h]; omega

theorem coords1 (t : Fin grid0.N) : ((grid0.coords t) 1).val = t.val % 8 := by
  have h := Pipeline.Grid.coords_val t 1 (S := 1) (B := 8) (by decide) (by decide)
  have ht : t.val < 128 := t.isLt
  rw [h]; omega

theorem tr0 (t : Fin grid0.N) : cc0_transform_0 (grid0.coords t) = ![t.val / 8, t.val % 8, 0] := by
  have h := coords0 t
  have h1 := coords1 t
  have ht : t.val < 128 := t.isLt
  unfold cc0_transform_0
  funext a
  match a with
  | ⟨0, _⟩ =>
    show (BitVec.ofNat 32 ((grid0.coords t) 0).val).toNat = t.val / 8
    rw [h, BitVec.toNat_ofNat, Nat.mod_eq_of_lt (by omega)]
  | ⟨1, _⟩ =>
    show (BitVec.ofNat 32 ((grid0.coords t) 1).val).toNat = t.val % 8
    rw [h1, BitVec.toNat_ofNat, Nat.mod_eq_of_lt (by omega)]
  | ⟨2, _⟩ => rfl

theorem tr11 (t : Fin grid0.N) : cc0_transform_11 (grid0.coords t) = ![t.val / 8, 0, 0] := by
  have h := coords0 t
  have ht : t.val < 128 := t.isLt
  unfold cc0_transform_11
  funext a
  match a with
  | ⟨0, _⟩ =>
    show (BitVec.ofNat 32 ((grid0.coords t) 0).val).toNat = t.val / 8
    rw [h, BitVec.toNat_ofNat, Nat.mod_eq_of_lt (by omega)]
  | ⟨1, _⟩ => rfl
  | ⟨2, _⟩ => rfl

/-- The sequence of a grid point. -/
abbrev seq (t : Fin cfg0.N) : Fin 16 := ⟨t.val / 8, by have ht : t.val < 128 := t.isLt; omega⟩

theorem iblk0_at (c : Dev nD) (t : Fin cfg0.N) (h7 : t.val % 8 = 7) (r : Fin 3) (q : Fin 1536) :
    iblk m c 0 t (ix3 (0 : Fin 1) (⟨253 + r.val, by omega⟩ : Fin 256) q) = A0 m c (ix2 (⟨(seq t).val * 2048 + (2045 + r.val), by omega⟩ : Fin 32768) q) := by
  have e : ((cfg0.win 0).rect t).emb (ix3 (0 : Fin 1) (⟨253 + r.val, by omega⟩ : Fin 256) q) = ix3 (n0 := 16) (n1 := 2048) (seq t) (⟨2045 + r.val, by omega⟩ : Fin 2048) q := by
    funext a
    refine Fin.ext ?_
    refine ((cfg0.win 0).rect_emb_val t _ a).trans ?_
    rw [show (cfg0.win 0).index t = ![t.val / 8, t.val % 8, 0] from tr0 t]
    match a with
    | ⟨0, _⟩ => show t.val / 8 * 1 + 0 = t.val / 8; omega
    | ⟨1, _⟩ => show t.val % 8 * 256 + (253 + r.val) = 2045 + r.val; omega
    | ⟨2, _⟩ => show 0 * 1536 + q.val = q.val; omega
  refine Eq.trans (b := V m c main_v27 (((cfg0.win 0).rect t).emb (ix3 (0 : Fin 1) (⟨253 + r.val, by omega⟩ : Fin 256) q))) rfl ?_
  rw [V_rows, e]
  exact rows_at _ _ _ _

/-- The three rows written are the block's last three. -/
theorem last_at (x : Vec Ideal S1x256x1536 .f32) (r : Fin 3) (q : Fin 1536) :
    k0_pay12 (k0_pay5 x) (ix3 (0 : Fin 1) r q) = x (ix3 (0 : Fin 1) (⟨253 + r.val, by omega⟩ : Fin 256) q) := by
  unfold k0_pay12 k0_pay5
  pointwise

theorem emb11 (t : Fin cfg0.N) (r : Fin 3) (q : Fin 1536) :
    ((cfg0.win 11).rect t).emb (ix3 (0 : Fin 1) r q) = ix3 (n0 := 16) (seq t) r q := by
  funext a
  refine Fin.ext ?_
  refine ((cfg0.win 11).rect_emb_val t _ a).trans ?_
  rw [show (cfg0.win 11).index t = ![t.val / 8, 0, 0] from tr11 t]
  match a with
  | ⟨0, _⟩ => show t.val / 8 * 1 + 0 = t.val / 8; omega
  | ⟨1, _⟩ => show 0 * 3 + r.val = r.val; omega
  | ⟨2, _⟩ => show 0 * 1536 + q.val = q.val; omega

theorem read11 (t : Fin cfg0.N) (G : S16x3x1536.Idx → EReal) (r : Fin 3) (q : Fin 1536) :
    ((cfg0.win 11).blk t).view.read (Elt Ideal) G (ix3 (0 : Fin 1) r q) = G (((cfg0.win 11).rect t).emb (ix3 (0 : Fin 1) r q)) := rfl

theorem cut11 (t : Fin cfg0.N) (x : Vec Ideal S1x3x1536 .f32) (r : Fin 3) (q : Fin 1536) :
    (cfg0.win 11).cut (grid0.coords t) x (ix3 (0 : Fin 1) r q) = x (ix3 (0 : Fin 1) r q) := rfl

theorem out11 (c : Dev nD) (t : Fin cfg0.N) (h : t.val % 8 = 7) :
    (dats m 0 c).flushed 11 t = (cfg0.win 11).cut (grid0.coords t) (k0_pay12 (k0_pay5 (iblk m c 0 t))) :=
  congrArg ((cfg0.win 11).cut (grid0.coords t)) ((after0_11 m c t).trans (left m c t h))

theorem arr_eq (c : Dev nD) : (dats m 0 c).arrAt 11 cfg0.N = rest (F := Ideal) (A0 m c) := by
  refine (dats m 0 c).arrAt_eq_of_cover 11 (rest (F := Ideal) (A0 m c)) (fun t hf => ?_) (fun i => ?_)
  · funext y
    obtain ⟨r, q, rfl⟩ : ∃ (r : Fin 3) (q : Fin 1536), y = ix3 (0 : Fin 1) r q :=
      ⟨(show S1x3x1536.Idx from y) 1, (show S1x3x1536.Idx from y) 2, (eq_ix3 (n0 := 1) (n1 := 3) (n2 := 1536) y).trans (congrArg (fun k => ix3 k _ _) (Subsingleton.elim (α := Fin 1) _ _))⟩
    refine Eq.trans ?_ ((read11 t (rest (F := Ideal) (A0 m c)) r q).trans (congrArg (rest (F := Ideal) (A0 m c)) (emb11 t r q))).symm
    have h7 := (flush0_11 t).mp hf
    rw [out11 m c t h7]
    exact (cut11 t _ r q).trans ((last_at _ r q).trans ((iblk0_at m c t h7 r q).trans (rest_at (A0 m c) (seq t) r q).symm))
  · obtain ⟨b, r, q, rfl⟩ : ∃ (b : Fin 16) (r : Fin 3) (q : Fin 1536), i = ix3 b r q :=
      ⟨(show S16x3x1536.Idx from i) 0, (show S16x3x1536.Idx from i) 1, (show S16x3x1536.Idx from i) 2, eq_ix3 (n0 := 16) (n1 := 3) (n2 := 1536) i⟩
    have hb := b.isLt
    let t : Fin cfg0.N := ⟨b.val * 8 + 7, show b.val * 8 + 7 < 128 by omega⟩
    have hs : seq t = b := Fin.ext (show (b.val * 8 + 7) / 8 = b.val by omega)
    refine ⟨t, (flush0_11 t).mpr (show (b.val * 8 + 7) % 8 = 7 by omega), ?_⟩
    exact Finset.mem_map.mpr ⟨ix3 (n0 := 1) (n1 := 3) (n2 := 1536) 0 r q, Finset.mem_univ _, (emb11 t r q).trans (congrArg (fun k => ix3 k r q) hs)⟩

end Cert.Kernel10Ideal.Hand

end
-- ==== Proof.ConvClaim.lean ====
/- The convolution's state that the prompts leave: its programs' claims. -/
module

public import proofs.«01_k».proof.Proof.ConvVal
public import proofs.«01_k».proof.Defs
public import proofs.«01_k».proof.Proof.Gen.Kernel10.Frame
public import proofs.«01_k».proof.Proof.Gen.Reference10Ideal.Run

@[expose] public section

noncomputable section

namespace Cert.ConvClaim

open Cert.Kernel10Ideal.Hand
open Cert.Reference10Ideal.Hand (rest)
open Idealize.ShloMosaic Idealize.ShloMosaic.TcCoe Idealize.SL.Sem

theorem frame_kernel : Cert.quiescent_Kernel10 := fun m g _ => Cert.Kernel10.Gen.frame m g

theorem frame_ideal : Cert.quiescent_Kernel10Ideal := fun m g _ => Cert.Kernel10Ideal.Gen.frame m g

theorem frame_reference : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem rest_congr {x x' : FVec Ideal Cert.Reference10Ideal.S32768x1536 .f32} (hx : x = x') :
    rest (F := Ideal) x = rest (F := Ideal) x' := by
  subst hx; rfl

theorem values : Cert.algebraic_Kernel10Ideal_Reference10Ideal := fun m g m' g' _ hag =>
  ⟨fun c => rest (F := Ideal) (A0 m c),
    (θ_run Cert.Kernel10Ideal.defs _ _).mono (fun _ h c => ⟨(h c).1.trans (arr_eq m c), (h c).2⟩) (ends m g),
    (θ_run Cert.Reference10Ideal.defs _ _).mono (fun r h c => ⟨(h c).1.trans (rest_congr (hag c).1), (h c).2⟩)
      (Cert.Reference10Ideal.Value.run (F := Ideal) m' g')⟩

end Cert.ConvClaim

end
-- ==== Proof.lean ====
/- The proof of the certificate's claim: every conjunct by its own module. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Pre_distinct_rows
public import proofs.«01_k».proof.Proof.Gen.Kernel2
public import proofs.«01_k».proof.Proof.Gen.Kernel2Ideal
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Run
public import proofs.«01_k».proof.Proof.Ref
public import proofs.«01_k».proof.Proof.FfnClaim
public import proofs.«01_k».proof.Proof.InClaim
public import proofs.«01_k».proof.Proof.OutClaim
public import proofs.«01_k».proof.Proof.MemClaim
public import proofs.«01_k».proof.Proof.SampClaim
public import proofs.«01_k».proof.Proof.LogClaim
public import proofs.«01_k».proof.Proof.LogSampClaim
public import proofs.«01_k».proof.Proof.ConvSampClaim
public import proofs.«01_k».proof.Proof.ConvClaim
public import Idealize.ShloMosaic.Adequacy
public import Idealize.ShloMosaic.Init

@[expose] public section

noncomputable section

namespace Cert.Proof

open Idealize.ShloMosaic
open Cert.KernelIdeal.Hand (Distinct distinct_of_pre Xt refOut refOut_eq)

section Generic
variable {F : FTy → Type} [FloatOps F]

/-- The kernel's final contents are the reference's result of its arguments. -/
theorem final_eq (m : (ℓ : Loc Cert.KernelIdeal.nD Cert.KernelIdeal.τ Cert.KernelIdeal.sig) → Buf (Elt F) ℓ) (c : Dev Cert.KernelIdeal.nD)
    (hd : Distinct (Cert.KernelIdeal.Hand.arg0 m c)) :
    Xt m c 64 = refOut (Cert.KernelIdeal.Hand.arg0 m c) (Cert.KernelIdeal.Hand.arg1 m c) :=
  (refOut_eq _ _ hd _ fun y => rfl).symm

/-- The reference, over any floats: its result, its arguments, and no semaphore. -/
theorem ref_run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      (fun r => ∀ c : Dev Cert.ReferenceIdeal.nD,
        r.2.mem ((c.tc : Thread Cert.ReferenceIdeal.nD Cert.ReferenceIdeal.τ).loc Cert.ReferenceIdeal.main_v13)
          = refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  Cert.ReferenceIdeal.Value.run m g

/-- The kernel runs, its arguments unchanged and every semaphore zero again. -/
theorem frame_any (m : (ℓ : Loc Cert.KernelIdeal.nD Cert.KernelIdeal.τ Cert.KernelIdeal.sig) → Buf (Elt F) ℓ)
    (g : Dev Cert.KernelIdeal.nD → PrngReg) (hd : ∀ c, Distinct (Cert.KernelIdeal.Hand.arg0 m c)) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run Cert.KernelIdeal.defs _ _).mono (fun _ r => ⟨fun c => (r.1 c).2, r.2⟩) (Cert.KernelIdeal.Hand.run m g hd)

/-- Both programs, from memories that agree on the arguments, end with the same result. -/
theorem values_any (m : (ℓ : Loc Cert.KernelIdeal.nD Cert.KernelIdeal.τ Cert.KernelIdeal.sig) → Buf (Elt F) ℓ)
    (g : Dev Cert.KernelIdeal.nD → PrngReg)
    (m' : (ℓ : Loc Cert.ReferenceIdeal.nD Cert.ReferenceIdeal.τ Cert.ReferenceIdeal.sig) → Buf (Elt F) ℓ)
    (g' : Dev Cert.ReferenceIdeal.nD → PrngReg) (hd : ∀ c, Distinct (Cert.KernelIdeal.Hand.arg0 m c))
    (hag : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    ∃ v0 : (c : Dev Cert.KernelIdeal.nD) → Buf (Elt F) ((c.tc : Thread Cert.KernelIdeal.nD Cert.KernelIdeal.τ).loc Cert.KernelIdeal.main_v1),
      θ_run (Cert.KernelIdeal.defs (F := F)) (onTc (τ := Cert.KernelIdeal.τ) (Cert.KernelIdeal.main (F := F))) ⟨m, fun _ => 0, g⟩
        (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ θ_run (Cert.ReferenceIdeal.defs (F := F)) (onTc (τ := Cert.ReferenceIdeal.τ) (Cert.ReferenceIdeal.main (F := F))) ⟨m', fun _ => 0, g'⟩
        (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  ⟨fun c => Xt m c 64, (θ_run Cert.KernelIdeal.defs _ _).mono (fun _ r => r.1) (Cert.KernelIdeal.Hand.run m g hd),
    (θ_run Cert.ReferenceIdeal.defs _ _).mono (fun r h c => ⟨(h c).1.trans ((congrArg₂ refOut (hag c).1 (hag c).2).trans
      (final_eq m c (hd c)).symm), (h c).2⟩) (ref_run m' g')⟩

end Generic

/-- The two prints of the kernel have one body table. -/
theorem table₀_eq : @Cert.Kernel.defs₀ Bits _ = @Cert.KernelIdeal.defs₀ Bits _ := by
  unfold Cert.Kernel.defs₀ Cert.KernelIdeal.defs₀
  refine congrArg Defs.onTc (funext fun l => funext fun a => ?_)
  match l, a with
  | ⟨0, _⟩, (t, s) => rfl

theorem table_eq : Cert.Kernel.defs (F := Bits) = Cert.KernelIdeal.defs (F := Bits) :=
  congrArg (Pipeline.defs (Cert.KernelIdeal.pcfgs (F := Bits))) table₀_eq

theorem frame_kernel : Cert.quiescent_Kernel := fun m g h => by
  have e := frame_any (F := Bits) m g fun c => distinct_of_pre _ _ (h c)
  rw [← table_eq] at e
  exact e

theorem frame_ideal : Cert.quiescent_KernelIdeal := fun m g h =>
  frame_any (F := Ideal) m g fun c => distinct_of_pre _ _ (h c)

theorem frame_reference : Cert.quiescent_ReferenceIdeal := fun m g _ =>
  (θ_run Cert.ReferenceIdeal.defs _ _).mono (fun r h => ⟨fun c => (h c).2, sem_eq_zero_of_no_sems (by decide) r.2⟩)
    (ref_run (F := Ideal) m g)

theorem frame_reference_bits : Cert.quiescent_Reference := fun m g _ =>
  (θ_run Cert.ReferenceIdeal.defs _ _).mono (fun r h => ⟨fun c => (h c).2, sem_eq_zero_of_no_sems (by decide) r.2⟩)
    (ref_run (F := Bits) m g)

/-- The values agree, over the extended reals. -/
theorem values : Cert.algebraic_KernelIdeal_ReferenceIdeal := fun m g m' g' hpre hag =>
  values_any (F := Ideal) m g m' g' (fun c => distinct_of_pre _ _ (hpre c)) hag

/-- The values agree, bit for bit. -/
theorem values_bits : Cert.bitexact_Kernel_Reference := fun m g m' g' hpre hag => by
  have e := values_any (F := Bits) m g m' g' (fun c => distinct_of_pre _ _ (hpre c)) hag
  rw [← table_eq] at e
  exact e

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_distinct_rows.Gen.facts, frame_kernel, frame_ideal, frame_reference, fun m g _ => frame_reference m g trivial,
    frame_reference_bits, Cert.FfnClaim.frame_kernel, Cert.FfnClaim.frame_ideal, Cert.FfnClaim.frame_reference,
    Cert.InClaim.frame_kernel, Cert.InClaim.frame_ideal, Cert.InClaim.frame_reference,
    Cert.OutClaim.frame_kernel, Cert.OutClaim.frame_ideal, Cert.OutClaim.frame_reference,
    Cert.MemClaim.frame_kernel, Cert.MemClaim.frame_ideal, Cert.MemClaim.frame_reference,
    Cert.SampClaim.frame_kernel, Cert.SampClaim.frame_ideal, Cert.SampClaim.frame_reference,
    Cert.LogClaim.frame_kernel, Cert.LogClaim.frame_ideal, Cert.LogClaim.frame_reference,
    Cert.LogSampClaim.frame_kernel, Cert.LogSampClaim.frame_ideal, Cert.LogSampClaim.frame_reference,
    Cert.ConvSampClaim.frame_kernel, Cert.ConvSampClaim.frame_ideal, Cert.ConvSampClaim.frame_reference,
    Cert.ConvClaim.frame_kernel, Cert.ConvClaim.frame_ideal, Cert.ConvClaim.frame_reference,
    trivial, values, values_bits, trivial, Cert.FfnClaim.values, trivial, Cert.InClaim.values, trivial, Cert.OutClaim.values,
    trivial, Cert.MemClaim.values, trivial, Cert.SampClaim.values,
    trivial, Cert.LogClaim.values, trivial, Cert.LogSampClaim.values,
    trivial, Cert.ConvSampClaim.values, trivial, Cert.ConvClaim.values⟩

end Cert.Proof

end
